-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite [hPre_finite : Cert.Pre_finite.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite.fn (F := Ideal) (m ((c.tc : Thread Cert.Kernel2Ideal.nD Cert.Kernel2Ideal.τ).loc Cert.Kernel2Ideal.main_arg0))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite [hPre_finite : Cert.Pre_finite.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite.fn (F := Ideal) (m ((c.tc : Thread Cert.Reference2Ideal.nD Cert.Reference2Ideal.τ).loc Cert.Reference2Ideal.main_arg0))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0))
      ∧ r.2.sem = fun _ => 0)

def quiescent_Kernel2Ideal_pre_finite [hKernel2Ideal : Cert.Kernel2Ideal.Facts] [hPre_finite : Cert.Pre_finite.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0))
      ∧ r.2.sem = fun _ => 0)

def quiescent_Reference2Ideal_pre_finite [hReference2Ideal : Cert.Reference2Ideal.Facts] [hPre_finite : Cert.Pre_finite.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v35) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Kernel2_Kernel2Ideal : Prop :=
  IdealRules.named_const.Statement Cert.Kernel2Ideal.κ "mask" .f32 0xF149F2CA#32 ⊥

def algebraic_Kernel2Ideal_Reference2Ideal_pre_finite [hKernel2Ideal : Cert.Kernel2Ideal.Facts] [hReference2Ideal : Cert.Reference2Ideal.Facts] [hPre_finite : Cert.Pre_finite.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)) →
    ∃ (v0 : (c : Dev Cert.Kernel2Ideal.nD) → Buf (Elt Ideal) ((c.tc : Thread Cert.Kernel2Ideal.nD Cert.Kernel2Ideal.τ).loc Cert.Kernel2Ideal.main_v34)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v34) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v72) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)) →
    ∃ (v0 : (c : Dev Cert.Kernel3Ideal.nD) → Buf (Elt Ideal) ((c.tc : Thread Cert.Kernel3Ideal.nD Cert.Kernel3Ideal.τ).loc Cert.Kernel3Ideal.main_v12)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v12) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v46) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v30_0)) (v1 : (c : Dev Cert.Kernel4Ideal.nD) → Buf (Elt Ideal) ((c.tc : Thread Cert.Kernel4Ideal.nD Cert.Kernel4Ideal.τ).loc Cert.Kernel4Ideal.main_v30_1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v30_0) = v0 c
          ∧ r.2.mem ((c.tc : Thread Cert.Kernel4Ideal.nD Cert.Kernel4Ideal.τ).loc Cert.Kernel4Ideal.main_v30_1) = v1 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v97) = v0 c
          ∧ r.2.mem ((c.tc : Thread Cert.Reference4Ideal.nD Cert.Reference4Ideal.τ).loc Cert.Reference4Ideal.main_v19) = v1 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hPre_finite : Cert.Pre_finite.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Kernel2Ideal_pre_finite (hKernel2Ideal := hKernel2Ideal) (hPre_finite := hPre_finite)
    ∧ quiescent_Reference2Ideal (hReference2Ideal := hReference2Ideal)
    ∧ quiescent_Reference2Ideal_pre_finite (hReference2Ideal := hReference2Ideal) (hPre_finite := hPre_finite)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal_pre_finite (hKernel2Ideal := hKernel2Ideal) (hReference2Ideal := hReference2Ideal) (hPre_finite := hPre_finite)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
-- ==== Pre_finite.lean ====
abbrev S16x2048x2304 : Shape := ⟨3, ![16, 2048, 2304]⟩
abbrev S_ : Shape := ⟨0, ![]⟩

class Facts : Prop where
  bcast_S_S16x2048x2304 : S_.BroadcastsInDim S16x2048x2304 (![] : Fin 0 → Fin S16x2048x2304.rank)

variable [Facts]

def fn {F : FTy → Type} [FloatOps F] (main_arg0 : FVec F S16x2048x2304 .f32) : IVec S16x2048x2304 1 :=
  let main_v0 : FVec F S16x2048x2304 .f32 := Host.absf main_arg0
  let main_cst : FVec F S_ .f32 := constant S_ .f32 0x7F800000#32
  let main_v1 : FVec F S16x2048x2304 .f32 := broadcastInDim S16x2048x2304 ![] bcast_S_S16x2048x2304 main_cst
  let main_v2 : IVec S16x2048x2304 1 := cmpf .olt main_v0 main_v1
  main_v2
-- ==== Kernel.lean ====
abbrev S16x2048x1024 : Shape := ⟨3, ![16, 2048, 1024]⟩
abbrev S1x1024 : Shape := ⟨2, ![1, 1024]⟩
abbrev S1024 : Shape := ⟨1, ![1024]⟩
abbrev S1x1024x2816 : Shape := ⟨3, ![1, 1024, 2816]⟩
abbrev S1x2816x1024 : Shape := ⟨3, ![1, 2816, 1024]⟩
abbrev S1024x2816 : Shape := ⟨2, ![1024, 2816]⟩
abbrev S2816x1024 : Shape := ⟨2, ![2816, 1024]⟩
abbrev S1x1024x1024 : Shape := ⟨3, ![1, 1024, 1024]⟩
abbrev S1x256x1024 : Shape := ⟨3, ![1, 256, 1024]⟩
abbrev S256x1024 : Shape := ⟨2, ![256, 1024]⟩
abbrev S256 : Shape := ⟨1, ![256]⟩
abbrev S256x1 : Shape := ⟨2, ![256, 1]⟩
abbrev S256x2816 : Shape := ⟨2, ![256, 2816]⟩

abbrev nBuf : Space → Nat
  | .hbm => 16
  | .vmem => 9
  | .smem => 0
  | _ => 0

abbrev bufTy : (tb : Table) → Fin (tcTables nBuf tb) → BufTy
  | .hbm, ⟨0, _⟩ => ⟨S16x2048x1024, .f32⟩
  | .hbm, ⟨1, _⟩ => ⟨S1x1024, .f32⟩
  | .hbm, ⟨2, _⟩ => ⟨S1024, .f32⟩
  | .hbm, ⟨3, _⟩ => ⟨S1x1024x2816, .f32⟩
  | .hbm, ⟨4, _⟩ => ⟨S1x1024x2816, .f32⟩
  | .hbm, ⟨5, _⟩ => ⟨S1x2816x1024, .f32⟩
  | .hbm, ⟨6, _⟩ => ⟨S1024, .f32⟩
  | .hbm, ⟨7, _⟩ => ⟨S1x1024, .f32⟩
  | .hbm, ⟨8, _⟩ => ⟨S1x1024, .f32⟩
  | .hbm, ⟨9, _⟩ => ⟨S1024x2816, .f32⟩
  | .hbm, ⟨10, _⟩ => ⟨S1024x2816, .bf16⟩
  | .hbm, ⟨11, _⟩ => ⟨S1024x2816, .f32⟩
  | .hbm, ⟨12, _⟩ => ⟨S1024x2816, .bf16⟩
  | .hbm, ⟨13, _⟩ => ⟨S2816x1024, .f32⟩
  | .hbm, ⟨14, _⟩ => ⟨S2816x1024, .bf16⟩
  | .hbm, ⟨15, _⟩ => ⟨S16x2048x1024, .f32⟩
  | .local _ .vmem, ⟨0, _⟩ => ⟨S1x1024x1024, .f32⟩
  | .local _ .vmem, ⟨1, _⟩ => ⟨S1x1024x1024, .f32⟩
  | .local _ .vmem, ⟨2, _⟩ => ⟨S1x1024, .f32⟩
  | .local _ .vmem, ⟨3, _⟩ => ⟨S1x1024, .f32⟩
  | .local _ .vmem, ⟨4, _⟩ => ⟨S1024x2816, .bf16⟩
  | .local _ .vmem, ⟨5, _⟩ => ⟨S1024x2816, .bf16⟩
  | .local _ .vmem, ⟨6, _⟩ => ⟨S2816x1024, .bf16⟩
  | .local _ .vmem, ⟨7, _⟩ => ⟨S1x1024x1024, .f32⟩
  | .local _ .vmem, ⟨8, _⟩ => ⟨S1x1024x1024, .f32⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨2, ![16, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x2816 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x2816 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S2816x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== ReferenceIdeal.lean ====
abbrev S16x2048x1024 : Shape := ⟨3, ![16, 2048, 1024]⟩
abbrev S1x1024 : Shape := ⟨2, ![1, 1024]⟩
abbrev S1024 : Shape := ⟨1, ![1024]⟩
abbrev S1x1024x2816 : Shape := ⟨3, ![1, 1024, 2816]⟩
abbrev S1x2816x1024 : Shape := ⟨3, ![1, 2816, 1024]⟩
abbrev S_ : Shape := ⟨0, ![]⟩
abbrev S16x2048 : Shape := ⟨2, ![16, 2048]⟩
abbrev S16x2048x1 : Shape := ⟨3, ![16, 2048, 1]⟩
abbrev S1x1x1024 : Shape := ⟨3, ![1, 1, 1024]⟩
abbrev S1024x2816 : Shape := ⟨2, ![1024, 2816]⟩
abbrev S16x2048x2816 : Shape := ⟨3, ![16, 2048, 2816]⟩
abbrev S2816x1024 : Shape := ⟨2, ![2816, 1024]⟩

abbrev nBuf : Space → Nat
  | .hbm => 56
  | .vmem => 0
  | .smem => 0
  | _ => 0

abbrev bufTy : (tb : Table) → Fin (tcTables nBuf tb) → BufTy
  | .hbm, ⟨0, _⟩ => ⟨S16x2048x1024, .f32⟩
  | .hbm, ⟨1, _⟩ => ⟨S1x1024, .f32⟩
  | .hbm, ⟨2, _⟩ => ⟨S1024, .f32⟩
  | .hbm, ⟨3, _⟩ => ⟨S1x1024x2816, .f32⟩
  | .hbm, ⟨4, _⟩ => ⟨S1x1024x2816, .f32⟩
  | .hbm, ⟨5, _⟩ => ⟨S1x2816x1024, .f32⟩
  | .hbm, ⟨6, _⟩ => ⟨S1024, .f32⟩
  | .hbm, ⟨7, _⟩ => ⟨S16x2048x1024, .f32⟩
  | .hbm, ⟨8, _⟩ => ⟨S_, .f32⟩
  | .hbm, ⟨9, _⟩ => ⟨S16x2048, .f32⟩
  | .hbm, ⟨10, _⟩ => ⟨S16x2048x1, .f32⟩
  | .hbm, ⟨11, _⟩ => ⟨S_, .f32⟩
  | .hbm, ⟨12, _⟩ => ⟨S16x2048x1, .f32⟩
  | .hbm, ⟨13, _⟩ => ⟨S16x2048x1, .f32⟩
  | .hbm, ⟨14, _⟩ => ⟨S_, .f32⟩
  | .hbm, ⟨15, _⟩ => ⟨S16x2048x1, .f32⟩
  | .hbm, ⟨16, _⟩ => ⟨S16x2048x1, .f32⟩
  | .hbm, ⟨17, _⟩ => ⟨S16x2048x1, .f32⟩
  | .hbm, ⟨18, _⟩ => ⟨S16x2048x1024, .f32⟩
  | .hbm, ⟨19, _⟩ => ⟨S16x2048x1024, .f32⟩
  | .hbm, ⟨20, _⟩ => ⟨S1x1x1024, .f32⟩
  | .hbm, ⟨21, _⟩ => ⟨S16x2048x1024, .f32⟩
  | .hbm, ⟨22, _⟩ => ⟨S16x2048x1024, .f32⟩
  | .hbm, ⟨23, _⟩ => ⟨S1024x2816, .f32⟩
  | .hbm, ⟨24, _⟩ => ⟨S16x2048x2816, .f32⟩
  | .hbm, ⟨25, _⟩ => ⟨S16x2048x2816, .f32⟩
  | .hbm, ⟨26, _⟩ => ⟨S16x2048x2816, .f32⟩
  | .hbm, ⟨27, _⟩ => ⟨S_, .f32⟩
  | .hbm, ⟨28, _⟩ => ⟨S16x2048x2816, .f32⟩
  | .hbm, ⟨29, _⟩ => ⟨S16x2048x2816, .f32⟩
  | .hbm, ⟨30, _⟩ => ⟨S_, .f32⟩
  | .hbm, ⟨31, _⟩ => ⟨S16x2048x2816, .f32⟩
  | .hbm, ⟨32, _⟩ => ⟨S16x2048x2816, .f32⟩
  | .hbm, ⟨33, _⟩ => ⟨S16x2048x2816, .f32⟩
  | .hbm, ⟨34, _⟩ => ⟨S1024x2816, .f32⟩
  | .hbm, ⟨35, _⟩ => ⟨S16x2048x2816, .f32⟩
  | .hbm, ⟨36, _⟩ => ⟨S16x2048x2816, .f32⟩
  | .hbm, ⟨37, _⟩ => ⟨S2816x1024, .f32⟩
  | .hbm, ⟨38, _⟩ => ⟨S16x2048x1024, .f32⟩
  | .hbm, ⟨39, _⟩ => ⟨S16x2048x1024, .f32⟩
  | .hbm, ⟨40, _⟩ => ⟨S16x2048x1024, .f32⟩
  | .hbm, ⟨41, _⟩ => ⟨S_, .f32⟩
  | .hbm, ⟨42, _⟩ => ⟨S16x2048, .f32⟩
  | .hbm, ⟨43, _⟩ => ⟨S16x2048x1, .f32⟩
  | .hbm, ⟨44, _⟩ => ⟨S_, .f32⟩
  | .hbm, ⟨45, _⟩ => ⟨S16x2048x1, .f32⟩
  | .hbm, ⟨46, _⟩ => ⟨S16x2048x1, .f32⟩
  | .hbm, ⟨47, _⟩ => ⟨S_, .f32⟩
  | .hbm, ⟨48, _⟩ => ⟨S16x2048x1, .f32⟩
  | .hbm, ⟨49, _⟩ => ⟨S16x2048x1, .f32⟩
  | .hbm, ⟨50, _⟩ => ⟨S16x2048x1, .f32⟩
  | .hbm, ⟨51, _⟩ => ⟨S16x2048x1024, .f32⟩
  | .hbm, ⟨52, _⟩ => ⟨S16x2048x1024, .f32⟩
  | .hbm, ⟨53, _⟩ => ⟨S1x1x1024, .f32⟩
  | .hbm, ⟨54, _⟩ => ⟨S16x2048x1024, .f32⟩
  | .hbm, ⟨55, _⟩ => ⟨S16x2048x1024, .f32⟩
  | _, _ => ⟨S16x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_call0_v0 : Ref sig .tc := ⟨.hbm, 25, rfl⟩
abbrev main_call0_v1 : Ref sig .tc := ⟨.hbm, 26, rfl⟩
abbrev main_call0_cst : Ref sig .tc := ⟨.hbm, 27, rfl⟩
abbrev main_call0_v2 : Ref sig .tc := ⟨.hbm, 28, rfl⟩
abbrev main_call0_v3 : Ref sig .tc := ⟨.hbm, 29, rfl⟩
abbrev main_call0_cst_0 : Ref sig .tc := ⟨.hbm, 30, rfl⟩
abbrev main_call0_v4 : Ref sig .tc := ⟨.hbm, 31, rfl⟩
abbrev main_call0_v5 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_cst_2 : Ref sig .tc := ⟨.hbm, 41, rfl⟩
abbrev main_v24 : Ref sig .tc := ⟨.hbm, 42, rfl⟩
abbrev main_v25 : Ref sig .tc := ⟨.hbm, 43, rfl⟩
abbrev main_cst_3 : Ref sig .tc := ⟨.hbm, 44, rfl⟩
abbrev main_v26 : Ref sig .tc := ⟨.hbm, 45, rfl⟩
abbrev main_v27 : Ref sig .tc := ⟨.hbm, 46, rfl⟩
abbrev main_cst_4 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩

abbrev nD : Nat := 1
abbrev τ : Topo := Topo.v7x

variable {F : FTy → Type} [FloatOps F]
-- ==== Kernel2.lean ====
abbrev S16x2048x2304 : Shape := ⟨3, ![16, 2048, 2304]⟩
abbrev S4x256 : Shape := ⟨2, ![4, 256]⟩
abbrev S256 : Shape := ⟨1, ![256]⟩
abbrev S_ : Shape := ⟨0, ![]⟩
abbrev S256x1 : Shape := ⟨2, ![256, 1]⟩
abbrev S1x256 : Shape := ⟨2, ![1, 256]⟩
abbrev S256x256 : Shape := ⟨2, ![256, 256]⟩
abbrev S16x2048x256 : Shape := ⟨3, ![16, 2048, 256]⟩
abbrev S1x2048x2304 : Shape := ⟨3, ![1, 2048, 2304]⟩
abbrev S1x2048x256 : Shape := ⟨3, ![1, 2048, 256]⟩
abbrev S2048x256 : Shape := ⟨2, ![2048, 256]⟩
abbrev S3x2x2048x128 : Shape := ⟨4, ![3, 2, 2048, 128]⟩
abbrev S2x128x256 : Shape := ⟨3, ![2, 128, 256]⟩
abbrev S128x128 : Shape := ⟨2, ![128, 128]⟩
abbrev S128x256 : Shape := ⟨2, ![128, 256]⟩
abbrev S1x128x256 : Shape := ⟨3, ![1, 128, 256]⟩
abbrev S512x256 : Shape := ⟨2, ![512, 256]⟩
abbrev S128 : Shape := ⟨1, ![128]⟩
abbrev S128x1 : Shape := ⟨2, ![128, 1]⟩
abbrev S1x1x128x128 : Shape := ⟨4, ![1, 1, 128, 128]⟩
abbrev S1x256x256 : Shape := ⟨3, ![1, 256, 256]⟩
abbrev S64x256 : Shape := ⟨2, ![64, 256]⟩
abbrev S16x256 : Shape := ⟨2, ![16, 256]⟩
abbrev S1x128x128 : Shape := ⟨3, ![1, 128, 128]⟩
abbrev S512x128 : Shape := ⟨2, ![512, 128]⟩
abbrev S1x1x256x128 : Shape := ⟨4, ![1, 1, 256, 128]⟩
abbrev S256x128 : Shape := ⟨2, ![256, 128]⟩
abbrev S1x256x128 : Shape := ⟨3, ![1, 256, 128]⟩

abbrev nBuf : Space → Nat
  | .hbm => 43
  | .vmem => 13
  | .smem => 0
  | _ => 0

abbrev bufTy : (tb : Table) → Fin (tcTables nBuf tb) → BufTy
  | .hbm, ⟨0, _⟩ => ⟨S16x2048x2304, .f32⟩
  | .hbm, ⟨1, _⟩ => ⟨S4x256, .bf16⟩
  | .hbm, ⟨2, _⟩ => ⟨S16x2048x2304, .bf16⟩
  | .hbm, ⟨3, _⟩ => ⟨S256, .i32⟩
  | .hbm, ⟨4, _⟩ => ⟨S_, .i32⟩
  | .hbm, ⟨5, _⟩ => ⟨S256, .i32⟩
  | .hbm, ⟨6, _⟩ => ⟨S256, .i32⟩
  | .hbm, ⟨7, _⟩ => ⟨S_, .i32⟩
  | .hbm, ⟨8, _⟩ => ⟨S256, .i32⟩
  | .hbm, ⟨9, _⟩ => ⟨S256, .i32⟩
  | .hbm, ⟨10, _⟩ => ⟨S_, .i32⟩
  | .hbm, ⟨11, _⟩ => ⟨S256, .i32⟩
  | .hbm, ⟨12, _⟩ => ⟨S256, .i32⟩
  | .hbm, ⟨13, _⟩ => ⟨S256, .i32⟩
  | .hbm, ⟨14, _⟩ => ⟨S256x1, .i32⟩
  | .hbm, ⟨15, _⟩ => ⟨S256, .i32⟩
  | .hbm, ⟨16, _⟩ => ⟨S1x256, .i32⟩
  | .hbm, ⟨17, _⟩ => ⟨S256x256, .i32⟩
  | .hbm, ⟨18, _⟩ => ⟨S256x256, .i32⟩
  | .hbm, ⟨19, _⟩ => ⟨S256x256, .i1⟩
  | .hbm, ⟨20, _⟩ => ⟨S256x256, .f32⟩
  | .hbm, ⟨21, _⟩ => ⟨S256x256, .bf16⟩
  | .hbm, ⟨22, _⟩ => ⟨S256, .i32⟩
  | .hbm, ⟨23, _⟩ => ⟨S_, .i32⟩
  | .hbm, ⟨24, _⟩ => ⟨S256, .i32⟩
  | .hbm, ⟨25, _⟩ => ⟨S256, .i32⟩
  | .hbm, ⟨26, _⟩ => ⟨S_, .i32⟩
  | .hbm, ⟨27, _⟩ => ⟨S256, .i32⟩
  | .hbm, ⟨28, _⟩ => ⟨S256, .i32⟩
  | .hbm, ⟨29, _⟩ => ⟨S_, .i32⟩
  | .hbm, ⟨30, _⟩ => ⟨S256, .i32⟩
  | .hbm, ⟨31, _⟩ => ⟨S256, .i32⟩
  | .hbm, ⟨32, _⟩ => ⟨S256, .i32⟩
  | .hbm, ⟨33, _⟩ => ⟨S256x1, .i32⟩
  | .hbm, ⟨34, _⟩ => ⟨S256, .i32⟩
  | .hbm, ⟨35, _⟩ => ⟨S1x256, .i32⟩
  | .hbm, ⟨36, _⟩ => ⟨S256x256, .i32⟩
  | .hbm, ⟨37, _⟩ => ⟨S256x256, .i32⟩
  | .hbm, ⟨38, _⟩ => ⟨S256x256, .i1⟩
  | .hbm, ⟨39, _⟩ => ⟨S256x256, .f32⟩
  | .hbm, ⟨40, _⟩ => ⟨S256x256, .bf16⟩
  | .hbm, ⟨41, _⟩ => ⟨S16x2048x256, .bf16⟩
  | .hbm, ⟨42, _⟩ => ⟨S16x2048x256, .f32⟩
  | .local _ .vmem, ⟨0, _⟩ => ⟨S1x2048x2304, .bf16⟩
  | .local _ .vmem, ⟨1, _⟩ => ⟨S1x2048x2304, .bf16⟩
  | .local _ .vmem, ⟨2, _⟩ => ⟨S4x256, .bf16⟩
  | .local _ .vmem, ⟨3, _⟩ => ⟨S256x256, .bf16⟩
  | .local _ .vmem, ⟨4, _⟩ => ⟨S256x256, .bf16⟩
  | .local _ .vmem, ⟨5, _⟩ => ⟨S1x2048x256, .bf16⟩
  | .local _ .vmem, ⟨6, _⟩ => ⟨S1x2048x256, .bf16⟩
  | .local _ .vmem, ⟨7, _⟩ => ⟨S2048x256, .bf16⟩
  | .local _ .vmem, ⟨8, _⟩ => ⟨S2048x256, .bf16⟩
  | .local _ .vmem, ⟨9, _⟩ => ⟨S2048x256, .bf16⟩
  | .local _ .vmem, ⟨10, _⟩ => ⟨S3x2x2048x128, .f32⟩
  | .local _ .vmem, ⟨11, _⟩ => ⟨S3x2x2048x128, .f32⟩
  | .local _ .vmem, ⟨12, _⟩ => ⟨S2x128x256, .f32⟩
  | _, _ => ⟨S16x2048x2304, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩
abbrev main_c : Ref sig .tc := ⟨.hbm, 4, rfl⟩
abbrev main_v2 : Ref sig .tc := ⟨.hbm, 5, rfl⟩
abbrev main_v3 : Ref sig .tc := ⟨.hbm, 6, rfl⟩
abbrev main_c_0 : Ref sig .tc := ⟨.hbm, 7, rfl⟩
abbrev main_v4 : Ref sig .tc := ⟨.hbm, 8, rfl⟩
abbrev main_v5 : Ref sig .tc := ⟨.hbm, 9, rfl⟩
abbrev main_c_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_c_2 : Ref sig .tc := ⟨.hbm, 23, rfl⟩
abbrev main_v18 : Ref sig .tc := ⟨.hbm, 24, rfl⟩
abbrev main_v19 : Ref sig .tc := ⟨.hbm, 25, rfl⟩
abbrev main_c_3 : Ref sig .tc := ⟨.hbm, 26, rfl⟩
abbrev main_v20 : Ref sig .tc := ⟨.hbm, 27, rfl⟩
abbrev main_v21 : Ref sig .tc := ⟨.hbm, 28, rfl⟩
abbrev main_c_4 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_scratch0 : Ref sig .tc := ⟨.vmem, 7, rfl⟩
abbrev cc0_scratch1 : Ref sig .tc := ⟨.vmem, 8, rfl⟩
abbrev cc0_scratch2 : Ref sig .tc := ⟨.vmem, 9, rfl⟩
abbrev cc0_scratch3 : Ref sig .tc := ⟨.vmem, 10, rfl⟩
abbrev cc0_scratch4 : Ref sig .tc := ⟨.vmem, 11, rfl⟩
abbrev cc0_scratch5 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![16], ![false]⟩

@[reducible] def k0_t1_loop : Scf.Loop 32 :=
  let c0_i32_11 : BitVec 32 := 0#32
  let c16_i32 : BitVec 32 := 16#32
  let v29 : BitVec 32 := Scalar.addi c0_i32_11 c16_i32
  let c1_i32 : BitVec 32 := 1#32
  ⟨c0_i32_11, v29, c1_i32⟩
def k0_mult1 (k0_t1 : Fin k0_t1_loop.trips) : BitVec 32 :=
  let c0_i32_11 : BitVec 32 := 0#32
  let c1_i32 : BitVec 32 := 1#32
  let arg12 : BitVec 32 := Scf.iv c0_i32_11 c1_i32 k0_t1
  let c16_i32_315 : BitVec 32 := 16#32
  let c0_i32_316 : BitVec 32 := 0#32
  let v390 : BitVec 1 := Scalar.cmpi .eq c16_i32_315 c0_i32_316
  let c1_i32_317 : BitVec 32 := 1#32
  let v391 : BitVec 32 := Scalar.select v390 c1_i32_317 c16_i32_315
  let v392 : BitVec 32 := Scalar.remsi arg12 v391
  let c0_i32_319 : BitVec 32 := 0#32
  let v394 : BitVec 1 := Scalar.cmpi .slt v392 c0_i32_319
  let c0_i32_320 : BitVec 32 := 0#32
  let v395 : BitVec 1 := Scalar.cmpi .slt v391 c0_i32_320
  let v396 : BitVec 1 := Scalar.xori v394 v395
  let c0_i32_318 : BitVec 32 := 0#32
  let v393 : BitVec 1 := Scalar.cmpi .ne v392 c0_i32_318
  let v397 : BitVec 1 := Scalar.andi v396 v393
  let v398 : BitVec 32 := Scalar.addi v392 v391
  let v399 : BitVec 32 := Scalar.select v397 v398 v392
  let c128_i32_321 : BitVec 32 := 128#32
  let v400 : BitVec 32 := Scalar.muli v399 c128_i32_321
  v400
def k0_off1 (k0_t1 : Fin k0_t1_loop.trips) : Fin 3 → Nat :=
  let c0_322 : Index := 0#32
  let c0_i32_11 : BitVec 32 := 0#32
  let c1_i32 : BitVec 32 := 1#32
  let arg12 : BitVec 32 := Scf.iv c0_i32_11 c1_i32 k0_t1
  let c16_i32_315 : BitVec 32 := 16#32
  let c0_i32_316 : BitVec 32 := 0#32
  let v390 : BitVec 1 := Scalar.cmpi .eq c16_i32_315 c0_i32_316
  let c1_i32_317 : BitVec 32 := 1#32
  let v391 : BitVec 32 := Scalar.select v390 c1_i32_317 c16_i32_315
  let v392 : BitVec 32 := Scalar.remsi arg12 v391
  let c0_i32_319 : BitVec 32 := 0#32
  let v394 : BitVec 1 := Scalar.cmpi .slt v392 c0_i32_319
  let c0_i32_320 : BitVec 32 := 0#32
  let v395 : BitVec 1 := Scalar.cmpi .slt v391 c0_i32_320
  let v396 : BitVec 1 := Scalar.xori v394 v395
  let c0_i32_318 : BitVec 32 := 0#32
  let v393 : BitVec 1 := Scalar.cmpi .ne v392 c0_i32_318
  let v397 : BitVec 1 := Scalar.andi v396 v393
  let v398 : BitVec 32 := Scalar.addi v392 v391
  let v399 : BitVec 32 := Scalar.select v397 v398 v392
  let c128_i32_321 : BitVec 32 := 128#32
  let v400 : BitVec 32 := Scalar.muli v399 c128_i32_321
  let v401 : BitVec 32 := v400
  let v402 : Index := Scalar.indexCast v401
  let c0_323 : Index := 0#32
  ![0, v402.toNat, 0]
def k0_mult2 (k0_t1 : Fin k0_t1_loop.trips) : BitVec 32 :=
  let c0_i32_11 : BitVec 32 := 0#32
  let c1_i32 : BitVec 32 := 1#32
  let arg12 : BitVec 32 := Scf.iv c0_i32_11 c1_i32 k0_t1
  let c16_i32_315 : BitVec 32 := 16#32
  let c0_i32_316 : BitVec 32 := 0#32
  let v390 : BitVec 1 := Scalar.cmpi .eq c16_i32_315 c0_i32_316
  let c1_i32_317 : BitVec 32 := 1#32
  let v391 : BitVec 32 := Scalar.select v390 c1_i32_317 c16_i32_315
  let v392 : BitVec 32 := Scalar.remsi arg12 v391
  let c0_i32_319 : BitVec 32 := 0#32
  let v394 : BitVec 1 := Scalar.cmpi .slt v392 c0_i32_319
  let c0_i32_320 : BitVec 32 := 0#32
  let v395 : BitVec 1 := Scalar.cmpi .slt v391 c0_i32_320
  let v396 : BitVec 1 := Scalar.xori v394 v395
  let c0_i32_318 : BitVec 32 := 0#32
  let v393 : BitVec 1 := Scalar.cmpi .ne v392 c0_i32_318
  let v397 : BitVec 1 := Scalar.andi v396 v393
  let v398 : BitVec 32 := Scalar.addi v392 v391
  let v399 : BitVec 32 := Scalar.select v397 v398 v392
  let c128_i32_324 : BitVec 32 := 128#32
  let v405 : BitVec 32 := Scalar.muli v399 c128_i32_324
  v405
def k0_off2 (k0_t1 : Fin k0_t1_loop.trips) : Fin 3 → Nat :=
  let c0_325 : Index := 0#32
  let c0_i32_11 : BitVec 32 := 0#32
  let c1_i32 : BitVec 32 := 1#32
  let arg12 : BitVec 32 := Scf.iv c0_i32_11 c1_i32 k0_t1
  let c16_i32_315 : BitVec 32 := 16#32
  let c0_i32_316 : BitVec 32 := 0#32
  let v390 : BitVec 1 := Scalar.cmpi .eq c16_i32_315 c0_i32_316
  let c1_i32_317 : BitVec 32 := 1#32
  let v391 : BitVec 32 := Scalar.select v390 c1_i32_317 c16_i32_315
  let v392 : BitVec 32 := Scalar.remsi arg12 v391
  let c0_i32_319 : BitVec 32 := 0#32
  let v394 : BitVec 1 := Scalar.cmpi .slt v392 c0_i32_319
  let c0_i32_320 : BitVec 32 := 0#32
  let v395 : BitVec 1 := Scalar.cmpi .slt v391 c0_i32_320
  let v396 : BitVec 1 := Scalar.xori v394 v395
  let c0_i32_318 : BitVec 32 := 0#32
  let v393 : BitVec 1 := Scalar.cmpi .ne v392 c0_i32_318
  let v397 : BitVec 1 := Scalar.andi v396 v393
  let v398 : BitVec 32 := Scalar.addi v392 v391
  let v399 : BitVec 32 := Scalar.select v397 v398 v392
  let c128_i32_324 : BitVec 32 := 128#32
  let v405 : BitVec 32 := Scalar.muli v399 c128_i32_324
  let v406 : BitVec 32 := v405
  let v407 : Index := Scalar.indexCast v406
  let c768_326 : Index := 768#32
  ![0, v407.toNat, 768]
def k0_mult3 (k0_t1 : Fin k0_t1_loop.trips) : BitVec 32 :=
  let c0_i32_11 : BitVec 32 := 0#32
  let c1_i32 : BitVec 32 := 1#32
  let arg12 : BitVec 32 := Scf.iv c0_i32_11 c1_i32 k0_t1
  let c16_i32_315 : BitVec 32 := 16#32
  let c0_i32_316 : BitVec 32 := 0#32
  let v390 : BitVec 1 := Scalar.cmpi .eq c16_i32_315 c0_i32_316
  let c1_i32_317 : BitVec 32 := 1#32
  let v391 : BitVec 32 := Scalar.select v390 c1_i32_317 c16_i32_315
  let v392 : BitVec 32 := Scalar.remsi arg12 v391
  let c0_i32_319 : BitVec 32 := 0#32
  let v394 : BitVec 1 := Scalar.cmpi .slt v392 c0_i32_319
  let c0_i32_320 : BitVec 32 := 0#32
  let v395 : BitVec 1 := Scalar.cmpi .slt v391 c0_i32_320
  let v396 : BitVec 1 := Scalar.xori v394 v395
  let c0_i32_318 : BitVec 32 := 0#32
  let v393 : BitVec 1 := Scalar.cmpi .ne v392 c0_i32_318
  let v397 : BitVec 1 := Scalar.andi v396 v393
  let v398 : BitVec 32 := Scalar.addi v392 v391
  let v399 : BitVec 32 := Scalar.select v397 v398 v392
  let c128_i32_327 : BitVec 32 := 128#32
  let v410 : BitVec 32 := Scalar.muli v399 c128_i32_327
  v410
def k0_off3 (k0_t1 : Fin k0_t1_loop.trips) : Fin 3 → Nat :=
  let c0_328 : Index := 0#32
  let c0_i32_11 : BitVec 32 := 0#32
  let c1_i32 : BitVec 32 := 1#32
  let arg12 : BitVec 32 := Scf.iv c0_i32_11 c1_i32 k0_t1
  let c16_i32_315 : BitVec 32 := 16#32
  let c0_i32_316 : BitVec 32 := 0#32
  let v390 : BitVec 1 := Scalar.cmpi .eq c16_i32_315 c0_i32_316
  let c1_i32_317 : BitVec 32 := 1#32
  let v391 : BitVec 32 := Scalar.select v390 c1_i32_317 c16_i32_315
  let v392 : BitVec 32 := Scalar.remsi arg12 v391
  let c0_i32_319 : BitVec 32 := 0#32
  let v394 : BitVec 1 := Scalar.cmpi .slt v392 c0_i32_319
  let c0_i32_320 : BitVec 32 := 0#32
  let v395 : BitVec 1 := Scalar.cmpi .slt v391 c0_i32_320
  let v396 : BitVec 1 := Scalar.xori v394 v395
  let c0_i32_318 : BitVec 32 := 0#32
  let v393 : BitVec 1 := Scalar.cmpi .ne v392 c0_i32_318
  let v397 : BitVec 1 := Scalar.andi v396 v393
  let v398 : BitVec 32 := Scalar.addi v392 v391
  let v399 : BitVec 32 := Scalar.select v397 v398 v392
  let c128_i32_327 : BitVec 32 := 128#32
  let v410 : BitVec 32 := Scalar.muli v399 c128_i32_327
  let v411 : BitVec 32 := v410
  let v412 : Index := Scalar.indexCast v411
  let c1536_329 : Index := 1536#32
  ![0, v412.toNat, 1536]
def k0_mult4 (k0_t1 : Fin k0_t1_loop.trips) : BitVec 32 :=
  let c0_i32_11 : BitVec 32 := 0#32
  let c1_i32 : BitVec 32 := 1#32
  let arg12 : BitVec 32 := Scf.iv c0_i32_11 c1_i32 k0_t1
  let c16_i32_315 : BitVec 32 := 16#32
  let c0_i32_316 : BitVec 32 := 0#32
  let v390 : BitVec 1 := Scalar.cmpi .eq c16_i32_315 c0_i32_316
  let c1_i32_317 : BitVec 32 := 1#32
  let v391 : BitVec 32 := Scalar.select v390 c1_i32_317 c16_i32_315
  let v392 : BitVec 32 := Scalar.remsi arg12 v391
  let c0_i32_319 : BitVec 32 := 0#32
  let v394 : BitVec 1 := Scalar.cmpi .slt v392 c0_i32_319
  let c0_i32_320 : BitVec 32 := 0#32
  let v395 : BitVec 1 := Scalar.cmpi .slt v391 c0_i32_320
  let v396 : BitVec 1 := Scalar.xori v394 v395
  let c0_i32_318 : BitVec 32 := 0#32
  let v393 : BitVec 1 := Scalar.cmpi .ne v392 c0_i32_318
  let v397 : BitVec 1 := Scalar.andi v396 v393
  let v398 : BitVec 32 := Scalar.addi v392 v391
  let v399 : BitVec 32 := Scalar.select v397 v398 v392
  let c1_i32_330 : BitVec 32 := 1#32
  let v415 : BitVec 32 := Scalar.subi v399 c1_i32_330
  let c0_i32_331 : BitVec 32 := 0#32
  let v416 : BitVec 32 := Scalar.maxsi v415 c0_i32_331
  let c128_i32_332 : BitVec 32 := 128#32
  let v417 : BitVec 32 := Scalar.muli v416 c128_i32_332
  v417
def k0_off4 (k0_t1 : Fin k0_t1_loop.trips) : Fin 3 → Nat :=
  let c0_333 : Index := 0#32
  let c0_i32_11 : BitVec 32 := 0#32
  let c1_i32 : BitVec 32 := 1#32
  let arg12 : BitVec 32 := Scf.iv c0_i32_11 c1_i32 k0_t1
  let c16_i32_315 : BitVec 32 := 16#32
  let c0_i32_316 : BitVec 32 := 0#32
  let v390 : BitVec 1 := Scalar.cmpi .eq c16_i32_315 c0_i32_316
  let c1_i32_317 : BitVec 32 := 1#32
  let v391 : BitVec 32 := Scalar.select v390 c1_i32_317 c16_i32_315
  let v392 : BitVec 32 := Scalar.remsi arg12 v391
  let c0_i32_319 : BitVec 32 := 0#32
  let v394 : BitVec 1 := Scalar.cmpi .slt v392 c0_i32_319
  let c0_i32_320 : BitVec 32 := 0#32
  let v395 : BitVec 1 := Scalar.cmpi .slt v391 c0_i32_320
  let v396 : BitVec 1 := Scalar.xori v394 v395
  let c0_i32_318 : BitVec 32 := 0#32
  let v393 : BitVec 1 := Scalar.cmpi .ne v392 c0_i32_318
  let v397 : BitVec 1 := Scalar.andi v396 v393
  let v398 : BitVec 32 := Scalar.addi v392 v391
  let v399 : BitVec 32 := Scalar.select v397 v398 v392
  let c1_i32_330 : BitVec 32 := 1#32
  let v415 : BitVec 32 := Scalar.subi v399 c1_i32_330
  let c0_i32_331 : BitVec 32 := 0#32
  let v416 : BitVec 32 := Scalar.maxsi v415 c0_i32_331
  let c128_i32_332 : BitVec 32 := 128#32
  let v417 : BitVec 32 := Scalar.muli v416 c128_i32_332
  let v418 : BitVec 32 := v417
  let v419 : Index := Scalar.indexCast v418
  let c768_334 : Index := 768#32
  ![0, v419.toNat, 768]
def k0_mult5 (k0_t1 : Fin k0_t1_loop.trips) : BitVec 32 :=
  let c0_i32_11 : BitVec 32 := 0#32
  let c1_i32 : BitVec 32 := 1#32
  let arg12 : BitVec 32 := Scf.iv c0_i32_11 c1_i32 k0_t1
  let c16_i32_315 : BitVec 32 := 16#32
  let c0_i32_316 : BitVec 32 := 0#32
  let v390 : BitVec 1 := Scalar.cmpi .eq c16_i32_315 c0_i32_316
  let c1_i32_317 : BitVec 32 := 1#32
  let v391 : BitVec 32 := Scalar.select v390 c1_i32_317 c16_i32_315
  let v392 : BitVec 32 := Scalar.remsi arg12 v391
  let c0_i32_319 : BitVec 32 := 0#32
  let v394 : BitVec 1 := Scalar.cmpi .slt v392 c0_i32_319
  let c0_i32_320 : BitVec 32 := 0#32
  let v395 : BitVec 1 := Scalar.cmpi .slt v391 c0_i32_320
  let v396 : BitVec 1 := Scalar.xori v394 v395
  let c0_i32_318 : BitVec 32 := 0#32
  let v393 : BitVec 1 := Scalar.cmpi .ne v392 c0_i32_318
  let v397 : BitVec 1 := Scalar.andi v396 v393
  let v398 : BitVec 32 := Scalar.addi v392 v391
  let v399 : BitVec 32 := Scalar.select v397 v398 v392
  let c1_i32_330 : BitVec 32 := 1#32
  let v415 : BitVec 32 := Scalar.subi v399 c1_i32_330
  let c0_i32_331 : BitVec 32 := 0#32
  let v416 : BitVec 32 := Scalar.maxsi v415 c0_i32_331
  let c128_i32_335 : BitVec 32 := 128#32
  let v423 : BitVec 32 := Scalar.muli v416 c128_i32_335
  v423
def k0_off5 (k0_t1 : Fin k0_t1_loop.trips) : Fin 3 → Nat :=
  let c0_336 : Index := 0#32
  let c0_i32_11 : BitVec 32 := 0#32
  let c1_i32 : BitVec 32 := 1#32
  let arg12 : BitVec 32 := Scf.iv c0_i32_11 c1_i32 k0_t1
  let c16_i32_315 : BitVec 32 := 16#32
  let c0_i32_316 : BitVec 32 := 0#32
  let v390 : BitVec 1 := Scalar.cmpi .eq c16_i32_315 c0_i32_316
  let c1_i32_317 : BitVec 32 := 1#32
  let v391 : BitVec 32 := Scalar.select v390 c1_i32_317 c16_i32_315
  let v392 : BitVec 32 := Scalar.remsi arg12 v391
  let c0_i32_319 : BitVec 32 := 0#32
  let v394 : BitVec 1 := Scalar.cmpi .slt v392 c0_i32_319
  let c0_i32_320 : BitVec 32 := 0#32
  let v395 : BitVec 1 := Scalar.cmpi .slt v391 c0_i32_320
  let v396 : BitVec 1 := Scalar.xori v394 v395
  let c0_i32_318 : BitVec 32 := 0#32
  let v393 : BitVec 1 := Scalar.cmpi .ne v392 c0_i32_318
  let v397 : BitVec 1 := Scalar.andi v396 v393
  let v398 : BitVec 32 := Scalar.addi v392 v391
  let v399 : BitVec 32 := Scalar.select v397 v398 v392
  let c1_i32_330 : BitVec 32 := 1#32
  let v415 : BitVec 32 := Scalar.subi v399 c1_i32_330
  let c0_i32_331 : BitVec 32 := 0#32
  let v416 : BitVec 32 := Scalar.maxsi v415 c0_i32_331
  let c128_i32_335 : BitVec 32 := 128#32
  let v423 : BitVec 32 := Scalar.muli v416 c128_i32_335
  let v424 : BitVec 32 := v423
  let v425 : Index := Scalar.indexCast v424
  let c1536_337 : Index := 1536#32
  ![0, v425.toNat, 1536]
def k0_off6 (k0_t1 : Fin k0_t1_loop.trips) : Fin 3 → Nat :=
  let c0_i32_11 : BitVec 32 := 0#32
  let c1_i32 : BitVec 32 := 1#32
  let arg12 : BitVec 32 := Scf.iv c0_i32_11 c1_i32 k0_t1
  let c16_i32_315 : BitVec 32 := 16#32
  let c0_i32_316 : BitVec 32 := 0#32
  let v390 : BitVec 1 := Scalar.cmpi .eq c16_i32_315 c0_i32_316
  let c1_i32_317 : BitVec 32 := 1#32
  let v391 : BitVec 32 := Scalar.select v390 c1_i32_317 c16_i32_315
  let v392 : BitVec 32 := Scalar.remsi arg12 v391
  let c0_i32_319 : BitVec 32 := 0#32
  let v394 : BitVec 1 := Scalar.cmpi .slt v392 c0_i32_319
  let c0_i32_320 : BitVec 32 := 0#32
  let v395 : BitVec 1 := Scalar.cmpi .slt v391 c0_i32_320
  let v396 : BitVec 1 := Scalar.xori v394 v395
  let c0_i32_318 : BitVec 32 := 0#32
  let v393 : BitVec 1 := Scalar.cmpi .ne v392 c0_i32_318
  let v397 : BitVec 1 := Scalar.andi v396 v393
  let v398 : BitVec 32 := Scalar.addi v392 v391
  let v399 : BitVec 32 := Scalar.select v397 v398 v392
  let c1_i32_338 : BitVec 32 := 1#32
  let v429 : BitVec 32 := Scalar.minsi v399 c1_i32_338
  let v430 : Index := Scalar.indexCast v429
  let c0_339 : Index := 0#32
  let c0_340 : Index := 0#32
  ![v430.toNat, 0, 0]
def k0_mult6 (k0_t1 : Fin k0_t1_loop.trips) : BitVec 32 :=
  let c0_i32_11 : BitVec 32 := 0#32
  let c1_i32 : BitVec 32 := 1#32
  let arg12 : BitVec 32 := Scf.iv c0_i32_11 c1_i32 k0_t1
  let c0_i32_309 : BitVec 32 := 0#32
  let v374 : BitVec 1 := Scalar.cmpi .sgt arg12 c0_i32_309
  let v375 : BitVec 32 := Scalar.extui v374
  let c0_i32_310 : BitVec 32 := 0#32
  let v376 : BitVec 1 := Scalar.cmpi .slt arg12 c0_i32_310
  let v377 : BitVec 32 := Scalar.extui v376
  let v378 : BitVec 32 := Scalar.subi v375 v377
  let c16_i32_308 : BitVec 32 := 16#32
  let c0_i32_311 : BitVec 32 := 0#32
  let v379 : BitVec 1 := Scalar.cmpi .sgt c16_i32_308 c0_i32_311
  let v380 : BitVec 32 := Scalar.extui v379
  let c0_i32_312 : BitVec 32 := 0#32
  let v381 : BitVec 1 := Scalar.cmpi .slt c16_i32_308 c0_i32_312
  let v382 : BitVec 32 := Scalar.extui v381
  let v383 : BitVec 32 := Scalar.subi v380 v382
  let v384 : BitVec 1 := Scalar.cmpi .ne v378 v383
  let v385 : BitVec 32 := Scalar.remsi arg12 c16_i32_308
  let c0_i32_313 : BitVec 32 := 0#32
  let v386 : BitVec 1 := Scalar.cmpi .ne v385 c0_i32_313
  let v387 : BitVec 1 := Scalar.andi v384 v386
  let v373 : BitVec 32 := Scalar.divsi arg12 c16_i32_308
  let c1_i32_314 : BitVec 32 := 1#32
  let v388 : BitVec 32 := Scalar.subi v373 c1_i32_314
  let v389 : BitVec 32 := Scalar.select v387 v388 v373
  let c128_i32_355 : BitVec 32 := 128#32
  let c16_i32_315 : BitVec 32 := 16#32
  let c0_i32_316 : BitVec 32 := 0#32
  let v390 : BitVec 1 := Scalar.cmpi .eq c16_i32_315 c0_i32_316
  let c1_i32_317 : BitVec 32 := 1#32
  let v391 : BitVec 32 := Scalar.select v390 c1_i32_317 c16_i32_315
  let v392 : BitVec 32 := Scalar.remsi arg12 v391
  let c0_i32_319 : BitVec 32 := 0#32
  let v394 : BitVec 1 := Scalar.cmpi .slt v392 c0_i32_319
  let c0_i32_320 : BitVec 32 := 0#32
  let v395 : BitVec 1 := Scalar.cmpi .slt v391 c0_i32_320
  let v396 : BitVec 1 := Scalar.xori v394 v395
  let c0_i32_318 : BitVec 32 := 0#32
  let v393 : BitVec 1 := Scalar.cmpi .ne v392 c0_i32_318
  let v397 : BitVec 1 := Scalar.andi v396 v393
  let v398 : BitVec 32 := Scalar.addi v392 v391
  let v399 : BitVec 32 := Scalar.select v397 v398 v392
  let v525 : BitVec 32 := Scalar.muli c128_i32_355 v399
  let v526 : BitVec 32 := Scalar.addi v389 v525
  v526
def k0_off7 (k0_t1 : Fin k0_t1_loop.trips) : Fin 4 → Nat :=
  let c0_356 : Index := 0#32
  let c0_357 : Index := 0#32
  let c0_i32_11 : BitVec 32 := 0#32
  let c1_i32 : BitVec 32 := 1#32
  let arg12 : BitVec 32 := Scf.iv c0_i32_11 c1_i32 k0_t1
  let c0_i32_309 : BitVec 32 := 0#32
  let v374 : BitVec 1 := Scalar.cmpi .sgt arg12 c0_i32_309
  let v375 : BitVec 32 := Scalar.extui v374
  let c0_i32_310 : BitVec 32 := 0#32
  let v376 : BitVec 1 := Scalar.cmpi .slt arg12 c0_i32_310
  let v377 : BitVec 32 := Scalar.extui v376
  let v378 : BitVec 32 := Scalar.subi v375 v377
  let c16_i32_308 : BitVec 32 := 16#32
  let c0_i32_311 : BitVec 32 := 0#32
  let v379 : BitVec 1 := Scalar.cmpi .sgt c16_i32_308 c0_i32_311
  let v380 : BitVec 32 := Scalar.extui v379
  let c0_i32_312 : BitVec 32 := 0#32
  let v381 : BitVec 1 := Scalar.cmpi .slt c16_i32_308 c0_i32_312
  let v382 : BitVec 32 := Scalar.extui v381
  let v383 : BitVec 32 := Scalar.subi v380 v382
  let v384 : BitVec 1 := Scalar.cmpi .ne v378 v383
  let v385 : BitVec 32 := Scalar.remsi arg12 c16_i32_308
  let c0_i32_313 : BitVec 32 := 0#32
  let v386 : BitVec 1 := Scalar.cmpi .ne v385 c0_i32_313
  let v387 : BitVec 1 := Scalar.andi v384 v386
  let v373 : BitVec 32 := Scalar.divsi arg12 c16_i32_308
  let c1_i32_314 : BitVec 32 := 1#32
  let v388 : BitVec 32 := Scalar.subi v373 c1_i32_314
  let v389 : BitVec 32 := Scalar.select v387 v388 v373
  let c128_i32_355 : BitVec 32 := 128#32
  let c16_i32_315 : BitVec 32 := 16#32
  let c0_i32_316 : BitVec 32 := 0#32
  let v390 : BitVec 1 := Scalar.cmpi .eq c16_i32_315 c0_i32_316
  let c1_i32_317 : BitVec 32 := 1#32
  let v391 : BitVec 32 := Scalar.select v390 c1_i32_317 c16_i32_315
  let v392 : BitVec 32 := Scalar.remsi arg12 v391
  let c0_i32_319 : BitVec 32 := 0#32
  let v394 : BitVec 1 := Scalar.cmpi .slt v392 c0_i32_319
  let c0_i32_320 : BitVec 32 := 0#32
  let v395 : BitVec 1 := Scalar.cmpi .slt v391 c0_i32_320
  let v396 : BitVec 1 := Scalar.xori v394 v395
  let c0_i32_318 : BitVec 32 := 0#32
  let v393 : BitVec 1 := Scalar.cmpi .ne v392 c0_i32_318
  let v397 : BitVec 1 := Scalar.andi v396 v393
  let v398 : BitVec 32 := Scalar.addi v392 v391
  let v399 : BitVec 32 := Scalar.select v397 v398 v392
  let v525 : BitVec 32 := Scalar.muli c128_i32_355 v399
  let v526 : BitVec 32 := Scalar.addi v389 v525
  let v527 : BitVec 32 := v526
  let v529 : Index := Scalar.indexCast v527
  let c0_358 : Index := 0#32
  ![0, 0, v529.toNat, 0]
def k0_off8 (k0_t1 : Fin k0_t1_loop.trips) : Fin 4 → Nat :=
  let c0_362 : Index := 0#32
  let c1_363 : Index := 1#32
  let c0_i32_11 : BitVec 32 := 0#32
  let c1_i32 : BitVec 32 := 1#32
  let arg12 : BitVec 32 := Scf.iv c0_i32_11 c1_i32 k0_t1
  let c0_i32_309 : BitVec 32 := 0#32
  let v374 : BitVec 1 := Scalar.cmpi .sgt arg12 c0_i32_309
  let v375 : BitVec 32 := Scalar.extui v374
  let c0_i32_310 : BitVec 32 := 0#32
  let v376 : BitVec 1 := Scalar.cmpi .slt arg12 c0_i32_310
  let v377 : BitVec 32 := Scalar.extui v376
  let v378 : BitVec 32 := Scalar.subi v375 v377
  let c16_i32_308 : BitVec 32 := 16#32
  let c0_i32_311 : BitVec 32 := 0#32
  let v379 : BitVec 1 := Scalar.cmpi .sgt c16_i32_308 c0_i32_311
  let v380 : BitVec 32 := Scalar.extui v379
  let c0_i32_312 : BitVec 32 := 0#32
  let v381 : BitVec 1 := Scalar.cmpi .slt c16_i32_308 c0_i32_312
  let v382 : BitVec 32 := Scalar.extui v381
  let v383 : BitVec 32 := Scalar.subi v380 v382
  let v384 : BitVec 1 := Scalar.cmpi .ne v378 v383
  let v385 : BitVec 32 := Scalar.remsi arg12 c16_i32_308
  let c0_i32_313 : BitVec 32 := 0#32
  let v386 : BitVec 1 := Scalar.cmpi .ne v385 c0_i32_313
  let v387 : BitVec 1 := Scalar.andi v384 v386
  let v373 : BitVec 32 := Scalar.divsi arg12 c16_i32_308
  let c1_i32_314 : BitVec 32 := 1#32
  let v388 : BitVec 32 := Scalar.subi v373 c1_i32_314
  let v389 : BitVec 32 := Scalar.select v387 v388 v373
  let c128_i32_355 : BitVec 32 := 128#32
  let c16_i32_315 : BitVec 32 := 16#32
  let c0_i32_316 : BitVec 32 := 0#32
  let v390 : BitVec 1 := Scalar.cmpi .eq c16_i32_315 c0_i32_316
  let c1_i32_317 : BitVec 32 := 1#32
  let v391 : BitVec 32 := Scalar.select v390 c1_i32_317 c16_i32_315
  let v392 : BitVec 32 := Scalar.remsi arg12 v391
  let c0_i32_319 : BitVec 32 := 0#32
  let v394 : BitVec 1 := Scalar.cmpi .slt v392 c0_i32_319
  let c0_i32_320 : BitVec 32 := 0#32
  let v395 : BitVec 1 := Scalar.cmpi .slt v391 c0_i32_320
  let v396 : BitVec 1 := Scalar.xori v394 v395
  let c0_i32_318 : BitVec 32 := 0#32
  let v393 : BitVec 1 := Scalar.cmpi .ne v392 c0_i32_318
  let v397 : BitVec 1 := Scalar.andi v396 v393
  let v398 : BitVec 32 := Scalar.addi v392 v391
  let v399 : BitVec 32 := Scalar.select v397 v398 v392
  let v525 : BitVec 32 := Scalar.muli c128_i32_355 v399
  let v526 : BitVec 32 := Scalar.addi v389 v525
  let v527 : BitVec 32 := v526
  let v539 : Index := Scalar.indexCast v527
  let c0_364 : Index := 0#32
  ![0, 1, v539.toNat, 0]
@[reducible] def k0_t2_loop : Scf.Loop 32 :=
  let c0_i32_152 : BitVec 32 := 0#32
  let c16_i32_153 : BitVec 32 := 16#32
  let v200 : BitVec 32 := Scalar.addi c0_i32_152 c16_i32_153
  let c1_i32_154 : BitVec 32 := 1#32
  ⟨c0_i32_152, v200, c1_i32_154⟩
def k0_mult7 (k0_t2 : Fin k0_t2_loop.trips) : BitVec 32 :=
  let c0_i32_152 : BitVec 32 := 0#32
  let c1_i32_154 : BitVec 32 := 1#32
  let arg12 : BitVec 32 := Scf.iv c0_i32_152 c1_i32_154 k0_t2
  let c4_i32_314 : BitVec 32 := 4#32
  let c0_i32_315 : BitVec 32 := 0#32
  let v390 : BitVec 1 := Scalar.cmpi .eq c4_i32_314 c0_i32_315
  let c1_i32_316 : BitVec 32 := 1#32
  let v391 : BitVec 32 := Scalar.select v390 c1_i32_316 c4_i32_314
  let v392 : BitVec 32 := Scalar.remsi arg12 v391
  let c0_i32_318 : BitVec 32 := 0#32
  let v394 : BitVec 1 := Scalar.cmpi .slt v392 c0_i32_318
  let c0_i32_319 : BitVec 32 := 0#32
  let v395 : BitVec 1 := Scalar.cmpi .slt v391 c0_i32_319
  let v396 : BitVec 1 := Scalar.xori v394 v395
  let c0_i32_317 : BitVec 32 := 0#32
  let v393 : BitVec 1 := Scalar.cmpi .ne v392 c0_i32_317
  let v397 : BitVec 1 := Scalar.andi v396 v393
  let v398 : BitVec 32 := Scalar.addi v392 v391
  let v399 : BitVec 32 := Scalar.select v397 v398 v392
  let c2_i32 : BitVec 32 := 2#32
  let v400 : BitVec 32 := Scalar.muli v399 c2_i32
  let c0_i32_320 : BitVec 32 := 0#32
  let v401 : BitVec 32 := Scalar.addi v400 c0_i32_320
  let c256_i32 : BitVec 32 := 256#32
  let v402 : BitVec 32 := Scalar.muli v401 c256_i32
  let c0_i32_308 : BitVec 32 := 0#32
  let v374 : BitVec 1 := Scalar.cmpi .sgt arg12 c0_i32_308
  let v375 : BitVec 32 := Scalar.extui v374
  let c0_i32_309 : BitVec 32 := 0#32
  let v376 : BitVec 1 := Scalar.cmpi .slt arg12 c0_i32_309
  let v377 : BitVec 32 := Scalar.extui v376
  let v378 : BitVec 32 := Scalar.subi v375 v377
  let c4_i32 : BitVec 32 := 4#32
  let c0_i32_310 : BitVec 32 := 0#32
  let v379 : BitVec 1 := Scalar.cmpi .sgt c4_i32 c0_i32_310
  let v380 : BitVec 32 := Scalar.extui v379
  let c0_i32_311 : BitVec 32 := 0#32
  let v381 : BitVec 1 := Scalar.cmpi .slt c4_i32 c0_i32_311
  let v382 : BitVec 32 := Scalar.extui v381
  let v383 : BitVec 32 := Scalar.subi v380 v382
  let v384 : BitVec 1 := Scalar.cmpi .ne v378 v383
  let v385 : BitVec 32 := Scalar.remsi arg12 c4_i32
  let c0_i32_312 : BitVec 32 := 0#32
  let v386 : BitVec 1 := Scalar.cmpi .ne v385 c0_i32_312
  let v387 : BitVec 1 := Scalar.andi v384 v386
  let v373 : BitVec 32 := Scalar.divsi arg12 c4_i32
  let c1_i32_313 : BitVec 32 := 1#32
  let v388 : BitVec 32 := Scalar.subi v373 c1_i32_313
  let v389 : BitVec 32 := Scalar.select v387 v388 v373
  let c64_i32_321 : BitVec 32 := 64#32
  let v403 : BitVec 32 := Scalar.muli v389 c64_i32_321
  let v404 : BitVec 32 := Scalar.addi v402 v403
  v404
def k0_off9 (k0_t2 : Fin k0_t2_loop.trips) (c0_i32_320 : BitVec 32) : Fin 2 → Nat :=
  let c0_i32_152 : BitVec 32 := 0#32
  let c1_i32_154 : BitVec 32 := 1#32
  let arg12 : BitVec 32 := Scf.iv c0_i32_152 c1_i32_154 k0_t2
  let c4_i32_314 : BitVec 32 := 4#32
  let c0_i32_315 : BitVec 32 := 0#32
  let v390 : BitVec 1 := Scalar.cmpi .eq c4_i32_314 c0_i32_315
  let c1_i32_316 : BitVec 32 := 1#32
  let v391 : BitVec 32 := Scalar.select v390 c1_i32_316 c4_i32_314
  let v392 : BitVec 32 := Scalar.remsi arg12 v391
  let c0_i32_318 : BitVec 32 := 0#32
  let v394 : BitVec 1 := Scalar.cmpi .slt v392 c0_i32_318
  let c0_i32_319 : BitVec 32 := 0#32
  let v395 : BitVec 1 := Scalar.cmpi .slt v391 c0_i32_319
  let v396 : BitVec 1 := Scalar.xori v394 v395
  let c0_i32_317 : BitVec 32 := 0#32
  let v393 : BitVec 1 := Scalar.cmpi .ne v392 c0_i32_317
  let v397 : BitVec 1 := Scalar.andi v396 v393
  let v398 : BitVec 32 := Scalar.addi v392 v391
  let v399 : BitVec 32 := Scalar.select v397 v398 v392
  let c2_i32 : BitVec 32 := 2#32
  let v400 : BitVec 32 := Scalar.muli v399 c2_i32
  let v401 : BitVec 32 := Scalar.addi v400 c0_i32_320
  let c256_i32 : BitVec 32 := 256#32
  let v402 : BitVec 32 := Scalar.muli v401 c256_i32
  let c0_i32_308 : BitVec 32 := 0#32
  let v374 : BitVec 1 := Scalar.cmpi .sgt arg12 c0_i32_308
  let v375 : BitVec 32 := Scalar.extui v374
  let c0_i32_309 : BitVec 32 := 0#32
  let v376 : BitVec 1 := Scalar.cmpi .slt arg12 c0_i32_309
  let v377 : BitVec 32 := Scalar.extui v376
  let v378 : BitVec 32 := Scalar.subi v375 v377
  let c4_i32 : BitVec 32 := 4#32
  let c0_i32_310 : BitVec 32 := 0#32
  let v379 : BitVec 1 := Scalar.cmpi .sgt c4_i32 c0_i32_310
  let v380 : BitVec 32 := Scalar.extui v379
  let c0_i32_311 : BitVec 32 := 0#32
  let v381 : BitVec 1 := Scalar.cmpi .slt c4_i32 c0_i32_311
  let v382 : BitVec 32 := Scalar.extui v381
  let v383 : BitVec 32 := Scalar.subi v380 v382
  let v384 : BitVec 1 := Scalar.cmpi .ne v378 v383
  let v385 : BitVec 32 := Scalar.remsi arg12 c4_i32
  let c0_i32_312 : BitVec 32 := 0#32
  let v386 : BitVec 1 := Scalar.cmpi .ne v385 c0_i32_312
  let v387 : BitVec 1 := Scalar.andi v384 v386
  let v373 : BitVec 32 := Scalar.divsi arg12 c4_i32
  let c1_i32_313 : BitVec 32 := 1#32
  let v388 : BitVec 32 := Scalar.subi v373 c1_i32_313
  let v389 : BitVec 32 := Scalar.select v387 v388 v373
  let c64_i32_321 : BitVec 32 := 64#32
  let v403 : BitVec 32 := Scalar.muli v389 c64_i32_321
  let v404 : BitVec 32 := Scalar.addi v402 v403
  let v405 : BitVec 32 := v404
  let v406 : Index := Scalar.indexCast v405
  let c0_322 : Index := 0#32
  ![v406.toNat, 0]
def k0_mult8 (k0_t2 : Fin k0_t2_loop.trips) : BitVec 32 :=
  let c0_i32_152 : BitVec 32 := 0#32
  let c1_i32_154 : BitVec 32 := 1#32
  let arg12 : BitVec 32 := Scf.iv c0_i32_152 c1_i32_154 k0_t2
  let c4_i32_314 : BitVec 32 := 4#32
  let c0_i32_315 : BitVec 32 := 0#32
  let v390 : BitVec 1 := Scalar.cmpi .eq c4_i32_314 c0_i32_315
  let c1_i32_316 : BitVec 32 := 1#32
  let v391 : BitVec 32 := Scalar.select v390 c1_i32_316 c4_i32_314
  let v392 : BitVec 32 := Scalar.remsi arg12 v391
  let c0_i32_318 : BitVec 32 := 0#32
  let v394 : BitVec 1 := Scalar.cmpi .slt v392 c0_i32_318
  let c0_i32_319 : BitVec 32 := 0#32
  let v395 : BitVec 1 := Scalar.cmpi .slt v391 c0_i32_319
  let v396 : BitVec 1 := Scalar.xori v394 v395
  let c0_i32_317 : BitVec 32 := 0#32
  let v393 : BitVec 1 := Scalar.cmpi .ne v392 c0_i32_317
  let v397 : BitVec 1 := Scalar.andi v396 v393
  let v398 : BitVec 32 := Scalar.addi v392 v391
  let v399 : BitVec 32 := Scalar.select v397 v398 v392
  let c2_i32_323 : BitVec 32 := 2#32
  let v408 : BitVec 32 := Scalar.muli v399 c2_i32_323
  let c1_i32_324 : BitVec 32 := 1#32
  let v409 : BitVec 32 := Scalar.addi v408 c1_i32_324
  let c256_i32_325 : BitVec 32 := 256#32
  let v410 : BitVec 32 := Scalar.muli v409 c256_i32_325
  let c0_i32_308 : BitVec 32 := 0#32
  let v374 : BitVec 1 := Scalar.cmpi .sgt arg12 c0_i32_308
  let v375 : BitVec 32 := Scalar.extui v374
  let c0_i32_309 : BitVec 32 := 0#32
  let v376 : BitVec 1 := Scalar.cmpi .slt arg12 c0_i32_309
  let v377 : BitVec 32 := Scalar.extui v376
  let v378 : BitVec 32 := Scalar.subi v375 v377
  let c4_i32 : BitVec 32 := 4#32
  let c0_i32_310 : BitVec 32 := 0#32
  let v379 : BitVec 1 := Scalar.cmpi .sgt c4_i32 c0_i32_310
  let v380 : BitVec 32 := Scalar.extui v379
  let c0_i32_311 : BitVec 32 := 0#32
  let v381 : BitVec 1 := Scalar.cmpi .slt c4_i32 c0_i32_311
  let v382 : BitVec 32 := Scalar.extui v381
  let v383 : BitVec 32 := Scalar.subi v380 v382
  let v384 : BitVec 1 := Scalar.cmpi .ne v378 v383
  let v385 : BitVec 32 := Scalar.remsi arg12 c4_i32
  let c0_i32_312 : BitVec 32 := 0#32
  let v386 : BitVec 1 := Scalar.cmpi .ne v385 c0_i32_312
  let v387 : BitVec 1 := Scalar.andi v384 v386
  let v373 : BitVec 32 := Scalar.divsi arg12 c4_i32
  let c1_i32_313 : BitVec 32 := 1#32
  let v388 : BitVec 32 := Scalar.subi v373 c1_i32_313
  let v389 : BitVec 32 := Scalar.select v387 v388 v373
  let c64_i32_326 : BitVec 32 := 64#32
  let v411 : BitVec 32 := Scalar.muli v389 c64_i32_326
  let v412 : BitVec 32 := Scalar.addi v410 v411
  v412
def k0_mult9 (k0_t2 : Fin k0_t2_loop.trips) : BitVec 32 :=
  let c0_i32_152 : BitVec 32 := 0#32
  let c1_i32_154 : BitVec 32 := 1#32
  let arg12 : BitVec 32 := Scf.iv c0_i32_152 c1_i32_154 k0_t2
  let c4_i32_314 : BitVec 32 := 4#32
  let c0_i32_315 : BitVec 32 := 0#32
  let v390 : BitVec 1 := Scalar.cmpi .eq c4_i32_314 c0_i32_315
  let c1_i32_316 : BitVec 32 := 1#32
  let v391 : BitVec 32 := Scalar.select v390 c1_i32_316 c4_i32_314
  let v392 : BitVec 32 := Scalar.remsi arg12 v391
  let c0_i32_318 : BitVec 32 := 0#32
  let v394 : BitVec 1 := Scalar.cmpi .slt v392 c0_i32_318
  let c0_i32_319 : BitVec 32 := 0#32
  let v395 : BitVec 1 := Scalar.cmpi .slt v391 c0_i32_319
  let v396 : BitVec 1 := Scalar.xori v394 v395
  let c0_i32_317 : BitVec 32 := 0#32
  let v393 : BitVec 1 := Scalar.cmpi .ne v392 c0_i32_317
  let v397 : BitVec 1 := Scalar.andi v396 v393
  let v398 : BitVec 32 := Scalar.addi v392 v391
  let v399 : BitVec 32 := Scalar.select v397 v398 v392
  let c2_i32_328 : BitVec 32 := 2#32
  let v417 : BitVec 32 := Scalar.muli v399 c2_i32_328
  let c0_i32_329 : BitVec 32 := 0#32
  let v418 : BitVec 32 := Scalar.addi v417 c0_i32_329
  let c256_i32_330 : BitVec 32 := 256#32
  let v419 : BitVec 32 := Scalar.muli v418 c256_i32_330
  let c0_i32_308 : BitVec 32 := 0#32
  let v374 : BitVec 1 := Scalar.cmpi .sgt arg12 c0_i32_308
  let v375 : BitVec 32 := Scalar.extui v374
  let c0_i32_309 : BitVec 32 := 0#32
  let v376 : BitVec 1 := Scalar.cmpi .slt arg12 c0_i32_309
  let v377 : BitVec 32 := Scalar.extui v376
  let v378 : BitVec 32 := Scalar.subi v375 v377
  let c4_i32 : BitVec 32 := 4#32
  let c0_i32_310 : BitVec 32 := 0#32
  let v379 : BitVec 1 := Scalar.cmpi .sgt c4_i32 c0_i32_310
  let v380 : BitVec 32 := Scalar.extui v379
  let c0_i32_311 : BitVec 32 := 0#32
  let v381 : BitVec 1 := Scalar.cmpi .slt c4_i32 c0_i32_311
  let v382 : BitVec 32 := Scalar.extui v381
  let v383 : BitVec 32 := Scalar.subi v380 v382
  let v384 : BitVec 1 := Scalar.cmpi .ne v378 v383
  let v385 : BitVec 32 := Scalar.remsi arg12 c4_i32
  let c0_i32_312 : BitVec 32 := 0#32
  let v386 : BitVec 1 := Scalar.cmpi .ne v385 c0_i32_312
  let v387 : BitVec 1 := Scalar.andi v384 v386
  let v373 : BitVec 32 := Scalar.divsi arg12 c4_i32
  let c1_i32_313 : BitVec 32 := 1#32
  let v388 : BitVec 32 := Scalar.subi v373 c1_i32_313
  let v389 : BitVec 32 := Scalar.select v387 v388 v373
  let c64_i32_331 : BitVec 32 := 64#32
  let v420 : BitVec 32 := Scalar.muli v389 c64_i32_331
  let v421 : BitVec 32 := Scalar.addi v419 v420
  v421
def k0_mult10 (k0_t2 : Fin k0_t2_loop.trips) : BitVec 32 :=
  let c0_i32_152 : BitVec 32 := 0#32
  let c1_i32_154 : BitVec 32 := 1#32
  let arg12 : BitVec 32 := Scf.iv c0_i32_152 c1_i32_154 k0_t2
  let c4_i32_314 : BitVec 32 := 4#32
  let c0_i32_315 : BitVec 32 := 0#32
  let v390 : BitVec 1 := Scalar.cmpi .eq c4_i32_314 c0_i32_315
  let c1_i32_316 : BitVec 32 := 1#32
  let v391 : BitVec 32 := Scalar.select v390 c1_i32_316 c4_i32_314
  let v392 : BitVec 32 := Scalar.remsi arg12 v391
  let c0_i32_318 : BitVec 32 := 0#32
  let v394 : BitVec 1 := Scalar.cmpi .slt v392 c0_i32_318
  let c0_i32_319 : BitVec 32 := 0#32
  let v395 : BitVec 1 := Scalar.cmpi .slt v391 c0_i32_319
  let v396 : BitVec 1 := Scalar.xori v394 v395
  let c0_i32_317 : BitVec 32 := 0#32
  let v393 : BitVec 1 := Scalar.cmpi .ne v392 c0_i32_317
  let v397 : BitVec 1 := Scalar.andi v396 v393
  let v398 : BitVec 32 := Scalar.addi v392 v391
  let v399 : BitVec 32 := Scalar.select v397 v398 v392
  let c2_i32_333 : BitVec 32 := 2#32
  let v425 : BitVec 32 := Scalar.muli v399 c2_i32_333
  let c1_i32_334 : BitVec 32 := 1#32
  let v426 : BitVec 32 := Scalar.addi v425 c1_i32_334
  let c256_i32_335 : BitVec 32 := 256#32
  let v427 : BitVec 32 := Scalar.muli v426 c256_i32_335
  let c0_i32_308 : BitVec 32 := 0#32
  let v374 : BitVec 1 := Scalar.cmpi .sgt arg12 c0_i32_308
  let v375 : BitVec 32 := Scalar.extui v374
  let c0_i32_309 : BitVec 32 := 0#32
  let v376 : BitVec 1 := Scalar.cmpi .slt arg12 c0_i32_309
  let v377 : BitVec 32 := Scalar.extui v376
  let v378 : BitVec 32 := Scalar.subi v375 v377
  let c4_i32 : BitVec 32 := 4#32
  let c0_i32_310 : BitVec 32 := 0#32
  let v379 : BitVec 1 := Scalar.cmpi .sgt c4_i32 c0_i32_310
  let v380 : BitVec 32 := Scalar.extui v379
  let c0_i32_311 : BitVec 32 := 0#32
  let v381 : BitVec 1 := Scalar.cmpi .slt c4_i32 c0_i32_311
  let v382 : BitVec 32 := Scalar.extui v381
  let v383 : BitVec 32 := Scalar.subi v380 v382
  let v384 : BitVec 1 := Scalar.cmpi .ne v378 v383
  let v385 : BitVec 32 := Scalar.remsi arg12 c4_i32
  let c0_i32_312 : BitVec 32 := 0#32
  let v386 : BitVec 1 := Scalar.cmpi .ne v385 c0_i32_312
  let v387 : BitVec 1 := Scalar.andi v384 v386
  let v373 : BitVec 32 := Scalar.divsi arg12 c4_i32
  let c1_i32_313 : BitVec 32 := 1#32
  let v388 : BitVec 32 := Scalar.subi v373 c1_i32_313
  let v389 : BitVec 32 := Scalar.select v387 v388 v373
  let c64_i32_336 : BitVec 32 := 64#32
  let v428 : BitVec 32 := Scalar.muli v389 c64_i32_336
  let v429 : BitVec 32 := Scalar.addi v427 v428
  v429
def k0_mult11 (k0_t2 : Fin k0_t2_loop.trips) : BitVec 32 :=
  let c0_i32_152 : BitVec 32 := 0#32
  let c1_i32_154 : BitVec 32 := 1#32
  let arg12 : BitVec 32 := Scf.iv c0_i32_152 c1_i32_154 k0_t2
  let c4_i32_314 : BitVec 32 := 4#32
  let c0_i32_315 : BitVec 32 := 0#32
  let v390 : BitVec 1 := Scalar.cmpi .eq c4_i32_314 c0_i32_315
  let c1_i32_316 : BitVec 32 := 1#32
  let v391 : BitVec 32 := Scalar.select v390 c1_i32_316 c4_i32_314
  let v392 : BitVec 32 := Scalar.remsi arg12 v391
  let c0_i32_318 : BitVec 32 := 0#32
  let v394 : BitVec 1 := Scalar.cmpi .slt v392 c0_i32_318
  let c0_i32_319 : BitVec 32 := 0#32
  let v395 : BitVec 1 := Scalar.cmpi .slt v391 c0_i32_319
  let v396 : BitVec 1 := Scalar.xori v394 v395
  let c0_i32_317 : BitVec 32 := 0#32
  let v393 : BitVec 1 := Scalar.cmpi .ne v392 c0_i32_317
  let v397 : BitVec 1 := Scalar.andi v396 v393
  let v398 : BitVec 32 := Scalar.addi v392 v391
  let v399 : BitVec 32 := Scalar.select v397 v398 v392
  let c2_i32_338 : BitVec 32 := 2#32
  let v434 : BitVec 32 := Scalar.muli v399 c2_i32_338
  let c0_i32_339 : BitVec 32 := 0#32
  let v435 : BitVec 32 := Scalar.addi v434 c0_i32_339
  let c256_i32_340 : BitVec 32 := 256#32
  let v436 : BitVec 32 := Scalar.muli v435 c256_i32_340
  let c0_i32_308 : BitVec 32 := 0#32
  let v374 : BitVec 1 := Scalar.cmpi .sgt arg12 c0_i32_308
  let v375 : BitVec 32 := Scalar.extui v374
  let c0_i32_309 : BitVec 32 := 0#32
  let v376 : BitVec 1 := Scalar.cmpi .slt arg12 c0_i32_309
  let v377 : BitVec 32 := Scalar.extui v376
  let v378 : BitVec 32 := Scalar.subi v375 v377
  let c4_i32 : BitVec 32 := 4#32
  let c0_i32_310 : BitVec 32 := 0#32
  let v379 : BitVec 1 := Scalar.cmpi .sgt c4_i32 c0_i32_310
  let v380 : BitVec 32 := Scalar.extui v379
  let c0_i32_311 : BitVec 32 := 0#32
  let v381 : BitVec 1 := Scalar.cmpi .slt c4_i32 c0_i32_311
  let v382 : BitVec 32 := Scalar.extui v381
  let v383 : BitVec 32 := Scalar.subi v380 v382
  let v384 : BitVec 1 := Scalar.cmpi .ne v378 v383
  let v385 : BitVec 32 := Scalar.remsi arg12 c4_i32
  let c0_i32_312 : BitVec 32 := 0#32
  let v386 : BitVec 1 := Scalar.cmpi .ne v385 c0_i32_312
  let v387 : BitVec 1 := Scalar.andi v384 v386
  let v373 : BitVec 32 := Scalar.divsi arg12 c4_i32
  let c1_i32_313 : BitVec 32 := 1#32
  let v388 : BitVec 32 := Scalar.subi v373 c1_i32_313
  let v389 : BitVec 32 := Scalar.select v387 v388 v373
  let c64_i32_341 : BitVec 32 := 64#32
  let v437 : BitVec 32 := Scalar.muli v389 c64_i32_341
  let v438 : BitVec 32 := Scalar.addi v436 v437
  v438
def k0_mult12 (k0_t2 : Fin k0_t2_loop.trips) : BitVec 32 :=
  let c0_i32_152 : BitVec 32 := 0#32
  let c1_i32_154 : BitVec 32 := 1#32
  let arg12 : BitVec 32 := Scf.iv c0_i32_152 c1_i32_154 k0_t2
  let c4_i32_314 : BitVec 32 := 4#32
  let c0_i32_315 : BitVec 32 := 0#32
  let v390 : BitVec 1 := Scalar.cmpi .eq c4_i32_314 c0_i32_315
  let c1_i32_316 : BitVec 32 := 1#32
  let v391 : BitVec 32 := Scalar.select v390 c1_i32_316 c4_i32_314
  let v392 : BitVec 32 := Scalar.remsi arg12 v391
  let c0_i32_318 : BitVec 32 := 0#32
  let v394 : BitVec 1 := Scalar.cmpi .slt v392 c0_i32_318
  let c0_i32_319 : BitVec 32 := 0#32
  let v395 : BitVec 1 := Scalar.cmpi .slt v391 c0_i32_319
  let v396 : BitVec 1 := Scalar.xori v394 v395
  let c0_i32_317 : BitVec 32 := 0#32
  let v393 : BitVec 1 := Scalar.cmpi .ne v392 c0_i32_317
  let v397 : BitVec 1 := Scalar.andi v396 v393
  let v398 : BitVec 32 := Scalar.addi v392 v391
  let v399 : BitVec 32 := Scalar.select v397 v398 v392
  let c2_i32_343 : BitVec 32 := 2#32
  let v442 : BitVec 32 := Scalar.muli v399 c2_i32_343
  let c1_i32_344 : BitVec 32 := 1#32
  let v443 : BitVec 32 := Scalar.addi v442 c1_i32_344
  let c256_i32_345 : BitVec 32 := 256#32
  let v444 : BitVec 32 := Scalar.muli v443 c256_i32_345
  let c0_i32_308 : BitVec 32 := 0#32
  let v374 : BitVec 1 := Scalar.cmpi .sgt arg12 c0_i32_308
  let v375 : BitVec 32 := Scalar.extui v374
  let c0_i32_309 : BitVec 32 := 0#32
  let v376 : BitVec 1 := Scalar.cmpi .slt arg12 c0_i32_309
  let v377 : BitVec 32 := Scalar.extui v376
  let v378 : BitVec 32 := Scalar.subi v375 v377
  let c4_i32 : BitVec 32 := 4#32
  let c0_i32_310 : BitVec 32 := 0#32
  let v379 : BitVec 1 := Scalar.cmpi .sgt c4_i32 c0_i32_310
  let v380 : BitVec 32 := Scalar.extui v379
  let c0_i32_311 : BitVec 32 := 0#32
  let v381 : BitVec 1 := Scalar.cmpi .slt c4_i32 c0_i32_311
  let v382 : BitVec 32 := Scalar.extui v381
  let v383 : BitVec 32 := Scalar.subi v380 v382
  let v384 : BitVec 1 := Scalar.cmpi .ne v378 v383
  let v385 : BitVec 32 := Scalar.remsi arg12 c4_i32
  let c0_i32_312 : BitVec 32 := 0#32
  let v386 : BitVec 1 := Scalar.cmpi .ne v385 c0_i32_312
  let v387 : BitVec 1 := Scalar.andi v384 v386
  let v373 : BitVec 32 := Scalar.divsi arg12 c4_i32
  let c1_i32_313 : BitVec 32 := 1#32
  let v388 : BitVec 32 := Scalar.subi v373 c1_i32_313
  let v389 : BitVec 32 := Scalar.select v387 v388 v373
  let c64_i32_346 : BitVec 32 := 64#32
  let v445 : BitVec 32 := Scalar.muli v389 c64_i32_346
  let v446 : BitVec 32 := Scalar.addi v444 v445
  v446
def k0_mult13 (k0_t2 : Fin k0_t2_loop.trips) : BitVec 32 :=
  let c0_i32_152 : BitVec 32 := 0#32
  let c1_i32_154 : BitVec 32 := 1#32
  let arg12 : BitVec 32 := Scf.iv c0_i32_152 c1_i32_154 k0_t2
  let c4_i32_314 : BitVec 32 := 4#32
  let c0_i32_315 : BitVec 32 := 0#32
  let v390 : BitVec 1 := Scalar.cmpi .eq c4_i32_314 c0_i32_315
  let c1_i32_316 : BitVec 32 := 1#32
  let v391 : BitVec 32 := Scalar.select v390 c1_i32_316 c4_i32_314
  let v392 : BitVec 32 := Scalar.remsi arg12 v391
  let c0_i32_318 : BitVec 32 := 0#32
  let v394 : BitVec 1 := Scalar.cmpi .slt v392 c0_i32_318
  let c0_i32_319 : BitVec 32 := 0#32
  let v395 : BitVec 1 := Scalar.cmpi .slt v391 c0_i32_319
  let v396 : BitVec 1 := Scalar.xori v394 v395
  let c0_i32_317 : BitVec 32 := 0#32
  let v393 : BitVec 1 := Scalar.cmpi .ne v392 c0_i32_317
  let v397 : BitVec 1 := Scalar.andi v396 v393
  let v398 : BitVec 32 := Scalar.addi v392 v391
  let v399 : BitVec 32 := Scalar.select v397 v398 v392
  let c1_i32_348 : BitVec 32 := 1#32
  let v451 : BitVec 32 := Scalar.subi v399 c1_i32_348
  let c0_i32_349 : BitVec 32 := 0#32
  let v452 : BitVec 32 := Scalar.maxsi v451 c0_i32_349
  let c2_i32_350 : BitVec 32 := 2#32
  let v453 : BitVec 32 := Scalar.muli v452 c2_i32_350
  let c0_i32_351 : BitVec 32 := 0#32
  let v454 : BitVec 32 := Scalar.addi v453 c0_i32_351
  let c256_i32_352 : BitVec 32 := 256#32
  let v455 : BitVec 32 := Scalar.muli v454 c256_i32_352
  let c0_i32_308 : BitVec 32 := 0#32
  let v374 : BitVec 1 := Scalar.cmpi .sgt arg12 c0_i32_308
  let v375 : BitVec 32 := Scalar.extui v374
  let c0_i32_309 : BitVec 32 := 0#32
  let v376 : BitVec 1 := Scalar.cmpi .slt arg12 c0_i32_309
  let v377 : BitVec 32 := Scalar.extui v376
  let v378 : BitVec 32 := Scalar.subi v375 v377
  let c4_i32 : BitVec 32 := 4#32
  let c0_i32_310 : BitVec 32 := 0#32
  let v379 : BitVec 1 := Scalar.cmpi .sgt c4_i32 c0_i32_310
  let v380 : BitVec 32 := Scalar.extui v379
  let c0_i32_311 : BitVec 32 := 0#32
  let v381 : BitVec 1 := Scalar.cmpi .slt c4_i32 c0_i32_311
  let v382 : BitVec 32 := Scalar.extui v381
  let v383 : BitVec 32 := Scalar.subi v380 v382
  let v384 : BitVec 1 := Scalar.cmpi .ne v378 v383
  let v385 : BitVec 32 := Scalar.remsi arg12 c4_i32
  let c0_i32_312 : BitVec 32 := 0#32
  let v386 : BitVec 1 := Scalar.cmpi .ne v385 c0_i32_312
  let v387 : BitVec 1 := Scalar.andi v384 v386
  let v373 : BitVec 32 := Scalar.divsi arg12 c4_i32
  let c1_i32_313 : BitVec 32 := 1#32
  let v388 : BitVec 32 := Scalar.subi v373 c1_i32_313
  let v389 : BitVec 32 := Scalar.select v387 v388 v373
  let c64_i32_353 : BitVec 32 := 64#32
  let v456 : BitVec 32 := Scalar.muli v389 c64_i32_353
  let v457 : BitVec 32 := Scalar.addi v455 v456
  v457
def k0_off10 (k0_t2 : Fin k0_t2_loop.trips) (c0_i32_351 : BitVec 32) : Fin 2 → Nat :=
  let c0_i32_152 : BitVec 32 := 0#32
  let c1_i32_154 : BitVec 32 := 1#32
  let arg12 : BitVec 32 := Scf.iv c0_i32_152 c1_i32_154 k0_t2
  let c4_i32_314 : BitVec 32 := 4#32
  let c0_i32_315 : BitVec 32 := 0#32
  let v390 : BitVec 1 := Scalar.cmpi .eq c4_i32_314 c0_i32_315
  let c1_i32_316 : BitVec 32 := 1#32
  let v391 : BitVec 32 := Scalar.select v390 c1_i32_316 c4_i32_314
  let v392 : BitVec 32 := Scalar.remsi arg12 v391
  let c0_i32_318 : BitVec 32 := 0#32
  let v394 : BitVec 1 := Scalar.cmpi .slt v392 c0_i32_318
  let c0_i32_319 : BitVec 32 := 0#32
  let v395 : BitVec 1 := Scalar.cmpi .slt v391 c0_i32_319
  let v396 : BitVec 1 := Scalar.xori v394 v395
  let c0_i32_317 : BitVec 32 := 0#32
  let v393 : BitVec 1 := Scalar.cmpi .ne v392 c0_i32_317
  let v397 : BitVec 1 := Scalar.andi v396 v393
  let v398 : BitVec 32 := Scalar.addi v392 v391
  let v399 : BitVec 32 := Scalar.select v397 v398 v392
  let c1_i32_348 : BitVec 32 := 1#32
  let v451 : BitVec 32 := Scalar.subi v399 c1_i32_348
  let c0_i32_349 : BitVec 32 := 0#32
  let v452 : BitVec 32 := Scalar.maxsi v451 c0_i32_349
  let c2_i32_350 : BitVec 32 := 2#32
  let v453 : BitVec 32 := Scalar.muli v452 c2_i32_350
  let v454 : BitVec 32 := Scalar.addi v453 c0_i32_351
  let c256_i32_352 : BitVec 32 := 256#32
  let v455 : BitVec 32 := Scalar.muli v454 c256_i32_352
  let c0_i32_308 : BitVec 32 := 0#32
  let v374 : BitVec 1 := Scalar.cmpi .sgt arg12 c0_i32_308
  let v375 : BitVec 32 := Scalar.extui v374
  let c0_i32_309 : BitVec 32 := 0#32
  let v376 : BitVec 1 := Scalar.cmpi .slt arg12 c0_i32_309
  let v377 : BitVec 32 := Scalar.extui v376
  let v378 : BitVec 32 := Scalar.subi v375 v377
  let c4_i32 : BitVec 32 := 4#32
  let c0_i32_310 : BitVec 32 := 0#32
  let v379 : BitVec 1 := Scalar.cmpi .sgt c4_i32 c0_i32_310
  let v380 : BitVec 32 := Scalar.extui v379
  let c0_i32_311 : BitVec 32 := 0#32
  let v381 : BitVec 1 := Scalar.cmpi .slt c4_i32 c0_i32_311
  let v382 : BitVec 32 := Scalar.extui v381
  let v383 : BitVec 32 := Scalar.subi v380 v382
  let v384 : BitVec 1 := Scalar.cmpi .ne v378 v383
  let v385 : BitVec 32 := Scalar.remsi arg12 c4_i32
  let c0_i32_312 : BitVec 32 := 0#32
  let v386 : BitVec 1 := Scalar.cmpi .ne v385 c0_i32_312
  let v387 : BitVec 1 := Scalar.andi v384 v386
  let v373 : BitVec 32 := Scalar.divsi arg12 c4_i32
  let c1_i32_313 : BitVec 32 := 1#32
  let v388 : BitVec 32 := Scalar.subi v373 c1_i32_313
  let v389 : BitVec 32 := Scalar.select v387 v388 v373
  let c64_i32_353 : BitVec 32 := 64#32
  let v456 : BitVec 32 := Scalar.muli v389 c64_i32_353
  let v457 : BitVec 32 := Scalar.addi v455 v456
  let v458 : BitVec 32 := v457
  let v459 : Index := Scalar.indexCast v458
  let c0_354 : Index := 0#32
  ![v459.toNat, 0]
def k0_mult14 (k0_t2 : Fin k0_t2_loop.trips) : BitVec 32 :=
  let c0_i32_152 : BitVec 32 := 0#32
  let c1_i32_154 : BitVec 32 := 1#32
  let arg12 : BitVec 32 := Scf.iv c0_i32_152 c1_i32_154 k0_t2
  let c4_i32_314 : BitVec 32 := 4#32
  let c0_i32_315 : BitVec 32 := 0#32
  let v390 : BitVec 1 := Scalar.cmpi .eq c4_i32_314 c0_i32_315
  let c1_i32_316 : BitVec 32 := 1#32
  let v391 : BitVec 32 := Scalar.select v390 c1_i32_316 c4_i32_314
  let v392 : BitVec 32 := Scalar.remsi arg12 v391
  let c0_i32_318 : BitVec 32 := 0#32
  let v394 : BitVec 1 := Scalar.cmpi .slt v392 c0_i32_318
  let c0_i32_319 : BitVec 32 := 0#32
  let v395 : BitVec 1 := Scalar.cmpi .slt v391 c0_i32_319
  let v396 : BitVec 1 := Scalar.xori v394 v395
  let c0_i32_317 : BitVec 32 := 0#32
  let v393 : BitVec 1 := Scalar.cmpi .ne v392 c0_i32_317
  let v397 : BitVec 1 := Scalar.andi v396 v393
  let v398 : BitVec 32 := Scalar.addi v392 v391
  let v399 : BitVec 32 := Scalar.select v397 v398 v392
  let c1_i32_348 : BitVec 32 := 1#32
  let v451 : BitVec 32 := Scalar.subi v399 c1_i32_348
  let c0_i32_349 : BitVec 32 := 0#32
  let v452 : BitVec 32 := Scalar.maxsi v451 c0_i32_349
  let c2_i32_355 : BitVec 32 := 2#32
  let v461 : BitVec 32 := Scalar.muli v452 c2_i32_355
  let c1_i32_356 : BitVec 32 := 1#32
  let v462 : BitVec 32 := Scalar.addi v461 c1_i32_356
  let c256_i32_357 : BitVec 32 := 256#32
  let v463 : BitVec 32 := Scalar.muli v462 c256_i32_357
  let c0_i32_308 : BitVec 32 := 0#32
  let v374 : BitVec 1 := Scalar.cmpi .sgt arg12 c0_i32_308
  let v375 : BitVec 32 := Scalar.extui v374
  let c0_i32_309 : BitVec 32 := 0#32
  let v376 : BitVec 1 := Scalar.cmpi .slt arg12 c0_i32_309
  let v377 : BitVec 32 := Scalar.extui v376
  let v378 : BitVec 32 := Scalar.subi v375 v377
  let c4_i32 : BitVec 32 := 4#32
  let c0_i32_310 : BitVec 32 := 0#32
  let v379 : BitVec 1 := Scalar.cmpi .sgt c4_i32 c0_i32_310
  let v380 : BitVec 32 := Scalar.extui v379
  let c0_i32_311 : BitVec 32 := 0#32
  let v381 : BitVec 1 := Scalar.cmpi .slt c4_i32 c0_i32_311
  let v382 : BitVec 32 := Scalar.extui v381
  let v383 : BitVec 32 := Scalar.subi v380 v382
  let v384 : BitVec 1 := Scalar.cmpi .ne v378 v383
  let v385 : BitVec 32 := Scalar.remsi arg12 c4_i32
  let c0_i32_312 : BitVec 32 := 0#32
  let v386 : BitVec 1 := Scalar.cmpi .ne v385 c0_i32_312
  let v387 : BitVec 1 := Scalar.andi v384 v386
  let v373 : BitVec 32 := Scalar.divsi arg12 c4_i32
  let c1_i32_313 : BitVec 32 := 1#32
  let v388 : BitVec 32 := Scalar.subi v373 c1_i32_313
  let v389 : BitVec 32 := Scalar.select v387 v388 v373
  let c64_i32_358 : BitVec 32 := 64#32
  let v464 : BitVec 32 := Scalar.muli v389 c64_i32_358
  let v465 : BitVec 32 := Scalar.addi v463 v464
  v465
def k0_mult15 (k0_t2 : Fin k0_t2_loop.trips) : BitVec 32 :=
  let c0_i32_152 : BitVec 32 := 0#32
  let c1_i32_154 : BitVec 32 := 1#32
  let arg12 : BitVec 32 := Scf.iv c0_i32_152 c1_i32_154 k0_t2
  let c4_i32_314 : BitVec 32 := 4#32
  let c0_i32_315 : BitVec 32 := 0#32
  let v390 : BitVec 1 := Scalar.cmpi .eq c4_i32_314 c0_i32_315
  let c1_i32_316 : BitVec 32 := 1#32
  let v391 : BitVec 32 := Scalar.select v390 c1_i32_316 c4_i32_314
  let v392 : BitVec 32 := Scalar.remsi arg12 v391
  let c0_i32_318 : BitVec 32 := 0#32
  let v394 : BitVec 1 := Scalar.cmpi .slt v392 c0_i32_318
  let c0_i32_319 : BitVec 32 := 0#32
  let v395 : BitVec 1 := Scalar.cmpi .slt v391 c0_i32_319
  let v396 : BitVec 1 := Scalar.xori v394 v395
  let c0_i32_317 : BitVec 32 := 0#32
  let v393 : BitVec 1 := Scalar.cmpi .ne v392 c0_i32_317
  let v397 : BitVec 1 := Scalar.andi v396 v393
  let v398 : BitVec 32 := Scalar.addi v392 v391
  let v399 : BitVec 32 := Scalar.select v397 v398 v392
  let c1_i32_348 : BitVec 32 := 1#32
  let v451 : BitVec 32 := Scalar.subi v399 c1_i32_348
  let c0_i32_349 : BitVec 32 := 0#32
  let v452 : BitVec 32 := Scalar.maxsi v451 c0_i32_349
  let c2_i32_360 : BitVec 32 := 2#32
  let v471 : BitVec 32 := Scalar.muli v452 c2_i32_360
  let c0_i32_361 : BitVec 32 := 0#32
  let v472 : BitVec 32 := Scalar.addi v471 c0_i32_361
  let c256_i32_362 : BitVec 32 := 256#32
  let v473 : BitVec 32 := Scalar.muli v472 c256_i32_362
  let c0_i32_308 : BitVec 32 := 0#32
  let v374 : BitVec 1 := Scalar.cmpi .sgt arg12 c0_i32_308
  let v375 : BitVec 32 := Scalar.extui v374
  let c0_i32_309 : BitVec 32 := 0#32
  let v376 : BitVec 1 := Scalar.cmpi .slt arg12 c0_i32_309
  let v377 : BitVec 32 := Scalar.extui v376
  let v378 : BitVec 32 := Scalar.subi v375 v377
  let c4_i32 : BitVec 32 := 4#32
  let c0_i32_310 : BitVec 32 := 0#32
  let v379 : BitVec 1 := Scalar.cmpi .sgt c4_i32 c0_i32_310
  let v380 : BitVec 32 := Scalar.extui v379
  let c0_i32_311 : BitVec 32 := 0#32
  let v381 : BitVec 1 := Scalar.cmpi .slt c4_i32 c0_i32_311
  let v382 : BitVec 32 := Scalar.extui v381
  let v383 : BitVec 32 := Scalar.subi v380 v382
  let v384 : BitVec 1 := Scalar.cmpi .ne v378 v383
  let v385 : BitVec 32 := Scalar.remsi arg12 c4_i32
  let c0_i32_312 : BitVec 32 := 0#32
  let v386 : BitVec 1 := Scalar.cmpi .ne v385 c0_i32_312
  let v387 : BitVec 1 := Scalar.andi v384 v386
  let v373 : BitVec 32 := Scalar.divsi arg12 c4_i32
  let c1_i32_313 : BitVec 32 := 1#32
  let v388 : BitVec 32 := Scalar.subi v373 c1_i32_313
  let v389 : BitVec 32 := Scalar.select v387 v388 v373
  let c64_i32_363 : BitVec 32 := 64#32
  let v474 : BitVec 32 := Scalar.muli v389 c64_i32_363
  let v475 : BitVec 32 := Scalar.addi v473 v474
  v475
def k0_mult16 (k0_t2 : Fin k0_t2_loop.trips) : BitVec 32 :=
  let c0_i32_152 : BitVec 32 := 0#32
  let c1_i32_154 : BitVec 32 := 1#32
  let arg12 : BitVec 32 := Scf.iv c0_i32_152 c1_i32_154 k0_t2
  let c4_i32_314 : BitVec 32 := 4#32
  let c0_i32_315 : BitVec 32 := 0#32
  let v390 : BitVec 1 := Scalar.cmpi .eq c4_i32_314 c0_i32_315
  let c1_i32_316 : BitVec 32 := 1#32
  let v391 : BitVec 32 := Scalar.select v390 c1_i32_316 c4_i32_314
  let v392 : BitVec 32 := Scalar.remsi arg12 v391
  let c0_i32_318 : BitVec 32 := 0#32
  let v394 : BitVec 1 := Scalar.cmpi .slt v392 c0_i32_318
  let c0_i32_319 : BitVec 32 := 0#32
  let v395 : BitVec 1 := Scalar.cmpi .slt v391 c0_i32_319
  let v396 : BitVec 1 := Scalar.xori v394 v395
  let c0_i32_317 : BitVec 32 := 0#32
  let v393 : BitVec 1 := Scalar.cmpi .ne v392 c0_i32_317
  let v397 : BitVec 1 := Scalar.andi v396 v393
  let v398 : BitVec 32 := Scalar.addi v392 v391
  let v399 : BitVec 32 := Scalar.select v397 v398 v392
  let c1_i32_348 : BitVec 32 := 1#32
  let v451 : BitVec 32 := Scalar.subi v399 c1_i32_348
  let c0_i32_349 : BitVec 32 := 0#32
  let v452 : BitVec 32 := Scalar.maxsi v451 c0_i32_349
  let c2_i32_365 : BitVec 32 := 2#32
  let v479 : BitVec 32 := Scalar.muli v452 c2_i32_365
  let c1_i32_366 : BitVec 32 := 1#32
  let v480 : BitVec 32 := Scalar.addi v479 c1_i32_366
  let c256_i32_367 : BitVec 32 := 256#32
  let v481 : BitVec 32 := Scalar.muli v480 c256_i32_367
  let c0_i32_308 : BitVec 32 := 0#32
  let v374 : BitVec 1 := Scalar.cmpi .sgt arg12 c0_i32_308
  let v375 : BitVec 32 := Scalar.extui v374
  let c0_i32_309 : BitVec 32 := 0#32
  let v376 : BitVec 1 := Scalar.cmpi .slt arg12 c0_i32_309
  let v377 : BitVec 32 := Scalar.extui v376
  let v378 : BitVec 32 := Scalar.subi v375 v377
  let c4_i32 : BitVec 32 := 4#32
  let c0_i32_310 : BitVec 32 := 0#32
  let v379 : BitVec 1 := Scalar.cmpi .sgt c4_i32 c0_i32_310
  let v380 : BitVec 32 := Scalar.extui v379
  let c0_i32_311 : BitVec 32 := 0#32
  let v381 : BitVec 1 := Scalar.cmpi .slt c4_i32 c0_i32_311
  let v382 : BitVec 32 := Scalar.extui v381
  let v383 : BitVec 32 := Scalar.subi v380 v382
  let v384 : BitVec 1 := Scalar.cmpi .ne v378 v383
  let v385 : BitVec 32 := Scalar.remsi arg12 c4_i32
  let c0_i32_312 : BitVec 32 := 0#32
  let v386 : BitVec 1 := Scalar.cmpi .ne v385 c0_i32_312
  let v387 : BitVec 1 := Scalar.andi v384 v386
  let v373 : BitVec 32 := Scalar.divsi arg12 c4_i32
  let c1_i32_313 : BitVec 32 := 1#32
  let v388 : BitVec 32 := Scalar.subi v373 c1_i32_313
  let v389 : BitVec 32 := Scalar.select v387 v388 v373
  let c64_i32_368 : BitVec 32 := 64#32
  let v482 : BitVec 32 := Scalar.muli v389 c64_i32_368
  let v483 : BitVec 32 := Scalar.addi v481 v482
  v483
def k0_off11 (k0_t2 : Fin k0_t2_loop.trips) : Fin 3 → Nat :=
  let c0_i32_152 : BitVec 32 := 0#32
  let c1_i32_154 : BitVec 32 := 1#32
  let arg12 : BitVec 32 := Scf.iv c0_i32_152 c1_i32_154 k0_t2
  let c4_i32_314 : BitVec 32 := 4#32
  let c0_i32_315 : BitVec 32 := 0#32
  let v390 : BitVec 1 := Scalar.cmpi .eq c4_i32_314 c0_i32_315
  let c1_i32_316 : BitVec 32 := 1#32
  let v391 : BitVec 32 := Scalar.select v390 c1_i32_316 c4_i32_314
  let v392 : BitVec 32 := Scalar.remsi arg12 v391
  let c0_i32_318 : BitVec 32 := 0#32
  let v394 : BitVec 1 := Scalar.cmpi .slt v392 c0_i32_318
  let c0_i32_319 : BitVec 32 := 0#32
  let v395 : BitVec 1 := Scalar.cmpi .slt v391 c0_i32_319
  let v396 : BitVec 1 := Scalar.xori v394 v395
  let c0_i32_317 : BitVec 32 := 0#32
  let v393 : BitVec 1 := Scalar.cmpi .ne v392 c0_i32_317
  let v397 : BitVec 1 := Scalar.andi v396 v393
  let v398 : BitVec 32 := Scalar.addi v392 v391
  let v399 : BitVec 32 := Scalar.select v397 v398 v392
  let c1_i32_370 : BitVec 32 := 1#32
  let v489 : BitVec 32 := Scalar.minsi v399 c1_i32_370
  let v490 : Index := Scalar.indexCast v489
  let c0_371 : Index := 0#32
  let c0_372 : Index := 0#32
  ![v490.toNat, 0, 0]
def k0_off12 (k0_t2 : Fin k0_t2_loop.trips) : Fin 4 → Nat :=
  let c1_387 : Index := 1#32
  let c0_388 : Index := 0#32
  let c0_i32_152 : BitVec 32 := 0#32
  let c1_i32_154 : BitVec 32 := 1#32
  let arg12 : BitVec 32 := Scf.iv c0_i32_152 c1_i32_154 k0_t2
  let c0_i32_308 : BitVec 32 := 0#32
  let v374 : BitVec 1 := Scalar.cmpi .sgt arg12 c0_i32_308
  let v375 : BitVec 32 := Scalar.extui v374
  let c0_i32_309 : BitVec 32 := 0#32
  let v376 : BitVec 1 := Scalar.cmpi .slt arg12 c0_i32_309
  let v377 : BitVec 32 := Scalar.extui v376
  let v378 : BitVec 32 := Scalar.subi v375 v377
  let c4_i32 : BitVec 32 := 4#32
  let c0_i32_310 : BitVec 32 := 0#32
  let v379 : BitVec 1 := Scalar.cmpi .sgt c4_i32 c0_i32_310
  let v380 : BitVec 32 := Scalar.extui v379
  let c0_i32_311 : BitVec 32 := 0#32
  let v381 : BitVec 1 := Scalar.cmpi .slt c4_i32 c0_i32_311
  let v382 : BitVec 32 := Scalar.extui v381
  let v383 : BitVec 32 := Scalar.subi v380 v382
  let v384 : BitVec 1 := Scalar.cmpi .ne v378 v383
  let v385 : BitVec 32 := Scalar.remsi arg12 c4_i32
  let c0_i32_312 : BitVec 32 := 0#32
  let v386 : BitVec 1 := Scalar.cmpi .ne v385 c0_i32_312
  let v387 : BitVec 1 := Scalar.andi v384 v386
  let v373 : BitVec 32 := Scalar.divsi arg12 c4_i32
  let c1_i32_313 : BitVec 32 := 1#32
  let v388 : BitVec 32 := Scalar.subi v373 c1_i32_313
  let v389 : BitVec 32 := Scalar.select v387 v388 v373
  let c512_i32 : BitVec 32 := 512#32
  let c4_i32_314 : BitVec 32 := 4#32
  let c0_i32_315 : BitVec 32 := 0#32
  let v390 : BitVec 1 := Scalar.cmpi .eq c4_i32_314 c0_i32_315
  let c1_i32_316 : BitVec 32 := 1#32
  let v391 : BitVec 32 := Scalar.select v390 c1_i32_316 c4_i32_314
  let v392 : BitVec 32 := Scalar.remsi arg12 v391
  let c0_i32_318 : BitVec 32 := 0#32
  let v394 : BitVec 1 := Scalar.cmpi .slt v392 c0_i32_318
  let c0_i32_319 : BitVec 32 := 0#32
  let v395 : BitVec 1 := Scalar.cmpi .slt v391 c0_i32_319
  let v396 : BitVec 1 := Scalar.xori v394 v395
  let c0_i32_317 : BitVec 32 := 0#32
  let v393 : BitVec 1 := Scalar.cmpi .ne v392 c0_i32_317
  let v397 : BitVec 1 := Scalar.andi v396 v393
  let v398 : BitVec 32 := Scalar.addi v392 v391
  let v399 : BitVec 32 := Scalar.select v397 v398 v392
  let v585 : BitVec 32 := Scalar.muli c512_i32 v399
  let v586 : BitVec 32 := Scalar.addi v389 v585
  let v588 : Index := Scalar.indexCast v586
  let c0_389 : Index := 0#32
  ![1, 0, v588.toNat, 0]
def k0_off13 (k0_t2 : Fin k0_t2_loop.trips) : Fin 4 → Nat :=
  let c1_393 : Index := 1#32
  let c1_394 : Index := 1#32
  let c0_i32_152 : BitVec 32 := 0#32
  let c1_i32_154 : BitVec 32 := 1#32
  let arg12 : BitVec 32 := Scf.iv c0_i32_152 c1_i32_154 k0_t2
  let c0_i32_308 : BitVec 32 := 0#32
  let v374 : BitVec 1 := Scalar.cmpi .sgt arg12 c0_i32_308
  let v375 : BitVec 32 := Scalar.extui v374
  let c0_i32_309 : BitVec 32 := 0#32
  let v376 : BitVec 1 := Scalar.cmpi .slt arg12 c0_i32_309
  let v377 : BitVec 32 := Scalar.extui v376
  let v378 : BitVec 32 := Scalar.subi v375 v377
  let c4_i32 : BitVec 32 := 4#32
  let c0_i32_310 : BitVec 32 := 0#32
  let v379 : BitVec 1 := Scalar.cmpi .sgt c4_i32 c0_i32_310
  let v380 : BitVec 32 := Scalar.extui v379
  let c0_i32_311 : BitVec 32 := 0#32
  let v381 : BitVec 1 := Scalar.cmpi .slt c4_i32 c0_i32_311
  let v382 : BitVec 32 := Scalar.extui v381
  let v383 : BitVec 32 := Scalar.subi v380 v382
  let v384 : BitVec 1 := Scalar.cmpi .ne v378 v383
  let v385 : BitVec 32 := Scalar.remsi arg12 c4_i32
  let c0_i32_312 : BitVec 32 := 0#32
  let v386 : BitVec 1 := Scalar.cmpi .ne v385 c0_i32_312
  let v387 : BitVec 1 := Scalar.andi v384 v386
  let v373 : BitVec 32 := Scalar.divsi arg12 c4_i32
  let c1_i32_313 : BitVec 32 := 1#32
  let v388 : BitVec 32 := Scalar.subi v373 c1_i32_313
  let v389 : BitVec 32 := Scalar.select v387 v388 v373
  let c512_i32 : BitVec 32 := 512#32
  let c4_i32_314 : BitVec 32 := 4#32
  let c0_i32_315 : BitVec 32 := 0#32
  let v390 : BitVec 1 := Scalar.cmpi .eq c4_i32_314 c0_i32_315
  let c1_i32_316 : BitVec 32 := 1#32
  let v391 : BitVec 32 := Scalar.select v390 c1_i32_316 c4_i32_314
  let v392 : BitVec 32 := Scalar.remsi arg12 v391
  let c0_i32_318 : BitVec 32 := 0#32
  let v394 : BitVec 1 := Scalar.cmpi .slt v392 c0_i32_318
  let c0_i32_319 : BitVec 32 := 0#32
  let v395 : BitVec 1 := Scalar.cmpi .slt v391 c0_i32_319
  let v396 : BitVec 1 := Scalar.xori v394 v395
  let c0_i32_317 : BitVec 32 := 0#32
  let v393 : BitVec 1 := Scalar.cmpi .ne v392 c0_i32_317
  let v397 : BitVec 1 := Scalar.andi v396 v393
  let v398 : BitVec 32 := Scalar.addi v392 v391
  let v399 : BitVec 32 := Scalar.select v397 v398 v392
  let v585 : BitVec 32 := Scalar.muli c512_i32 v399
  let v586 : BitVec 32 := Scalar.addi v389 v585
  let v598 : Index := Scalar.indexCast v586
  let c0_395 : Index := 0#32
  ![1, 1, v598.toNat, 0]
@[reducible] def k0_t3_loop : Scf.Loop 32 :=
  let c0_i32_301 : BitVec 32 := 0#32
  let c16_i32_302 : BitVec 32 := 16#32
  let v371 : BitVec 32 := Scalar.addi c0_i32_301 c16_i32_302
  let c1_i32_303 : BitVec 32 := 1#32
  ⟨c0_i32_301, v371, c1_i32_303⟩
def k0_mult17 (k0_t3 : Fin k0_t3_loop.trips) : BitVec 32 :=
  let c0_i32_301 : BitVec 32 := 0#32
  let c1_i32_303 : BitVec 32 := 1#32
  let arg12 : BitVec 32 := Scf.iv c0_i32_301 c1_i32_303 k0_t3
  let c1_i32_315 : BitVec 32 := 1#32
  let c0_i32_316 : BitVec 32 := 0#32
  let v390 : BitVec 1 := Scalar.cmpi .eq c1_i32_315 c0_i32_316
  let c1_i32_317 : BitVec 32 := 1#32
  let v391 : BitVec 32 := Scalar.select v390 c1_i32_317 c1_i32_315
  let v392 : BitVec 32 := Scalar.remsi arg12 v391
  let c0_i32_319 : BitVec 32 := 0#32
  let v394 : BitVec 1 := Scalar.cmpi .slt v392 c0_i32_319
  let c0_i32_320 : BitVec 32 := 0#32
  let v395 : BitVec 1 := Scalar.cmpi .slt v391 c0_i32_320
  let v396 : BitVec 1 := Scalar.xori v394 v395
  let c0_i32_318 : BitVec 32 := 0#32
  let v393 : BitVec 1 := Scalar.cmpi .ne v392 c0_i32_318
  let v397 : BitVec 1 := Scalar.andi v396 v393
  let v398 : BitVec 32 := Scalar.addi v392 v391
  let v399 : BitVec 32 := Scalar.select v397 v398 v392
  let c8_i32_321 : BitVec 32 := 8#32
  let v400 : BitVec 32 := Scalar.muli v399 c8_i32_321
  let c0_i32_322 : BitVec 32 := 0#32
  let v401 : BitVec 32 := Scalar.addi v400 c0_i32_322
  let c256_i32 : BitVec 32 := 256#32
  let v402 : BitVec 32 := Scalar.muli v401 c256_i32
  let c0_i32_309 : BitVec 32 := 0#32
  let v374 : BitVec 1 := Scalar.cmpi .sgt arg12 c0_i32_309
  let v375 : BitVec 32 := Scalar.extui v374
  let c0_i32_310 : BitVec 32 := 0#32
  let v376 : BitVec 1 := Scalar.cmpi .slt arg12 c0_i32_310
  let v377 : BitVec 32 := Scalar.extui v376
  let v378 : BitVec 32 := Scalar.subi v375 v377
  let c1_i32_308 : BitVec 32 := 1#32
  let c0_i32_311 : BitVec 32 := 0#32
  let v379 : BitVec 1 := Scalar.cmpi .sgt c1_i32_308 c0_i32_311
  let v380 : BitVec 32 := Scalar.extui v379
  let c0_i32_312 : BitVec 32 := 0#32
  let v381 : BitVec 1 := Scalar.cmpi .slt c1_i32_308 c0_i32_312
  let v382 : BitVec 32 := Scalar.extui v381
  let v383 : BitVec 32 := Scalar.subi v380 v382
  let v384 : BitVec 1 := Scalar.cmpi .ne v378 v383
  let v385 : BitVec 32 := Scalar.remsi arg12 c1_i32_308
  let c0_i32_313 : BitVec 32 := 0#32
  let v386 : BitVec 1 := Scalar.cmpi .ne v385 c0_i32_313
  let v387 : BitVec 1 := Scalar.andi v384 v386
  let v373 : BitVec 32 := Scalar.divsi arg12 c1_i32_308
  let c1_i32_314 : BitVec 32 := 1#32
  let v388 : BitVec 32 := Scalar.subi v373 c1_i32_314
  let v389 : BitVec 32 := Scalar.select v387 v388 v373
  let c16_i32_323 : BitVec 32 := 16#32
  let v403 : BitVec 32 := Scalar.muli v389 c16_i32_323
  let v404 : BitVec 32 := Scalar.addi v402 v403
  v404
def k0_off14 (k0_t3 : Fin k0_t3_loop.trips) (c0_i32_322 : BitVec 32) : Fin 2 → Nat :=
  let c0_i32_301 : BitVec 32 := 0#32
  let c1_i32_303 : BitVec 32 := 1#32
  let arg12 : BitVec 32 := Scf.iv c0_i32_301 c1_i32_303 k0_t3
  let c1_i32_315 : BitVec 32 := 1#32
  let c0_i32_316 : BitVec 32 := 0#32
  let v390 : BitVec 1 := Scalar.cmpi .eq c1_i32_315 c0_i32_316
  let c1_i32_317 : BitVec 32 := 1#32
  let v391 : BitVec 32 := Scalar.select v390 c1_i32_317 c1_i32_315
  let v392 : BitVec 32 := Scalar.remsi arg12 v391
  let c0_i32_319 : BitVec 32 := 0#32
  let v394 : BitVec 1 := Scalar.cmpi .slt v392 c0_i32_319
  let c0_i32_320 : BitVec 32 := 0#32
  let v395 : BitVec 1 := Scalar.cmpi .slt v391 c0_i32_320
  let v396 : BitVec 1 := Scalar.xori v394 v395
  let c0_i32_318 : BitVec 32 := 0#32
  let v393 : BitVec 1 := Scalar.cmpi .ne v392 c0_i32_318
  let v397 : BitVec 1 := Scalar.andi v396 v393
  let v398 : BitVec 32 := Scalar.addi v392 v391
  let v399 : BitVec 32 := Scalar.select v397 v398 v392
  let c8_i32_321 : BitVec 32 := 8#32
  let v400 : BitVec 32 := Scalar.muli v399 c8_i32_321
  let v401 : BitVec 32 := Scalar.addi v400 c0_i32_322
  let c256_i32 : BitVec 32 := 256#32
  let v402 : BitVec 32 := Scalar.muli v401 c256_i32
  let c0_i32_309 : BitVec 32 := 0#32
  let v374 : BitVec 1 := Scalar.cmpi .sgt arg12 c0_i32_309
  let v375 : BitVec 32 := Scalar.extui v374
  let c0_i32_310 : BitVec 32 := 0#32
  let v376 : BitVec 1 := Scalar.cmpi .slt arg12 c0_i32_310
  let v377 : BitVec 32 := Scalar.extui v376
  let v378 : BitVec 32 := Scalar.subi v375 v377
  let c1_i32_308 : BitVec 32 := 1#32
  let c0_i32_311 : BitVec 32 := 0#32
  let v379 : BitVec 1 := Scalar.cmpi .sgt c1_i32_308 c0_i32_311
  let v380 : BitVec 32 := Scalar.extui v379
  let c0_i32_312 : BitVec 32 := 0#32
  let v381 : BitVec 1 := Scalar.cmpi .slt c1_i32_308 c0_i32_312
  let v382 : BitVec 32 := Scalar.extui v381
  let v383 : BitVec 32 := Scalar.subi v380 v382
  let v384 : BitVec 1 := Scalar.cmpi .ne v378 v383
  let v385 : BitVec 32 := Scalar.remsi arg12 c1_i32_308
  let c0_i32_313 : BitVec 32 := 0#32
  let v386 : BitVec 1 := Scalar.cmpi .ne v385 c0_i32_313
  let v387 : BitVec 1 := Scalar.andi v384 v386
  let v373 : BitVec 32 := Scalar.divsi arg12 c1_i32_308
  let c1_i32_314 : BitVec 32 := 1#32
  let v388 : BitVec 32 := Scalar.subi v373 c1_i32_314
  let v389 : BitVec 32 := Scalar.select v387 v388 v373
  let c16_i32_323 : BitVec 32 := 16#32
  let v403 : BitVec 32 := Scalar.muli v389 c16_i32_323
  let v404 : BitVec 32 := Scalar.addi v402 v403
  let v405 : BitVec 32 := v404
  let v406 : Index := Scalar.indexCast v405
  let c0_324 : Index := 0#32
  ![v406.toNat, 0]
def k0_mult18 (k0_t3 : Fin k0_t3_loop.trips) : BitVec 32 :=
  let c0_i32_301 : BitVec 32 := 0#32
  let c1_i32_303 : BitVec 32 := 1#32
  let arg12 : BitVec 32 := Scf.iv c0_i32_301 c1_i32_303 k0_t3
  let c1_i32_315 : BitVec 32 := 1#32
  let c0_i32_316 : BitVec 32 := 0#32
  let v390 : BitVec 1 := Scalar.cmpi .eq c1_i32_315 c0_i32_316
  let c1_i32_317 : BitVec 32 := 1#32
  let v391 : BitVec 32 := Scalar.select v390 c1_i32_317 c1_i32_315
  let v392 : BitVec 32 := Scalar.remsi arg12 v391
  let c0_i32_319 : BitVec 32 := 0#32
  let v394 : BitVec 1 := Scalar.cmpi .slt v392 c0_i32_319
  let c0_i32_320 : BitVec 32 := 0#32
  let v395 : BitVec 1 := Scalar.cmpi .slt v391 c0_i32_320
  let v396 : BitVec 1 := Scalar.xori v394 v395
  let c0_i32_318 : BitVec 32 := 0#32
  let v393 : BitVec 1 := Scalar.cmpi .ne v392 c0_i32_318
  let v397 : BitVec 1 := Scalar.andi v396 v393
  let v398 : BitVec 32 := Scalar.addi v392 v391
  let v399 : BitVec 32 := Scalar.select v397 v398 v392
  let c8_i32_325 : BitVec 32 := 8#32
  let v408 : BitVec 32 := Scalar.muli v399 c8_i32_325
  let c1_i32_326 : BitVec 32 := 1#32
  let v409 : BitVec 32 := Scalar.addi v408 c1_i32_326
  let c256_i32_327 : BitVec 32 := 256#32
  let v410 : BitVec 32 := Scalar.muli v409 c256_i32_327
  let c0_i32_309 : BitVec 32 := 0#32
  let v374 : BitVec 1 := Scalar.cmpi .sgt arg12 c0_i32_309
  let v375 : BitVec 32 := Scalar.extui v374
  let c0_i32_310 : BitVec 32 := 0#32
  let v376 : BitVec 1 := Scalar.cmpi .slt arg12 c0_i32_310
  let v377 : BitVec 32 := Scalar.extui v376
  let v378 : BitVec 32 := Scalar.subi v375 v377
  let c1_i32_308 : BitVec 32 := 1#32
  let c0_i32_311 : BitVec 32 := 0#32
  let v379 : BitVec 1 := Scalar.cmpi .sgt c1_i32_308 c0_i32_311
  let v380 : BitVec 32 := Scalar.extui v379
  let c0_i32_312 : BitVec 32 := 0#32
  let v381 : BitVec 1 := Scalar.cmpi .slt c1_i32_308 c0_i32_312
  let v382 : BitVec 32 := Scalar.extui v381
  let v383 : BitVec 32 := Scalar.subi v380 v382
  let v384 : BitVec 1 := Scalar.cmpi .ne v378 v383
  let v385 : BitVec 32 := Scalar.remsi arg12 c1_i32_308
  let c0_i32_313 : BitVec 32 := 0#32
  let v386 : BitVec 1 := Scalar.cmpi .ne v385 c0_i32_313
  let v387 : BitVec 1 := Scalar.andi v384 v386
  let v373 : BitVec 32 := Scalar.divsi arg12 c1_i32_308
  let c1_i32_314 : BitVec 32 := 1#32
  let v388 : BitVec 32 := Scalar.subi v373 c1_i32_314
  let v389 : BitVec 32 := Scalar.select v387 v388 v373
  let c16_i32_328 : BitVec 32 := 16#32
  let v411 : BitVec 32 := Scalar.muli v389 c16_i32_328
  let v412 : BitVec 32 := Scalar.addi v410 v411
  v412
def k0_mult19 (k0_t3 : Fin k0_t3_loop.trips) : BitVec 32 :=
  let c0_i32_301 : BitVec 32 := 0#32
  let c1_i32_303 : BitVec 32 := 1#32
  let arg12 : BitVec 32 := Scf.iv c0_i32_301 c1_i32_303 k0_t3
  let c1_i32_315 : BitVec 32 := 1#32
  let c0_i32_316 : BitVec 32 := 0#32
  let v390 : BitVec 1 := Scalar.cmpi .eq c1_i32_315 c0_i32_316
  let c1_i32_317 : BitVec 32 := 1#32
  let v391 : BitVec 32 := Scalar.select v390 c1_i32_317 c1_i32_315
  let v392 : BitVec 32 := Scalar.remsi arg12 v391
  let c0_i32_319 : BitVec 32 := 0#32
  let v394 : BitVec 1 := Scalar.cmpi .slt v392 c0_i32_319
  let c0_i32_320 : BitVec 32 := 0#32
  let v395 : BitVec 1 := Scalar.cmpi .slt v391 c0_i32_320
  let v396 : BitVec 1 := Scalar.xori v394 v395
  let c0_i32_318 : BitVec 32 := 0#32
  let v393 : BitVec 1 := Scalar.cmpi .ne v392 c0_i32_318
  let v397 : BitVec 1 := Scalar.andi v396 v393
  let v398 : BitVec 32 := Scalar.addi v392 v391
  let v399 : BitVec 32 := Scalar.select v397 v398 v392
  let c8_i32_330 : BitVec 32 := 8#32
  let v416 : BitVec 32 := Scalar.muli v399 c8_i32_330
  let c2_i32 : BitVec 32 := 2#32
  let v417 : BitVec 32 := Scalar.addi v416 c2_i32
  let c256_i32_331 : BitVec 32 := 256#32
  let v418 : BitVec 32 := Scalar.muli v417 c256_i32_331
  let c0_i32_309 : BitVec 32 := 0#32
  let v374 : BitVec 1 := Scalar.cmpi .sgt arg12 c0_i32_309
  let v375 : BitVec 32 := Scalar.extui v374
  let c0_i32_310 : BitVec 32 := 0#32
  let v376 : BitVec 1 := Scalar.cmpi .slt arg12 c0_i32_310
  let v377 : BitVec 32 := Scalar.extui v376
  let v378 : BitVec 32 := Scalar.subi v375 v377
  let c1_i32_308 : BitVec 32 := 1#32
  let c0_i32_311 : BitVec 32 := 0#32
  let v379 : BitVec 1 := Scalar.cmpi .sgt c1_i32_308 c0_i32_311
  let v380 : BitVec 32 := Scalar.extui v379
  let c0_i32_312 : BitVec 32 := 0#32
  let v381 : BitVec 1 := Scalar.cmpi .slt c1_i32_308 c0_i32_312
  let v382 : BitVec 32 := Scalar.extui v381
  let v383 : BitVec 32 := Scalar.subi v380 v382
  let v384 : BitVec 1 := Scalar.cmpi .ne v378 v383
  let v385 : BitVec 32 := Scalar.remsi arg12 c1_i32_308
  let c0_i32_313 : BitVec 32 := 0#32
  let v386 : BitVec 1 := Scalar.cmpi .ne v385 c0_i32_313
  let v387 : BitVec 1 := Scalar.andi v384 v386
  let v373 : BitVec 32 := Scalar.divsi arg12 c1_i32_308
  let c1_i32_314 : BitVec 32 := 1#32
  let v388 : BitVec 32 := Scalar.subi v373 c1_i32_314
  let v389 : BitVec 32 := Scalar.select v387 v388 v373
  let c16_i32_332 : BitVec 32 := 16#32
  let v419 : BitVec 32 := Scalar.muli v389 c16_i32_332
  let v420 : BitVec 32 := Scalar.addi v418 v419
  v420
def k0_mult20 (k0_t3 : Fin k0_t3_loop.trips) : BitVec 32 :=
  let c0_i32_301 : BitVec 32 := 0#32
  let c1_i32_303 : BitVec 32 := 1#32
  let arg12 : BitVec 32 := Scf.iv c0_i32_301 c1_i32_303 k0_t3
  let c1_i32_315 : BitVec 32 := 1#32
  let c0_i32_316 : BitVec 32 := 0#32
  let v390 : BitVec 1 := Scalar.cmpi .eq c1_i32_315 c0_i32_316
  let c1_i32_317 : BitVec 32 := 1#32
  let v391 : BitVec 32 := Scalar.select v390 c1_i32_317 c1_i32_315
  let v392 : BitVec 32 := Scalar.remsi arg12 v391
  let c0_i32_319 : BitVec 32 := 0#32
  let v394 : BitVec 1 := Scalar.cmpi .slt v392 c0_i32_319
  let c0_i32_320 : BitVec 32 := 0#32
  let v395 : BitVec 1 := Scalar.cmpi .slt v391 c0_i32_320
  let v396 : BitVec 1 := Scalar.xori v394 v395
  let c0_i32_318 : BitVec 32 := 0#32
  let v393 : BitVec 1 := Scalar.cmpi .ne v392 c0_i32_318
  let v397 : BitVec 1 := Scalar.andi v396 v393
  let v398 : BitVec 32 := Scalar.addi v392 v391
  let v399 : BitVec 32 := Scalar.select v397 v398 v392
  let c8_i32_334 : BitVec 32 := 8#32
  let v424 : BitVec 32 := Scalar.muli v399 c8_i32_334
  let c3_i32 : BitVec 32 := 3#32
  let v425 : BitVec 32 := Scalar.addi v424 c3_i32
  let c256_i32_335 : BitVec 32 := 256#32
  let v426 : BitVec 32 := Scalar.muli v425 c256_i32_335
  let c0_i32_309 : BitVec 32 := 0#32
  let v374 : BitVec 1 := Scalar.cmpi .sgt arg12 c0_i32_309
  let v375 : BitVec 32 := Scalar.extui v374
  let c0_i32_310 : BitVec 32 := 0#32
  let v376 : BitVec 1 := Scalar.cmpi .slt arg12 c0_i32_310
  let v377 : BitVec 32 := Scalar.extui v376
  let v378 : BitVec 32 := Scalar.subi v375 v377
  let c1_i32_308 : BitVec 32 := 1#32
  let c0_i32_311 : BitVec 32 := 0#32
  let v379 : BitVec 1 := Scalar.cmpi .sgt c1_i32_308 c0_i32_311
  let v380 : BitVec 32 := Scalar.extui v379
  let c0_i32_312 : BitVec 32 := 0#32
  let v381 : BitVec 1 := Scalar.cmpi .slt c1_i32_308 c0_i32_312
  let v382 : BitVec 32 := Scalar.extui v381
  let v383 : BitVec 32 := Scalar.subi v380 v382
  let v384 : BitVec 1 := Scalar.cmpi .ne v378 v383
  let v385 : BitVec 32 := Scalar.remsi arg12 c1_i32_308
  let c0_i32_313 : BitVec 32 := 0#32
  let v386 : BitVec 1 := Scalar.cmpi .ne v385 c0_i32_313
  let v387 : BitVec 1 := Scalar.andi v384 v386
  let v373 : BitVec 32 := Scalar.divsi arg12 c1_i32_308
  let c1_i32_314 : BitVec 32 := 1#32
  let v388 : BitVec 32 := Scalar.subi v373 c1_i32_314
  let v389 : BitVec 32 := Scalar.select v387 v388 v373
  let c16_i32_336 : BitVec 32 := 16#32
  let v427 : BitVec 32 := Scalar.muli v389 c16_i32_336
  let v428 : BitVec 32 := Scalar.addi v426 v427
  v428
def k0_mult21 (k0_t3 : Fin k0_t3_loop.trips) : BitVec 32 :=
  let c0_i32_301 : BitVec 32 := 0#32
  let c1_i32_303 : BitVec 32 := 1#32
  let arg12 : BitVec 32 := Scf.iv c0_i32_301 c1_i32_303 k0_t3
  let c1_i32_315 : BitVec 32 := 1#32
  let c0_i32_316 : BitVec 32 := 0#32
  let v390 : BitVec 1 := Scalar.cmpi .eq c1_i32_315 c0_i32_316
  let c1_i32_317 : BitVec 32 := 1#32
  let v391 : BitVec 32 := Scalar.select v390 c1_i32_317 c1_i32_315
  let v392 : BitVec 32 := Scalar.remsi arg12 v391
  let c0_i32_319 : BitVec 32 := 0#32
  let v394 : BitVec 1 := Scalar.cmpi .slt v392 c0_i32_319
  let c0_i32_320 : BitVec 32 := 0#32
  let v395 : BitVec 1 := Scalar.cmpi .slt v391 c0_i32_320
  let v396 : BitVec 1 := Scalar.xori v394 v395
  let c0_i32_318 : BitVec 32 := 0#32
  let v393 : BitVec 1 := Scalar.cmpi .ne v392 c0_i32_318
  let v397 : BitVec 1 := Scalar.andi v396 v393
  let v398 : BitVec 32 := Scalar.addi v392 v391
  let v399 : BitVec 32 := Scalar.select v397 v398 v392
  let c8_i32_338 : BitVec 32 := 8#32
  let v432 : BitVec 32 := Scalar.muli v399 c8_i32_338
  let c4_i32 : BitVec 32 := 4#32
  let v433 : BitVec 32 := Scalar.addi v432 c4_i32
  let c256_i32_339 : BitVec 32 := 256#32
  let v434 : BitVec 32 := Scalar.muli v433 c256_i32_339
  let c0_i32_309 : BitVec 32 := 0#32
  let v374 : BitVec 1 := Scalar.cmpi .sgt arg12 c0_i32_309
  let v375 : BitVec 32 := Scalar.extui v374
  let c0_i32_310 : BitVec 32 := 0#32
  let v376 : BitVec 1 := Scalar.cmpi .slt arg12 c0_i32_310
  let v377 : BitVec 32 := Scalar.extui v376
  let v378 : BitVec 32 := Scalar.subi v375 v377
  let c1_i32_308 : BitVec 32 := 1#32
  let c0_i32_311 : BitVec 32 := 0#32
  let v379 : BitVec 1 := Scalar.cmpi .sgt c1_i32_308 c0_i32_311
  let v380 : BitVec 32 := Scalar.extui v379
  let c0_i32_312 : BitVec 32 := 0#32
  let v381 : BitVec 1 := Scalar.cmpi .slt c1_i32_308 c0_i32_312
  let v382 : BitVec 32 := Scalar.extui v381
  let v383 : BitVec 32 := Scalar.subi v380 v382
  let v384 : BitVec 1 := Scalar.cmpi .ne v378 v383
  let v385 : BitVec 32 := Scalar.remsi arg12 c1_i32_308
  let c0_i32_313 : BitVec 32 := 0#32
  let v386 : BitVec 1 := Scalar.cmpi .ne v385 c0_i32_313
  let v387 : BitVec 1 := Scalar.andi v384 v386
  let v373 : BitVec 32 := Scalar.divsi arg12 c1_i32_308
  let c1_i32_314 : BitVec 32 := 1#32
  let v388 : BitVec 32 := Scalar.subi v373 c1_i32_314
  let v389 : BitVec 32 := Scalar.select v387 v388 v373
  let c16_i32_340 : BitVec 32 := 16#32
  let v435 : BitVec 32 := Scalar.muli v389 c16_i32_340
  let v436 : BitVec 32 := Scalar.addi v434 v435
  v436
def k0_mult22 (k0_t3 : Fin k0_t3_loop.trips) : BitVec 32 :=
  let c0_i32_301 : BitVec 32 := 0#32
  let c1_i32_303 : BitVec 32 := 1#32
  let arg12 : BitVec 32 := Scf.iv c0_i32_301 c1_i32_303 k0_t3
  let c1_i32_315 : BitVec 32 := 1#32
  let c0_i32_316 : BitVec 32 := 0#32
  let v390 : BitVec 1 := Scalar.cmpi .eq c1_i32_315 c0_i32_316
  let c1_i32_317 : BitVec 32 := 1#32
  let v391 : BitVec 32 := Scalar.select v390 c1_i32_317 c1_i32_315
  let v392 : BitVec 32 := Scalar.remsi arg12 v391
  let c0_i32_319 : BitVec 32 := 0#32
  let v394 : BitVec 1 := Scalar.cmpi .slt v392 c0_i32_319
  let c0_i32_320 : BitVec 32 := 0#32
  let v395 : BitVec 1 := Scalar.cmpi .slt v391 c0_i32_320
  let v396 : BitVec 1 := Scalar.xori v394 v395
  let c0_i32_318 : BitVec 32 := 0#32
  let v393 : BitVec 1 := Scalar.cmpi .ne v392 c0_i32_318
  let v397 : BitVec 1 := Scalar.andi v396 v393
  let v398 : BitVec 32 := Scalar.addi v392 v391
  let v399 : BitVec 32 := Scalar.select v397 v398 v392
  let c8_i32_342 : BitVec 32 := 8#32
  let v440 : BitVec 32 := Scalar.muli v399 c8_i32_342
  let c5_i32 : BitVec 32 := 5#32
  let v441 : BitVec 32 := Scalar.addi v440 c5_i32
  let c256_i32_343 : BitVec 32 := 256#32
  let v442 : BitVec 32 := Scalar.muli v441 c256_i32_343
  let c0_i32_309 : BitVec 32 := 0#32
  let v374 : BitVec 1 := Scalar.cmpi .sgt arg12 c0_i32_309
  let v375 : BitVec 32 := Scalar.extui v374
  let c0_i32_310 : BitVec 32 := 0#32
  let v376 : BitVec 1 := Scalar.cmpi .slt arg12 c0_i32_310
  let v377 : BitVec 32 := Scalar.extui v376
  let v378 : BitVec 32 := Scalar.subi v375 v377
  let c1_i32_308 : BitVec 32 := 1#32
  let c0_i32_311 : BitVec 32 := 0#32
  let v379 : BitVec 1 := Scalar.cmpi .sgt c1_i32_308 c0_i32_311
  let v380 : BitVec 32 := Scalar.extui v379
  let c0_i32_312 : BitVec 32 := 0#32
  let v381 : BitVec 1 := Scalar.cmpi .slt c1_i32_308 c0_i32_312
  let v382 : BitVec 32 := Scalar.extui v381
  let v383 : BitVec 32 := Scalar.subi v380 v382
  let v384 : BitVec 1 := Scalar.cmpi .ne v378 v383
  let v385 : BitVec 32 := Scalar.remsi arg12 c1_i32_308
  let c0_i32_313 : BitVec 32 := 0#32
  let v386 : BitVec 1 := Scalar.cmpi .ne v385 c0_i32_313
  let v387 : BitVec 1 := Scalar.andi v384 v386
  let v373 : BitVec 32 := Scalar.divsi arg12 c1_i32_308
  let c1_i32_314 : BitVec 32 := 1#32
  let v388 : BitVec 32 := Scalar.subi v373 c1_i32_314
  let v389 : BitVec 32 := Scalar.select v387 v388 v373
  let c16_i32_344 : BitVec 32 := 16#32
  let v443 : BitVec 32 := Scalar.muli v389 c16_i32_344
  let v444 : BitVec 32 := Scalar.addi v442 v443
  v444
def k0_mult23 (k0_t3 : Fin k0_t3_loop.trips) : BitVec 32 :=
  let c0_i32_301 : BitVec 32 := 0#32
  let c1_i32_303 : BitVec 32 := 1#32
  let arg12 : BitVec 32 := Scf.iv c0_i32_301 c1_i32_303 k0_t3
  let c1_i32_315 : BitVec 32 := 1#32
  let c0_i32_316 : BitVec 32 := 0#32
  let v390 : BitVec 1 := Scalar.cmpi .eq c1_i32_315 c0_i32_316
  let c1_i32_317 : BitVec 32 := 1#32
  let v391 : BitVec 32 := Scalar.select v390 c1_i32_317 c1_i32_315
  let v392 : BitVec 32 := Scalar.remsi arg12 v391
  let c0_i32_319 : BitVec 32 := 0#32
  let v394 : BitVec 1 := Scalar.cmpi .slt v392 c0_i32_319
  let c0_i32_320 : BitVec 32 := 0#32
  let v395 : BitVec 1 := Scalar.cmpi .slt v391 c0_i32_320
  let v396 : BitVec 1 := Scalar.xori v394 v395
  let c0_i32_318 : BitVec 32 := 0#32
  let v393 : BitVec 1 := Scalar.cmpi .ne v392 c0_i32_318
  let v397 : BitVec 1 := Scalar.andi v396 v393
  let v398 : BitVec 32 := Scalar.addi v392 v391
  let v399 : BitVec 32 := Scalar.select v397 v398 v392
  let c8_i32_346 : BitVec 32 := 8#32
  let v448 : BitVec 32 := Scalar.muli v399 c8_i32_346
  let c6_i32 : BitVec 32 := 6#32
  let v449 : BitVec 32 := Scalar.addi v448 c6_i32
  let c256_i32_347 : BitVec 32 := 256#32
  let v450 : BitVec 32 := Scalar.muli v449 c256_i32_347
  let c0_i32_309 : BitVec 32 := 0#32
  let v374 : BitVec 1 := Scalar.cmpi .sgt arg12 c0_i32_309
  let v375 : BitVec 32 := Scalar.extui v374
  let c0_i32_310 : BitVec 32 := 0#32
  let v376 : BitVec 1 := Scalar.cmpi .slt arg12 c0_i32_310
  let v377 : BitVec 32 := Scalar.extui v376
  let v378 : BitVec 32 := Scalar.subi v375 v377
  let c1_i32_308 : BitVec 32 := 1#32
  let c0_i32_311 : BitVec 32 := 0#32
  let v379 : BitVec 1 := Scalar.cmpi .sgt c1_i32_308 c0_i32_311
  let v380 : BitVec 32 := Scalar.extui v379
  let c0_i32_312 : BitVec 32 := 0#32
  let v381 : BitVec 1 := Scalar.cmpi .slt c1_i32_308 c0_i32_312
  let v382 : BitVec 32 := Scalar.extui v381
  let v383 : BitVec 32 := Scalar.subi v380 v382
  let v384 : BitVec 1 := Scalar.cmpi .ne v378 v383
  let v385 : BitVec 32 := Scalar.remsi arg12 c1_i32_308
  let c0_i32_313 : BitVec 32 := 0#32
  let v386 : BitVec 1 := Scalar.cmpi .ne v385 c0_i32_313
  let v387 : BitVec 1 := Scalar.andi v384 v386
  let v373 : BitVec 32 := Scalar.divsi arg12 c1_i32_308
  let c1_i32_314 : BitVec 32 := 1#32
  let v388 : BitVec 32 := Scalar.subi v373 c1_i32_314
  let v389 : BitVec 32 := Scalar.select v387 v388 v373
  let c16_i32_348 : BitVec 32 := 16#32
  let v451 : BitVec 32 := Scalar.muli v389 c16_i32_348
  let v452 : BitVec 32 := Scalar.addi v450 v451
  v452
def k0_mult24 (k0_t3 : Fin k0_t3_loop.trips) : BitVec 32 :=
  let c0_i32_301 : BitVec 32 := 0#32
  let c1_i32_303 : BitVec 32 := 1#32
  let arg12 : BitVec 32 := Scf.iv c0_i32_301 c1_i32_303 k0_t3
  let c1_i32_315 : BitVec 32 := 1#32
  let c0_i32_316 : BitVec 32 := 0#32
  let v390 : BitVec 1 := Scalar.cmpi .eq c1_i32_315 c0_i32_316
  let c1_i32_317 : BitVec 32 := 1#32
  let v391 : BitVec 32 := Scalar.select v390 c1_i32_317 c1_i32_315
  let v392 : BitVec 32 := Scalar.remsi arg12 v391
  let c0_i32_319 : BitVec 32 := 0#32
  let v394 : BitVec 1 := Scalar.cmpi .slt v392 c0_i32_319
  let c0_i32_320 : BitVec 32 := 0#32
  let v395 : BitVec 1 := Scalar.cmpi .slt v391 c0_i32_320
  let v396 : BitVec 1 := Scalar.xori v394 v395
  let c0_i32_318 : BitVec 32 := 0#32
  let v393 : BitVec 1 := Scalar.cmpi .ne v392 c0_i32_318
  let v397 : BitVec 1 := Scalar.andi v396 v393
  let v398 : BitVec 32 := Scalar.addi v392 v391
  let v399 : BitVec 32 := Scalar.select v397 v398 v392
  let c8_i32_350 : BitVec 32 := 8#32
  let v456 : BitVec 32 := Scalar.muli v399 c8_i32_350
  let c7_i32 : BitVec 32 := 7#32
  let v457 : BitVec 32 := Scalar.addi v456 c7_i32
  let c256_i32_351 : BitVec 32 := 256#32
  let v458 : BitVec 32 := Scalar.muli v457 c256_i32_351
  let c0_i32_309 : BitVec 32 := 0#32
  let v374 : BitVec 1 := Scalar.cmpi .sgt arg12 c0_i32_309
  let v375 : BitVec 32 := Scalar.extui v374
  let c0_i32_310 : BitVec 32 := 0#32
  let v376 : BitVec 1 := Scalar.cmpi .slt arg12 c0_i32_310
  let v377 : BitVec 32 := Scalar.extui v376
  let v378 : BitVec 32 := Scalar.subi v375 v377
  let c1_i32_308 : BitVec 32 := 1#32
  let c0_i32_311 : BitVec 32 := 0#32
  let v379 : BitVec 1 := Scalar.cmpi .sgt c1_i32_308 c0_i32_311
  let v380 : BitVec 32 := Scalar.extui v379
  let c0_i32_312 : BitVec 32 := 0#32
  let v381 : BitVec 1 := Scalar.cmpi .slt c1_i32_308 c0_i32_312
  let v382 : BitVec 32 := Scalar.extui v381
  let v383 : BitVec 32 := Scalar.subi v380 v382
  let v384 : BitVec 1 := Scalar.cmpi .ne v378 v383
  let v385 : BitVec 32 := Scalar.remsi arg12 c1_i32_308
  let c0_i32_313 : BitVec 32 := 0#32
  let v386 : BitVec 1 := Scalar.cmpi .ne v385 c0_i32_313
  let v387 : BitVec 1 := Scalar.andi v384 v386
  let v373 : BitVec 32 := Scalar.divsi arg12 c1_i32_308
  let c1_i32_314 : BitVec 32 := 1#32
  let v388 : BitVec 32 := Scalar.subi v373 c1_i32_314
  let v389 : BitVec 32 := Scalar.select v387 v388 v373
  let c16_i32_352 : BitVec 32 := 16#32
  let v459 : BitVec 32 := Scalar.muli v389 c16_i32_352
  let v460 : BitVec 32 := Scalar.addi v458 v459
  v460
def k0_mult25 (k0_t3 : Fin k0_t3_loop.trips) : BitVec 32 :=
  let c0_i32_301 : BitVec 32 := 0#32
  let c1_i32_303 : BitVec 32 := 1#32
  let arg12 : BitVec 32 := Scf.iv c0_i32_301 c1_i32_303 k0_t3
  let c1_i32_315 : BitVec 32 := 1#32
  let c0_i32_316 : BitVec 32 := 0#32
  let v390 : BitVec 1 := Scalar.cmpi .eq c1_i32_315 c0_i32_316
  let c1_i32_317 : BitVec 32 := 1#32
  let v391 : BitVec 32 := Scalar.select v390 c1_i32_317 c1_i32_315
  let v392 : BitVec 32 := Scalar.remsi arg12 v391
  let c0_i32_319 : BitVec 32 := 0#32
  let v394 : BitVec 1 := Scalar.cmpi .slt v392 c0_i32_319
  let c0_i32_320 : BitVec 32 := 0#32
  let v395 : BitVec 1 := Scalar.cmpi .slt v391 c0_i32_320
  let v396 : BitVec 1 := Scalar.xori v394 v395
  let c0_i32_318 : BitVec 32 := 0#32
  let v393 : BitVec 1 := Scalar.cmpi .ne v392 c0_i32_318
  let v397 : BitVec 1 := Scalar.andi v396 v393
  let v398 : BitVec 32 := Scalar.addi v392 v391
  let v399 : BitVec 32 := Scalar.select v397 v398 v392
  let c8_i32_354 : BitVec 32 := 8#32
  let v465 : BitVec 32 := Scalar.muli v399 c8_i32_354
  let c0_i32_355 : BitVec 32 := 0#32
  let v466 : BitVec 32 := Scalar.addi v465 c0_i32_355
  let c256_i32_356 : BitVec 32 := 256#32
  let v467 : BitVec 32 := Scalar.muli v466 c256_i32_356
  let c0_i32_309 : BitVec 32 := 0#32
  let v374 : BitVec 1 := Scalar.cmpi .sgt arg12 c0_i32_309
  let v375 : BitVec 32 := Scalar.extui v374
  let c0_i32_310 : BitVec 32 := 0#32
  let v376 : BitVec 1 := Scalar.cmpi .slt arg12 c0_i32_310
  let v377 : BitVec 32 := Scalar.extui v376
  let v378 : BitVec 32 := Scalar.subi v375 v377
  let c1_i32_308 : BitVec 32 := 1#32
  let c0_i32_311 : BitVec 32 := 0#32
  let v379 : BitVec 1 := Scalar.cmpi .sgt c1_i32_308 c0_i32_311
  let v380 : BitVec 32 := Scalar.extui v379
  let c0_i32_312 : BitVec 32 := 0#32
  let v381 : BitVec 1 := Scalar.cmpi .slt c1_i32_308 c0_i32_312
  let v382 : BitVec 32 := Scalar.extui v381
  let v383 : BitVec 32 := Scalar.subi v380 v382
  let v384 : BitVec 1 := Scalar.cmpi .ne v378 v383
  let v385 : BitVec 32 := Scalar.remsi arg12 c1_i32_308
  let c0_i32_313 : BitVec 32 := 0#32
  let v386 : BitVec 1 := Scalar.cmpi .ne v385 c0_i32_313
  let v387 : BitVec 1 := Scalar.andi v384 v386
  let v373 : BitVec 32 := Scalar.divsi arg12 c1_i32_308
  let c1_i32_314 : BitVec 32 := 1#32
  let v388 : BitVec 32 := Scalar.subi v373 c1_i32_314
  let v389 : BitVec 32 := Scalar.select v387 v388 v373
  let c16_i32_357 : BitVec 32 := 16#32
  let v468 : BitVec 32 := Scalar.muli v389 c16_i32_357
  let v469 : BitVec 32 := Scalar.addi v467 v468
  v469
def k0_mult26 (k0_t3 : Fin k0_t3_loop.trips) : BitVec 32 :=
  let c0_i32_301 : BitVec 32 := 0#32
  let c1_i32_303 : BitVec 32 := 1#32
  let arg12 : BitVec 32 := Scf.iv c0_i32_301 c1_i32_303 k0_t3
  let c1_i32_315 : BitVec 32 := 1#32
  let c0_i32_316 : BitVec 32 := 0#32
  let v390 : BitVec 1 := Scalar.cmpi .eq c1_i32_315 c0_i32_316
  let c1_i32_317 : BitVec 32 := 1#32
  let v391 : BitVec 32 := Scalar.select v390 c1_i32_317 c1_i32_315
  let v392 : BitVec 32 := Scalar.remsi arg12 v391
  let c0_i32_319 : BitVec 32 := 0#32
  let v394 : BitVec 1 := Scalar.cmpi .slt v392 c0_i32_319
  let c0_i32_320 : BitVec 32 := 0#32
  let v395 : BitVec 1 := Scalar.cmpi .slt v391 c0_i32_320
  let v396 : BitVec 1 := Scalar.xori v394 v395
  let c0_i32_318 : BitVec 32 := 0#32
  let v393 : BitVec 1 := Scalar.cmpi .ne v392 c0_i32_318
  let v397 : BitVec 1 := Scalar.andi v396 v393
  let v398 : BitVec 32 := Scalar.addi v392 v391
  let v399 : BitVec 32 := Scalar.select v397 v398 v392
  let c8_i32_359 : BitVec 32 := 8#32
  let v473 : BitVec 32 := Scalar.muli v399 c8_i32_359
  let c1_i32_360 : BitVec 32 := 1#32
  let v474 : BitVec 32 := Scalar.addi v473 c1_i32_360
  let c256_i32_361 : BitVec 32 := 256#32
  let v475 : BitVec 32 := Scalar.muli v474 c256_i32_361
  let c0_i32_309 : BitVec 32 := 0#32
  let v374 : BitVec 1 := Scalar.cmpi .sgt arg12 c0_i32_309
  let v375 : BitVec 32 := Scalar.extui v374
  let c0_i32_310 : BitVec 32 := 0#32
  let v376 : BitVec 1 := Scalar.cmpi .slt arg12 c0_i32_310
  let v377 : BitVec 32 := Scalar.extui v376
  let v378 : BitVec 32 := Scalar.subi v375 v377
  let c1_i32_308 : BitVec 32 := 1#32
  let c0_i32_311 : BitVec 32 := 0#32
  let v379 : BitVec 1 := Scalar.cmpi .sgt c1_i32_308 c0_i32_311
  let v380 : BitVec 32 := Scalar.extui v379
  let c0_i32_312 : BitVec 32 := 0#32
  let v381 : BitVec 1 := Scalar.cmpi .slt c1_i32_308 c0_i32_312
  let v382 : BitVec 32 := Scalar.extui v381
  let v383 : BitVec 32 := Scalar.subi v380 v382
  let v384 : BitVec 1 := Scalar.cmpi .ne v378 v383
  let v385 : BitVec 32 := Scalar.remsi arg12 c1_i32_308
  let c0_i32_313 : BitVec 32 := 0#32
  let v386 : BitVec 1 := Scalar.cmpi .ne v385 c0_i32_313
  let v387 : BitVec 1 := Scalar.andi v384 v386
  let v373 : BitVec 32 := Scalar.divsi arg12 c1_i32_308
  let c1_i32_314 : BitVec 32 := 1#32
  let v388 : BitVec 32 := Scalar.subi v373 c1_i32_314
  let v389 : BitVec 32 := Scalar.select v387 v388 v373
  let c16_i32_362 : BitVec 32 := 16#32
  let v476 : BitVec 32 := Scalar.muli v389 c16_i32_362
  let v477 : BitVec 32 := Scalar.addi v475 v476
  v477
def k0_mult27 (k0_t3 : Fin k0_t3_loop.trips) : BitVec 32 :=
  let c0_i32_301 : BitVec 32 := 0#32
  let c1_i32_303 : BitVec 32 := 1#32
  let arg12 : BitVec 32 := Scf.iv c0_i32_301 c1_i32_303 k0_t3
  let c1_i32_315 : BitVec 32 := 1#32
  let c0_i32_316 : BitVec 32 := 0#32
  let v390 : BitVec 1 := Scalar.cmpi .eq c1_i32_315 c0_i32_316
  let c1_i32_317 : BitVec 32 := 1#32
  let v391 : BitVec 32 := Scalar.select v390 c1_i32_317 c1_i32_315
  let v392 : BitVec 32 := Scalar.remsi arg12 v391
  let c0_i32_319 : BitVec 32 := 0#32
  let v394 : BitVec 1 := Scalar.cmpi .slt v392 c0_i32_319
  let c0_i32_320 : BitVec 32 := 0#32
  let v395 : BitVec 1 := Scalar.cmpi .slt v391 c0_i32_320
  let v396 : BitVec 1 := Scalar.xori v394 v395
  let c0_i32_318 : BitVec 32 := 0#32
  let v393 : BitVec 1 := Scalar.cmpi .ne v392 c0_i32_318
  let v397 : BitVec 1 := Scalar.andi v396 v393
  let v398 : BitVec 32 := Scalar.addi v392 v391
  let v399 : BitVec 32 := Scalar.select v397 v398 v392
  let c8_i32_364 : BitVec 32 := 8#32
  let v481 : BitVec 32 := Scalar.muli v399 c8_i32_364
  let c2_i32_365 : BitVec 32 := 2#32
  let v482 : BitVec 32 := Scalar.addi v481 c2_i32_365
  let c256_i32_366 : BitVec 32 := 256#32
  let v483 : BitVec 32 := Scalar.muli v482 c256_i32_366
  let c0_i32_309 : BitVec 32 := 0#32
  let v374 : BitVec 1 := Scalar.cmpi .sgt arg12 c0_i32_309
  let v375 : BitVec 32 := Scalar.extui v374
  let c0_i32_310 : BitVec 32 := 0#32
  let v376 : BitVec 1 := Scalar.cmpi .slt arg12 c0_i32_310
  let v377 : BitVec 32 := Scalar.extui v376
  let v378 : BitVec 32 := Scalar.subi v375 v377
  let c1_i32_308 : BitVec 32 := 1#32
  let c0_i32_311 : BitVec 32 := 0#32
  let v379 : BitVec 1 := Scalar.cmpi .sgt c1_i32_308 c0_i32_311
  let v380 : BitVec 32 := Scalar.extui v379
  let c0_i32_312 : BitVec 32 := 0#32
  let v381 : BitVec 1 := Scalar.cmpi .slt c1_i32_308 c0_i32_312
  let v382 : BitVec 32 := Scalar.extui v381
  let v383 : BitVec 32 := Scalar.subi v380 v382
  let v384 : BitVec 1 := Scalar.cmpi .ne v378 v383
  let v385 : BitVec 32 := Scalar.remsi arg12 c1_i32_308
  let c0_i32_313 : BitVec 32 := 0#32
  let v386 : BitVec 1 := Scalar.cmpi .ne v385 c0_i32_313
  let v387 : BitVec 1 := Scalar.andi v384 v386
  let v373 : BitVec 32 := Scalar.divsi arg12 c1_i32_308
  let c1_i32_314 : BitVec 32 := 1#32
  let v388 : BitVec 32 := Scalar.subi v373 c1_i32_314
  let v389 : BitVec 32 := Scalar.select v387 v388 v373
  let c16_i32_367 : BitVec 32 := 16#32
  let v484 : BitVec 32 := Scalar.muli v389 c16_i32_367
  let v485 : BitVec 32 := Scalar.addi v483 v484
  v485
def k0_mult28 (k0_t3 : Fin k0_t3_loop.trips) : BitVec 32 :=
  let c0_i32_301 : BitVec 32 := 0#32
  let c1_i32_303 : BitVec 32 := 1#32
  let arg12 : BitVec 32 := Scf.iv c0_i32_301 c1_i32_303 k0_t3
  let c1_i32_315 : BitVec 32 := 1#32
  let c0_i32_316 : BitVec 32 := 0#32
  let v390 : BitVec 1 := Scalar.cmpi .eq c1_i32_315 c0_i32_316
  let c1_i32_317 : BitVec 32 := 1#32
  let v391 : BitVec 32 := Scalar.select v390 c1_i32_317 c1_i32_315
  let v392 : BitVec 32 := Scalar.remsi arg12 v391
  let c0_i32_319 : BitVec 32 := 0#32
  let v394 : BitVec 1 := Scalar.cmpi .slt v392 c0_i32_319
  let c0_i32_320 : BitVec 32 := 0#32
  let v395 : BitVec 1 := Scalar.cmpi .slt v391 c0_i32_320
  let v396 : BitVec 1 := Scalar.xori v394 v395
  let c0_i32_318 : BitVec 32 := 0#32
  let v393 : BitVec 1 := Scalar.cmpi .ne v392 c0_i32_318
  let v397 : BitVec 1 := Scalar.andi v396 v393
  let v398 : BitVec 32 := Scalar.addi v392 v391
  let v399 : BitVec 32 := Scalar.select v397 v398 v392
  let c8_i32_369 : BitVec 32 := 8#32
  let v489 : BitVec 32 := Scalar.muli v399 c8_i32_369
  let c3_i32_370 : BitVec 32 := 3#32
  let v490 : BitVec 32 := Scalar.addi v489 c3_i32_370
  let c256_i32_371 : BitVec 32 := 256#32
  let v491 : BitVec 32 := Scalar.muli v490 c256_i32_371
  let c0_i32_309 : BitVec 32 := 0#32
  let v374 : BitVec 1 := Scalar.cmpi .sgt arg12 c0_i32_309
  let v375 : BitVec 32 := Scalar.extui v374
  let c0_i32_310 : BitVec 32 := 0#32
  let v376 : BitVec 1 := Scalar.cmpi .slt arg12 c0_i32_310
  let v377 : BitVec 32 := Scalar.extui v376
  let v378 : BitVec 32 := Scalar.subi v375 v377
  let c1_i32_308 : BitVec 32 := 1#32
  let c0_i32_311 : BitVec 32 := 0#32
  let v379 : BitVec 1 := Scalar.cmpi .sgt c1_i32_308 c0_i32_311
  let v380 : BitVec 32 := Scalar.extui v379
  let c0_i32_312 : BitVec 32 := 0#32
  let v381 : BitVec 1 := Scalar.cmpi .slt c1_i32_308 c0_i32_312
  let v382 : BitVec 32 := Scalar.extui v381
  let v383 : BitVec 32 := Scalar.subi v380 v382
  let v384 : BitVec 1 := Scalar.cmpi .ne v378 v383
  let v385 : BitVec 32 := Scalar.remsi arg12 c1_i32_308
  let c0_i32_313 : BitVec 32 := 0#32
  let v386 : BitVec 1 := Scalar.cmpi .ne v385 c0_i32_313
  let v387 : BitVec 1 := Scalar.andi v384 v386
  let v373 : BitVec 32 := Scalar.divsi arg12 c1_i32_308
  let c1_i32_314 : BitVec 32 := 1#32
  let v388 : BitVec 32 := Scalar.subi v373 c1_i32_314
  let v389 : BitVec 32 := Scalar.select v387 v388 v373
  let c16_i32_372 : BitVec 32 := 16#32
  let v492 : BitVec 32 := Scalar.muli v389 c16_i32_372
  let v493 : BitVec 32 := Scalar.addi v491 v492
  v493
def k0_mult29 (k0_t3 : Fin k0_t3_loop.trips) : BitVec 32 :=
  let c0_i32_301 : BitVec 32 := 0#32
  let c1_i32_303 : BitVec 32 := 1#32
  let arg12 : BitVec 32 := Scf.iv c0_i32_301 c1_i32_303 k0_t3
  let c1_i32_315 : BitVec 32 := 1#32
  let c0_i32_316 : BitVec 32 := 0#32
  let v390 : BitVec 1 := Scalar.cmpi .eq c1_i32_315 c0_i32_316
  let c1_i32_317 : BitVec 32 := 1#32
  let v391 : BitVec 32 := Scalar.select v390 c1_i32_317 c1_i32_315
  let v392 : BitVec 32 := Scalar.remsi arg12 v391
  let c0_i32_319 : BitVec 32 := 0#32
  let v394 : BitVec 1 := Scalar.cmpi .slt v392 c0_i32_319
  let c0_i32_320 : BitVec 32 := 0#32
  let v395 : BitVec 1 := Scalar.cmpi .slt v391 c0_i32_320
  let v396 : BitVec 1 := Scalar.xori v394 v395
  let c0_i32_318 : BitVec 32 := 0#32
  let v393 : BitVec 1 := Scalar.cmpi .ne v392 c0_i32_318
  let v397 : BitVec 1 := Scalar.andi v396 v393
  let v398 : BitVec 32 := Scalar.addi v392 v391
  let v399 : BitVec 32 := Scalar.select v397 v398 v392
  let c8_i32_374 : BitVec 32 := 8#32
  let v497 : BitVec 32 := Scalar.muli v399 c8_i32_374
  let c4_i32_375 : BitVec 32 := 4#32
  let v498 : BitVec 32 := Scalar.addi v497 c4_i32_375
  let c256_i32_376 : BitVec 32 := 256#32
  let v499 : BitVec 32 := Scalar.muli v498 c256_i32_376
  let c0_i32_309 : BitVec 32 := 0#32
  let v374 : BitVec 1 := Scalar.cmpi .sgt arg12 c0_i32_309
  let v375 : BitVec 32 := Scalar.extui v374
  let c0_i32_310 : BitVec 32 := 0#32
  let v376 : BitVec 1 := Scalar.cmpi .slt arg12 c0_i32_310
  let v377 : BitVec 32 := Scalar.extui v376
  let v378 : BitVec 32 := Scalar.subi v375 v377
  let c1_i32_308 : BitVec 32 := 1#32
  let c0_i32_311 : BitVec 32 := 0#32
  let v379 : BitVec 1 := Scalar.cmpi .sgt c1_i32_308 c0_i32_311
  let v380 : BitVec 32 := Scalar.extui v379
  let c0_i32_312 : BitVec 32 := 0#32
  let v381 : BitVec 1 := Scalar.cmpi .slt c1_i32_308 c0_i32_312
  let v382 : BitVec 32 := Scalar.extui v381
  let v383 : BitVec 32 := Scalar.subi v380 v382
  let v384 : BitVec 1 := Scalar.cmpi .ne v378 v383
  let v385 : BitVec 32 := Scalar.remsi arg12 c1_i32_308
  let c0_i32_313 : BitVec 32 := 0#32
  let v386 : BitVec 1 := Scalar.cmpi .ne v385 c0_i32_313
  let v387 : BitVec 1 := Scalar.andi v384 v386
  let v373 : BitVec 32 := Scalar.divsi arg12 c1_i32_308
  let c1_i32_314 : BitVec 32 := 1#32
  let v388 : BitVec 32 := Scalar.subi v373 c1_i32_314
  let v389 : BitVec 32 := Scalar.select v387 v388 v373
  let c16_i32_377 : BitVec 32 := 16#32
  let v500 : BitVec 32 := Scalar.muli v389 c16_i32_377
  let v501 : BitVec 32 := Scalar.addi v499 v500
  v501
def k0_mult30 (k0_t3 : Fin k0_t3_loop.trips) : BitVec 32 :=
  let c0_i32_301 : BitVec 32 := 0#32
  let c1_i32_303 : BitVec 32 := 1#32
  let arg12 : BitVec 32 := Scf.iv c0_i32_301 c1_i32_303 k0_t3
  let c1_i32_315 : BitVec 32 := 1#32
  let c0_i32_316 : BitVec 32 := 0#32
  let v390 : BitVec 1 := Scalar.cmpi .eq c1_i32_315 c0_i32_316
  let c1_i32_317 : BitVec 32 := 1#32
  let v391 : BitVec 32 := Scalar.select v390 c1_i32_317 c1_i32_315
  let v392 : BitVec 32 := Scalar.remsi arg12 v391
  let c0_i32_319 : BitVec 32 := 0#32
  let v394 : BitVec 1 := Scalar.cmpi .slt v392 c0_i32_319
  let c0_i32_320 : BitVec 32 := 0#32
  let v395 : BitVec 1 := Scalar.cmpi .slt v391 c0_i32_320
  let v396 : BitVec 1 := Scalar.xori v394 v395
  let c0_i32_318 : BitVec 32 := 0#32
  let v393 : BitVec 1 := Scalar.cmpi .ne v392 c0_i32_318
  let v397 : BitVec 1 := Scalar.andi v396 v393
  let v398 : BitVec 32 := Scalar.addi v392 v391
  let v399 : BitVec 32 := Scalar.select v397 v398 v392
  let c8_i32_379 : BitVec 32 := 8#32
  let v505 : BitVec 32 := Scalar.muli v399 c8_i32_379
  let c5_i32_380 : BitVec 32 := 5#32
  let v506 : BitVec 32 := Scalar.addi v505 c5_i32_380
  let c256_i32_381 : BitVec 32 := 256#32
  let v507 : BitVec 32 := Scalar.muli v506 c256_i32_381
  let c0_i32_309 : BitVec 32 := 0#32
  let v374 : BitVec 1 := Scalar.cmpi .sgt arg12 c0_i32_309
  let v375 : BitVec 32 := Scalar.extui v374
  let c0_i32_310 : BitVec 32 := 0#32
  let v376 : BitVec 1 := Scalar.cmpi .slt arg12 c0_i32_310
  let v377 : BitVec 32 := Scalar.extui v376
  let v378 : BitVec 32 := Scalar.subi v375 v377
  let c1_i32_308 : BitVec 32 := 1#32
  let c0_i32_311 : BitVec 32 := 0#32
  let v379 : BitVec 1 := Scalar.cmpi .sgt c1_i32_308 c0_i32_311
  let v380 : BitVec 32 := Scalar.extui v379
  let c0_i32_312 : BitVec 32 := 0#32
  let v381 : BitVec 1 := Scalar.cmpi .slt c1_i32_308 c0_i32_312
  let v382 : BitVec 32 := Scalar.extui v381
  let v383 : BitVec 32 := Scalar.subi v380 v382
  let v384 : BitVec 1 := Scalar.cmpi .ne v378 v383
  let v385 : BitVec 32 := Scalar.remsi arg12 c1_i32_308
  let c0_i32_313 : BitVec 32 := 0#32
  let v386 : BitVec 1 := Scalar.cmpi .ne v385 c0_i32_313
  let v387 : BitVec 1 := Scalar.andi v384 v386
  let v373 : BitVec 32 := Scalar.divsi arg12 c1_i32_308
  let c1_i32_314 : BitVec 32 := 1#32
  let v388 : BitVec 32 := Scalar.subi v373 c1_i32_314
  let v389 : BitVec 32 := Scalar.select v387 v388 v373
  let c16_i32_382 : BitVec 32 := 16#32
  let v508 : BitVec 32 := Scalar.muli v389 c16_i32_382
  let v509 : BitVec 32 := Scalar.addi v507 v508
  v509
def k0_mult31 (k0_t3 : Fin k0_t3_loop.trips) : BitVec 32 :=
  let c0_i32_301 : BitVec 32 := 0#32
  let c1_i32_303 : BitVec 32 := 1#32
  let arg12 : BitVec 32 := Scf.iv c0_i32_301 c1_i32_303 k0_t3
  let c1_i32_315 : BitVec 32 := 1#32
  let c0_i32_316 : BitVec 32 := 0#32
  let v390 : BitVec 1 := Scalar.cmpi .eq c1_i32_315 c0_i32_316
  let c1_i32_317 : BitVec 32 := 1#32
  let v391 : BitVec 32 := Scalar.select v390 c1_i32_317 c1_i32_315
  let v392 : BitVec 32 := Scalar.remsi arg12 v391
  let c0_i32_319 : BitVec 32 := 0#32
  let v394 : BitVec 1 := Scalar.cmpi .slt v392 c0_i32_319
  let c0_i32_320 : BitVec 32 := 0#32
  let v395 : BitVec 1 := Scalar.cmpi .slt v391 c0_i32_320
  let v396 : BitVec 1 := Scalar.xori v394 v395
  let c0_i32_318 : BitVec 32 := 0#32
  let v393 : BitVec 1 := Scalar.cmpi .ne v392 c0_i32_318
  let v397 : BitVec 1 := Scalar.andi v396 v393
  let v398 : BitVec 32 := Scalar.addi v392 v391
  let v399 : BitVec 32 := Scalar.select v397 v398 v392
  let c8_i32_384 : BitVec 32 := 8#32
  let v513 : BitVec 32 := Scalar.muli v399 c8_i32_384
  let c6_i32_385 : BitVec 32 := 6#32
  let v514 : BitVec 32 := Scalar.addi v513 c6_i32_385
  let c256_i32_386 : BitVec 32 := 256#32
  let v515 : BitVec 32 := Scalar.muli v514 c256_i32_386
  let c0_i32_309 : BitVec 32 := 0#32
  let v374 : BitVec 1 := Scalar.cmpi .sgt arg12 c0_i32_309
  let v375 : BitVec 32 := Scalar.extui v374
  let c0_i32_310 : BitVec 32 := 0#32
  let v376 : BitVec 1 := Scalar.cmpi .slt arg12 c0_i32_310
  let v377 : BitVec 32 := Scalar.extui v376
  let v378 : BitVec 32 := Scalar.subi v375 v377
  let c1_i32_308 : BitVec 32 := 1#32
  let c0_i32_311 : BitVec 32 := 0#32
  let v379 : BitVec 1 := Scalar.cmpi .sgt c1_i32_308 c0_i32_311
  let v380 : BitVec 32 := Scalar.extui v379
  let c0_i32_312 : BitVec 32 := 0#32
  let v381 : BitVec 1 := Scalar.cmpi .slt c1_i32_308 c0_i32_312
  let v382 : BitVec 32 := Scalar.extui v381
  let v383 : BitVec 32 := Scalar.subi v380 v382
  let v384 : BitVec 1 := Scalar.cmpi .ne v378 v383
  let v385 : BitVec 32 := Scalar.remsi arg12 c1_i32_308
  let c0_i32_313 : BitVec 32 := 0#32
  let v386 : BitVec 1 := Scalar.cmpi .ne v385 c0_i32_313
  let v387 : BitVec 1 := Scalar.andi v384 v386
  let v373 : BitVec 32 := Scalar.divsi arg12 c1_i32_308
  let c1_i32_314 : BitVec 32 := 1#32
  let v388 : BitVec 32 := Scalar.subi v373 c1_i32_314
  let v389 : BitVec 32 := Scalar.select v387 v388 v373
  let c16_i32_387 : BitVec 32 := 16#32
  let v516 : BitVec 32 := Scalar.muli v389 c16_i32_387
  let v517 : BitVec 32 := Scalar.addi v515 v516
  v517
def k0_mult32 (k0_t3 : Fin k0_t3_loop.trips) : BitVec 32 :=
  let c0_i32_301 : BitVec 32 := 0#32
  let c1_i32_303 : BitVec 32 := 1#32
  let arg12 : BitVec 32 := Scf.iv c0_i32_301 c1_i32_303 k0_t3
  let c1_i32_315 : BitVec 32 := 1#32
  let c0_i32_316 : BitVec 32 := 0#32
  let v390 : BitVec 1 := Scalar.cmpi .eq c1_i32_315 c0_i32_316
  let c1_i32_317 : BitVec 32 := 1#32
  let v391 : BitVec 32 := Scalar.select v390 c1_i32_317 c1_i32_315
  let v392 : BitVec 32 := Scalar.remsi arg12 v391
  let c0_i32_319 : BitVec 32 := 0#32
  let v394 : BitVec 1 := Scalar.cmpi .slt v392 c0_i32_319
  let c0_i32_320 : BitVec 32 := 0#32
  let v395 : BitVec 1 := Scalar.cmpi .slt v391 c0_i32_320
  let v396 : BitVec 1 := Scalar.xori v394 v395
  let c0_i32_318 : BitVec 32 := 0#32
  let v393 : BitVec 1 := Scalar.cmpi .ne v392 c0_i32_318
  let v397 : BitVec 1 := Scalar.andi v396 v393
  let v398 : BitVec 32 := Scalar.addi v392 v391
  let v399 : BitVec 32 := Scalar.select v397 v398 v392
  let c8_i32_389 : BitVec 32 := 8#32
  let v521 : BitVec 32 := Scalar.muli v399 c8_i32_389
  let c7_i32_390 : BitVec 32 := 7#32
  let v522 : BitVec 32 := Scalar.addi v521 c7_i32_390
  let c256_i32_391 : BitVec 32 := 256#32
  let v523 : BitVec 32 := Scalar.muli v522 c256_i32_391
  let c0_i32_309 : BitVec 32 := 0#32
  let v374 : BitVec 1 := Scalar.cmpi .sgt arg12 c0_i32_309
  let v375 : BitVec 32 := Scalar.extui v374
  let c0_i32_310 : BitVec 32 := 0#32
  let v376 : BitVec 1 := Scalar.cmpi .slt arg12 c0_i32_310
  let v377 : BitVec 32 := Scalar.extui v376
  let v378 : BitVec 32 := Scalar.subi v375 v377
  let c1_i32_308 : BitVec 32 := 1#32
  let c0_i32_311 : BitVec 32 := 0#32
  let v379 : BitVec 1 := Scalar.cmpi .sgt c1_i32_308 c0_i32_311
  let v380 : BitVec 32 := Scalar.extui v379
  let c0_i32_312 : BitVec 32 := 0#32
  let v381 : BitVec 1 := Scalar.cmpi .slt c1_i32_308 c0_i32_312
  let v382 : BitVec 32 := Scalar.extui v381
  let v383 : BitVec 32 := Scalar.subi v380 v382
  let v384 : BitVec 1 := Scalar.cmpi .ne v378 v383
  let v385 : BitVec 32 := Scalar.remsi arg12 c1_i32_308
  let c0_i32_313 : BitVec 32 := 0#32
  let v386 : BitVec 1 := Scalar.cmpi .ne v385 c0_i32_313
  let v387 : BitVec 1 := Scalar.andi v384 v386
  let v373 : BitVec 32 := Scalar.divsi arg12 c1_i32_308
  let c1_i32_314 : BitVec 32 := 1#32
  let v388 : BitVec 32 := Scalar.subi v373 c1_i32_314
  let v389 : BitVec 32 := Scalar.select v387 v388 v373
  let c16_i32_392 : BitVec 32 := 16#32
  let v524 : BitVec 32 := Scalar.muli v389 c16_i32_392
  let v525 : BitVec 32 := Scalar.addi v523 v524
  v525
def k0_mult33 (k0_t3 : Fin k0_t3_loop.trips) : BitVec 32 :=
  let c0_i32_301 : BitVec 32 := 0#32
  let c1_i32_303 : BitVec 32 := 1#32
  let arg12 : BitVec 32 := Scf.iv c0_i32_301 c1_i32_303 k0_t3
  let c1_i32_315 : BitVec 32 := 1#32
  let c0_i32_316 : BitVec 32 := 0#32
  let v390 : BitVec 1 := Scalar.cmpi .eq c1_i32_315 c0_i32_316
  let c1_i32_317 : BitVec 32 := 1#32
  let v391 : BitVec 32 := Scalar.select v390 c1_i32_317 c1_i32_315
  let v392 : BitVec 32 := Scalar.remsi arg12 v391
  let c0_i32_319 : BitVec 32 := 0#32
  let v394 : BitVec 1 := Scalar.cmpi .slt v392 c0_i32_319
  let c0_i32_320 : BitVec 32 := 0#32
  let v395 : BitVec 1 := Scalar.cmpi .slt v391 c0_i32_320
  let v396 : BitVec 1 := Scalar.xori v394 v395
  let c0_i32_318 : BitVec 32 := 0#32
  let v393 : BitVec 1 := Scalar.cmpi .ne v392 c0_i32_318
  let v397 : BitVec 1 := Scalar.andi v396 v393
  let v398 : BitVec 32 := Scalar.addi v392 v391
  let v399 : BitVec 32 := Scalar.select v397 v398 v392
  let c8_i32_394 : BitVec 32 := 8#32
  let v530 : BitVec 32 := Scalar.muli v399 c8_i32_394
  let c0_i32_395 : BitVec 32 := 0#32
  let v531 : BitVec 32 := Scalar.addi v530 c0_i32_395
  let c256_i32_396 : BitVec 32 := 256#32
  let v532 : BitVec 32 := Scalar.muli v531 c256_i32_396
  let c0_i32_309 : BitVec 32 := 0#32
  let v374 : BitVec 1 := Scalar.cmpi .sgt arg12 c0_i32_309
  let v375 : BitVec 32 := Scalar.extui v374
  let c0_i32_310 : BitVec 32 := 0#32
  let v376 : BitVec 1 := Scalar.cmpi .slt arg12 c0_i32_310
  let v377 : BitVec 32 := Scalar.extui v376
  let v378 : BitVec 32 := Scalar.subi v375 v377
  let c1_i32_308 : BitVec 32 := 1#32
  let c0_i32_311 : BitVec 32 := 0#32
  let v379 : BitVec 1 := Scalar.cmpi .sgt c1_i32_308 c0_i32_311
  let v380 : BitVec 32 := Scalar.extui v379
  let c0_i32_312 : BitVec 32 := 0#32
  let v381 : BitVec 1 := Scalar.cmpi .slt c1_i32_308 c0_i32_312
  let v382 : BitVec 32 := Scalar.extui v381
  let v383 : BitVec 32 := Scalar.subi v380 v382
  let v384 : BitVec 1 := Scalar.cmpi .ne v378 v383
  let v385 : BitVec 32 := Scalar.remsi arg12 c1_i32_308
  let c0_i32_313 : BitVec 32 := 0#32
  let v386 : BitVec 1 := Scalar.cmpi .ne v385 c0_i32_313
  let v387 : BitVec 1 := Scalar.andi v384 v386
  let v373 : BitVec 32 := Scalar.divsi arg12 c1_i32_308
  let c1_i32_314 : BitVec 32 := 1#32
  let v388 : BitVec 32 := Scalar.subi v373 c1_i32_314
  let v389 : BitVec 32 := Scalar.select v387 v388 v373
  let c16_i32_397 : BitVec 32 := 16#32
  let v533 : BitVec 32 := Scalar.muli v389 c16_i32_397
  let v534 : BitVec 32 := Scalar.addi v532 v533
  v534
def k0_mult34 (k0_t3 : Fin k0_t3_loop.trips) : BitVec 32 :=
  let c0_i32_301 : BitVec 32 := 0#32
  let c1_i32_303 : BitVec 32 := 1#32
  let arg12 : BitVec 32 := Scf.iv c0_i32_301 c1_i32_303 k0_t3
  let c1_i32_315 : BitVec 32 := 1#32
  let c0_i32_316 : BitVec 32 := 0#32
  let v390 : BitVec 1 := Scalar.cmpi .eq c1_i32_315 c0_i32_316
  let c1_i32_317 : BitVec 32 := 1#32
  let v391 : BitVec 32 := Scalar.select v390 c1_i32_317 c1_i32_315
  let v392 : BitVec 32 := Scalar.remsi arg12 v391
  let c0_i32_319 : BitVec 32 := 0#32
  let v394 : BitVec 1 := Scalar.cmpi .slt v392 c0_i32_319
  let c0_i32_320 : BitVec 32 := 0#32
  let v395 : BitVec 1 := Scalar.cmpi .slt v391 c0_i32_320
  let v396 : BitVec 1 := Scalar.xori v394 v395
  let c0_i32_318 : BitVec 32 := 0#32
  let v393 : BitVec 1 := Scalar.cmpi .ne v392 c0_i32_318
  let v397 : BitVec 1 := Scalar.andi v396 v393
  let v398 : BitVec 32 := Scalar.addi v392 v391
  let v399 : BitVec 32 := Scalar.select v397 v398 v392
  let c8_i32_399 : BitVec 32 := 8#32
  let v538 : BitVec 32 := Scalar.muli v399 c8_i32_399
  let c1_i32_400 : BitVec 32 := 1#32
  let v539 : BitVec 32 := Scalar.addi v538 c1_i32_400
  let c256_i32_401 : BitVec 32 := 256#32
  let v540 : BitVec 32 := Scalar.muli v539 c256_i32_401
  let c0_i32_309 : BitVec 32 := 0#32
  let v374 : BitVec 1 := Scalar.cmpi .sgt arg12 c0_i32_309
  let v375 : BitVec 32 := Scalar.extui v374
  let c0_i32_310 : BitVec 32 := 0#32
  let v376 : BitVec 1 := Scalar.cmpi .slt arg12 c0_i32_310
  let v377 : BitVec 32 := Scalar.extui v376
  let v378 : BitVec 32 := Scalar.subi v375 v377
  let c1_i32_308 : BitVec 32 := 1#32
  let c0_i32_311 : BitVec 32 := 0#32
  let v379 : BitVec 1 := Scalar.cmpi .sgt c1_i32_308 c0_i32_311
  let v380 : BitVec 32 := Scalar.extui v379
  let c0_i32_312 : BitVec 32 := 0#32
  let v381 : BitVec 1 := Scalar.cmpi .slt c1_i32_308 c0_i32_312
  let v382 : BitVec 32 := Scalar.extui v381
  let v383 : BitVec 32 := Scalar.subi v380 v382
  let v384 : BitVec 1 := Scalar.cmpi .ne v378 v383
  let v385 : BitVec 32 := Scalar.remsi arg12 c1_i32_308
  let c0_i32_313 : BitVec 32 := 0#32
  let v386 : BitVec 1 := Scalar.cmpi .ne v385 c0_i32_313
  let v387 : BitVec 1 := Scalar.andi v384 v386
  let v373 : BitVec 32 := Scalar.divsi arg12 c1_i32_308
  let c1_i32_314 : BitVec 32 := 1#32
  let v388 : BitVec 32 := Scalar.subi v373 c1_i32_314
  let v389 : BitVec 32 := Scalar.select v387 v388 v373
  let c16_i32_402 : BitVec 32 := 16#32
  let v541 : BitVec 32 := Scalar.muli v389 c16_i32_402
  let v542 : BitVec 32 := Scalar.addi v540 v541
  v542
def k0_mult35 (k0_t3 : Fin k0_t3_loop.trips) : BitVec 32 :=
  let c0_i32_301 : BitVec 32 := 0#32
  let c1_i32_303 : BitVec 32 := 1#32
  let arg12 : BitVec 32 := Scf.iv c0_i32_301 c1_i32_303 k0_t3
  let c1_i32_315 : BitVec 32 := 1#32
  let c0_i32_316 : BitVec 32 := 0#32
  let v390 : BitVec 1 := Scalar.cmpi .eq c1_i32_315 c0_i32_316
  let c1_i32_317 : BitVec 32 := 1#32
  let v391 : BitVec 32 := Scalar.select v390 c1_i32_317 c1_i32_315
  let v392 : BitVec 32 := Scalar.remsi arg12 v391
  let c0_i32_319 : BitVec 32 := 0#32
  let v394 : BitVec 1 := Scalar.cmpi .slt v392 c0_i32_319
  let c0_i32_320 : BitVec 32 := 0#32
  let v395 : BitVec 1 := Scalar.cmpi .slt v391 c0_i32_320
  let v396 : BitVec 1 := Scalar.xori v394 v395
  let c0_i32_318 : BitVec 32 := 0#32
  let v393 : BitVec 1 := Scalar.cmpi .ne v392 c0_i32_318
  let v397 : BitVec 1 := Scalar.andi v396 v393
  let v398 : BitVec 32 := Scalar.addi v392 v391
  let v399 : BitVec 32 := Scalar.select v397 v398 v392
  let c8_i32_404 : BitVec 32 := 8#32
  let v546 : BitVec 32 := Scalar.muli v399 c8_i32_404
  let c2_i32_405 : BitVec 32 := 2#32
  let v547 : BitVec 32 := Scalar.addi v546 c2_i32_405
  let c256_i32_406 : BitVec 32 := 256#32
  let v548 : BitVec 32 := Scalar.muli v547 c256_i32_406
  let c0_i32_309 : BitVec 32 := 0#32
  let v374 : BitVec 1 := Scalar.cmpi .sgt arg12 c0_i32_309
  let v375 : BitVec 32 := Scalar.extui v374
  let c0_i32_310 : BitVec 32 := 0#32
  let v376 : BitVec 1 := Scalar.cmpi .slt arg12 c0_i32_310
  let v377 : BitVec 32 := Scalar.extui v376
  let v378 : BitVec 32 := Scalar.subi v375 v377
  let c1_i32_308 : BitVec 32 := 1#32
  let c0_i32_311 : BitVec 32 := 0#32
  let v379 : BitVec 1 := Scalar.cmpi .sgt c1_i32_308 c0_i32_311
  let v380 : BitVec 32 := Scalar.extui v379
  let c0_i32_312 : BitVec 32 := 0#32
  let v381 : BitVec 1 := Scalar.cmpi .slt c1_i32_308 c0_i32_312
  let v382 : BitVec 32 := Scalar.extui v381
  let v383 : BitVec 32 := Scalar.subi v380 v382
  let v384 : BitVec 1 := Scalar.cmpi .ne v378 v383
  let v385 : BitVec 32 := Scalar.remsi arg12 c1_i32_308
  let c0_i32_313 : BitVec 32 := 0#32
  let v386 : BitVec 1 := Scalar.cmpi .ne v385 c0_i32_313
  let v387 : BitVec 1 := Scalar.andi v384 v386
  let v373 : BitVec 32 := Scalar.divsi arg12 c1_i32_308
  let c1_i32_314 : BitVec 32 := 1#32
  let v388 : BitVec 32 := Scalar.subi v373 c1_i32_314
  let v389 : BitVec 32 := Scalar.select v387 v388 v373
  let c16_i32_407 : BitVec 32 := 16#32
  let v549 : BitVec 32 := Scalar.muli v389 c16_i32_407
  let v550 : BitVec 32 := Scalar.addi v548 v549
  v550
def k0_mult36 (k0_t3 : Fin k0_t3_loop.trips) : BitVec 32 :=
  let c0_i32_301 : BitVec 32 := 0#32
  let c1_i32_303 : BitVec 32 := 1#32
  let arg12 : BitVec 32 := Scf.iv c0_i32_301 c1_i32_303 k0_t3
  let c1_i32_315 : BitVec 32 := 1#32
  let c0_i32_316 : BitVec 32 := 0#32
  let v390 : BitVec 1 := Scalar.cmpi .eq c1_i32_315 c0_i32_316
  let c1_i32_317 : BitVec 32 := 1#32
  let v391 : BitVec 32 := Scalar.select v390 c1_i32_317 c1_i32_315
  let v392 : BitVec 32 := Scalar.remsi arg12 v391
  let c0_i32_319 : BitVec 32 := 0#32
  let v394 : BitVec 1 := Scalar.cmpi .slt v392 c0_i32_319
  let c0_i32_320 : BitVec 32 := 0#32
  let v395 : BitVec 1 := Scalar.cmpi .slt v391 c0_i32_320
  let v396 : BitVec 1 := Scalar.xori v394 v395
  let c0_i32_318 : BitVec 32 := 0#32
  let v393 : BitVec 1 := Scalar.cmpi .ne v392 c0_i32_318
  let v397 : BitVec 1 := Scalar.andi v396 v393
  let v398 : BitVec 32 := Scalar.addi v392 v391
  let v399 : BitVec 32 := Scalar.select v397 v398 v392
  let c8_i32_409 : BitVec 32 := 8#32
  let v554 : BitVec 32 := Scalar.muli v399 c8_i32_409
  let c3_i32_410 : BitVec 32 := 3#32
  let v555 : BitVec 32 := Scalar.addi v554 c3_i32_410
  let c256_i32_411 : BitVec 32 := 256#32
  let v556 : BitVec 32 := Scalar.muli v555 c256_i32_411
  let c0_i32_309 : BitVec 32 := 0#32
  let v374 : BitVec 1 := Scalar.cmpi .sgt arg12 c0_i32_309
  let v375 : BitVec 32 := Scalar.extui v374
  let c0_i32_310 : BitVec 32 := 0#32
  let v376 : BitVec 1 := Scalar.cmpi .slt arg12 c0_i32_310
  let v377 : BitVec 32 := Scalar.extui v376
  let v378 : BitVec 32 := Scalar.subi v375 v377
  let c1_i32_308 : BitVec 32 := 1#32
  let c0_i32_311 : BitVec 32 := 0#32
  let v379 : BitVec 1 := Scalar.cmpi .sgt c1_i32_308 c0_i32_311
  let v380 : BitVec 32 := Scalar.extui v379
  let c0_i32_312 : BitVec 32 := 0#32
  let v381 : BitVec 1 := Scalar.cmpi .slt c1_i32_308 c0_i32_312
  let v382 : BitVec 32 := Scalar.extui v381
  let v383 : BitVec 32 := Scalar.subi v380 v382
  let v384 : BitVec 1 := Scalar.cmpi .ne v378 v383
  let v385 : BitVec 32 := Scalar.remsi arg12 c1_i32_308
  let c0_i32_313 : BitVec 32 := 0#32
  let v386 : BitVec 1 := Scalar.cmpi .ne v385 c0_i32_313
  let v387 : BitVec 1 := Scalar.andi v384 v386
  let v373 : BitVec 32 := Scalar.divsi arg12 c1_i32_308
  let c1_i32_314 : BitVec 32 := 1#32
  let v388 : BitVec 32 := Scalar.subi v373 c1_i32_314
  let v389 : BitVec 32 := Scalar.select v387 v388 v373
  let c16_i32_412 : BitVec 32 := 16#32
  let v557 : BitVec 32 := Scalar.muli v389 c16_i32_412
  let v558 : BitVec 32 := Scalar.addi v556 v557
  v558
def k0_mult37 (k0_t3 : Fin k0_t3_loop.trips) : BitVec 32 :=
  let c0_i32_301 : BitVec 32 := 0#32
  let c1_i32_303 : BitVec 32 := 1#32
  let arg12 : BitVec 32 := Scf.iv c0_i32_301 c1_i32_303 k0_t3
  let c1_i32_315 : BitVec 32 := 1#32
  let c0_i32_316 : BitVec 32 := 0#32
  let v390 : BitVec 1 := Scalar.cmpi .eq c1_i32_315 c0_i32_316
  let c1_i32_317 : BitVec 32 := 1#32
  let v391 : BitVec 32 := Scalar.select v390 c1_i32_317 c1_i32_315
  let v392 : BitVec 32 := Scalar.remsi arg12 v391
  let c0_i32_319 : BitVec 32 := 0#32
  let v394 : BitVec 1 := Scalar.cmpi .slt v392 c0_i32_319
  let c0_i32_320 : BitVec 32 := 0#32
  let v395 : BitVec 1 := Scalar.cmpi .slt v391 c0_i32_320
  let v396 : BitVec 1 := Scalar.xori v394 v395
  let c0_i32_318 : BitVec 32 := 0#32
  let v393 : BitVec 1 := Scalar.cmpi .ne v392 c0_i32_318
  let v397 : BitVec 1 := Scalar.andi v396 v393
  let v398 : BitVec 32 := Scalar.addi v392 v391
  let v399 : BitVec 32 := Scalar.select v397 v398 v392
  let c8_i32_414 : BitVec 32 := 8#32
  let v562 : BitVec 32 := Scalar.muli v399 c8_i32_414
  let c4_i32_415 : BitVec 32 := 4#32
  let v563 : BitVec 32 := Scalar.addi v562 c4_i32_415
  let c256_i32_416 : BitVec 32 := 256#32
  let v564 : BitVec 32 := Scalar.muli v563 c256_i32_416
  let c0_i32_309 : BitVec 32 := 0#32
  let v374 : BitVec 1 := Scalar.cmpi .sgt arg12 c0_i32_309
  let v375 : BitVec 32 := Scalar.extui v374
  let c0_i32_310 : BitVec 32 := 0#32
  let v376 : BitVec 1 := Scalar.cmpi .slt arg12 c0_i32_310
  let v377 : BitVec 32 := Scalar.extui v376
  let v378 : BitVec 32 := Scalar.subi v375 v377
  let c1_i32_308 : BitVec 32 := 1#32
  let c0_i32_311 : BitVec 32 := 0#32
  let v379 : BitVec 1 := Scalar.cmpi .sgt c1_i32_308 c0_i32_311
  let v380 : BitVec 32 := Scalar.extui v379
  let c0_i32_312 : BitVec 32 := 0#32
  let v381 : BitVec 1 := Scalar.cmpi .slt c1_i32_308 c0_i32_312
  let v382 : BitVec 32 := Scalar.extui v381
  let v383 : BitVec 32 := Scalar.subi v380 v382
  let v384 : BitVec 1 := Scalar.cmpi .ne v378 v383
  let v385 : BitVec 32 := Scalar.remsi arg12 c1_i32_308
  let c0_i32_313 : BitVec 32 := 0#32
  let v386 : BitVec 1 := Scalar.cmpi .ne v385 c0_i32_313
  let v387 : BitVec 1 := Scalar.andi v384 v386
  let v373 : BitVec 32 := Scalar.divsi arg12 c1_i32_308
  let c1_i32_314 : BitVec 32 := 1#32
  let v388 : BitVec 32 := Scalar.subi v373 c1_i32_314
  let v389 : BitVec 32 := Scalar.select v387 v388 v373
  let c16_i32_417 : BitVec 32 := 16#32
  let v565 : BitVec 32 := Scalar.muli v389 c16_i32_417
  let v566 : BitVec 32 := Scalar.addi v564 v565
  v566
def k0_mult38 (k0_t3 : Fin k0_t3_loop.trips) : BitVec 32 :=
  let c0_i32_301 : BitVec 32 := 0#32
  let c1_i32_303 : BitVec 32 := 1#32
  let arg12 : BitVec 32 := Scf.iv c0_i32_301 c1_i32_303 k0_t3
  let c1_i32_315 : BitVec 32 := 1#32
  let c0_i32_316 : BitVec 32 := 0#32
  let v390 : BitVec 1 := Scalar.cmpi .eq c1_i32_315 c0_i32_316
  let c1_i32_317 : BitVec 32 := 1#32
  let v391 : BitVec 32 := Scalar.select v390 c1_i32_317 c1_i32_315
  let v392 : BitVec 32 := Scalar.remsi arg12 v391
  let c0_i32_319 : BitVec 32 := 0#32
  let v394 : BitVec 1 := Scalar.cmpi .slt v392 c0_i32_319
  let c0_i32_320 : BitVec 32 := 0#32
  let v395 : BitVec 1 := Scalar.cmpi .slt v391 c0_i32_320
  let v396 : BitVec 1 := Scalar.xori v394 v395
  let c0_i32_318 : BitVec 32 := 0#32
  let v393 : BitVec 1 := Scalar.cmpi .ne v392 c0_i32_318
  let v397 : BitVec 1 := Scalar.andi v396 v393
  let v398 : BitVec 32 := Scalar.addi v392 v391
  let v399 : BitVec 32 := Scalar.select v397 v398 v392
  let c8_i32_419 : BitVec 32 := 8#32
  let v570 : BitVec 32 := Scalar.muli v399 c8_i32_419
  let c5_i32_420 : BitVec 32 := 5#32
  let v571 : BitVec 32 := Scalar.addi v570 c5_i32_420
  let c256_i32_421 : BitVec 32 := 256#32
  let v572 : BitVec 32 := Scalar.muli v571 c256_i32_421
  let c0_i32_309 : BitVec 32 := 0#32
  let v374 : BitVec 1 := Scalar.cmpi .sgt arg12 c0_i32_309
  let v375 : BitVec 32 := Scalar.extui v374
  let c0_i32_310 : BitVec 32 := 0#32
  let v376 : BitVec 1 := Scalar.cmpi .slt arg12 c0_i32_310
  let v377 : BitVec 32 := Scalar.extui v376
  let v378 : BitVec 32 := Scalar.subi v375 v377
  let c1_i32_308 : BitVec 32 := 1#32
  let c0_i32_311 : BitVec 32 := 0#32
  let v379 : BitVec 1 := Scalar.cmpi .sgt c1_i32_308 c0_i32_311
  let v380 : BitVec 32 := Scalar.extui v379
  let c0_i32_312 : BitVec 32 := 0#32
  let v381 : BitVec 1 := Scalar.cmpi .slt c1_i32_308 c0_i32_312
  let v382 : BitVec 32 := Scalar.extui v381
  let v383 : BitVec 32 := Scalar.subi v380 v382
  let v384 : BitVec 1 := Scalar.cmpi .ne v378 v383
  let v385 : BitVec 32 := Scalar.remsi arg12 c1_i32_308
  let c0_i32_313 : BitVec 32 := 0#32
  let v386 : BitVec 1 := Scalar.cmpi .ne v385 c0_i32_313
  let v387 : BitVec 1 := Scalar.andi v384 v386
  let v373 : BitVec 32 := Scalar.divsi arg12 c1_i32_308
  let c1_i32_314 : BitVec 32 := 1#32
  let v388 : BitVec 32 := Scalar.subi v373 c1_i32_314
  let v389 : BitVec 32 := Scalar.select v387 v388 v373
  let c16_i32_422 : BitVec 32 := 16#32
  let v573 : BitVec 32 := Scalar.muli v389 c16_i32_422
  let v574 : BitVec 32 := Scalar.addi v572 v573
  v574
def k0_mult39 (k0_t3 : Fin k0_t3_loop.trips) : BitVec 32 :=
  let c0_i32_301 : BitVec 32 := 0#32
  let c1_i32_303 : BitVec 32 := 1#32
  let arg12 : BitVec 32 := Scf.iv c0_i32_301 c1_i32_303 k0_t3
  let c1_i32_315 : BitVec 32 := 1#32
  let c0_i32_316 : BitVec 32 := 0#32
  let v390 : BitVec 1 := Scalar.cmpi .eq c1_i32_315 c0_i32_316
  let c1_i32_317 : BitVec 32 := 1#32
  let v391 : BitVec 32 := Scalar.select v390 c1_i32_317 c1_i32_315
  let v392 : BitVec 32 := Scalar.remsi arg12 v391
  let c0_i32_319 : BitVec 32 := 0#32
  let v394 : BitVec 1 := Scalar.cmpi .slt v392 c0_i32_319
  let c0_i32_320 : BitVec 32 := 0#32
  let v395 : BitVec 1 := Scalar.cmpi .slt v391 c0_i32_320
  let v396 : BitVec 1 := Scalar.xori v394 v395
  let c0_i32_318 : BitVec 32 := 0#32
  let v393 : BitVec 1 := Scalar.cmpi .ne v392 c0_i32_318
  let v397 : BitVec 1 := Scalar.andi v396 v393
  let v398 : BitVec 32 := Scalar.addi v392 v391
  let v399 : BitVec 32 := Scalar.select v397 v398 v392
  let c8_i32_424 : BitVec 32 := 8#32
  let v578 : BitVec 32 := Scalar.muli v399 c8_i32_424
  let c6_i32_425 : BitVec 32 := 6#32
  let v579 : BitVec 32 := Scalar.addi v578 c6_i32_425
  let c256_i32_426 : BitVec 32 := 256#32
  let v580 : BitVec 32 := Scalar.muli v579 c256_i32_426
  let c0_i32_309 : BitVec 32 := 0#32
  let v374 : BitVec 1 := Scalar.cmpi .sgt arg12 c0_i32_309
  let v375 : BitVec 32 := Scalar.extui v374
  let c0_i32_310 : BitVec 32 := 0#32
  let v376 : BitVec 1 := Scalar.cmpi .slt arg12 c0_i32_310
  let v377 : BitVec 32 := Scalar.extui v376
  let v378 : BitVec 32 := Scalar.subi v375 v377
  let c1_i32_308 : BitVec 32 := 1#32
  let c0_i32_311 : BitVec 32 := 0#32
  let v379 : BitVec 1 := Scalar.cmpi .sgt c1_i32_308 c0_i32_311
  let v380 : BitVec 32 := Scalar.extui v379
  let c0_i32_312 : BitVec 32 := 0#32
  let v381 : BitVec 1 := Scalar.cmpi .slt c1_i32_308 c0_i32_312
  let v382 : BitVec 32 := Scalar.extui v381
  let v383 : BitVec 32 := Scalar.subi v380 v382
  let v384 : BitVec 1 := Scalar.cmpi .ne v378 v383
  let v385 : BitVec 32 := Scalar.remsi arg12 c1_i32_308
  let c0_i32_313 : BitVec 32 := 0#32
  let v386 : BitVec 1 := Scalar.cmpi .ne v385 c0_i32_313
  let v387 : BitVec 1 := Scalar.andi v384 v386
  let v373 : BitVec 32 := Scalar.divsi arg12 c1_i32_308
  let c1_i32_314 : BitVec 32 := 1#32
  let v388 : BitVec 32 := Scalar.subi v373 c1_i32_314
  let v389 : BitVec 32 := Scalar.select v387 v388 v373
  let c16_i32_427 : BitVec 32 := 16#32
  let v581 : BitVec 32 := Scalar.muli v389 c16_i32_427
  let v582 : BitVec 32 := Scalar.addi v580 v581
  v582
def k0_mult40 (k0_t3 : Fin k0_t3_loop.trips) : BitVec 32 :=
  let c0_i32_301 : BitVec 32 := 0#32
  let c1_i32_303 : BitVec 32 := 1#32
  let arg12 : BitVec 32 := Scf.iv c0_i32_301 c1_i32_303 k0_t3
  let c1_i32_315 : BitVec 32 := 1#32
  let c0_i32_316 : BitVec 32 := 0#32
  let v390 : BitVec 1 := Scalar.cmpi .eq c1_i32_315 c0_i32_316
  let c1_i32_317 : BitVec 32 := 1#32
  let v391 : BitVec 32 := Scalar.select v390 c1_i32_317 c1_i32_315
  let v392 : BitVec 32 := Scalar.remsi arg12 v391
  let c0_i32_319 : BitVec 32 := 0#32
  let v394 : BitVec 1 := Scalar.cmpi .slt v392 c0_i32_319
  let c0_i32_320 : BitVec 32 := 0#32
  let v395 : BitVec 1 := Scalar.cmpi .slt v391 c0_i32_320
  let v396 : BitVec 1 := Scalar.xori v394 v395
  let c0_i32_318 : BitVec 32 := 0#32
  let v393 : BitVec 1 := Scalar.cmpi .ne v392 c0_i32_318
  let v397 : BitVec 1 := Scalar.andi v396 v393
  let v398 : BitVec 32 := Scalar.addi v392 v391
  let v399 : BitVec 32 := Scalar.select v397 v398 v392
  let c8_i32_429 : BitVec 32 := 8#32
  let v586 : BitVec 32 := Scalar.muli v399 c8_i32_429
  let c7_i32_430 : BitVec 32 := 7#32
  let v587 : BitVec 32 := Scalar.addi v586 c7_i32_430
  let c256_i32_431 : BitVec 32 := 256#32
  let v588 : BitVec 32 := Scalar.muli v587 c256_i32_431
  let c0_i32_309 : BitVec 32 := 0#32
  let v374 : BitVec 1 := Scalar.cmpi .sgt arg12 c0_i32_309
  let v375 : BitVec 32 := Scalar.extui v374
  let c0_i32_310 : BitVec 32 := 0#32
  let v376 : BitVec 1 := Scalar.cmpi .slt arg12 c0_i32_310
  let v377 : BitVec 32 := Scalar.extui v376
  let v378 : BitVec 32 := Scalar.subi v375 v377
  let c1_i32_308 : BitVec 32 := 1#32
  let c0_i32_311 : BitVec 32 := 0#32
  let v379 : BitVec 1 := Scalar.cmpi .sgt c1_i32_308 c0_i32_311
  let v380 : BitVec 32 := Scalar.extui v379
  let c0_i32_312 : BitVec 32 := 0#32
  let v381 : BitVec 1 := Scalar.cmpi .slt c1_i32_308 c0_i32_312
  let v382 : BitVec 32 := Scalar.extui v381
  let v383 : BitVec 32 := Scalar.subi v380 v382
  let v384 : BitVec 1 := Scalar.cmpi .ne v378 v383
  let v385 : BitVec 32 := Scalar.remsi arg12 c1_i32_308
  let c0_i32_313 : BitVec 32 := 0#32
  let v386 : BitVec 1 := Scalar.cmpi .ne v385 c0_i32_313
  let v387 : BitVec 1 := Scalar.andi v384 v386
  let v373 : BitVec 32 := Scalar.divsi arg12 c1_i32_308
  let c1_i32_314 : BitVec 32 := 1#32
  let v388 : BitVec 32 := Scalar.subi v373 c1_i32_314
  let v389 : BitVec 32 := Scalar.select v387 v388 v373
  let c16_i32_432 : BitVec 32 := 16#32
  let v589 : BitVec 32 := Scalar.muli v389 c16_i32_432
  let v590 : BitVec 32 := Scalar.addi v588 v589
  v590
def k0_off15 (k0_t3 : Fin k0_t3_loop.trips) : Fin 4 → Nat :=
  let c2 : Index := 2#32
  let c0_450 : Index := 0#32
  let c0_i32_301 : BitVec 32 := 0#32
  let c1_i32_303 : BitVec 32 := 1#32
  let arg12 : BitVec 32 := Scf.iv c0_i32_301 c1_i32_303 k0_t3
  let c0_i32_309 : BitVec 32 := 0#32
  let v374 : BitVec 1 := Scalar.cmpi .sgt arg12 c0_i32_309
  let v375 : BitVec 32 := Scalar.extui v374
  let c0_i32_310 : BitVec 32 := 0#32
  let v376 : BitVec 1 := Scalar.cmpi .slt arg12 c0_i32_310
  let v377 : BitVec 32 := Scalar.extui v376
  let v378 : BitVec 32 := Scalar.subi v375 v377
  let c1_i32_308 : BitVec 32 := 1#32
  let c0_i32_311 : BitVec 32 := 0#32
  let v379 : BitVec 1 := Scalar.cmpi .sgt c1_i32_308 c0_i32_311
  let v380 : BitVec 32 := Scalar.extui v379
  let c0_i32_312 : BitVec 32 := 0#32
  let v381 : BitVec 1 := Scalar.cmpi .slt c1_i32_308 c0_i32_312
  let v382 : BitVec 32 := Scalar.extui v381
  let v383 : BitVec 32 := Scalar.subi v380 v382
  let v384 : BitVec 1 := Scalar.cmpi .ne v378 v383
  let v385 : BitVec 32 := Scalar.remsi arg12 c1_i32_308
  let c0_i32_313 : BitVec 32 := 0#32
  let v386 : BitVec 1 := Scalar.cmpi .ne v385 c0_i32_313
  let v387 : BitVec 1 := Scalar.andi v384 v386
  let v373 : BitVec 32 := Scalar.divsi arg12 c1_i32_308
  let c1_i32_314 : BitVec 32 := 1#32
  let v388 : BitVec 32 := Scalar.subi v373 c1_i32_314
  let v389 : BitVec 32 := Scalar.select v387 v388 v373
  let c2048_i32 : BitVec 32 := 2048#32
  let c1_i32_315 : BitVec 32 := 1#32
  let c0_i32_316 : BitVec 32 := 0#32
  let v390 : BitVec 1 := Scalar.cmpi .eq c1_i32_315 c0_i32_316
  let c1_i32_317 : BitVec 32 := 1#32
  let v391 : BitVec 32 := Scalar.select v390 c1_i32_317 c1_i32_315
  let v392 : BitVec 32 := Scalar.remsi arg12 v391
  let c0_i32_319 : BitVec 32 := 0#32
  let v394 : BitVec 1 := Scalar.cmpi .slt v392 c0_i32_319
  let c0_i32_320 : BitVec 32 := 0#32
  let v395 : BitVec 1 := Scalar.cmpi .slt v391 c0_i32_320
  let v396 : BitVec 1 := Scalar.xori v394 v395
  let c0_i32_318 : BitVec 32 := 0#32
  let v393 : BitVec 1 := Scalar.cmpi .ne v392 c0_i32_318
  let v397 : BitVec 1 := Scalar.andi v396 v393
  let v398 : BitVec 32 := Scalar.addi v392 v391
  let v399 : BitVec 32 := Scalar.select v397 v398 v392
  let v689 : BitVec 32 := Scalar.muli c2048_i32 v399
  let v690 : BitVec 32 := Scalar.addi v389 v689
  let v692 : Index := Scalar.indexCast v690
  let c0_451 : Index := 0#32
  ![2, 0, v692.toNat, 0]
def k0_off16 (k0_t3 : Fin k0_t3_loop.trips) : Fin 4 → Nat :=
  let c2_455 : Index := 2#32
  let c1_456 : Index := 1#32
  let c0_i32_301 : BitVec 32 := 0#32
  let c1_i32_303 : BitVec 32 := 1#32
  let arg12 : BitVec 32 := Scf.iv c0_i32_301 c1_i32_303 k0_t3
  let c0_i32_309 : BitVec 32 := 0#32
  let v374 : BitVec 1 := Scalar.cmpi .sgt arg12 c0_i32_309
  let v375 : BitVec 32 := Scalar.extui v374
  let c0_i32_310 : BitVec 32 := 0#32
  let v376 : BitVec 1 := Scalar.cmpi .slt arg12 c0_i32_310
  let v377 : BitVec 32 := Scalar.extui v376
  let v378 : BitVec 32 := Scalar.subi v375 v377
  let c1_i32_308 : BitVec 32 := 1#32
  let c0_i32_311 : BitVec 32 := 0#32
  let v379 : BitVec 1 := Scalar.cmpi .sgt c1_i32_308 c0_i32_311
  let v380 : BitVec 32 := Scalar.extui v379
  let c0_i32_312 : BitVec 32 := 0#32
  let v381 : BitVec 1 := Scalar.cmpi .slt c1_i32_308 c0_i32_312
  let v382 : BitVec 32 := Scalar.extui v381
  let v383 : BitVec 32 := Scalar.subi v380 v382
  let v384 : BitVec 1 := Scalar.cmpi .ne v378 v383
  let v385 : BitVec 32 := Scalar.remsi arg12 c1_i32_308
  let c0_i32_313 : BitVec 32 := 0#32
  let v386 : BitVec 1 := Scalar.cmpi .ne v385 c0_i32_313
  let v387 : BitVec 1 := Scalar.andi v384 v386
  let v373 : BitVec 32 := Scalar.divsi arg12 c1_i32_308
  let c1_i32_314 : BitVec 32 := 1#32
  let v388 : BitVec 32 := Scalar.subi v373 c1_i32_314
  let v389 : BitVec 32 := Scalar.select v387 v388 v373
  let c2048_i32 : BitVec 32 := 2048#32
  let c1_i32_315 : BitVec 32 := 1#32
  let c0_i32_316 : BitVec 32 := 0#32
  let v390 : BitVec 1 := Scalar.cmpi .eq c1_i32_315 c0_i32_316
  let c1_i32_317 : BitVec 32 := 1#32
  let v391 : BitVec 32 := Scalar.select v390 c1_i32_317 c1_i32_315
  let v392 : BitVec 32 := Scalar.remsi arg12 v391
  let c0_i32_319 : BitVec 32 := 0#32
  let v394 : BitVec 1 := Scalar.cmpi .slt v392 c0_i32_319
  let c0_i32_320 : BitVec 32 := 0#32
  let v395 : BitVec 1 := Scalar.cmpi .slt v391 c0_i32_320
  let v396 : BitVec 1 := Scalar.xori v394 v395
  let c0_i32_318 : BitVec 32 := 0#32
  let v393 : BitVec 1 := Scalar.cmpi .ne v392 c0_i32_318
  let v397 : BitVec 1 := Scalar.andi v396 v393
  let v398 : BitVec 32 := Scalar.addi v392 v391
  let v399 : BitVec 32 := Scalar.select v397 v398 v392
  let v689 : BitVec 32 := Scalar.muli c2048_i32 v399
  let v690 : BitVec 32 := Scalar.addi v389 v689
  let v702 : Index := Scalar.indexCast v690
  let c0_457 : Index := 0#32
  ![2, 1, v702.toNat, 0]
@[reducible] def k0_t4_loop : Scf.Loop 32 :=
  let c0_i32_305 : BitVec 32 := 0#32
  let c8_i32 : BitVec 32 := 8#32
  let v372 : BitVec 32 := Scalar.addi c0_i32_305 c8_i32
  let c1_i32_306 : BitVec 32 := 1#32
  ⟨c0_i32_305, v372, c1_i32_306⟩
def k0_mult41 (k0_t4 : Fin k0_t4_loop.trips) : BitVec 32 :=
  let c0_i32_305 : BitVec 32 := 0#32
  let c1_i32_306 : BitVec 32 := 1#32
  let arg12 : BitVec 32 := Scf.iv c0_i32_305 c1_i32_306 k0_t4
  let c256_i32 : BitVec 32 := 256#32
  let v373 : BitVec 32 := Scalar.muli arg12 c256_i32
  v373
def k0_off17 (k0_t4 : Fin k0_t4_loop.trips) : Fin 4 → Nat :=
  let c0_308 : Index := 0#32
  let c0_309 : Index := 0#32
  let c0_i32_305 : BitVec 32 := 0#32
  let c1_i32_306 : BitVec 32 := 1#32
  let arg12 : BitVec 32 := Scf.iv c0_i32_305 c1_i32_306 k0_t4
  let c256_i32 : BitVec 32 := 256#32
  let v373 : BitVec 32 := Scalar.muli arg12 c256_i32
  let v374 : BitVec 32 := v373
  let v375 : Index := Scalar.indexCast v374
  let c0_310 : Index := 0#32
  ![0, 0, v375.toNat, 0]
def k0_off18 (k0_t4 : Fin k0_t4_loop.trips) : Fin 4 → Nat :=
  let c1_311 : Index := 1#32
  let c0_312 : Index := 0#32
  let c0_i32_305 : BitVec 32 := 0#32
  let c1_i32_306 : BitVec 32 := 1#32
  let arg12 : BitVec 32 := Scf.iv c0_i32_305 c1_i32_306 k0_t4
  let c256_i32 : BitVec 32 := 256#32
  let v373 : BitVec 32 := Scalar.muli arg12 c256_i32
  let v374 : BitVec 32 := v373
  let v378 : Index := Scalar.indexCast v374
  let c0_313 : Index := 0#32
  ![1, 0, v378.toNat, 0]
def k0_off19 (k0_t4 : Fin k0_t4_loop.trips) : Fin 4 → Nat :=
  let c2 : Index := 2#32
  let c0_314 : Index := 0#32
  let c0_i32_305 : BitVec 32 := 0#32
  let c1_i32_306 : BitVec 32 := 1#32
  let arg12 : BitVec 32 := Scf.iv c0_i32_305 c1_i32_306 k0_t4
  let c256_i32 : BitVec 32 := 256#32
  let v373 : BitVec 32 := Scalar.muli arg12 c256_i32
  let v374 : BitVec 32 := v373
  let v381 : Index := Scalar.indexCast v374
  let c0_315 : Index := 0#32
  ![2, 0, v381.toNat, 0]
def k0_off20 (k0_t4 : Fin k0_t4_loop.trips) : Fin 3 → Nat :=
  let c0_326 : Index := 0#32
  let c0_i32_305 : BitVec 32 := 0#32
  let c1_i32_306 : BitVec 32 := 1#32
  let arg12 : BitVec 32 := Scf.iv c0_i32_305 c1_i32_306 k0_t4
  let c256_i32 : BitVec 32 := 256#32
  let v373 : BitVec 32 := Scalar.muli arg12 c256_i32
  let v374 : BitVec 32 := v373
  let v414 : Index := Scalar.indexCast v374
  let c0_327 : Index := 0#32
  ![0, v414.toNat, 0]
def k0_off21 (k0_t4 : Fin k0_t4_loop.trips) : Fin 4 → Nat :=
  let c0_328 : Index := 0#32
  let c1_329 : Index := 1#32
  let c0_i32_305 : BitVec 32 := 0#32
  let c1_i32_306 : BitVec 32 := 1#32
  let arg12 : BitVec 32 := Scf.iv c0_i32_305 c1_i32_306 k0_t4
  let c256_i32 : BitVec 32 := 256#32
  let v373 : BitVec 32 := Scalar.muli arg12 c256_i32
  let v374 : BitVec 32 := v373
  let v418 : Index := Scalar.indexCast v374
  let c0_330 : Index := 0#32
  ![0, 1, v418.toNat, 0]
def k0_off22 (k0_t4 : Fin k0_t4_loop.trips) : Fin 4 → Nat :=
  let c1_331 : Index := 1#32
  let c1_332 : Index := 1#32
  let c0_i32_305 : BitVec 32 := 0#32
  let c1_i32_306 : BitVec 32 := 1#32
  let arg12 : BitVec 32 := Scf.iv c0_i32_305 c1_i32_306 k0_t4
  let c256_i32 : BitVec 32 := 256#32
  let v373 : BitVec 32 := Scalar.muli arg12 c256_i32
  let v374 : BitVec 32 := v373
  let v421 : Index := Scalar.indexCast v374
  let c0_333 : Index := 0#32
  ![1, 1, v421.toNat, 0]
def k0_off23 (k0_t4 : Fin k0_t4_loop.trips) : Fin 4 → Nat :=
  let c2_334 : Index := 2#32
  let c1_335 : Index := 1#32
  let c0_i32_305 : BitVec 32 := 0#32
  let c1_i32_306 : BitVec 32 := 1#32
  let arg12 : BitVec 32 := Scf.iv c0_i32_305 c1_i32_306 k0_t4
  let c256_i32 : BitVec 32 := 256#32
  let v373 : BitVec 32 := Scalar.muli arg12 c256_i32
  let v374 : BitVec 32 := v373
  let v424 : Index := Scalar.indexCast v374
  let c0_336 : Index := 0#32
  ![2, 1, v424.toNat, 0]
def k0_off24 (k0_t4 : Fin k0_t4_loop.trips) : Fin 3 → Nat :=
  let c0_347 : Index := 0#32
  let c0_i32_305 : BitVec 32 := 0#32
  let c1_i32_306 : BitVec 32 := 1#32
  let arg12 : BitVec 32 := Scf.iv c0_i32_305 c1_i32_306 k0_t4
  let c256_i32 : BitVec 32 := 256#32
  let v373 : BitVec 32 := Scalar.muli arg12 c256_i32
  let v374 : BitVec 32 := v373
  let v457 : Index := Scalar.indexCast v374
  let c128 : Index := 128#32
  ![0, v457.toNat, 128]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x2048x2304 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x2048x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Kernel2Ideal.lean ====
variable {F : FTy → Type} [FloatOps F] [Named F]
def κ : String → Option EReal := fun
  | "mask" => some ⊥
  | _ => none
-- ==== Reference2Ideal.lean ====
abbrev S16x2048x2304 : Shape := ⟨3, ![16, 2048, 2304]⟩
abbrev S16x2048x3x3x4x64 : Shape := ⟨6, ![16, 2048, 3, 3, 4, 64]⟩
abbrev S16x2048x1x3x4x64 : Shape := ⟨6, ![16, 2048, 1, 3, 4, 64]⟩
abbrev S16x2048x3x4x64 : Shape := ⟨5, ![16, 2048, 3, 4, 64]⟩
abbrev S_ : Shape := ⟨0, ![]⟩
abbrev S3 : Shape := ⟨1, ![3]⟩
abbrev S2048 : Shape := ⟨1, ![2048]⟩
abbrev S1x2048 : Shape := ⟨2, ![1, 2048]⟩
abbrev S3x2048 : Shape := ⟨2, ![3, 2048]⟩
abbrev S3x1 : Shape := ⟨2, ![3, 1]⟩
abbrev S1x2048x1 : Shape := ⟨3, ![1, 2048, 1]⟩
abbrev S1x1x2048 : Shape := ⟨3, ![1, 1, 2048]⟩
abbrev S1x2048x2048 : Shape := ⟨3, ![1, 2048, 2048]⟩
abbrev S3x1x1 : Shape := ⟨3, ![3, 1, 1]⟩
abbrev S3x1x2048 : Shape := ⟨3, ![3, 1, 2048]⟩
abbrev S3x2048x2048 : Shape := ⟨3, ![3, 2048, 2048]⟩
abbrev S3x2048x1 : Shape := ⟨3, ![3, 2048, 1]⟩
abbrev S16x3x4x2048x2048 : Shape := ⟨5, ![16, 3, 4, 2048, 2048]⟩
abbrev S1x3x1x2048x2048 : Shape := ⟨5, ![1, 3, 1, 2048, 2048]⟩
abbrev S16x3x4x2048 : Shape := ⟨4, ![16, 3, 4, 2048]⟩
abbrev S16x3x4x2048x1 : Shape := ⟨5, ![16, 3, 4, 2048, 1]⟩
abbrev S16x3x4x2048x64 : Shape := ⟨5, ![16, 3, 4, 2048, 64]⟩
abbrev S16x4x2048x1 : Shape := ⟨4, ![16, 4, 2048, 1]⟩
abbrev S16x1x4x2048x1 : Shape := ⟨5, ![16, 1, 4, 2048, 1]⟩
abbrev S16x4x2048x64 : Shape := ⟨4, ![16, 4, 2048, 64]⟩
abbrev S16x2048x4x64 : Shape := ⟨4, ![16, 2048, 4, 64]⟩
abbrev S16x2048x256 : Shape := ⟨3, ![16, 2048, 256]⟩

abbrev nBuf : Space → Nat
  | .hbm => 88
  | .vmem => 0
  | .smem => 0
  | _ => 0

abbrev bufTy : (tb : Table) → Fin (tcTables nBuf tb) → BufTy
  | .hbm, ⟨0, _⟩ => ⟨S16x2048x2304, .f32⟩
  | .hbm, ⟨1, _⟩ => ⟨S16x2048x3x3x4x64, .f32⟩
  | .hbm, ⟨2, _⟩ => ⟨S16x2048x1x3x4x64, .f32⟩
  | .hbm, ⟨3, _⟩ => ⟨S16x2048x3x4x64, .f32⟩
  | .hbm, ⟨4, _⟩ => ⟨S16x2048x1x3x4x64, .f32⟩
  | .hbm, ⟨5, _⟩ => ⟨S16x2048x3x4x64, .f32⟩
  | .hbm, ⟨6, _⟩ => ⟨S16x2048x1x3x4x64, .f32⟩
  | .hbm, ⟨7, _⟩ => ⟨S16x2048x3x4x64, .f32⟩
  | .hbm, ⟨8, _⟩ => ⟨S_, .i32⟩
  | .hbm, ⟨9, _⟩ => ⟨S3, .i32⟩
  | .hbm, ⟨10, _⟩ => ⟨S3, .i32⟩
  | .hbm, ⟨11, _⟩ => ⟨S_, .i32⟩
  | .hbm, ⟨12, _⟩ => ⟨S3, .i32⟩
  | .hbm, ⟨13, _⟩ => ⟨S3, .i32⟩
  | .hbm, ⟨14, _⟩ => ⟨S3, .i32⟩
  | .hbm, ⟨15, _⟩ => ⟨S_, .i32⟩
  | .hbm, ⟨16, _⟩ => ⟨S3, .i32⟩
  | .hbm, ⟨17, _⟩ => ⟨S3, .i32⟩
  | .hbm, ⟨18, _⟩ => ⟨S2048, .i32⟩
  | .hbm, ⟨19, _⟩ => ⟨S1x2048, .i32⟩
  | .hbm, ⟨20, _⟩ => ⟨S3x2048, .i32⟩
  | .hbm, ⟨21, _⟩ => ⟨S3x1, .i32⟩
  | .hbm, ⟨22, _⟩ => ⟨S3x2048, .i32⟩
  | .hbm, ⟨23, _⟩ => ⟨S3x2048, .i32⟩
  | .hbm, ⟨24, _⟩ => ⟨S1x2048x1, .i32⟩
  | .hbm, ⟨25, _⟩ => ⟨S1x1x2048, .i32⟩
  | .hbm, ⟨26, _⟩ => ⟨S1x2048x2048, .i32⟩
  | .hbm, ⟨27, _⟩ => ⟨S1x2048x2048, .i32⟩
  | .hbm, ⟨28, _⟩ => ⟨S1x2048x2048, .i1⟩
  | .hbm, ⟨29, _⟩ => ⟨S3x1x1, .i32⟩
  | .hbm, ⟨30, _⟩ => ⟨S3x1x2048, .i32⟩
  | .hbm, ⟨31, _⟩ => ⟨S3x1x2048, .i32⟩
  | .hbm, ⟨32, _⟩ => ⟨S3x1x2048, .i32⟩
  | .hbm, ⟨33, _⟩ => ⟨S3x2048x2048, .i32⟩
  | .hbm, ⟨34, _⟩ => ⟨S3x2048x2048, .i32⟩
  | .hbm, ⟨35, _⟩ => ⟨S3x2048x2048, .i1⟩
  | .hbm, ⟨36, _⟩ => ⟨S3x2048x2048, .i1⟩
  | .hbm, ⟨37, _⟩ => ⟨S3x2048x2048, .i1⟩
  | .hbm, ⟨38, _⟩ => ⟨S3x2048x1, .i32⟩
  | .hbm, ⟨39, _⟩ => ⟨S3x1x2048, .i32⟩
  | .hbm, ⟨40, _⟩ => ⟨S3x2048x2048, .i32⟩
  | .hbm, ⟨41, _⟩ => ⟨S3x2048x2048, .i32⟩
  | .hbm, ⟨42, _⟩ => ⟨S3x2048x2048, .i1⟩
  | .hbm, ⟨43, _⟩ => ⟨S3x2048x2048, .i1⟩
  | .hbm, ⟨44, _⟩ => ⟨S16x3x4x2048x2048, .f32⟩
  | .hbm, ⟨45, _⟩ => ⟨S_, .f32⟩
  | .hbm, ⟨46, _⟩ => ⟨S16x3x4x2048x2048, .f32⟩
  | .hbm, ⟨47, _⟩ => ⟨S16x3x4x2048x2048, .f32⟩
  | .hbm, ⟨48, _⟩ => ⟨S1x3x1x2048x2048, .i1⟩
  | .hbm, ⟨49, _⟩ => ⟨S_, .f32⟩
  | .hbm, ⟨50, _⟩ => ⟨S_, .f32⟩
  | .hbm, ⟨51, _⟩ => ⟨S16x3x4x2048x2048, .i1⟩
  | .hbm, ⟨52, _⟩ => ⟨S16x3x4x2048x2048, .f32⟩
  | .hbm, ⟨53, _⟩ => ⟨S16x3x4x2048x2048, .f32⟩
  | .hbm, ⟨54, _⟩ => ⟨S_, .f32⟩
  | .hbm, ⟨55, _⟩ => ⟨S16x3x4x2048, .f32⟩
  | .hbm, ⟨56, _⟩ => ⟨S16x3x4x2048x1, .f32⟩
  | .hbm, ⟨57, _⟩ => ⟨S16x3x4x2048x2048, .f32⟩
  | .hbm, ⟨58, _⟩ => ⟨S16x3x4x2048x2048, .f32⟩
  | .hbm, ⟨59, _⟩ => ⟨S16x3x4x2048x2048, .f32⟩
  | .hbm, ⟨60, _⟩ => ⟨S_, .f32⟩
  | .hbm, ⟨61, _⟩ => ⟨S16x3x4x2048, .f32⟩
  | .hbm, ⟨62, _⟩ => ⟨S16x3x4x2048x1, .f32⟩
  | .hbm, ⟨63, _⟩ => ⟨S16x3x4x2048x64, .f32⟩
  | .hbm, ⟨64, _⟩ => ⟨S16x3x4x2048x64, .f32⟩
  | .hbm, ⟨65, _⟩ => ⟨S16x3x4x2048x64, .f32⟩
  | .hbm, ⟨66, _⟩ => ⟨S16x3x4x2048x1, .f32⟩
  | .hbm, ⟨67, _⟩ => ⟨S16x3x4x2048x1, .f32⟩
  | .hbm, ⟨68, _⟩ => ⟨S_, .f32⟩
  | .hbm, ⟨69, _⟩ => ⟨S16x4x2048x1, .f32⟩
  | .hbm, ⟨70, _⟩ => ⟨S_, .f32⟩
  | .hbm, ⟨71, _⟩ => ⟨S16x4x2048x1, .f32⟩
  | .hbm, ⟨72, _⟩ => ⟨S16x4x2048x1, .f32⟩
  | .hbm, ⟨73, _⟩ => ⟨S16x1x4x2048x1, .f32⟩
  | .hbm, ⟨74, _⟩ => ⟨S16x3x4x2048x1, .f32⟩
  | .hbm, ⟨75, _⟩ => ⟨S16x3x4x2048x1, .f32⟩
  | .hbm, ⟨76, _⟩ => ⟨S16x3x4x2048x1, .f32⟩
  | .hbm, ⟨77, _⟩ => ⟨S_, .f32⟩
  | .hbm, ⟨78, _⟩ => ⟨S16x4x2048x1, .f32⟩
  | .hbm, ⟨79, _⟩ => ⟨S16x1x4x2048x1, .f32⟩
  | .hbm, ⟨80, _⟩ => ⟨S16x3x4x2048x1, .f32⟩
  | .hbm, ⟨81, _⟩ => ⟨S16x3x4x2048x1, .f32⟩
  | .hbm, ⟨82, _⟩ => ⟨S16x3x4x2048x64, .f32⟩
  | .hbm, ⟨83, _⟩ => ⟨S16x3x4x2048x64, .f32⟩
  | .hbm, ⟨84, _⟩ => ⟨S_, .f32⟩
  | .hbm, ⟨85, _⟩ => ⟨S16x4x2048x64, .f32⟩
  | .hbm, ⟨86, _⟩ => ⟨S16x2048x4x64, .f32⟩
  | .hbm, ⟨87, _⟩ => ⟨S16x2048x256, .f32⟩
  | _, _ => ⟨S16x2048x2304, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_c : Ref sig .tc := ⟨.hbm, 8, rfl⟩
abbrev main_v7 : Ref sig .tc := ⟨.hbm, 9, rfl⟩
abbrev main_v8 : Ref sig .tc := ⟨.hbm, 10, rfl⟩
abbrev main_c_0 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_c_1 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩
abbrev main_v32 : Ref sig .tc := ⟨.hbm, 36, rfl⟩
abbrev main_v33 : Ref sig .tc := ⟨.hbm, 37, rfl⟩
abbrev main_v34 : Ref sig .tc := ⟨.hbm, 38, rfl⟩
abbrev main_v35 : Ref sig .tc := ⟨.hbm, 39, rfl⟩
abbrev main_v36 : Ref sig .tc := ⟨.hbm, 40, rfl⟩
abbrev main_v37 : Ref sig .tc := ⟨.hbm, 41, rfl⟩
abbrev main_v38 : Ref sig .tc := ⟨.hbm, 42, rfl⟩
abbrev main_v39 : Ref sig .tc := ⟨.hbm, 43, rfl⟩
abbrev main_v40 : Ref sig .tc := ⟨.hbm, 44, rfl⟩
abbrev main_cst : Ref sig .tc := ⟨.hbm, 45, rfl⟩
abbrev main_v41 : Ref sig .tc := ⟨.hbm, 46, rfl⟩
abbrev main_v42 : Ref sig .tc := ⟨.hbm, 47, rfl⟩
abbrev main_v43 : Ref sig .tc := ⟨.hbm, 48, rfl⟩
abbrev main_cst_2 : Ref sig .tc := ⟨.hbm, 49, rfl⟩
abbrev main_call0_v0 : Ref sig .tc := ⟨.hbm, 50, rfl⟩
abbrev main_call0_v1 : Ref sig .tc := ⟨.hbm, 51, rfl⟩
abbrev main_call0_v2 : Ref sig .tc := ⟨.hbm, 52, rfl⟩
abbrev main_v44 : Ref sig .tc := ⟨.hbm, 53, rfl⟩
abbrev main_cst_3 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_cst_4 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_v56 : Ref sig .tc := ⟨.hbm, 67, rfl⟩
abbrev main_cst_5 : Ref sig .tc := ⟨.hbm, 68, rfl⟩
abbrev main_v57 : Ref sig .tc := ⟨.hbm, 69, rfl⟩
abbrev main_cst_6 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_v62 : Ref sig .tc := ⟨.hbm, 75, rfl⟩
abbrev main_v63 : Ref sig .tc := ⟨.hbm, 76, rfl⟩
abbrev main_cst_7 : Ref sig .tc := ⟨.hbm, 77, rfl⟩
abbrev main_v64 : Ref sig .tc := ⟨.hbm, 78, rfl⟩
abbrev main_v65 : Ref sig .tc := ⟨.hbm, 79, rfl⟩
abbrev main_v66 : Ref sig .tc := ⟨.hbm, 80, rfl⟩
abbrev main_v67 : Ref sig .tc := ⟨.hbm, 81, rfl⟩
abbrev main_v68 : Ref sig .tc := ⟨.hbm, 82, rfl⟩
abbrev main_v69 : Ref sig .tc := ⟨.hbm, 83, rfl⟩
abbrev main_cst_8 : Ref sig .tc := ⟨.hbm, 84, rfl⟩
abbrev main_v70 : Ref sig .tc := ⟨.hbm, 85, rfl⟩
abbrev main_v71 : Ref sig .tc := ⟨.hbm, 86, rfl⟩
abbrev main_v72 : Ref sig .tc := ⟨.hbm, 87, rfl⟩

abbrev nD : Nat := 1
abbrev τ : Topo := Topo.v7x

variable {F : FTy → Type} [FloatOps F]
-- ==== Kernel3.lean ====
abbrev S16x2048x1024 : Shape := ⟨3, ![16, 2048, 1024]⟩
abbrev S16x2048x256 : Shape := ⟨3, ![16, 2048, 256]⟩
abbrev S16x2048x512 : Shape := ⟨3, ![16, 2048, 512]⟩
abbrev S1x1024 : Shape := ⟨2, ![1, 1024]⟩
abbrev S1x1024x4864 : Shape := ⟨3, ![1, 1024, 4864]⟩
abbrev S1x256x1024 : Shape := ⟨3, ![1, 256, 1024]⟩
abbrev S1x512x2048 : Shape := ⟨3, ![1, 512, 2048]⟩
abbrev S1x1024x1024 : Shape := ⟨3, ![1, 1024, 1024]⟩
abbrev S1024 : Shape := ⟨1, ![1024]⟩
abbrev S1024x4864 : Shape := ⟨2, ![1024, 4864]⟩
abbrev S256x1024 : Shape := ⟨2, ![256, 1024]⟩
abbrev S512x2048 : Shape := ⟨2, ![512, 2048]⟩
abbrev S1024x1024 : Shape := ⟨2, ![1024, 1024]⟩
abbrev S1x2048x1024 : Shape := ⟨3, ![1, 2048, 1024]⟩
abbrev S1x2048x256 : Shape := ⟨3, ![1, 2048, 256]⟩
abbrev S1x2048x512 : Shape := ⟨3, ![1, 2048, 512]⟩
abbrev S256 : Shape := ⟨1, ![256]⟩
abbrev S256x1 : Shape := ⟨2, ![256, 1]⟩
abbrev S1024x2048 : Shape := ⟨2, ![1024, 2048]⟩
abbrev S256x2048 : Shape := ⟨2, ![256, 2048]⟩
abbrev S1x256x256 : Shape := ⟨3, ![1, 256, 256]⟩
abbrev S256x256 : Shape := ⟨2, ![256, 256]⟩
abbrev S1x256x512 : Shape := ⟨3, ![1, 256, 512]⟩
abbrev S256x512 : Shape := ⟨2, ![256, 512]⟩

abbrev nBuf : Space → Nat
  | .hbm => 21
  | .vmem => 13
  | .smem => 0
  | _ => 0

abbrev bufTy : (tb : Table) → Fin (tcTables nBuf tb) → BufTy
  | .hbm, ⟨0, _⟩ => ⟨S16x2048x1024, .f32⟩
  | .hbm, ⟨1, _⟩ => ⟨S16x2048x256, .f32⟩
  | .hbm, ⟨2, _⟩ => ⟨S16x2048x512, .f32⟩
  | .hbm, ⟨3, _⟩ => ⟨S1x1024, .f32⟩
  | .hbm, ⟨4, _⟩ => ⟨S1x1024x4864, .f32⟩
  | .hbm, ⟨5, _⟩ => ⟨S1x256x1024, .f32⟩
  | .hbm, ⟨6, _⟩ => ⟨S1x512x2048, .f32⟩
  | .hbm, ⟨7, _⟩ => ⟨S1x1024x1024, .f32⟩
  | .hbm, ⟨8, _⟩ => ⟨S1024, .f32⟩
  | .hbm, ⟨9, _⟩ => ⟨S1x1024, .f32⟩
  | .hbm, ⟨10, _⟩ => ⟨S1024x4864, .f32⟩
  | .hbm, ⟨11, _⟩ => ⟨S1024x4864, .bf16⟩
  | .hbm, ⟨12, _⟩ => ⟨S16x2048x256, .bf16⟩
  | .hbm, ⟨13, _⟩ => ⟨S16x2048x512, .bf16⟩
  | .hbm, ⟨14, _⟩ => ⟨S256x1024, .f32⟩
  | .hbm, ⟨15, _⟩ => ⟨S256x1024, .bf16⟩
  | .hbm, ⟨16, _⟩ => ⟨S512x2048, .f32⟩
  | .hbm, ⟨17, _⟩ => ⟨S512x2048, .bf16⟩
  | .hbm, ⟨18, _⟩ => ⟨S1024x1024, .f32⟩
  | .hbm, ⟨19, _⟩ => ⟨S1024x1024, .bf16⟩
  | .hbm, ⟨20, _⟩ => ⟨S16x2048x1024, .f32⟩
  | .local _ .vmem, ⟨0, _⟩ => ⟨S1x2048x1024, .f32⟩
  | .local _ .vmem, ⟨1, _⟩ => ⟨S1x2048x1024, .f32⟩
  | .local _ .vmem, ⟨2, _⟩ => ⟨S1x2048x256, .bf16⟩
  | .local _ .vmem, ⟨3, _⟩ => ⟨S1x2048x256, .bf16⟩
  | .local _ .vmem, ⟨4, _⟩ => ⟨S1x2048x512, .bf16⟩
  | .local _ .vmem, ⟨5, _⟩ => ⟨S1x2048x512, .bf16⟩
  | .local _ .vmem, ⟨6, _⟩ => ⟨S1x1024, .f32⟩
  | .local _ .vmem, ⟨7, _⟩ => ⟨S1024x4864, .bf16⟩
  | .local _ .vmem, ⟨8, _⟩ => ⟨S256x1024, .bf16⟩
  | .local _ .vmem, ⟨9, _⟩ => ⟨S512x2048, .bf16⟩
  | .local _ .vmem, ⟨10, _⟩ => ⟨S1024x1024, .bf16⟩
  | .local _ .vmem, ⟨11, _⟩ => ⟨S1x2048x1024, .f32⟩
  | .local _ .vmem, ⟨12, _⟩ => ⟨S1x2048x1024, .f32⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12

abbrev nD : Nat := 1
abbrev τ : Topo := Topo.v7x

variable {F : FTy → Type} [FloatOps F]

abbrev grid0 : Pipeline.Grid := ⟨2, ![16, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x4864 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S256x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S512x2048 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x2048x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Reference3Ideal.lean ====
abbrev S16x2048x1024 : Shape := ⟨3, ![16, 2048, 1024]⟩
abbrev S16x2048x256 : Shape := ⟨3, ![16, 2048, 256]⟩
abbrev S16x2048x512 : Shape := ⟨3, ![16, 2048, 512]⟩
abbrev S1x1024 : Shape := ⟨2, ![1, 1024]⟩
abbrev S1x1024x4864 : Shape := ⟨3, ![1, 1024, 4864]⟩
abbrev S1x256x1024 : Shape := ⟨3, ![1, 256, 1024]⟩
abbrev S1x512x2048 : Shape := ⟨3, ![1, 512, 2048]⟩
abbrev S1x1024x1024 : Shape := ⟨3, ![1, 1024, 1024]⟩
abbrev S1024 : Shape := ⟨1, ![1024]⟩
abbrev S_ : Shape := ⟨0, ![]⟩
abbrev S16x2048 : Shape := ⟨2, ![16, 2048]⟩
abbrev S16x2048x1 : Shape := ⟨3, ![16, 2048, 1]⟩
abbrev S1x1x1024 : Shape := ⟨3, ![1, 1, 1024]⟩
abbrev S1024x4864 : Shape := ⟨2, ![1024, 4864]⟩
abbrev S16x2048x4864 : Shape := ⟨3, ![16, 2048, 4864]⟩
abbrev S16x2048x2048 : Shape := ⟨3, ![16, 2048, 2048]⟩
abbrev S16x2048x2x1024 : Shape := ⟨4, ![16, 2048, 2, 1024]⟩
abbrev S256x1024 : Shape := ⟨2, ![256, 1024]⟩
abbrev S512x2048 : Shape := ⟨2, ![512, 2048]⟩
abbrev S16x2048x1x1024 : Shape := ⟨4, ![16, 2048, 1, 1024]⟩
abbrev S1024x1024 : Shape := ⟨2, ![1024, 1024]⟩

abbrev nBuf : Space → Nat
  | .hbm => 62
  | .vmem => 0
  | .smem => 0
  | _ => 0

abbrev bufTy : (tb : Table) → Fin (tcTables nBuf tb) → BufTy
  | .hbm, ⟨0, _⟩ => ⟨S16x2048x1024, .f32⟩
  | .hbm, ⟨1, _⟩ => ⟨S16x2048x256, .f32⟩
  | .hbm, ⟨2, _⟩ => ⟨S16x2048x512, .f32⟩
  | .hbm, ⟨3, _⟩ => ⟨S1x1024, .f32⟩
  | .hbm, ⟨4, _⟩ => ⟨S1x1024x4864, .f32⟩
  | .hbm, ⟨5, _⟩ => ⟨S1x256x1024, .f32⟩
  | .hbm, ⟨6, _⟩ => ⟨S1x512x2048, .f32⟩
  | .hbm, ⟨7, _⟩ => ⟨S1x1024x1024, .f32⟩
  | .hbm, ⟨8, _⟩ => ⟨S1024, .f32⟩
  | .hbm, ⟨9, _⟩ => ⟨S16x2048x1024, .f32⟩
  | .hbm, ⟨10, _⟩ => ⟨S_, .f32⟩
  | .hbm, ⟨11, _⟩ => ⟨S16x2048, .f32⟩
  | .hbm, ⟨12, _⟩ => ⟨S16x2048x1, .f32⟩
  | .hbm, ⟨13, _⟩ => ⟨S_, .f32⟩
  | .hbm, ⟨14, _⟩ => ⟨S16x2048x1, .f32⟩
  | .hbm, ⟨15, _⟩ => ⟨S16x2048x1, .f32⟩
  | .hbm, ⟨16, _⟩ => ⟨S_, .f32⟩
  | .hbm, ⟨17, _⟩ => ⟨S16x2048x1, .f32⟩
  | .hbm, ⟨18, _⟩ => ⟨S16x2048x1, .f32⟩
  | .hbm, ⟨19, _⟩ => ⟨S16x2048x1, .f32⟩
  | .hbm, ⟨20, _⟩ => ⟨S16x2048x1024, .f32⟩
  | .hbm, ⟨21, _⟩ => ⟨S16x2048x1024, .f32⟩
  | .hbm, ⟨22, _⟩ => ⟨S1x1x1024, .f32⟩
  | .hbm, ⟨23, _⟩ => ⟨S16x2048x1024, .f32⟩
  | .hbm, ⟨24, _⟩ => ⟨S16x2048x1024, .f32⟩
  | .hbm, ⟨25, _⟩ => ⟨S1024x4864, .f32⟩
  | .hbm, ⟨26, _⟩ => ⟨S16x2048x4864, .f32⟩
  | .hbm, ⟨27, _⟩ => ⟨S16x2048x2048, .f32⟩
  | .hbm, ⟨28, _⟩ => ⟨S16x2048x2048, .f32⟩
  | .hbm, ⟨29, _⟩ => ⟨S16x2048x2048, .f32⟩
  | .hbm, ⟨30, _⟩ => ⟨S_, .f32⟩
  | .hbm, ⟨31, _⟩ => ⟨S16x2048x2048, .f32⟩
  | .hbm, ⟨32, _⟩ => ⟨S16x2048x2048, .f32⟩
  | .hbm, ⟨33, _⟩ => ⟨S_, .f32⟩
  | .hbm, ⟨34, _⟩ => ⟨S16x2048x2048, .f32⟩
  | .hbm, ⟨35, _⟩ => ⟨S16x2048x2048, .f32⟩
  | .hbm, ⟨36, _⟩ => ⟨S16x2048x2x1024, .f32⟩
  | .hbm, ⟨37, _⟩ => ⟨S256x1024, .f32⟩
  | .hbm, ⟨38, _⟩ => ⟨S16x2048x1024, .f32⟩
  | .hbm, ⟨39, _⟩ => ⟨S512x2048, .f32⟩
  | .hbm, ⟨40, _⟩ => ⟨S16x2048x2048, .f32⟩
  | .hbm, ⟨41, _⟩ => ⟨S16x2048x1024, .f32⟩
  | .hbm, ⟨42, _⟩ => ⟨S16x2048x1024, .f32⟩
  | .hbm, ⟨43, _⟩ => ⟨S16x2048x1024, .f32⟩
  | .hbm, ⟨44, _⟩ => ⟨S16x2048x1024, .f32⟩
  | .hbm, ⟨45, _⟩ => ⟨S_, .f32⟩
  | .hbm, ⟨46, _⟩ => ⟨S16x2048x1024, .f32⟩
  | .hbm, ⟨47, _⟩ => ⟨S16x2048x1024, .f32⟩
  | .hbm, ⟨48, _⟩ => ⟨S_, .f32⟩
  | .hbm, ⟨49, _⟩ => ⟨S16x2048x1024, .f32⟩
  | .hbm, ⟨50, _⟩ => ⟨S16x2048x1024, .f32⟩
  | .hbm, ⟨51, _⟩ => ⟨S16x2048x1024, .f32⟩
  | .hbm, ⟨52, _⟩ => ⟨S16x2048x1x1024, .f32⟩
  | .hbm, ⟨53, _⟩ => ⟨S16x2048x1024, .f32⟩
  | .hbm, ⟨54, _⟩ => ⟨S16x2048x1024, .f32⟩
  | .hbm, ⟨55, _⟩ => ⟨S16x2048x1x1024, .f32⟩
  | .hbm, ⟨56, _⟩ => ⟨S16x2048x1024, .f32⟩
  | .hbm, ⟨57, _⟩ => ⟨S16x2048x1024, .f32⟩
  | .hbm, ⟨58, _⟩ => ⟨S16x2048x1024, .f32⟩
  | .hbm, ⟨59, _⟩ => ⟨S1024x1024, .f32⟩
  | .hbm, ⟨60, _⟩ => ⟨S16x2048x1024, .f32⟩
  | .hbm, ⟨61, _⟩ => ⟨S16x2048x1024, .f32⟩
  | _, _ => ⟨S16x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_cst : Ref sig .tc := ⟨.hbm, 10, rfl⟩
abbrev main_v2 : Ref sig .tc := ⟨.hbm, 11, rfl⟩
abbrev main_v3 : Ref sig .tc := ⟨.hbm, 12, rfl⟩
abbrev main_cst_0 : Ref sig .tc := ⟨.hbm, 13, rfl⟩
abbrev main_v4 : Ref sig .tc := ⟨.hbm, 14, rfl⟩
abbrev main_v5 : Ref sig .tc := ⟨.hbm, 15, rfl⟩
abbrev main_cst_1 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_2 : Ref sig .tc := ⟨.hbm, 30, rfl⟩
abbrev main_v19 : Ref sig .tc := ⟨.hbm, 31, rfl⟩
abbrev main_v20 : Ref sig .tc := ⟨.hbm, 32, rfl⟩
abbrev main_cst_3 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_cst_4 : Ref sig .tc := ⟨.hbm, 45, rfl⟩
abbrev main_v32 : Ref sig .tc := ⟨.hbm, 46, rfl⟩
abbrev main_v33 : Ref sig .tc := ⟨.hbm, 47, rfl⟩
abbrev main_cst_5 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩

abbrev nD : Nat := 1
abbrev τ : Topo := Topo.v7x

variable {F : FTy → Type} [FloatOps F]
-- ==== Kernel4.lean ====
abbrev S16x2048x1024 : Shape := ⟨3, ![16, 2048, 1024]⟩
abbrev S1x1024 : Shape := ⟨2, ![1, 1024]⟩
abbrev S1x1024x4864 : Shape := ⟨3, ![1, 1024, 4864]⟩
abbrev S1024 : Shape := ⟨1, ![1024]⟩
abbrev S1024x4864 : Shape := ⟨2, ![1024, 4864]⟩
abbrev S2048 : Shape := ⟨1, ![2048]⟩
abbrev S8 : Shape := ⟨1, ![8]⟩
abbrev S_ : Shape := ⟨0, ![]⟩
abbrev S2048x1 : Shape := ⟨2, ![2048, 1]⟩
abbrev S1x8 : Shape := ⟨2, ![1, 8]⟩
abbrev S2048x8 : Shape := ⟨2, ![2048, 8]⟩
abbrev S2048x48 : Shape := ⟨2, ![2048, 48]⟩
abbrev S2048x64 : Shape := ⟨2, ![2048, 64]⟩
abbrev S2048x128 : Shape := ⟨2, ![2048, 128]⟩
abbrev S16x2048x2304 : Shape := ⟨3, ![16, 2048, 2304]⟩
abbrev S16x2048x512 : Shape := ⟨3, ![16, 2048, 512]⟩
abbrev S1x2048x1024 : Shape := ⟨3, ![1, 2048, 1024]⟩
abbrev S1024x2816 : Shape := ⟨2, ![1024, 2816]⟩
abbrev S1x2048x2304 : Shape := ⟨3, ![1, 2048, 2304]⟩
abbrev S1x2048x512 : Shape := ⟨3, ![1, 2048, 512]⟩
abbrev S1x256x1024 : Shape := ⟨3, ![1, 256, 1024]⟩
abbrev S256x1024 : Shape := ⟨2, ![256, 1024]⟩
abbrev S256 : Shape := ⟨1, ![256]⟩
abbrev S256x1 : Shape := ⟨2, ![256, 1]⟩
abbrev S256x2816 : Shape := ⟨2, ![256, 2816]⟩
abbrev S256x128 : Shape := ⟨2, ![256, 128]⟩
abbrev S1x256x128 : Shape := ⟨3, ![1, 256, 128]⟩
abbrev S256x768 : Shape := ⟨2, ![256, 768]⟩
abbrev S1x256x768 : Shape := ⟨3, ![1, 256, 768]⟩
abbrev S256x512 : Shape := ⟨2, ![256, 512]⟩
abbrev S1x256x512 : Shape := ⟨3, ![1, 256, 512]⟩

abbrev nBuf : Space → Nat
  | .hbm => 41
  | .vmem => 11
  | .smem => 0
  | _ => 0

abbrev bufTy : (tb : Table) → Fin (tcTables nBuf tb) → BufTy
  | .hbm, ⟨0, _⟩ => ⟨S16x2048x1024, .f32⟩
  | .hbm, ⟨1, _⟩ => ⟨S1x1024, .f32⟩
  | .hbm, ⟨2, _⟩ => ⟨S1x1024x4864, .f32⟩
  | .hbm, ⟨3, _⟩ => ⟨S1024, .f32⟩
  | .hbm, ⟨4, _⟩ => ⟨S1x1024, .f32⟩
  | .hbm, ⟨5, _⟩ => ⟨S1024x4864, .f32⟩
  | .hbm, ⟨6, _⟩ => ⟨S1024x4864, .bf16⟩
  | .hbm, ⟨7, _⟩ => ⟨S2048, .f32⟩
  | .hbm, ⟨8, _⟩ => ⟨S8, .f32⟩
  | .hbm, ⟨9, _⟩ => ⟨S8, .f32⟩
  | .hbm, ⟨10, _⟩ => ⟨S_, .f32⟩
  | .hbm, ⟨11, _⟩ => ⟨S8, .f32⟩
  | .hbm, ⟨12, _⟩ => ⟨S8, .f32⟩
  | .hbm, ⟨13, _⟩ => ⟨S_, .f32⟩
  | .hbm, ⟨14, _⟩ => ⟨S8, .f32⟩
  | .hbm, ⟨15, _⟩ => ⟨S8, .f32⟩
  | .hbm, ⟨16, _⟩ => ⟨S_, .f32⟩
  | .hbm, ⟨17, _⟩ => ⟨S8, .f32⟩
  | .hbm, ⟨18, _⟩ => ⟨S8, .f32⟩
  | .hbm, ⟨19, _⟩ => ⟨S2048x1, .f32⟩
  | .hbm, ⟨20, _⟩ => ⟨S1x8, .f32⟩
  | .hbm, ⟨21, _⟩ => ⟨S2048x8, .f32⟩
  | .hbm, ⟨22, _⟩ => ⟨S2048x8, .f32⟩
  | .hbm, ⟨23, _⟩ => ⟨S2048x8, .f32⟩
  | .hbm, ⟨24, _⟩ => ⟨S2048x8, .f32⟩
  | .hbm, ⟨25, _⟩ => ⟨S2048x8, .f32⟩
  | .hbm, ⟨26, _⟩ => ⟨S_, .f32⟩
  | .hbm, ⟨27, _⟩ => ⟨S2048x48, .f32⟩
  | .hbm, ⟨28, _⟩ => ⟨S_, .f32⟩
  | .hbm, ⟨29, _⟩ => ⟨S2048x8, .f32⟩
  | .hbm, ⟨30, _⟩ => ⟨S_, .f32⟩
  | .hbm, ⟨31, _⟩ => ⟨S2048x48, .f32⟩
  | .hbm, ⟨32, _⟩ => ⟨S2048x64, .f32⟩
  | .hbm, ⟨33, _⟩ => ⟨S2048x8, .f32⟩
  | .hbm, ⟨34, _⟩ => ⟨S2048x64, .f32⟩
  | .hbm, ⟨35, _⟩ => ⟨S2048x64, .f32⟩
  | .hbm, ⟨36, _⟩ => ⟨S2048x128, .f32⟩
  | .hbm, ⟨37, _⟩ => ⟨S2048x128, .f32⟩
  | .hbm, ⟨38, _⟩ => ⟨S2048x128, .f32⟩
  | .hbm, ⟨39, _⟩ => ⟨S16x2048x2304, .bf16⟩
  | .hbm, ⟨40, _⟩ => ⟨S16x2048x512, .f32⟩
  | .local _ .vmem, ⟨0, _⟩ => ⟨S1x2048x1024, .f32⟩
  | .local _ .vmem, ⟨1, _⟩ => ⟨S1x2048x1024, .f32⟩
  | .local _ .vmem, ⟨2, _⟩ => ⟨S1x1024, .f32⟩
  | .local _ .vmem, ⟨3, _⟩ => ⟨S1024x2816, .bf16⟩
  | .local _ .vmem, ⟨4, _⟩ => ⟨S2048x128, .f32⟩
  | .local _ .vmem, ⟨5, _⟩ => ⟨S2048x128, .f32⟩
  | .local _ .vmem, ⟨6, _⟩ => ⟨S2048x128, .f32⟩
  | .local _ .vmem, ⟨7, _⟩ => ⟨S1x2048x2304, .bf16⟩
  | .local _ .vmem, ⟨8, _⟩ => ⟨S1x2048x2304, .bf16⟩
  | .local _ .vmem, ⟨9, _⟩ => ⟨S1x2048x512, .f32⟩
  | .local _ .vmem, ⟨10, _⟩ => ⟨S1x2048x512, .f32⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_v8 : Ref sig .tc := ⟨.hbm, 12, rfl⟩
abbrev main_cst_0 : Ref sig .tc := ⟨.hbm, 13, rfl⟩
abbrev main_v9 : Ref sig .tc := ⟨.hbm, 14, rfl⟩
abbrev main_v10 : Ref sig .tc := ⟨.hbm, 15, rfl⟩
abbrev main_cst_1 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_cst_2 : Ref sig .tc := ⟨.hbm, 26, rfl⟩
abbrev main_v20 : Ref sig .tc := ⟨.hbm, 27, rfl⟩
abbrev main_cst_3 : Ref sig .tc := ⟨.hbm, 28, rfl⟩
abbrev main_v21 : Ref sig .tc := ⟨.hbm, 29, rfl⟩
abbrev main_cst_4 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30_0 : Ref sig .tc := ⟨.hbm, 39, rfl⟩
abbrev main_v30_1 : Ref sig .tc := ⟨.hbm, 40, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10

abbrev nD : Nat := 1
abbrev τ : Topo := Topo.v7x

variable {F : FTy → Type} [FloatOps F]

abbrev grid0 : Pipeline.Grid := ⟨2, ![16, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x2816 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S2048x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true]

abbrev stage0_4 : Fin 1 → Memref sig .tc .vmem S2048x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, true]

abbrev stage0_5 : Fin 1 → Memref sig .tc .vmem S2048x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, true]

abbrev stage0_6 : Fin 2 → Memref sig .tc .vmem S1x2048x2304 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x2048x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Reference4Ideal.lean ====
abbrev S16x2048x1024 : Shape := ⟨3, ![16, 2048, 1024]⟩
abbrev S1x1024 : Shape := ⟨2, ![1, 1024]⟩
abbrev S1x1024x4864 : Shape := ⟨3, ![1, 1024, 4864]⟩
abbrev S2048 : Shape := ⟨1, ![2048]⟩
abbrev S1024 : Shape := ⟨1, ![1024]⟩
abbrev S_ : Shape := ⟨0, ![]⟩
abbrev S16x2048 : Shape := ⟨2, ![16, 2048]⟩
abbrev S16x2048x1 : Shape := ⟨3, ![16, 2048, 1]⟩
abbrev S1x1x1024 : Shape := ⟨3, ![1, 1, 1024]⟩
abbrev S1024x4864 : Shape := ⟨2, ![1024, 4864]⟩
abbrev S16x2048x4864 : Shape := ⟨3, ![16, 2048, 4864]⟩
abbrev S16x2048x2304 : Shape := ⟨3, ![16, 2048, 2304]⟩
abbrev S16x2048x3x12x64 : Shape := ⟨5, ![16, 2048, 3, 12, 64]⟩
abbrev S16x2048x512 : Shape := ⟨3, ![16, 2048, 512]⟩
abbrev S16x2048x1x12x64 : Shape := ⟨5, ![16, 2048, 1, 12, 64]⟩
abbrev S16x2048x12x64 : Shape := ⟨4, ![16, 2048, 12, 64]⟩
abbrev S8 : Shape := ⟨1, ![8]⟩
abbrev S2048x1 : Shape := ⟨2, ![2048, 1]⟩
abbrev S1x8 : Shape := ⟨2, ![1, 8]⟩
abbrev S2048x8 : Shape := ⟨2, ![2048, 8]⟩
abbrev S1x2048x1x8 : Shape := ⟨4, ![1, 2048, 1, 8]⟩
abbrev S16x2048x12x16 : Shape := ⟨4, ![16, 2048, 12, 16]⟩
abbrev S16x2048x12x8 : Shape := ⟨4, ![16, 2048, 12, 8]⟩
abbrev S16x2048x12x48 : Shape := ⟨4, ![16, 2048, 12, 48]⟩

abbrev nBuf : Space → Nat
  | .hbm => 110
  | .vmem => 0
  | .smem => 0
  | _ => 0

abbrev bufTy : (tb : Table) → Fin (tcTables nBuf tb) → BufTy
  | .hbm, ⟨0, _⟩ => ⟨S16x2048x1024, .f32⟩
  | .hbm, ⟨1, _⟩ => ⟨S1x1024, .f32⟩
  | .hbm, ⟨2, _⟩ => ⟨S1x1024x4864, .f32⟩
  | .hbm, ⟨3, _⟩ => ⟨S2048, .f32⟩
  | .hbm, ⟨4, _⟩ => ⟨S1024, .f32⟩
  | .hbm, ⟨5, _⟩ => ⟨S16x2048x1024, .f32⟩
  | .hbm, ⟨6, _⟩ => ⟨S_, .f32⟩
  | .hbm, ⟨7, _⟩ => ⟨S16x2048, .f32⟩
  | .hbm, ⟨8, _⟩ => ⟨S16x2048x1, .f32⟩
  | .hbm, ⟨9, _⟩ => ⟨S_, .f32⟩
  | .hbm, ⟨10, _⟩ => ⟨S16x2048x1, .f32⟩
  | .hbm, ⟨11, _⟩ => ⟨S16x2048x1, .f32⟩
  | .hbm, ⟨12, _⟩ => ⟨S_, .f32⟩
  | .hbm, ⟨13, _⟩ => ⟨S16x2048x1, .f32⟩
  | .hbm, ⟨14, _⟩ => ⟨S16x2048x1, .f32⟩
  | .hbm, ⟨15, _⟩ => ⟨S16x2048x1, .f32⟩
  | .hbm, ⟨16, _⟩ => ⟨S16x2048x1024, .f32⟩
  | .hbm, ⟨17, _⟩ => ⟨S16x2048x1024, .f32⟩
  | .hbm, ⟨18, _⟩ => ⟨S1x1x1024, .f32⟩
  | .hbm, ⟨19, _⟩ => ⟨S16x2048x1024, .f32⟩
  | .hbm, ⟨20, _⟩ => ⟨S16x2048x1024, .f32⟩
  | .hbm, ⟨21, _⟩ => ⟨S1024x4864, .f32⟩
  | .hbm, ⟨22, _⟩ => ⟨S16x2048x4864, .f32⟩
  | .hbm, ⟨23, _⟩ => ⟨S16x2048x2304, .f32⟩
  | .hbm, ⟨24, _⟩ => ⟨S16x2048x3x12x64, .f32⟩
  | .hbm, ⟨25, _⟩ => ⟨S16x2048x512, .f32⟩
  | .hbm, ⟨26, _⟩ => ⟨S16x2048x1x12x64, .f32⟩
  | .hbm, ⟨27, _⟩ => ⟨S16x2048x12x64, .f32⟩
  | .hbm, ⟨28, _⟩ => ⟨S8, .f32⟩
  | .hbm, ⟨29, _⟩ => ⟨S8, .f32⟩
  | .hbm, ⟨30, _⟩ => ⟨S_, .f32⟩
  | .hbm, ⟨31, _⟩ => ⟨S8, .f32⟩
  | .hbm, ⟨32, _⟩ => ⟨S8, .f32⟩
  | .hbm, ⟨33, _⟩ => ⟨S_, .f32⟩
  | .hbm, ⟨34, _⟩ => ⟨S8, .f32⟩
  | .hbm, ⟨35, _⟩ => ⟨S8, .f32⟩
  | .hbm, ⟨36, _⟩ => ⟨S_, .f32⟩
  | .hbm, ⟨37, _⟩ => ⟨S8, .f32⟩
  | .hbm, ⟨38, _⟩ => ⟨S8, .f32⟩
  | .hbm, ⟨39, _⟩ => ⟨S2048x1, .f32⟩
  | .hbm, ⟨40, _⟩ => ⟨S1x8, .f32⟩
  | .hbm, ⟨41, _⟩ => ⟨S2048x8, .f32⟩
  | .hbm, ⟨42, _⟩ => ⟨S2048x8, .f32⟩
  | .hbm, ⟨43, _⟩ => ⟨S2048x8, .f32⟩
  | .hbm, ⟨44, _⟩ => ⟨S2048x8, .f32⟩
  | .hbm, ⟨45, _⟩ => ⟨S1x2048x1x8, .f32⟩
  | .hbm, ⟨46, _⟩ => ⟨S2048x8, .f32⟩
  | .hbm, ⟨47, _⟩ => ⟨S1x2048x1x8, .f32⟩
  | .hbm, ⟨48, _⟩ => ⟨S16x2048x12x16, .f32⟩
  | .hbm, ⟨49, _⟩ => ⟨S16x2048x12x8, .f32⟩
  | .hbm, ⟨50, _⟩ => ⟨S16x2048x12x8, .f32⟩
  | .hbm, ⟨51, _⟩ => ⟨S16x2048x12x8, .f32⟩
  | .hbm, ⟨52, _⟩ => ⟨S16x2048x12x8, .f32⟩
  | .hbm, ⟨53, _⟩ => ⟨S16x2048x12x8, .f32⟩
  | .hbm, ⟨54, _⟩ => ⟨S16x2048x12x8, .f32⟩
  | .hbm, ⟨55, _⟩ => ⟨S16x2048x12x8, .f32⟩
  | .hbm, ⟨56, _⟩ => ⟨S16x2048x12x8, .f32⟩
  | .hbm, ⟨57, _⟩ => ⟨S16x2048x12x8, .f32⟩
  | .hbm, ⟨58, _⟩ => ⟨S16x2048x12x8, .f32⟩
  | .hbm, ⟨59, _⟩ => ⟨S16x2048x12x8, .f32⟩
  | .hbm, ⟨60, _⟩ => ⟨S16x2048x12x8, .f32⟩
  | .hbm, ⟨61, _⟩ => ⟨S16x2048x12x16, .f32⟩
  | .hbm, ⟨62, _⟩ => ⟨S16x2048x12x48, .f32⟩
  | .hbm, ⟨63, _⟩ => ⟨S16x2048x12x64, .f32⟩
  | .hbm, ⟨64, _⟩ => ⟨S16x2048x1x12x64, .f32⟩
  | .hbm, ⟨65, _⟩ => ⟨S16x2048x12x64, .f32⟩
  | .hbm, ⟨66, _⟩ => ⟨S8, .f32⟩
  | .hbm, ⟨67, _⟩ => ⟨S8, .f32⟩
  | .hbm, ⟨68, _⟩ => ⟨S_, .f32⟩
  | .hbm, ⟨69, _⟩ => ⟨S8, .f32⟩
  | .hbm, ⟨70, _⟩ => ⟨S8, .f32⟩
  | .hbm, ⟨71, _⟩ => ⟨S_, .f32⟩
  | .hbm, ⟨72, _⟩ => ⟨S8, .f32⟩
  | .hbm, ⟨73, _⟩ => ⟨S8, .f32⟩
  | .hbm, ⟨74, _⟩ => ⟨S_, .f32⟩
  | .hbm, ⟨75, _⟩ => ⟨S8, .f32⟩
  | .hbm, ⟨76, _⟩ => ⟨S8, .f32⟩
  | .hbm, ⟨77, _⟩ => ⟨S2048x1, .f32⟩
  | .hbm, ⟨78, _⟩ => ⟨S1x8, .f32⟩
  | .hbm, ⟨79, _⟩ => ⟨S2048x8, .f32⟩
  | .hbm, ⟨80, _⟩ => ⟨S2048x8, .f32⟩
  | .hbm, ⟨81, _⟩ => ⟨S2048x8, .f32⟩
  | .hbm, ⟨82, _⟩ => ⟨S2048x8, .f32⟩
  | .hbm, ⟨83, _⟩ => ⟨S1x2048x1x8, .f32⟩
  | .hbm, ⟨84, _⟩ => ⟨S2048x8, .f32⟩
  | .hbm, ⟨85, _⟩ => ⟨S1x2048x1x8, .f32⟩
  | .hbm, ⟨86, _⟩ => ⟨S16x2048x12x16, .f32⟩
  | .hbm, ⟨87, _⟩ => ⟨S16x2048x12x8, .f32⟩
  | .hbm, ⟨88, _⟩ => ⟨S16x2048x12x8, .f32⟩
  | .hbm, ⟨89, _⟩ => ⟨S16x2048x12x8, .f32⟩
  | .hbm, ⟨90, _⟩ => ⟨S16x2048x12x8, .f32⟩
  | .hbm, ⟨91, _⟩ => ⟨S16x2048x12x8, .f32⟩
  | .hbm, ⟨92, _⟩ => ⟨S16x2048x12x8, .f32⟩
  | .hbm, ⟨93, _⟩ => ⟨S16x2048x12x8, .f32⟩
  | .hbm, ⟨94, _⟩ => ⟨S16x2048x12x8, .f32⟩
  | .hbm, ⟨95, _⟩ => ⟨S16x2048x12x8, .f32⟩
  | .hbm, ⟨96, _⟩ => ⟨S16x2048x12x8, .f32⟩
  | .hbm, ⟨97, _⟩ => ⟨S16x2048x12x8, .f32⟩
  | .hbm, ⟨98, _⟩ => ⟨S16x2048x12x8, .f32⟩
  | .hbm, ⟨99, _⟩ => ⟨S16x2048x12x16, .f32⟩
  | .hbm, ⟨100, _⟩ => ⟨S16x2048x12x48, .f32⟩
  | .hbm, ⟨101, _⟩ => ⟨S16x2048x12x64, .f32⟩
  | .hbm, ⟨102, _⟩ => ⟨S16x2048x1x12x64, .f32⟩
  | .hbm, ⟨103, _⟩ => ⟨S16x2048x12x64, .f32⟩
  | .hbm, ⟨104, _⟩ => ⟨S16x2048x1x12x64, .f32⟩
  | .hbm, ⟨105, _⟩ => ⟨S16x2048x1x12x64, .f32⟩
  | .hbm, ⟨106, _⟩ => ⟨S16x2048x1x12x64, .f32⟩
  | .hbm, ⟨107, _⟩ => ⟨S16x2048x3x12x64, .f32⟩
  | .hbm, ⟨108, _⟩ => ⟨S16x2048x2304, .f32⟩
  | .hbm, ⟨109, _⟩ => ⟨S16x2048x2304, .bf16⟩
  | _, _ => ⟨S16x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_cst_2 : Ref sig .tc := ⟨.hbm, 30, rfl⟩
abbrev main_v24 : Ref sig .tc := ⟨.hbm, 31, rfl⟩
abbrev main_v25 : Ref sig .tc := ⟨.hbm, 32, rfl⟩
abbrev main_cst_3 : Ref sig .tc := ⟨.hbm, 33, rfl⟩
abbrev main_v26 : Ref sig .tc := ⟨.hbm, 34, rfl⟩
abbrev main_v27 : Ref sig .tc := ⟨.hbm, 35, rfl⟩
abbrev main_cst_4 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_v52 : Ref sig .tc := ⟨.hbm, 61, rfl⟩
abbrev main_v53 : Ref sig .tc := ⟨.hbm, 62, rfl⟩
abbrev main_v54 : Ref sig .tc := ⟨.hbm, 63, rfl⟩
abbrev main_v55 : Ref sig .tc := ⟨.hbm, 64, rfl⟩
abbrev main_v56 : Ref sig .tc := ⟨.hbm, 65, rfl⟩
abbrev main_v57 : Ref sig .tc := ⟨.hbm, 66, rfl⟩
abbrev main_v58 : Ref sig .tc := ⟨.hbm, 67, rfl⟩
abbrev main_cst_5 : Ref sig .tc := ⟨.hbm, 68, rfl⟩
abbrev main_v59 : Ref sig .tc := ⟨.hbm, 69, rfl⟩
abbrev main_v60 : Ref sig .tc := ⟨.hbm, 70, rfl⟩
abbrev main_cst_6 : Ref sig .tc := ⟨.hbm, 71, rfl⟩
abbrev main_v61 : Ref sig .tc := ⟨.hbm, 72, rfl⟩
abbrev main_v62 : Ref sig .tc := ⟨.hbm, 73, rfl⟩
abbrev main_cst_7 : Ref sig .tc := ⟨.hbm, 74, rfl⟩
abbrev main_v63 : Ref sig .tc := ⟨.hbm, 75, rfl⟩
abbrev main_v64 : Ref sig .tc := ⟨.hbm, 76, rfl⟩
abbrev main_v65 : Ref sig .tc := ⟨.hbm, 77, rfl⟩
abbrev main_v66 : Ref sig .tc := ⟨.hbm, 78, rfl⟩
abbrev main_v67 : Ref sig .tc := ⟨.hbm, 79, rfl⟩
abbrev main_v68 : Ref sig .tc := ⟨.hbm, 80, rfl⟩
abbrev main_v69 : Ref sig .tc := ⟨.hbm, 81, rfl⟩
abbrev main_v70 : Ref sig .tc := ⟨.hbm, 82, rfl⟩
abbrev main_v71 : Ref sig .tc := ⟨.hbm, 83, rfl⟩
abbrev main_v72 : Ref sig .tc := ⟨.hbm, 84, rfl⟩
abbrev main_v73 : Ref sig .tc := ⟨.hbm, 85, rfl⟩
abbrev main_v74 : Ref sig .tc := ⟨.hbm, 86, rfl⟩
abbrev main_v75 : Ref sig .tc := ⟨.hbm, 87, rfl⟩
abbrev main_v76 : Ref sig .tc := ⟨.hbm, 88, rfl⟩
abbrev main_v77 : Ref sig .tc := ⟨.hbm, 89, rfl⟩
abbrev main_v78 : Ref sig .tc := ⟨.hbm, 90, rfl⟩
abbrev main_v79 : Ref sig .tc := ⟨.hbm, 91, rfl⟩
abbrev main_v80 : Ref sig .tc := ⟨.hbm, 92, rfl⟩
abbrev main_v81 : Ref sig .tc := ⟨.hbm, 93, rfl⟩
abbrev main_v82 : Ref sig .tc := ⟨.hbm, 94, rfl⟩
abbrev main_v83 : Ref sig .tc := ⟨.hbm, 95, rfl⟩
abbrev main_v84 : Ref sig .tc := ⟨.hbm, 96, rfl⟩
abbrev main_v85 : Ref sig .tc := ⟨.hbm, 97, rfl⟩
abbrev main_v86 : Ref sig .tc := ⟨.hbm, 98, rfl⟩
abbrev main_v87 : Ref sig .tc := ⟨.hbm, 99, rfl⟩
abbrev main_v88 : Ref sig .tc := ⟨.hbm, 100, rfl⟩
abbrev main_v89 : Ref sig .tc := ⟨.hbm, 101, rfl⟩
abbrev main_v90 : Ref sig .tc := ⟨.hbm, 102, rfl⟩
abbrev main_v91 : Ref sig .tc := ⟨.hbm, 103, rfl⟩
abbrev main_v92 : Ref sig .tc := ⟨.hbm, 104, rfl⟩
abbrev main_v93 : Ref sig .tc := ⟨.hbm, 105, rfl⟩
abbrev main_v94 : Ref sig .tc := ⟨.hbm, 106, rfl⟩
abbrev main_v95 : Ref sig .tc := ⟨.hbm, 107, rfl⟩
abbrev main_v96 : Ref sig .tc := ⟨.hbm, 108, rfl⟩
abbrev main_v97 : Ref sig .tc := ⟨.hbm, 109, rfl⟩

abbrev nD : Nat := 1
abbrev τ : Topo := Topo.v7x

variable {F : FTy → Type} [FloatOps F]
-- ==== Proof.RowMath.lean ====
/- The arithmetic of one token's row, over the extended reals: the functions both the kernel's blocks and the reference's
   arrays are read as. -/
module

public import Idealize.ShloMosaic.Lib.ValueIdx
public import Idealize.ShloMosaic.PureOps.Ideal.Laws

@[expose] public section

noncomputable section

namespace Cert.Rows

open Idealize.ShloMosaic

/-- Root-mean-square normalisation of a row of 1024 with a gain row, at one coordinate. -/
def rms (x g : Fin 1024 → EReal) (j : Fin 1024) : EReal :=
  x j * Ideal.rsqrt (Ideal.div (∑ k, x k * x k) (Ideal.ofBits FTy.f32 0x44800000#32) + Ideal.ofBits FTy.f32 0x358637BD#32) * g j

/-- A row times a matrix, at one column. -/
def lin {n m : Nat} (x : Fin n → EReal) (w : Fin n → Fin m → EReal) (j : Fin m) : EReal := ∑ k, x k * w k j

/-- The gated hidden layer: `silu(x·wg) · (x·wu)`, at one hidden coordinate. -/
def gated {n m : Nat} (x : Fin n → EReal) (wg wu : Fin n → Fin m → EReal) (j : Fin m) : EReal :=
  lin x wg j * Ideal.logistic (lin x wg j) * lin x wu j

/-- A row with its feed-forward update added. -/
def updated (x g : Fin 1024 → EReal) (wg wu : Fin 1024 → Fin 2816 → EReal) (wd : Fin 2816 → Fin 1024 → EReal) (j : Fin 1024) : EReal :=
  x j + lin (gated (rms x g) wg wu) wd j

/-- The feed-forward call on a row: the updated row, normalised with the final gain. -/
def ffnRow (x g gf : Fin 1024 → EReal) (wg wu : Fin 1024 → Fin 2816 → EReal) (wd : Fin 2816 → Fin 1024 → EReal) (j : Fin 1024) : EReal :=
  rms (updated x g wg wu wd) gf j

/-- The two branches' gates on a row: the first 1024 are the attention's, the others the state-space branch's. -/
def gateRow (x g : Fin 1024 → EReal) (wg : Fin 1024 → Fin 2048 → EReal) (j : Fin 2048) : EReal := Ideal.logistic (lin (rms x g) wg j)

/-- The state-space branch's output on a row: a gated linear unit. -/
def ssmRow (y : Fin 512 → EReal) (wglu : Fin 512 → Fin 2048 → EReal) (j : Fin 1024) : EReal :=
  lin y wglu ⟨j.val, by omega⟩ * Ideal.logistic (lin y wglu ⟨1024 + j.val, by omega⟩)

/-- The two branches, gated and added. -/
def mergedRow (x g : Fin 1024 → EReal) (wg : Fin 1024 → Fin 2048 → EReal) (a : Fin 256 → EReal) (wa : Fin 256 → Fin 1024 → EReal)
    (y : Fin 512 → EReal) (wglu : Fin 512 → Fin 2048 → EReal) (j : Fin 1024) : EReal :=
  gateRow x g wg ⟨j.val, by omega⟩ * lin a wa j + gateRow x g wg ⟨1024 + j.val, by omega⟩ * ssmRow y wglu j

/-- The mixing call on a row: the merged branches, projected and added to the token. -/
def mixRow (x g : Fin 1024 → EReal) (wg : Fin 1024 → Fin 2048 → EReal) (a : Fin 256 → EReal) (wa : Fin 256 → Fin 1024 → EReal)
    (y : Fin 512 → EReal) (wglu : Fin 512 → Fin 2048 → EReal) (wo : Fin 1024 → Fin 1024 → EReal) (j : Fin 1024) : EReal :=
  x j + lin (mergedRow x g wg a wa y wglu) wo j

end Cert.Rows

end
-- ==== Proof.FfnSlab.lean ====
/- The feed-forward call, one slab of 256 rows: the computation the kernel repeats for each of the four slabs of a block,
   written once over whole vectors, and what it is worth at an index over the extended reals. -/
module

public import proofs.«01_k».proof.Proof.Gen.KernelIdeal.Frame
public import proofs.«01_k».proof.Proof.RowMath
public import Idealize.ShloMosaic.Lib.Pipeline.Value
public import Idealize.ShloMosaic.Lib.ValueIdx
public import Idealize.ShloMosaic.Lib.Pointwise
public import Idealize.ShloMosaic.PureOps.Ideal.Laws

@[expose] public section

set_option synthInstance.maxSize 4096

noncomputable section

namespace Cert.Ffn

open Cert.KernelIdeal Cert.KernelIdeal.Gen Idealize.ShloMosaic Idealize.SL.Sem

section Terms

variable {F : FTy → Type} [FloatOps F]

/-- Root-mean-square normalisation of 256 rows, scaled by a gain row. -/
def normVec (x : FVec F S256x1024 .f32) (g : FVec F S1x1024 .f32) : FVec F S256x1024 .f32 :=
  mulf (mulf x (broadcastTo S256x1024 (rsqrt (addf (divf (shapeCast S256x1
    (multiReduction .add [1] S256 (mulf x x) 0x00000000#32 reduces_S256x1024_S256 (.inl rfl) rfl) shapeCasts_S256_S256x1)
    (broadcast S256x1 (Scalar.ofBits .f32 0x44800000#32))) (broadcast S256x1 (Scalar.ofBits .f32 0x358637BD#32))))
    broadcasts_S256x1_S256x1024)) (broadcastTo S256x1024 g broadcasts_S1x1024_S256x1024)

/-- The gated hidden activations of 256 normalised rows. -/
def hidVec (h : FVec F S256x1024 .f32) (wg wu : FVec F S1024x2816 .bf16) : FVec F S256x2816 .f32 :=
  mulf (mulf (matmul dot_S256x1024_S1024x2816_S256x2816_1_0_0_1_n_n none (truncf .bf16 h bitsLt_bf16_f32) wg (constant S256x2816 .f32 0x00000000#32))
    (logistic (matmul dot_S256x1024_S1024x2816_S256x2816_1_0_0_1_n_n none (truncf .bf16 h bitsLt_bf16_f32) wg (constant S256x2816 .f32 0x00000000#32))))
    (matmul dot_S256x1024_S1024x2816_S256x2816_1_0_0_1_n_n none (truncf .bf16 h bitsLt_bf16_f32) wu (constant S256x2816 .f32 0x00000000#32))

/-- The rows with their feed-forward update added. -/
def updVec (x : FVec F S256x1024 .f32) (g : FVec F S1x1024 .f32) (wg wu : FVec F S1024x2816 .bf16) (wd : FVec F S2816x1024 .bf16) :
    FVec F S256x1024 .f32 :=
  addf x (matmul dot_S256x2816_S2816x1024_S256x1024_1_0_0_1_n_n none (truncf .bf16 (hidVec (normVec x g) wg wu) bitsLt_bf16_f32) wd
    (constant S256x1024 .f32 0x00000000#32))

/-- The whole slab: the final normalisation of the updated rows, from the blocks as they are loaded. -/
def slab (x : Vec F S1x256x1024 .f32) (g gf : Vec F S1x1024 .f32) (wg wu : Vec F S1024x2816 .bf16) (wd : Vec F S2816x1024 .bf16) :
    FVec F S1x256x1024 .f32 :=
  shapeCast S1x256x1024 (normVec (updVec (shapeCast S256x1024 x shapeCasts_S1x256x1024_S256x1024)
    (shapeCast S1x1024 g shapeCasts_S1x1024_S1x1024) (shapeCast S1024x2816 wg shapeCasts_S1024x2816_S1024x2816)
    (shapeCast S1024x2816 wu shapeCasts_S1024x2816_S1024x2816) (shapeCast S2816x1024 wd shapeCasts_S2816x1024_S2816x1024))
    (shapeCast S1x1024 gf shapeCasts_S1x1024_S1x1024)) shapeCasts_S256x1024_S1x256x1024

/-- What the kernel stores in the first slab. -/
theorem slab_one (x : Vec F S1x256x1024 .f32) (g gf : Vec F S1x1024 .f32) (wg wu : Vec F S1024x2816 .bf16) (wd : Vec F S2816x1024 .bf16) :
    k0_pay6 (k0_pay2 x g wg wu wd) (k0_pay3 gf) (k0_pay4 x g wg wu wd) (k0_pay5 (F := F)) = slab x g gf wg wu wd := rfl

/-- What the kernel stores in the second slab. -/
theorem slab_two (x : Vec F S1x256x1024 .f32) (g gf : Vec F S1x1024 .f32) (wg wu : Vec F S1024x2816 .bf16) (wd : Vec F S2816x1024 .bf16) :
    k0_pay9 (k0_pay7 x) (k0_pay8 x g wg wu) wd gf = slab x g gf wg wu wd := rfl

/-- What the kernel stores in the third slab. -/
theorem slab_three (x : Vec F S1x256x1024 .f32) (g gf : Vec F S1x1024 .f32) (wg wu : Vec F S1024x2816 .bf16) (wd : Vec F S2816x1024 .bf16) :
    k0_pay13 (k0_pay10 x) (k0_pay11 x g) (k0_pay12 wg) (constant S256x2816 .f32 0x00000000#32) wu wd gf = slab x g gf wg wu wd := rfl

/-- What the kernel stores in the fourth slab. -/
theorem slab_four (x : Vec F S1x256x1024 .f32) (g gf : Vec F S1x1024 .f32) (wg wu : Vec F S1024x2816 .bf16) (wd : Vec F S2816x1024 .bf16) :
    k0_pay1 (k0_pay17 (k0_pay14 x) (k0_pay15 g) (k0_pay16 x) wg wu wd gf) = slab x g gf wg wu wd := rfl

end Terms

/-- The normalised rows at an index. -/
theorem normVec_at (x : Vec Ideal S256x1024 .f32) (g : Vec Ideal S1x1024 .f32) (r : Fin 256) (j : Fin 1024) :
    normVec (F := Ideal) x g (ix2 r j) = Rows.rms (fun k => x (ix2 r k)) (fun k => g (ix2 0 k)) j := by
  unfold normVec; pointwise; rfl

/-- The hidden activations at an index. -/
theorem hidVec_at (h : Vec Ideal S256x1024 .f32) (wg wu : Vec Ideal S1024x2816 .bf16) (r : Fin 256) (j : Fin 2816) :
    hidVec (F := Ideal) h wg wu (ix2 r j) = Rows.gated (fun k => h (ix2 r k)) (fun k l => wg (ix2 k l)) (fun k l => wu (ix2 k l)) j := by
  unfold hidVec; pointwise [dot_S256x1024_S1024x2816_S256x2816_1_0_0_1_n_n]; rfl

/-- The updated rows at an index. -/
theorem updVec_at (x : Vec Ideal S256x1024 .f32) (g : Vec Ideal S1x1024 .f32) (wg wu : Vec Ideal S1024x2816 .bf16)
    (wd : Vec Ideal S2816x1024 .bf16) (r : Fin 256) (j : Fin 1024) :
    updVec (F := Ideal) x g wg wu wd (ix2 r j) = Rows.updated (fun k => x (ix2 r k)) (fun k => g (ix2 0 k)) (fun k l => wg (ix2 k l))
      (fun k l => wu (ix2 k l)) (fun k l => wd (ix2 k l)) j := by
  unfold updVec; pointwise [dot_S256x2816_S2816x1024_S256x1024_1_0_0_1_n_n, hidVec_at, normVec_at]; rfl

/-- The slab at an index: row `r` of it is the feed-forward call of row `r` of what was loaded. -/
theorem slab_at (x : Vec Ideal S1x256x1024 .f32) (g gf : Vec Ideal S1x1024 .f32) (wg wu : Vec Ideal S1024x2816 .bf16)
    (wd : Vec Ideal S2816x1024 .bf16) (a : Fin 1) (r : Fin 256) (j : Fin 1024) :
    slab (F := Ideal) x g gf wg wu wd (ix3 a r j) = Rows.ffnRow (fun k => x (ix3 0 r k)) (fun k => g (ix2 0 k)) (fun k => gf (ix2 0 k))
      (fun k l => wg (ix2 k l)) (fun k l => wu (ix2 k l)) (fun k l => wd (ix2 k l)) j := by
  unfold slab; pointwise [normVec_at, updVec_at, shapeCast_self]; rfl

/-- The rectangle at zero offsets. -/
theorem zeros_two : (![0, 0] : Fin 2 → Nat) = fun _ => 0 := by decide

/-- What a whole output block should hold: every row is the feed-forward call of that row of the input block. -/
def rowsOf (x0 : Vec Ideal S1x1024x1024 .f32) (x1 x2 : Vec Ideal S1x1024 .f32) (x3 x4 : Vec Ideal S1024x2816 .bf16)
    (x5 : Vec Ideal S2816x1024 .bf16) : Vec Ideal S1x1024x1024 .f32 := fun z =>
  Rows.ffnRow (fun k => x0 (ix3 0 (z 1) k)) (fun k => x1 (ix2 0 k)) (fun k => x2 (ix2 0 k))
    (fun k l => x3 (ix2 k l)) (fun k l => x4 (ix2 k l)) (fun k l => x5 (ix2 k l)) (z 2)

/-- The slab of a block's rows from row `o` on is those rows of `rowsOf`. -/
theorem slab_ld (o : Nat) (h : ∀ a, (![0, o, 0] : Fin 3 → Nat) a + S1x256x1024.size a ≤ S1x1024x1024.size a)
    (x0 : Vec Ideal S1x1024x1024 .f32) (x1 x2 : Vec Ideal S1x1024 .f32) (x3 x4 : Vec Ideal S1024x2816 .bf16)
    (x5 : Vec Ideal S2816x1024 .bf16) (y : S1x256x1024.Idx) :
    slab (F := Ideal) (View.ld x0 (Rect.unit (s := S1x1024x1024) ![0, o, 0] S1x256x1024.size h)) (View.ld x1 r0_1)
      (View.ld x2 r0_1) (View.ld x3 r0_2)
      (View.ld x4 r0_2) (View.ld x5 r0_3) y =
    rowsOf x0 x1 x2 x3 x4 x5 ((Rect.unit (s := S1x1024x1024) ![0, o, 0] S1x256x1024.size h).emb y) := by
  rw [eq_ix3 y]
  rw [View.ld_unit_zero zeros_two, View.ld_unit_zero zeros_two, View.ld_unit_zero zeros_two, View.ld_unit_zero zeros_two, View.ld_unit_zero zeros_two]
  refine (slab_at _ _ _ _ _ _ _ _ _).trans ?_
  unfold rowsOf
  congr 1
  · funext k
    refine congrArg x0 (funext fun a => Fin.ext ?_)
    match a with
    | ⟨0, _⟩ => rfl
    | ⟨1, _⟩ => rfl
    | ⟨2, _⟩ => show 0 + 1 * k.val = k.val; omega
  · refine Fin.ext ?_
    show _ = 0 + 1 * (y 2).val
    rw [Nat.one_mul, Nat.zero_add]

/-- What the body leaves in the output block. -/
theorem out_at (x0 : Vec Ideal S1x1024x1024 .f32) (x1 x2 : Vec Ideal S1x1024 .f32) (x3 x4 : Vec Ideal S1024x2816 .bf16)
    (x5 : Vec Ideal S2816x1024 .bf16) (y : S1x1024x1024.Idx) :
    out0_6 (F := Ideal) x0 x1 x2 x3 x4 x5 y = rowsOf x0 x1 x2 x3 x4 x5 y := by
  unfold out0_6
  rw [slab_one, slab_two, slab_three, slab_four]
  refine View.canon_apply_of_pieces (rowsOf x0 x1 x2 x3 x4 x5) _ ?_ y (cover0_6 _ _ _ _ y)
  simp only [List.forall_mem_cons, List.not_mem_nil, false_imp_iff, implies_true, and_true]
  exact ⟨slab_ld 768 _ x0 x1 x2 x3 x4 x5, slab_ld 512 _ x0 x1 x2 x3 x4 x5, slab_ld 256 _ x0 x1 x2 x3 x4 x5, slab_ld 0 _ x0 x1 x2 x3 x4 x5⟩

end Cert.Ffn

end
-- ==== Proof.FfnArray.lean ====
/- The feed-forward call, its result array: what the blocks written back make of the whole array, as a function of the
   arguments over the extended reals. -/
module

public import proofs.«01_k».proof.Proof.FfnSlab
public import proofs.«01_k».proof.Proof.Gen.KernelIdeal.Value

@[expose] public section

set_option synthInstance.maxSize 4096

noncomputable section

namespace Cert.Ffn

open Cert.KernelIdeal Cert.KernelIdeal.Gen Cert.KernelIdeal.Value Idealize.ShloMosaic Idealize.ShloMosaic.TcCoe Idealize.SL.Sem

/-- The result array as one function of the arguments: each token's row through the feed-forward call. -/
def G (x : Vec Ideal S16x2048x1024 .f32) (g : Vec Ideal S1x1024 .f32) (gf : Vec Ideal S1024 .f32) (wg wu : Vec Ideal S1x1024x2816 .f32)
    (wd : Vec Ideal S1x2816x1024 .f32) : Vec Ideal S16x2048x1024 .f32 := fun i =>
  Rows.ffnRow (fun k => x (ix3 (i 0) (i 1) k)) (fun k => g (ix2 0 k)) (fun k => gf (ix1 k))
    (fun k l => wg (ix3 0 k l)) (fun k l => wu (ix3 0 k l)) (fun k l => wd (ix3 0 k l)) (i 2)

variable (m : (ℓ : Loc nD τ sig) → Buf (Elt Ideal) ℓ)

/-- The gain row the call is handed. -/
theorem V_g2 (c : Dev nD) : V m c main_v1 = shapeCast S1x1024 (shapeCast S1024 (m ((c : Thread nD τ).loc main_arg1)) shapeCasts_S1x1024_S1024) shapeCasts_S1024_S1x1024 := by
  unfold_abbrev_sides
  after_results
  rfl

theorem V_gf (c : Dev nD) : V m c main_v2 = shapeCast S1x1024 (m ((c : Thread nD τ).loc main_arg2)) shapeCasts_S1024_S1x1024 := by
  unfold_abbrev_sides
  after_results
  rfl

theorem V_wg (c : Dev nD) : V m c main_v4 = truncf .bf16 (shapeCast S1024x2816 (m ((c : Thread nD τ).loc main_arg3)) shapeCasts_S1x1024x2816_S1024x2816 : FVec Ideal S1024x2816 .f32) bitsLt_bf16_f32 := by
  unfold_abbrev_sides
  after_results
  rfl

theorem V_wu (c : Dev nD) : V m c main_v6 = truncf .bf16 (shapeCast S1024x2816 (m ((c : Thread nD τ).loc main_arg4)) shapeCasts_S1x1024x2816_S1024x2816 : FVec Ideal S1024x2816 .f32) bitsLt_bf16_f32 := by
  unfold_abbrev_sides
  after_results
  rfl

theorem V_wd (c : Dev nD) : V m c main_v8 = truncf .bf16 (shapeCast S2816x1024 (m ((c : Thread nD τ).loc main_arg5)) shapeCasts_S1x2816x1024_S2816x1024 : FVec Ideal S2816x1024 .f32) bitsLt_bf16_f32 := by
  unfold_abbrev_sides
  after_results
  rfl

/-- A weight matrix as the call is handed it, at an index. -/
theorem up_cast (w : Vec Ideal S1x1024x2816 .f32) (k : Fin 1024) (l : Fin 2816) :
    truncf (F := Ideal) .bf16 (shapeCast S1024x2816 w shapeCasts_S1x1024x2816_S1024x2816 : FVec Ideal S1024x2816 .f32) bitsLt_bf16_f32 (ix2 k l) = w (ix3 0 k l) := by
  pointwise

/-- The other weight matrix as the call is handed it, at an index. -/
theorem down_cast (w : Vec Ideal S1x2816x1024 .f32) (k : Fin 2816) (l : Fin 1024) :
    truncf (F := Ideal) .bf16 (shapeCast S2816x1024 w shapeCasts_S1x2816x1024_S2816x1024 : FVec Ideal S2816x1024 .f32) bitsLt_bf16_f32 (ix2 k l) = w (ix3 0 k l) := by
  pointwise

/-- The input's and the output's block at a point are at the same place. -/
theorem idx_same : ∀ t : Fin cfg0.N, win0_0.index t = win0_6.index t ∧ win0_6.index t (2 : Fin 3) = 0 :=
  (by decide +kernel : ∀ t : Fin grid0.N, _)

/-- The whole-array windows are at block zero. -/
theorem idx_zero : ∀ t : Fin cfg0.N, win0_1.index t = ![0, 0] ∧ win0_2.index t = ![0, 0] ∧ win0_3.index t = ![0, 0] ∧ win0_4.index t = ![0, 0] ∧ win0_5.index t = ![0, 0] :=
  (by decide +kernel : ∀ t : Fin grid0.N, _)

theorem iblk1_eq (c : Dev nD) (t : Fin cfg0.N) : iblk m c 1 t = V m c main_v1 := by
  obtain ⟨e, -⟩ := idx_zero t
  funext j; show V m c main_v1 (((cfg0.win 1).blk t).view.emb j) = V m c main_v1 j
  refine congrArg _ (funext fun a => Fin.ext ?_)
  match a with
  | ⟨0, _⟩ => show win0_1.index t (0 : Fin 2) * 1 + 1 * (j 0).val = (j 0).val; rw [e]; simp
  | ⟨1, _⟩ => show win0_1.index t (1 : Fin 2) * 1024 + 1 * (j 1).val = (j 1).val; rw [e]; simp

theorem iblk2_eq (c : Dev nD) (t : Fin cfg0.N) : iblk m c 2 t = V m c main_v2 := by
  obtain ⟨-, e, -⟩ := idx_zero t
  funext j; show V m c main_v2 (((cfg0.win 2).blk t).view.emb j) = V m c main_v2 j
  refine congrArg _ (funext fun a => Fin.ext ?_)
  match a with
  | ⟨0, _⟩ => show win0_2.index t (0 : Fin 2) * 1 + 1 * (j 0).val = (j 0).val; rw [e]; simp
  | ⟨1, _⟩ => show win0_2.index t (1 : Fin 2) * 1024 + 1 * (j 1).val = (j 1).val; rw [e]; simp

theorem iblk3_eq (c : Dev nD) (t : Fin cfg0.N) : iblk m c 3 t = V m c main_v4 := by
  obtain ⟨-, -, e, -⟩ := idx_zero t
  funext j; show V m c main_v4 (((cfg0.win 3).blk t).view.emb j) = V m c main_v4 j
  refine congrArg _ (funext fun a => Fin.ext ?_)
  match a with
  | ⟨0, _⟩ => show win0_3.index t (0 : Fin 2) * 1024 + 1 * (j 0).val = (j 0).val; rw [e]; simp
  | ⟨1, _⟩ => show win0_3.index t (1 : Fin 2) * 2816 + 1 * (j 1).val = (j 1).val; rw [e]; simp

theorem iblk4_eq (c : Dev nD) (t : Fin cfg0.N) : iblk m c 4 t = V m c main_v6 := by
  obtain ⟨-, -, -, e, -⟩ := idx_zero t
  funext j; show V m c main_v6 (((cfg0.win 4).blk t).view.emb j) = V m c main_v6 j
  refine congrArg _ (funext fun a => Fin.ext ?_)
  match a with
  | ⟨0, _⟩ => show win0_4.index t (0 : Fin 2) * 1024 + 1 * (j 0).val = (j 0).val; rw [e]; simp
  | ⟨1, _⟩ => show win0_4.index t (1 : Fin 2) * 2816 + 1 * (j 1).val = (j 1).val; rw [e]; simp

theorem iblk5_eq (c : Dev nD) (t : Fin cfg0.N) : iblk m c 5 t = V m c main_v8 := by
  obtain ⟨-, -, -, -, e⟩ := idx_zero t
  funext j; show V m c main_v8 (((cfg0.win 5).blk t).view.emb j) = V m c main_v8 j
  refine congrArg _ (funext fun a => Fin.ext ?_)
  match a with
  | ⟨0, _⟩ => show win0_5.index t (0 : Fin 2) * 2816 + 1 * (j 0).val = (j 0).val; rw [e]; simp
  | ⟨1, _⟩ => show win0_5.index t (1 : Fin 2) * 1024 + 1 * (j 1).val = (j 1).val; rw [e]; simp

/-- The function the array ends at, with the arguments as this run finds them. -/
abbrev Gm (c : Dev nD) : Vec Ideal S16x2048x1024 .f32 :=
  G (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))

/-- The block the input window holds, at an index: the argument at the place of the output block's index. -/
theorem iblk0_at (c : Dev nD) (t : Fin cfg0.N) (y : S1x1024x1024.Idx) (k : Fin 1024) :
    iblk m c 0 t (ix3 0 (y 1) k) =
      m ((c : Thread nD τ).loc main_arg0) (ix3 (((cfg0.win 6).blk t).view.emb y 0) (((cfg0.win 6).blk t).view.emb y 1) k) := by
  obtain ⟨e, -⟩ := idx_same t
  show V m c main_arg0 (((cfg0.win 0).blk t).view.emb (ix3 0 (y 1) k)) = _
  rw [V_main_arg0]
  have hy : (y 0).val = 0 := by have := (y 0).isLt; change (y 0).val < 1 at this; omega
  refine congrArg _ (funext fun a => Fin.ext ?_)
  match a with
  | ⟨0, _⟩ => show win0_0.index t (0 : Fin 3) * 1 + 1 * 0 = win0_6.index t (0 : Fin 3) * 1 + 1 * (y 0).val; rw [e, hy]
  | ⟨1, _⟩ => show win0_0.index t (1 : Fin 3) * 1024 + 1 * (y 1).val = win0_6.index t (1 : Fin 3) * 1024 + 1 * (y 1).val; rw [e]
  | ⟨2, _⟩ => show win0_0.index t (2 : Fin 3) * 1024 + 1 * k.val = k.val; rw [e, (idx_same t).2]; omega

/-- What a point writes back is its block of `G` of the arguments. -/
theorem flushed_eq (c : Dev nD) (t : Fin cfg0.N) :
    (dats m 0 c).flushed 6 t = ((cfg0.win 6).blk t).view.read (Elt Ideal) (Gm m c) := by
  rw [flushed6, iblk1_eq, iblk2_eq, iblk3_eq, iblk4_eq, iblk5_eq]
  funext y
  show out0_6 (F := Ideal) (iblk m c 0 t) (V m c main_v1) (V m c main_v2) (V m c main_v4) (V m c main_v6) (V m c main_v8) y = Gm m c (((cfg0.win 6).blk t).view.emb y)
  rw [out_at]
  unfold rowsOf Gm G
  have h2 : (((cfg0.win 6).blk t).view.emb y 2) = y 2 := Fin.ext (by
    show win0_6.index t (2 : Fin 3) * 1024 + 1 * (y 2).val = (y 2).val; rw [(idx_same t).2]; omega)
  rw [h2]
  congr 1
  · funext k; exact iblk0_at m c t y k
  · funext k; rw [V_g2]; pointwise
  · funext k; rw [V_gf]; pointwise
  · funext k l; rw [V_wg]; exact up_cast _ k l
  · funext k l; rw [V_wu]; exact up_cast _ k l
  · funext k l; rw [V_wd]; exact down_cast _ k l

/-- Every block of the result array is some point's. -/
theorem idx_onto : ∀ (p : Fin 16) (q : Fin 2), ∃ t : Fin cfg0.N, win0_6.index t (0 : Fin 3) = p.val ∧ win0_6.index t (1 : Fin 3) = q.val :=
  (by decide +kernel : ∀ (p : Fin 16) (q : Fin 2), ∃ t : Fin grid0.N, win0_6.index t (0 : Fin 3) = p.val ∧ win0_6.index t (1 : Fin 3) = q.val)

/-- Every index is in some point's block. -/
theorem covered (i : S16x2048x1024.Idx) :
    ∃ t : Fin cfg0.N, (cfg0.win 6).flush t = true ∧ i ∈ ((cfg0.win 6).blk t).view.set := by
  have h1 : (i 1).val < 2048 := (i 1).isLt
  have hq : (i 1).val / 1024 < 2 := by omega
  obtain ⟨t, e0, e1⟩ := idx_onto (i 0) ⟨(i 1).val / 1024, hq⟩
  have hr : (i 1).val % 1024 < 1024 := Nat.mod_lt _ (by decide)
  have hi : ((cfg0.win 6).blk t).view.emb (ix3 (0 : Fin 1) (⟨(i 1).val % 1024, hr⟩ : Fin 1024) (i 2 : Fin 1024) : S1x1024x1024.Idx) = i := by
    refine funext fun a => Fin.ext ?_
    match a with
    | ⟨0, _⟩ => show win0_6.index t (0 : Fin 3) * 1 + 1 * 0 = (i 0).val; rw [e0]; omega
    | ⟨1, _⟩ => show win0_6.index t (1 : Fin 3) * 1024 + 1 * ((i 1).val % 1024) = (i 1).val; rw [e1]; show (i 1).val / 1024 * 1024 + 1 * ((i 1).val % 1024) = (i 1).val; omega
    | ⟨2, _⟩ => show win0_6.index t (2 : Fin 3) * 1024 + 1 * (i 2).val = (i 2).val; rw [(idx_same t).2]; omega
  refine ⟨t, flush0_6 t, ?_⟩
  have h := ((cfg0.win 6).blk t).view.emb_mem_set (ix3 (0 : Fin 1) (⟨(i 1).val % 1024, hr⟩ : Fin 1024) (i 2 : Fin 1024) : S1x1024x1024.Idx)
  rwa [hi] at h

/-- The result array after the run. -/
theorem final (c : Dev nD) : (dats m 0 c).arrAt 6 cfg0.N = Gm m c :=
  (dats m 0 c).arrAt_eq_of_cover 6 (Gm m c) (fun t _ => flushed_eq m c t) covered

end Cert.Ffn

end
-- ==== Proof.FfnRef.lean ====
/- The feed-forward part of the reference, read at an index over the extended reals. -/
module

public import proofs.«01_k».proof.Proof.RowMath
public import proofs.«01_k».proof.Proof.Gen.ReferenceIdeal.Read
public import Idealize.ShloMosaic.Lib.Pointwise

@[expose] public section

noncomputable section

namespace Cert.Ffn.Ref

open Cert.ReferenceIdeal Cert.ReferenceIdeal.Gen Cert.ReferenceIdeal.Read Idealize.ShloMosaic Idealize.ShloMosaic.TcCoe Idealize.SL.Sem Idealize.ShloMosaic.StableHlo

variable (x0 : Vec Ideal S16x2048x1024 .f32) (x1 : Vec Ideal S1x1024 .f32) (x2 : Vec Ideal S1024 .f32) (x3 x4 : Vec Ideal S1x1024x2816 .f32)
  (x5 : Vec Ideal S1x2816x1024 .f32) (b : Fin 16) (r : Fin 2048)

/-- The normalised tokens. -/
theorem h2_at (j : Fin 1024) :
    val_main_v13 (F := Ideal) x0 x1 (ix3 b r j) = Rows.rms (fun k => x0 (ix3 b r k)) (fun k => x1 (ix2 0 k)) j := by
  unfold val_main_v13 val_main_v12 val_main_v11 val_main_v10 val_main_v9 val_main_v8 val_main_v7 val_main_v6 val_main_v5 val_main_v4 val_main_v3 val_main_v2 val_main_v1 val_main_v0 val_main_cst val_main_cst_0 val_main_cst_1
  pointwise; rfl

/-- The gate's products. -/
theorem gate_at (j : Fin 2816) :
    val_main_v15 (F := Ideal) x0 x1 x3 (ix3 b r j) = Rows.lin (Rows.rms (fun k => x0 (ix3 b r k)) (fun k => x1 (ix2 0 k))) (fun k l => x3 (ix3 0 k l)) j := by
  unfold val_main_v15 val_main_v14
  pointwise [dot_S16x2048x1024_S1024x2816_S16x2048x2816_2_0_01_1_n_n, h2_at]; rfl

/-- The up products. -/
theorem up_at (j : Fin 2816) :
    val_main_v18 (F := Ideal) x0 x1 x4 (ix3 b r j) = Rows.lin (Rows.rms (fun k => x0 (ix3 b r k)) (fun k => x1 (ix2 0 k))) (fun k l => x4 (ix3 0 k l)) j := by
  unfold val_main_v18 val_main_v17
  pointwise [dot_S16x2048x1024_S1024x2816_S16x2048x2816_2_0_01_1_n_n, h2_at]; rfl

/-- The hidden layer. -/
theorem hid_at (j : Fin 2816) :
    val_main_v19 (F := Ideal) x0 x1 x3 x4 (ix3 b r j) =
      Rows.gated (Rows.rms (fun k => x0 (ix3 b r k)) (fun k => x1 (ix2 0 k))) (fun k l => x3 (ix3 0 k l)) (fun k l => x4 (ix3 0 k l)) j := by
  unfold val_main_v19 val_main_v16 val_main_call0_v5 val_main_call0_v4 val_main_call0_v3 val_main_call0_v2 val_main_call0_v1 val_main_call0_v0
    val_main_call0_cst val_main_call0_cst_0
  pointwise [gate_at, up_at]; rfl

/-- The updated tokens. -/
theorem upd_at (j : Fin 1024) :
    val_main_v22 (F := Ideal) x0 x1 x3 x4 x5 (ix3 b r j) =
      Rows.updated (fun k => x0 (ix3 b r k)) (fun k => x1 (ix2 0 k)) (fun k l => x3 (ix3 0 k l)) (fun k l => x4 (ix3 0 k l)) (fun k l => x5 (ix3 0 k l)) j := by
  unfold val_main_v22 val_main_v21 val_main_v20
  pointwise [dot_S16x2048x2816_S2816x1024_S16x2048x1024_2_0_01_1_n_n, hid_at]; rfl

/-- The result. -/
theorem out_at (j : Fin 1024) :
    val_main_v35 (F := Ideal) x0 x1 x2 x3 x4 x5 (ix3 b r j) =
      Rows.ffnRow (fun k => x0 (ix3 b r k)) (fun k => x1 (ix2 0 k)) (fun k => x2 (ix1 k)) (fun k l => x3 (ix3 0 k l)) (fun k l => x4 (ix3 0 k l))
        (fun k l => x5 (ix3 0 k l)) j := by
  unfold val_main_v35 val_main_v34 val_main_v33 val_main_v32 val_main_v31 val_main_v30 val_main_v29 val_main_v28 val_main_v27 val_main_v26
    val_main_v25 val_main_v24 val_main_v23 val_main_cst_2 val_main_cst_3 val_main_cst_4
  pointwise [upd_at]; rfl

end Cert.Ffn.Ref

end
-- ==== Proof.FfnClaim.lean ====
/- The feed-forward call's value claim: kernel and reference end with equal results over the extended reals. -/
module

public import proofs.«01_k».proof.Defs
public import proofs.«01_k».proof.Proof.FfnArray
public import proofs.«01_k».proof.Proof.FfnRef

@[expose] public section

noncomputable section

namespace Cert.Ffn

open Idealize.ShloMosaic Idealize.ShloMosaic.TcCoe Idealize.SL.Sem

/-- The reference's result as one function of its arguments is the kernel's. -/
theorem ref_eq (x : Vec Ideal Cert.KernelIdeal.S16x2048x1024 .f32) (g : Vec Ideal Cert.KernelIdeal.S1x1024 .f32)
    (gf : Vec Ideal Cert.KernelIdeal.S1024 .f32) (wg wu : Vec Ideal Cert.KernelIdeal.S1x1024x2816 .f32)
    (wd : Vec Ideal Cert.KernelIdeal.S1x2816x1024 .f32) :
    Cert.ReferenceIdeal.Read.val_main_v35 (F := Ideal) x g gf wg wu wd = G x g gf wg wu wd := by
  funext i
  rw [eq_ix3 i]
  exact Ref.out_at x g gf wg wu wd (i 0) (i 1) (i 2)

/-- The kernel and the reference compute the same array. -/
theorem algebraic : Cert.algebraic_KernelIdeal_ReferenceIdeal := by
  intro m ρ m' ρ' _ hagree
  refine ⟨fun c => Gm m c, ?_, ?_⟩
  · exact (θ_run Cert.KernelIdeal.defs _ _).mono (fun r h c => ⟨(h c).1.trans (final m c), (h c).2⟩)
      (Cert.KernelIdeal.Value.run_blocks m ρ)
  · refine (θ_run Cert.ReferenceIdeal.defs _ _).mono (fun r h c => ⟨(h c).1.trans ?_, (h c).2⟩)
      (Cert.ReferenceIdeal.Value.run m' ρ')
    obtain ⟨h0, h1, h2, h3, h4, h5⟩ := hagree c
    rw [Cert.ReferenceIdeal.Read.val_main_v35_eq]
    rw [h0, h1, h2, h3, h4, h5]
    exact ref_eq _ _ _ _ _ _

end Cert.Ffn

end
-- ==== Proof.AttnTrips.lean ====
module

public import proofs.«01_k».proof.Proof.Gen.Kernel2Ideal.Loops

@[expose] public section

set_option maxRecDepth 8192
set_option maxHeartbeats 4000000

noncomputable section

namespace Cert.Kernel2Ideal.Attn

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄G" => MT nD τ sig Unit (Elt F) ℕ (UR sig nD τ) ℕ

/-! ## Where each trip reads and writes -/

theorem off1_eq : ∀ k, k0_off1 k = ![0, 128 * k.val, 0] := by decide +kernel
instance (k : Fin k0_t1_loop.trips) : ClosedOff (k0_off1 k) := ⟨_, off1_eq k⟩
theorem off2_eq : ∀ k, k0_off2 k = ![0, 128 * k.val, 768] := by decide +kernel
instance (k : Fin k0_t1_loop.trips) : ClosedOff (k0_off2 k) := ⟨_, off2_eq k⟩
theorem off3_eq : ∀ k, k0_off3 k = ![0, 128 * k.val, 1536] := by decide +kernel
instance (k : Fin k0_t1_loop.trips) : ClosedOff (k0_off3 k) := ⟨_, off3_eq k⟩
theorem off4_eq : ∀ k, k0_off4 k = ![0, 128 * (k.val - 1), 768] := by decide +kernel
instance (k : Fin k0_t1_loop.trips) : ClosedOff (k0_off4 k) := ⟨_, off4_eq k⟩
theorem off5_eq : ∀ k, k0_off5 k = ![0, 128 * (k.val - 1), 1536] := by decide +kernel
instance (k : Fin k0_t1_loop.trips) : ClosedOff (k0_off5 k) := ⟨_, off5_eq k⟩
theorem off6_eq : ∀ k, k0_off6 k = ![min k.val 1, 0, 0] := by decide +kernel
instance (k : Fin k0_t1_loop.trips) : ClosedOff (k0_off6 k) := ⟨_, off6_eq k⟩
theorem off7_eq : ∀ k, k0_off7 k = ![0, 0, 128 * k.val, 0] := by decide +kernel
instance (k : Fin k0_t1_loop.trips) : ClosedOff (k0_off7 k) := ⟨_, off7_eq k⟩
theorem off8_eq : ∀ k, k0_off8 k = ![0, 1, 128 * k.val, 0] := by decide +kernel
instance (k : Fin k0_t1_loop.trips) : ClosedOff (k0_off8 k) := ⟨_, off8_eq k⟩
theorem off9_0_eq : ∀ k, k0_off9 k 0#32 = ![512 * (k.val % 4) + 64 * (k.val / 4), 0] := by decide +kernel
instance (k : Fin k0_t2_loop.trips) : ClosedOff (k0_off9 k 0#32) := ⟨_, off9_0_eq k⟩
theorem off9_1_eq : ∀ k, k0_off9 k 1#32 = ![512 * (k.val % 4) + 256 + 64 * (k.val / 4), 0] := by decide +kernel
instance (k : Fin k0_t2_loop.trips) : ClosedOff (k0_off9 k 1#32) := ⟨_, off9_1_eq k⟩
theorem off10_0_eq : ∀ k, k0_off10 k 0#32 = ![512 * (k.val % 4 - 1) + 64 * (k.val / 4), 0] := by decide +kernel
instance (k : Fin k0_t2_loop.trips) : ClosedOff (k0_off10 k 0#32) := ⟨_, off10_0_eq k⟩
theorem off10_1_eq : ∀ k, k0_off10 k 1#32 = ![512 * (k.val % 4 - 1) + 256 + 64 * (k.val / 4), 0] := by decide +kernel
instance (k : Fin k0_t2_loop.trips) : ClosedOff (k0_off10 k 1#32) := ⟨_, off10_1_eq k⟩
theorem off11_eq : ∀ k, k0_off11 k = ![min (k.val % 4) 1, 0, 0] := by decide +kernel
instance (k : Fin k0_t2_loop.trips) : ClosedOff (k0_off11 k) := ⟨_, off11_eq k⟩
theorem off12_eq : ∀ k, k0_off12 k = ![1, 0, 512 * (k.val % 4) + k.val / 4, 0] := by decide +kernel
instance (k : Fin k0_t2_loop.trips) : ClosedOff (k0_off12 k) := ⟨_, off12_eq k⟩
theorem off13_eq : ∀ k, k0_off13 k = ![1, 1, 512 * (k.val % 4) + k.val / 4, 0] := by decide +kernel
instance (k : Fin k0_t2_loop.trips) : ClosedOff (k0_off13 k) := ⟨_, off13_eq k⟩
theorem off14_eq : ∀ k, ∀ j : Fin 8, k0_off14 k (BitVec.ofNat 32 j.val) = ![256 * j.val + 16 * k.val, 0] := by decide +kernel
instance (k : Fin k0_t3_loop.trips) : ClosedOff (k0_off14 k 0#32) := ⟨_, off14_eq k 0⟩
instance (k : Fin k0_t3_loop.trips) : ClosedOff (k0_off14 k 1#32) := ⟨_, off14_eq k 1⟩
instance (k : Fin k0_t3_loop.trips) : ClosedOff (k0_off14 k 2#32) := ⟨_, off14_eq k 2⟩
instance (k : Fin k0_t3_loop.trips) : ClosedOff (k0_off14 k 3#32) := ⟨_, off14_eq k 3⟩
instance (k : Fin k0_t3_loop.trips) : ClosedOff (k0_off14 k 4#32) := ⟨_, off14_eq k 4⟩
instance (k : Fin k0_t3_loop.trips) : ClosedOff (k0_off14 k 5#32) := ⟨_, off14_eq k 5⟩
instance (k : Fin k0_t3_loop.trips) : ClosedOff (k0_off14 k 6#32) := ⟨_, off14_eq k 6⟩
instance (k : Fin k0_t3_loop.trips) : ClosedOff (k0_off14 k 7#32) := ⟨_, off14_eq k 7⟩
theorem off15_eq : ∀ k, k0_off15 k = ![2, 0, k.val, 0] := by decide +kernel
instance (k : Fin k0_t3_loop.trips) : ClosedOff (k0_off15 k) := ⟨_, off15_eq k⟩
theorem off16_eq : ∀ k, k0_off16 k = ![2, 1, k.val, 0] := by decide +kernel
instance (k : Fin k0_t3_loop.trips) : ClosedOff (k0_off16 k) := ⟨_, off16_eq k⟩

/-! ## The trips -/

variable (c : Dev nD) (i : grid0.Coords) (arg1 : Memref sig .tc .vmem S1x2048x2304 .bf16) (harg1 : arg1.IsWhole) (arg2 : Memref sig .tc .vmem S4x256 .bf16) (harg2 : arg2.IsWhole) (arg3 : Memref sig .tc .vmem S256x256 .bf16) (harg3 : arg3.IsWhole) (arg4 : Memref sig .tc .vmem S256x256 .bf16) (harg4 : arg4.IsWhole) (arg5 : Memref sig .tc .vmem S1x2048x256 .bf16) (harg5 : arg5.IsWhole) (arg6 : Memref sig .tc .vmem S2048x256 .bf16) (harg6 : arg6.IsWhole) (arg7 : Memref sig .tc .vmem S2048x256 .bf16) (harg7 : arg7.IsWhole) (arg8 : Memref sig .tc .vmem S2048x256 .bf16) (harg8 : arg8.IsWhole) (arg9 : Memref sig .tc .vmem S3x2x2048x128 .f32) (harg9 : arg9.IsWhole) (arg10 : Memref sig .tc .vmem S3x2x2048x128 .f32) (harg10 : arg10.IsWhole) (arg11 : Memref sig .tc .vmem S2x128x256 .f32) (harg11 : arg11.IsWhole)

/-- What a trip of the first group's loop holds: the arrays it reads, and the two it writes. -/
abbrev Held1 (X1 : BufTy.Contents (Elt F) arg1.view.ty) (X11 : BufTy.Contents (Elt F) arg11.view.ty) (f9 : BufTy.Contents (Elt F) arg9.view.ty) (f10 : BufTy.Contents (Elt F) arg10.view.ty) : sProp 𝕄G :=
  iprop((arg1.view.loc (c : Thread nD τ) ↦[arg1.view.set]{fullShare} X1) ∗ (arg11.view.loc (c : Thread nD τ) ↦[arg11.view.set]{fullShare} X11)
    ∗ (arg9.view.loc (c : Thread nD τ) ↦[arg9.view.set]{fullShare} f9) ∗ (arg10.view.loc (c : Thread nD τ) ↦[arg10.view.set]{fullShare} f10))

/-- One trip of the first group's loop: the pieces it writes into the outputs' and the normalisers' arrays. -/
@[irreducible] def trip1 (v28 : Vec F S4x256 .bf16) (X1 : BufTy.Contents (Elt F) arg1.view.ty) (X11 : BufTy.Contents (Elt F) arg11.view.ty) (k : Fin k0_t1_loop.trips) :
    { L : List (View.Piece (Elt F) S3x2x2048x128 .f32) × List (View.Piece (Elt F) S3x2x2048x128 .f32) // ∀ (E : Set ℕ) f9 f10,
      Held1 (F := F) c arg1 arg9 arg10 arg11 X1 X11 f9 f10
      ⊢ wp frame (wpE (defs₀ (F := F)) Variants.none (c : Thread nD τ) none) E (k0_t1_body (F := F) i arg1 harg1 arg2 harg2 arg3 harg3 arg4 harg4 arg5 harg5 arg6 harg6 arg7 harg7 arg8 harg8 arg9 harg9 arg10 harg10 arg11 harg11 v28 k PUnit.unit)
          (fun _ => Held1 (F := F) c arg1 arg9 arg10 arg11 X1 X11 (arg9.view.writes (Elt F) f9 L.1) (arg10.view.writes (Elt F) f10 L.2)) } := by
  have hk : k.val < 16 := Nat.lt_of_lt_of_le k.isLt k0_t1_abs.2.1
  refine ⟨⟨?_, ?_⟩, fun E f9 f10 => ?run⟩
  case run =>
    unfold k0_t1_body
    simp only [k0_part1_eq_skeleton, k0_part2_eq_skeleton, k0_part3_eq_skeleton, k0_part4_eq_skeleton]
    iintro ⟨H1, H11, H9, H10⟩
    sl_exec
    sl_step
    sl_close

/-- What a trip of the second or the third group's loop holds: the gathered queries, keys and values, the masks, and the two arrays it writes. -/
abbrev Held2 (X6 : BufTy.Contents (Elt F) arg6.view.ty) (X7 : BufTy.Contents (Elt F) arg7.view.ty) (X8 : BufTy.Contents (Elt F) arg8.view.ty) (X11 : BufTy.Contents (Elt F) arg11.view.ty) (f9 : BufTy.Contents (Elt F) arg9.view.ty) (f10 : BufTy.Contents (Elt F) arg10.view.ty) : sProp 𝕄G :=
  iprop((arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} X8) ∗ (arg11.view.loc (c : Thread nD τ) ↦[arg11.view.set]{fullShare} X11)
    ∗ (arg9.view.loc (c : Thread nD τ) ↦[arg9.view.set]{fullShare} f9) ∗ (arg10.view.loc (c : Thread nD τ) ↦[arg10.view.set]{fullShare} f10))

/-- One trip of the second group's loop: the pieces it writes into the outputs' and the normalisers' arrays. -/
@[irreducible] def trip2 (v2 : IVec S128x128 1) (v28 : Vec F S4x256 .bf16) (v31 : FVec F S256x256 .bf16) (v181 : FVec F S256x256 .f32) (X6 : BufTy.Contents (Elt F) arg6.view.ty) (X7 : BufTy.Contents (Elt F) arg7.view.ty) (X8 : BufTy.Contents (Elt F) arg8.view.ty) (X11 : BufTy.Contents (Elt F) arg11.view.ty) (k : Fin k0_t2_loop.trips) :
    { L : List (View.Piece (Elt F) S3x2x2048x128 .f32) × List (View.Piece (Elt F) S3x2x2048x128 .f32) // ∀ (E : Set ℕ) f9 f10,
      Held2 (F := F) c arg6 arg7 arg8 arg9 arg10 arg11 X6 X7 X8 X11 f9 f10
      ⊢ wp frame (wpE (defs₀ (F := F)) Variants.none (c : Thread nD τ) none) E (k0_t2_body (F := F) i arg1 harg1 arg2 harg2 arg3 harg3 arg4 harg4 arg5 harg5 arg6 harg6 arg7 harg7 arg8 harg8 arg9 harg9 arg10 harg10 arg11 harg11 v2 v28 v31 v181 k PUnit.unit)
          (fun _ => Held2 (F := F) c arg6 arg7 arg8 arg9 arg10 arg11 X6 X7 X8 X11 (arg9.view.writes (Elt F) f9 L.1) (arg10.view.writes (Elt F) f10 L.2)) } := by
  have hk : k.val < 16 := Nat.lt_of_lt_of_le k.isLt k0_t2_abs.2.1
  refine ⟨⟨?_, ?_⟩, fun E f9 f10 => ?run⟩
  case run =>
    unfold k0_t2_body
    simp only [k0_part5_eq_skeleton, k0_part6_eq_skeleton, k0_part7_eq_skeleton, k0_part8_eq_skeleton, k0_part9_eq_skeleton]
    iintro ⟨H6, H7, H8, H11, H9, H10⟩
    sl_exec
    sl_step
    sl_close

/-- One trip of the third group's loop: the pieces it writes into the outputs' and the normalisers' arrays. -/
@[irreducible] def trip3 (v2 : IVec S128x128 1) (v28 : Vec F S4x256 .bf16) (X6 : BufTy.Contents (Elt F) arg6.view.ty) (X7 : BufTy.Contents (Elt F) arg7.view.ty) (X8 : BufTy.Contents (Elt F) arg8.view.ty) (X11 : BufTy.Contents (Elt F) arg11.view.ty) (k : Fin k0_t3_loop.trips) :
    { L : List (View.Piece (Elt F) S3x2x2048x128 .f32) × List (View.Piece (Elt F) S3x2x2048x128 .f32) // ∀ (E : Set ℕ) f9 f10,
      Held2 (F := F) c arg6 arg7 arg8 arg9 arg10 arg11 X6 X7 X8 X11 f9 f10
      ⊢ wp frame (wpE (defs₀ (F := F)) Variants.none (c : Thread nD τ) none) E (k0_t3_body (F := F) i arg1 harg1 arg2 harg2 arg3 harg3 arg4 harg4 arg5 harg5 arg6 harg6 arg7 harg7 arg8 harg8 arg9 harg9 arg10 harg10 arg11 harg11 v2 v28 k PUnit.unit)
          (fun _ => Held2 (F := F) c arg6 arg7 arg8 arg9 arg10 arg11 X6 X7 X8 X11 (arg9.view.writes (Elt F) f9 L.1) (arg10.view.writes (Elt F) f10 L.2)) } := by
  have hk : k.val < 16 := Nat.lt_of_lt_of_le k.isLt k0_t3_abs.2.1
  refine ⟨⟨?_, ?_⟩, fun E f9 f10 => ?run⟩
  case run =>
    unfold k0_t3_body
    simp only [k0_part10_eq_skeleton, k0_part11_eq_skeleton, k0_part12_eq_skeleton, k0_part13_eq_skeleton, k0_part14_eq_skeleton, k0_part15_eq_skeleton, k0_part16_eq_skeleton, k0_part17_eq_skeleton]
    iintro ⟨H6, H7, H8, H11, H9, H10⟩
    sl_exec
    sl_step
    sl_close

end Cert.Kernel2Ideal.Attn

end
-- ==== Proof.AttnBlock.lean ====
module

public import proofs.«01_k».proof.Proof.AttnTrips
public import Idealize.ShloMosaic.Lib.Pipeline.FrameBody
public import Idealize.ShloMosaic.Lib.Pipeline.Value
public import Idealize.ShloMosaic.Lib.Pipeline.CanonAppend

@[expose] public section

set_option maxRecDepth 8192
set_option maxHeartbeats 4000000

noncomputable section

namespace Cert.Kernel2Ideal.Attn

open Cert.Kernel2Ideal Cert.Kernel2Ideal.Gen
open Idealize.ShloMosaic Idealize.ShloMosaic.TcCoe Idealize.ShloMosaic.Tactic
open Idealize.SL Idealize.SL.RA Idealize.SL.BI

variable {F : FTy → Type} [FloatOps F] [Named F]

/-! One block of attention: 128 queries against 256 keys (or 128 keys, for the third group), all four heads. -/

/-- The queries, once per head, each copy masked and scaled to its head's 64 columns. -/
def heads (hm : Vec F S4x256 .bf16) (q : FVec F S128x256 .bf16) : FVec F S512x256 .bf16 :=
  concatenate S512x256 0
    [⟨S128x256, mulf q (broadcastTo S128x256 (extractStridedSlice S1x256 ![0, 0] hm slices_S4x256_o0_0_S1x256 : FVec F S1x256 .bf16) broadcasts_S1x256_S128x256)⟩,
     ⟨S128x256, mulf q (broadcastTo S128x256 (extractStridedSlice S1x256 ![1, 0] hm slices_S4x256_o1_0_S1x256 : FVec F S1x256 .bf16) broadcasts_S1x256_S128x256)⟩,
     ⟨S128x256, mulf q (broadcastTo S128x256 (extractStridedSlice S1x256 ![2, 0] hm slices_S4x256_o2_0_S1x256 : FVec F S1x256 .bf16) broadcasts_S1x256_S128x256)⟩,
     ⟨S128x256, mulf q (broadcastTo S128x256 (extractStridedSlice S1x256 ![3, 0] hm slices_S4x256_o3_0_S1x256 : FVec F S1x256 .bf16) broadcasts_S1x256_S128x256)⟩]
    concatenates_S128x256_S128x256_S128x256_S128x256_S512x256_d0

/-- The scores of the four heads, one above the other. -/
def dots (hm : Vec F S4x256 .bf16) (q : FVec F S128x256 .bf16) (kk : FVec F S256x256 .bf16) : FVec F S512x256 .f32 :=
  matmul dot_S512x256_S256x256_S512x256_1_1_0_0_n_n none (heads hm q) kk (constant S512x256 .f32 0x00000000#32)

/-- The row maxima of a head's scores. -/
def rowMax (s : FVec F S128x256 .f32) : FVec F S128x1 .f32 :=
  shapeCast S128x1 (multiReduction .maximumf [1] S128 s 0xFF800000#32 reduces_S128x256_S128 (.inl rfl) rfl) shapeCasts_S128_S128x1

/-- A head's unnormalised weights. -/
def weights (s : FVec F S128x256 .f32) : FVec F S128x256 .f32 :=
  exp (subf s (broadcastTo S128x256 (rowMax s) broadcasts_S128x1_S128x256))

/-- The row sums of the weights. -/
def rowSum (s : FVec F S128x256 .f32) : FVec F S128x1 .f32 :=
  shapeCast S128x1 (multiReduction .add [1] S128 (weights s) 0x00000000#32 reduces_S128x256_S128 (.inl rfl) rfl) shapeCasts_S128_S128x1

/-- The weights times the values. -/
def mixed (s : FVec F S128x256 .f32) (vv : FVec F S256x256 .bf16) : FVec F S128x256 .f32 :=
  matmul dot_S128x256_S256x256_S128x256_1_0_0_1_n_n none (truncf .bf16 (weights s) bitsLt_bf16_f32) vv (constant S128x256 .f32 0x00000000#32)

/-- The same three against 128 keys. -/
def dotsN (hm : Vec F S4x256 .bf16) (q kk : FVec F S128x256 .bf16) : FVec F S512x128 .f32 :=
  matmul dot_S512x256_S128x256_S512x128_1_1_0_0_n_n none (heads hm q) kk (constant S512x128 .f32 0x00000000#32)

def rowMaxN (s : FVec F S128x128 .f32) : FVec F S128x1 .f32 :=
  shapeCast S128x1 (multiReduction .maximumf [1] S128 s 0xFF800000#32 reduces_S128x128_S128 (.inl rfl) rfl) shapeCasts_S128_S128x1

def weightsN (s : FVec F S128x128 .f32) : FVec F S128x128 .f32 :=
  exp (subf s (broadcastTo S128x128 (rowMaxN s) broadcasts_S128x1_S128x128))

def rowSumN (s : FVec F S128x128 .f32) : FVec F S128x1 .f32 :=
  shapeCast S128x1 (multiReduction .add [1] S128 (weightsN s) 0x00000000#32 reduces_S128x128_S128 (.inl rfl) rfl) shapeCasts_S128_S128x1

def mixedN (s : FVec F S128x128 .f32) (vv : FVec F S128x256 .bf16) : FVec F S128x256 .f32 :=
  matmul dot_S128x128_S128x256_S128x256_1_0_0_1_n_n none (truncf .bf16 (weightsN s) bitsLt_bf16_f32) vv (constant S128x256 .f32 0x00000000#32)

/-- A column repeated over 128 columns. -/
def wide (x : FVec F S128x1 .f32) : FVec F S128x128 .f32 :=
  broadcastTo S128x128 (shapeCast S128x1 x shapeCasts_S128x1_S128x1 : FVec F S128x1 .f32) broadcasts_S128x1_S128x128

/-- Four heads' columns side by side: of each pair, the first head's lower 64 and the second's upper 64. -/
def byHead (a b c d : FVec F S128x128 .f32) : FVec F S128x256 .f32 :=
  concatenate S128x256 1 [⟨S128x128, select k0_pay122 a b⟩, ⟨S128x128, select k0_pay122 c d⟩] concatenates_S128x128_S128x128_S128x256_d1

def left (x : FVec F S128x256 .f32) : FVec F S128x128 .f32 := extractStridedSlice S128x128 ![0, 0] x slices_S128x256_o0_0_S128x128

def right (x : FVec F S128x256 .f32) : FVec F S128x128 .f32 := extractStridedSlice S128x128 ![0, 128] x slices_S128x256_o0_128_S128x128

/-- The block's outputs, from the heads' products with the values and the heads' row sums. -/
def outOf (p0 p1 p2 p3 : FVec F S128x256 .f32) (l0 l1 l2 l3 : FVec F S128x1 .f32) : FVec F S128x256 .f32 :=
  mulf (byHead (left p0) (left p1) (right p2) (right p3))
    (divf (broadcast S128x256 (Scalar.ofBits .f32 0x3F800000#32 : F .f32)) (byHead (wide l0) (wide l1) (wide l2) (wide l3)))

/-- The block's log-normalisers, from the heads' row maxima and row sums. -/
def lseOf (m0 m1 m2 m3 l0 l1 l2 l3 : FVec F S128x1 .f32) : FVec F S128x256 .f32 :=
  addf (byHead (wide m0) (wide m1) (wide m2) (wide m3)) (log (byHead (wide l0) (wide l1) (wide l2) (wide l3)))

/-- Head `h`'s scores with the additive mask. -/
def sc0 (S : FVec F S512x256 .f32) (B : FVec F S128x256 .f32) : FVec F S128x256 .f32 := addf (extractStridedSlice S128x256 ![0, 0] S slices_S512x256_o0_0_S128x256) B
def sc1 (S : FVec F S512x256 .f32) (B : FVec F S128x256 .f32) : FVec F S128x256 .f32 := addf (extractStridedSlice S128x256 ![128, 0] S slices_S512x256_o128_0_S128x256) B
def sc2 (S : FVec F S512x256 .f32) (B : FVec F S128x256 .f32) : FVec F S128x256 .f32 := addf (extractStridedSlice S128x256 ![256, 0] S slices_S512x256_o256_0_S128x256) B
def sc3 (S : FVec F S512x256 .f32) (B : FVec F S128x256 .f32) : FVec F S128x256 .f32 := addf (extractStridedSlice S128x256 ![384, 0] S slices_S512x256_o384_0_S128x256) B
def sn0 (S : FVec F S512x128 .f32) (B : FVec F S128x128 .f32) : FVec F S128x128 .f32 := addf (extractStridedSlice S128x128 ![0, 0] S slices_S512x128_o0_0_S128x128) B
def sn1 (S : FVec F S512x128 .f32) (B : FVec F S128x128 .f32) : FVec F S128x128 .f32 := addf (extractStridedSlice S128x128 ![128, 0] S slices_S512x128_o128_0_S128x128) B
def sn2 (S : FVec F S512x128 .f32) (B : FVec F S128x128 .f32) : FVec F S128x128 .f32 := addf (extractStridedSlice S128x128 ![256, 0] S slices_S512x128_o256_0_S128x128) B
def sn3 (S : FVec F S512x128 .f32) (B : FVec F S128x128 .f32) : FVec F S128x128 .f32 := addf (extractStridedSlice S128x128 ![384, 0] S slices_S512x128_o384_0_S128x128) B

/-- The outputs and log-normalisers of a block against 256 keys. -/
def outW (hm : Vec F S4x256 .bf16) (q : FVec F S128x256 .bf16) (kk vv : FVec F S256x256 .bf16) (B : FVec F S128x256 .f32) : FVec F S128x256 .f32 :=
  outOf (mixed (sc0 (dots hm q kk) B) vv) (mixed (sc1 (dots hm q kk) B) vv) (mixed (sc2 (dots hm q kk) B) vv) (mixed (sc3 (dots hm q kk) B) vv)
    (rowSum (sc0 (dots hm q kk) B)) (rowSum (sc1 (dots hm q kk) B)) (rowSum (sc2 (dots hm q kk) B)) (rowSum (sc3 (dots hm q kk) B))
def lseW (hm : Vec F S4x256 .bf16) (q : FVec F S128x256 .bf16) (kk : FVec F S256x256 .bf16) (B : FVec F S128x256 .f32) : FVec F S128x256 .f32 :=
  lseOf (rowMax (sc0 (dots hm q kk) B)) (rowMax (sc1 (dots hm q kk) B)) (rowMax (sc2 (dots hm q kk) B)) (rowMax (sc3 (dots hm q kk) B))
    (rowSum (sc0 (dots hm q kk) B)) (rowSum (sc1 (dots hm q kk) B)) (rowSum (sc2 (dots hm q kk) B)) (rowSum (sc3 (dots hm q kk) B))

/-- The outputs and log-normalisers of a block against 128 keys. -/
def outN (hm : Vec F S4x256 .bf16) (q kk vv : FVec F S128x256 .bf16) (B : FVec F S128x128 .f32) : FVec F S128x256 .f32 :=
  outOf (mixedN (sn0 (dotsN hm q kk) B) vv) (mixedN (sn1 (dotsN hm q kk) B) vv) (mixedN (sn2 (dotsN hm q kk) B) vv) (mixedN (sn3 (dotsN hm q kk) B) vv)
    (rowSumN (sn0 (dotsN hm q kk) B)) (rowSumN (sn1 (dotsN hm q kk) B)) (rowSumN (sn2 (dotsN hm q kk) B)) (rowSumN (sn3 (dotsN hm q kk) B))
def lseN (hm : Vec F S4x256 .bf16) (q kk : FVec F S128x256 .bf16) (B : FVec F S128x128 .f32) : FVec F S128x256 .f32 :=
  lseOf (rowMaxN (sn0 (dotsN hm q kk) B)) (rowMaxN (sn1 (dotsN hm q kk) B)) (rowMaxN (sn2 (dotsN hm q kk) B)) (rowMaxN (sn3 (dotsN hm q kk) B))
    (rowSumN (sn0 (dotsN hm q kk) B)) (rowSumN (sn1 (dotsN hm q kk) B)) (rowSumN (sn2 (dotsN hm q kk) B)) (rowSumN (sn3 (dotsN hm q kk) B))

/-- Two 128-row blocks as one block of 256 rows. -/
def pair (a b : FVec F S128x256 .bf16) : FVec F S256x256 .bf16 := concatenate S256x256 0 [⟨S128x256, a⟩, ⟨S128x256, b⟩] concatenates_S128x256_S128x256_S256x256_d0

/-- The left and the right 128 columns of a block, as the boxes that are stored. -/
def boxL (x : FVec F S128x256 .f32) : FVec F S1x1x128x128 .f32 := shapeCast S1x1x128x128 (left x) shapeCasts_S128x128_S1x1x128x128
def boxR (x : FVec F S128x256 .f32) : FVec F S1x1x128x128 .f32 := shapeCast S1x1x128x128 (right x) shapeCasts_S128x128_S1x1x128x128

abbrev Pcs (F : FTy → Type) : Type := List (View.Piece (Elt F) S3x2x2048x128 .f32)

section Group1
variable (hm : Vec F S4x256 .bf16) (x1 : Vec F S1x2048x2304 .bf16) (xb : Vec F S2x128x256 .f32) (k : Fin k0_t1_loop.trips)

def q1 : FVec F S128x256 .bf16 := shapeCast S128x256 (View.ld (Val := Elt F) x1 (Rect.unit (s := S1x2048x2304) (k0_off1 k) S1x128x256.size (k0_off1_inb k))) shapeCasts_S1x128x256_S128x256
def k1 : FVec F S256x256 .bf16 :=
  pair (shapeCast S128x256 (View.ld (Val := Elt F) x1 (Rect.unit (s := S1x2048x2304) (k0_off4 k) S1x128x256.size (k0_off4_inb k))) shapeCasts_S1x128x256_S128x256)
    (shapeCast S128x256 (View.ld (Val := Elt F) x1 (Rect.unit (s := S1x2048x2304) (k0_off2 k) S1x128x256.size (k0_off2_inb k))) shapeCasts_S1x128x256_S128x256)
def v1 : FVec F S256x256 .bf16 :=
  pair (shapeCast S128x256 (View.ld (Val := Elt F) x1 (Rect.unit (s := S1x2048x2304) (k0_off5 k) S1x128x256.size (k0_off5_inb k))) shapeCasts_S1x128x256_S128x256)
    (shapeCast S128x256 (View.ld (Val := Elt F) x1 (Rect.unit (s := S1x2048x2304) (k0_off3 k) S1x128x256.size (k0_off3_inb k))) shapeCasts_S1x128x256_S128x256)
def b1 : FVec F S128x256 .f32 := shapeCast S128x256 (View.ld (Val := Elt F) xb (Rect.unit (s := S2x128x256) (k0_off6 k) S1x128x256.size (k0_off6_inb k))) shapeCasts_S1x128x256_S128x256

/-- What the first group's trip `k` writes. -/
def pcs1 : Pcs F × Pcs F :=
  ⟨[⟨Rect.unit (s := S3x2x2048x128) (k0_off8 k) S1x1x128x128.size (k0_off8_inb k), boxR (outW hm (q1 x1 k) (k1 x1 k) (v1 x1 k) (b1 xb k))⟩,
    ⟨Rect.unit (s := S3x2x2048x128) (k0_off7 k) S1x1x128x128.size (k0_off7_inb k), boxL (outW hm (q1 x1 k) (k1 x1 k) (v1 x1 k) (b1 xb k))⟩],
   [⟨Rect.unit (s := S3x2x2048x128) (k0_off8 k) S1x1x128x128.size (k0_off8_inb k), boxR (lseW hm (q1 x1 k) (k1 x1 k) (b1 xb k))⟩,
    ⟨Rect.unit (s := S3x2x2048x128) (k0_off7 k) S1x1x128x128.size (k0_off7_inb k), boxL (lseW hm (q1 x1 k) (k1 x1 k) (b1 xb k))⟩]⟩
end Group1

section Group2
variable (hm : Vec F S4x256 .bf16) (xq xk xv : Vec F S2048x256 .bf16) (xb : Vec F S2x128x256 .f32) (k : Fin k0_t2_loop.trips)

/-- Two 64-row boxes of a gathered array, at the trip's rows. -/
def rows2 (x : Vec F S2048x256 .bf16) : FVec F S128x256 .bf16 :=
  concatenate S128x256 0
    [⟨S64x256, View.ld (Val := Elt F) x (Rect.unit (s := S2048x256) (k0_off9 k 0#32) S64x256.size (k0_off9_inb k 0))⟩,
     ⟨S64x256, View.ld (Val := Elt F) x (Rect.unit (s := S2048x256) (k0_off9 k 1#32) S64x256.size (k0_off9_inb k 1))⟩] concatenates_S64x256_S64x256_S128x256_d0
/-- The same at the block before. -/
def prev2 (x : Vec F S2048x256 .bf16) : FVec F S128x256 .bf16 :=
  concatenate S128x256 0
    [⟨S64x256, View.ld (Val := Elt F) x (Rect.unit (s := S2048x256) (k0_off10 k 0#32) S64x256.size (k0_off10_inb k 0))⟩,
     ⟨S64x256, View.ld (Val := Elt F) x (Rect.unit (s := S2048x256) (k0_off10 k 1#32) S64x256.size (k0_off10_inb k 1))⟩] concatenates_S64x256_S64x256_S128x256_d0
def b2 : FVec F S128x256 .f32 := shapeCast S128x256 (View.ld (Val := Elt F) xb (Rect.unit (s := S2x128x256) (k0_off11 k) S1x128x256.size (k0_off11_inb k))) shapeCasts_S1x128x256_S128x256

/-- What the second group's trip `k` writes. -/
def pcs2 : Pcs F × Pcs F :=
  ⟨[⟨⟨(⟨k0_off13 k, S1x1x128x128.size, ![1, 1, 4, 1], k0_off13_inb k⟩ : LoadRect S3x2x2048x128), spos_1_1_4_1⟩, boxR (outW hm (rows2 k xq) (pair (prev2 k xk) (rows2 k xk)) (pair (prev2 k xv) (rows2 k xv)) (b2 xb k))⟩,
    ⟨⟨(⟨k0_off12 k, S1x1x128x128.size, ![1, 1, 4, 1], k0_off12_inb k⟩ : LoadRect S3x2x2048x128), spos_1_1_4_1⟩, boxL (outW hm (rows2 k xq) (pair (prev2 k xk) (rows2 k xk)) (pair (prev2 k xv) (rows2 k xv)) (b2 xb k))⟩],
   [⟨⟨(⟨k0_off13 k, S1x1x128x128.size, ![1, 1, 4, 1], k0_off13_inb k⟩ : LoadRect S3x2x2048x128), spos_1_1_4_1⟩, boxR (lseW hm (rows2 k xq) (pair (prev2 k xk) (rows2 k xk)) (b2 xb k))⟩,
    ⟨⟨(⟨k0_off12 k, S1x1x128x128.size, ![1, 1, 4, 1], k0_off12_inb k⟩ : LoadRect S3x2x2048x128), spos_1_1_4_1⟩, boxL (lseW hm (rows2 k xq) (pair (prev2 k xk) (rows2 k xk)) (b2 xb k))⟩]⟩
end Group2

section Group3
variable (hm : Vec F S4x256 .bf16) (xq xk xv : Vec F S2048x256 .bf16) (xb : Vec F S2x128x256 .f32) (k : Fin k0_t3_loop.trips)

/-- One 16-row box of a gathered array. -/
def row3 (x : Vec F S2048x256 .bf16) (j : Fin 8) : Vec F S16x256 .bf16 :=
  View.ld (Val := Elt F) x (Rect.unit (s := S2048x256) (k0_off14 k (BitVec.ofNat 32 j.val)) S16x256.size (k0_off14_inb k j))
/-- The eight 16-row boxes of a gathered array at the trip's rows. -/
def rows3 (x : Vec F S2048x256 .bf16) : FVec F S128x256 .bf16 :=
  concatenate S128x256 0
    [⟨S16x256, row3 k x 0⟩, ⟨S16x256, row3 k x 1⟩, ⟨S16x256, row3 k x 2⟩, ⟨S16x256, row3 k x 3⟩,
     ⟨S16x256, row3 k x 4⟩, ⟨S16x256, row3 k x 5⟩, ⟨S16x256, row3 k x 6⟩, ⟨S16x256, row3 k x 7⟩]
    concatenates_S16x256_S16x256_S16x256_S16x256_S16x256_S16x256_S16x256_S16x256_S128x256_d0
def b3 : FVec F S128x128 .f32 := shapeCast S128x128 (View.ld (Val := Elt F) xb (Rect.unit (s := S2x128x256) ![1, 0, 128] S1x128x128.size inb_S2x128x256_S1x128x128_1_0_128)) shapeCasts_S1x128x128_S128x128

/-- What the third group's trip `k` writes. -/
def pcs3 : Pcs F × Pcs F :=
  ⟨[⟨⟨(⟨k0_off16 k, S1x1x128x128.size, ![1, 1, 16, 1], k0_off16_inb k⟩ : LoadRect S3x2x2048x128), spos_1_1_16_1⟩, boxR (outN hm (rows3 k xq) (rows3 k xk) (rows3 k xv) (b3 xb))⟩,
    ⟨⟨(⟨k0_off15 k, S1x1x128x128.size, ![1, 1, 16, 1], k0_off15_inb k⟩ : LoadRect S3x2x2048x128), spos_1_1_16_1⟩, boxL (outN hm (rows3 k xq) (rows3 k xk) (rows3 k xv) (b3 xb))⟩],
   [⟨⟨(⟨k0_off16 k, S1x1x128x128.size, ![1, 1, 16, 1], k0_off16_inb k⟩ : LoadRect S3x2x2048x128), spos_1_1_16_1⟩, boxR (lseN hm (rows3 k xq) (rows3 k xk) (b3 xb))⟩,
    ⟨⟨(⟨k0_off15 k, S1x1x128x128.size, ![1, 1, 16, 1], k0_off15_inb k⟩ : LoadRect S3x2x2048x128), spos_1_1_16_1⟩, boxL (lseN hm (rows3 k xq) (rows3 k xk) (b3 xb))⟩]⟩
end Group3

variable (c : Dev nD) (i : grid0.Coords) (arg1 : Memref sig .tc .vmem S1x2048x2304 .bf16) (harg1 : arg1.IsWhole) (arg2 : Memref sig .tc .vmem S4x256 .bf16) (harg2 : arg2.IsWhole) (arg3 : Memref sig .tc .vmem S256x256 .bf16) (harg3 : arg3.IsWhole) (arg4 : Memref sig .tc .vmem S256x256 .bf16) (harg4 : arg4.IsWhole) (arg5 : Memref sig .tc .vmem S1x2048x256 .bf16) (harg5 : arg5.IsWhole) (arg6 : Memref sig .tc .vmem S2048x256 .bf16) (harg6 : arg6.IsWhole) (arg7 : Memref sig .tc .vmem S2048x256 .bf16) (harg7 : arg7.IsWhole) (arg8 : Memref sig .tc .vmem S2048x256 .bf16) (harg8 : arg8.IsWhole) (arg9 : Memref sig .tc .vmem S3x2x2048x128 .f32) (harg9 : arg9.IsWhole) (arg10 : Memref sig .tc .vmem S3x2x2048x128 .f32) (harg10 : arg10.IsWhole) (arg11 : Memref sig .tc .vmem S2x128x256 .f32) (harg11 : arg11.IsWhole)

/-- A trip of the first loop writes the first group's pieces. -/
theorem trip1_eq (v28 : Vec F S4x256 .bf16) (X1 : BufTy.Contents (Elt F) arg1.view.ty) (X11 : BufTy.Contents (Elt F) arg11.view.ty) (k : Fin k0_t1_loop.trips) :
    (trip1 (F := F) c i arg1 harg1 arg2 harg2 arg3 harg3 arg4 harg4 arg5 harg5 arg6 harg6 arg7 harg7 arg8 harg8 arg9 harg9 arg10 harg10 arg11 harg11 v28 X1 X11 k).1
      = pcs1 v28 (arg1.view.read (Elt F) X1) (arg11.view.read (Elt F) X11) k := by
  unfold trip1; rfl

/-- A trip of the second loop writes the second group's pieces. -/
theorem trip2_eq (v28 : Vec F S4x256 .bf16) (v31 : FVec F S256x256 .bf16) (v181 : FVec F S256x256 .f32) (X6 : BufTy.Contents (Elt F) arg6.view.ty) (X7 : BufTy.Contents (Elt F) arg7.view.ty) (X8 : BufTy.Contents (Elt F) arg8.view.ty) (X11 : BufTy.Contents (Elt F) arg11.view.ty) (k : Fin k0_t2_loop.trips) :
    (trip2 (F := F) c i arg1 harg1 arg2 harg2 arg3 harg3 arg4 harg4 arg5 harg5 arg6 harg6 arg7 harg7 arg8 harg8 arg9 harg9 arg10 harg10 arg11 harg11 k0_pay122 v28 v31 v181 X6 X7 X8 X11 k).1
      = pcs2 v28 (arg6.view.read (Elt F) X6) (arg7.view.read (Elt F) X7) (arg8.view.read (Elt F) X8) (arg11.view.read (Elt F) X11) k := by
  unfold trip2; rfl

/-- A trip of the third loop writes the third group's pieces. -/
theorem trip3_eq (v28 : Vec F S4x256 .bf16) (X6 : BufTy.Contents (Elt F) arg6.view.ty) (X7 : BufTy.Contents (Elt F) arg7.view.ty) (X8 : BufTy.Contents (Elt F) arg8.view.ty) (X11 : BufTy.Contents (Elt F) arg11.view.ty) (k : Fin k0_t3_loop.trips) :
    (trip3 (F := F) c i arg1 harg1 arg2 harg2 arg3 harg3 arg4 harg4 arg5 harg5 arg6 harg6 arg7 harg7 arg8 harg8 arg9 harg9 arg10 harg10 arg11 harg11 k0_pay122 v28 X6 X7 X8 X11 k).1
      = pcs3 v28 (arg6.view.read (Elt F) X6) (arg7.view.read (Elt F) X7) (arg8.view.read (Elt F) X8) (arg11.view.read (Elt F) X11) k := by
  unfold trip3; rfl

end Cert.Kernel2Ideal.Attn

end
-- ==== Proof.AttnLoops.lean ====
module

public import proofs.«01_k».proof.Proof.AttnBlock

@[expose] public section

set_option maxRecDepth 8192
set_option maxHeartbeats 4000000

noncomputable section

namespace Cert.Kernel2Ideal.Attn

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

/-- The resource algebra of the run. -/
local notation "𝕄G" => MT nD τ sig Unit (Elt F) ℕ (UR sig nD τ) ℕ

/-- The pieces of the trips before `k`, the last first. -/
def before {n : ℕ} (P : Fin n → Pcs F) : ℕ → Pcs F
  | 0 => []
  | k + 1 => if h : k < n then P ⟨k, h⟩ ++ before P k else before P k

theorem before_succ {n : ℕ} (P : Fin n → Pcs F) (k : Fin n) : before P (k.val + 1) = P k ++ before P k.val :=
  dif_pos k.isLt

/-- A piece of the trips before `m` is a piece of some trip before `m`, and the other way round. -/
theorem mem_before {n : ℕ} (P : Fin n → Pcs F) (p : View.Piece (Elt F) S3x2x2048x128 .f32) :
    ∀ m : ℕ, p ∈ before P m ↔ ∃ k : Fin n, k.val < m ∧ p ∈ P k
  | 0 => by simp [before]
  | m + 1 => by
    have ih := mem_before P p m
    unfold before
    split
    · next h =>
      rw [List.mem_append, ih]
      constructor
      · rintro (hp | ⟨k, hk, hp⟩)
        · exact ⟨⟨m, h⟩, Nat.lt_succ_self m, hp⟩
        · exact ⟨k, Nat.lt_succ_of_lt hk, hp⟩
      · rintro ⟨k, hk, hp⟩
        rcases Nat.lt_succ_iff_lt_or_eq.mp hk with hlt | heq
        · exact .inr ⟨k, hlt, hp⟩
        · refine .inl ?_
          have : k = ⟨m, h⟩ := Fin.ext heq
          rw [← this]; exact hp
    · next h =>
      rw [ih]
      constructor
      · rintro ⟨k, hk, hp⟩; exact ⟨k, Nat.lt_succ_of_lt hk, hp⟩
      · rintro ⟨k, hk, hp⟩; exact ⟨k, by have := k.isLt; omega, hp⟩

/-- Before trip `k` of the first group's loop: what it reads, unchanged, and the two arrays with the earlier trips' pieces. -/
abbrev inv1 (c : Dev nD) (i : grid0.Coords) (arg1 : Memref sig .tc .vmem S1x2048x2304 .bf16) (harg1 : arg1.IsWhole) (arg2 : Memref sig .tc .vmem S4x256 .bf16) (harg2 : arg2.IsWhole) (arg3 : Memref sig .tc .vmem S256x256 .bf16) (harg3 : arg3.IsWhole) (arg4 : Memref sig .tc .vmem S256x256 .bf16) (harg4 : arg4.IsWhole) (arg5 : Memref sig .tc .vmem S1x2048x256 .bf16) (harg5 : arg5.IsWhole) (arg6 : Memref sig .tc .vmem S2048x256 .bf16) (harg6 : arg6.IsWhole) (arg7 : Memref sig .tc .vmem S2048x256 .bf16) (harg7 : arg7.IsWhole) (arg8 : Memref sig .tc .vmem S2048x256 .bf16) (harg8 : arg8.IsWhole) (arg9 : Memref sig .tc .vmem S3x2x2048x128 .f32) (harg9 : arg9.IsWhole) (arg10 : Memref sig .tc .vmem S3x2x2048x128 .f32) (harg10 : arg10.IsWhole) (arg11 : Memref sig .tc .vmem S2x128x256 .f32) (harg11 : arg11.IsWhole) (v28 : Vec F S4x256 .bf16) (X1 : BufTy.Contents (Elt F) arg1.view.ty) (X11 : BufTy.Contents (Elt F) arg11.view.ty) (G9 : BufTy.Contents (Elt F) arg9.view.ty) (G10 : BufTy.Contents (Elt F) arg10.view.ty) (k : ℕ) (_u : PUnit) : sProp 𝕄G :=
  iprop((arg1.view.loc (c : Thread nD τ) ↦[arg1.view.set]{fullShare} X1) ∗ (arg11.view.loc (c : Thread nD τ) ↦[arg11.view.set]{fullShare} X11) ∗ (∃ f, (arg9.view.loc (c : Thread nD τ) ↦[arg9.view.set]{fullShare} f) ∗ ⌜f = arg9.view.writes (Elt F) G9 (before (fun k => (trip1 (F := F) c i arg1 harg1 arg2 harg2 arg3 harg3 arg4 harg4 arg5 harg5 arg6 harg6 arg7 harg7 arg8 harg8 arg9 harg9 arg10 harg10 arg11 harg11 v28 X1 X11 k).1.1) k)⌝) ∗ (∃ f, (arg10.view.loc (c : Thread nD τ) ↦[arg10.view.set]{fullShare} f) ∗ ⌜f = arg10.view.writes (Elt F) G10 (before (fun k => (trip1 (F := F) c i arg1 harg1 arg2 harg2 arg3 harg3 arg4 harg4 arg5 harg5 arg6 harg6 arg7 harg7 arg8 harg8 arg9 harg9 arg10 harg10 arg11 harg11 v28 X1 X11 k).1.2) k)⌝))

set_option warn.classDefReducibility false in
/-- The first group's loop by its invariant. -/
@[sl_loop] def loop1 (c : Dev nD) (E : Set ℕ) (i : grid0.Coords) (arg1 : Memref sig .tc .vmem S1x2048x2304 .bf16) (harg1 : arg1.IsWhole) (arg2 : Memref sig .tc .vmem S4x256 .bf16) (harg2 : arg2.IsWhole) (arg3 : Memref sig .tc .vmem S256x256 .bf16) (harg3 : arg3.IsWhole) (arg4 : Memref sig .tc .vmem S256x256 .bf16) (harg4 : arg4.IsWhole) (arg5 : Memref sig .tc .vmem S1x2048x256 .bf16) (harg5 : arg5.IsWhole) (arg6 : Memref sig .tc .vmem S2048x256 .bf16) (harg6 : arg6.IsWhole) (arg7 : Memref sig .tc .vmem S2048x256 .bf16) (harg7 : arg7.IsWhole) (arg8 : Memref sig .tc .vmem S2048x256 .bf16) (harg8 : arg8.IsWhole) (arg9 : Memref sig .tc .vmem S3x2x2048x128 .f32) (harg9 : arg9.IsWhole) (arg10 : Memref sig .tc .vmem S3x2x2048x128 .f32) (harg10 : arg10.IsWhole) (arg11 : Memref sig .tc .vmem S2x128x256 .f32) (harg11 : arg11.IsWhole) (v28 : Vec F S4x256 .bf16) (X1 : BufTy.Contents (Elt F) arg1.view.ty) (X11 : BufTy.Contents (Elt F) arg11.view.ty) (G9 : BufTy.Contents (Elt F) arg9.view.ty) (G10 : BufTy.Contents (Elt F) arg10.view.ty) :
    LoopInvTy_k0_t1 (F := F) Unit ℕ (UR sig nD τ) ℕ Variants.none c none E i arg1 harg1 arg2 harg2 arg3 harg3 arg4 harg4 arg5 harg5 arg6 harg6 arg7 harg7 arg8 harg8 arg9 harg9 arg10 harg10 arg11 harg11 v28 where
  inv := inv1 (F := F) c i arg1 harg1 arg2 harg2 arg3 harg3 arg4 harg4 arg5 harg5 arg6 harg6 arg7 harg7 arg8 harg8 arg9 harg9 arg10 harg10 arg11 harg11 v28 X1 X11 G9 G10
  step k acc := by
    iintro ⟨H1, H11, ⟨%f9, H9, %h9⟩, ⟨%f10, H10, %h10⟩⟩
    iapply (wp_wand_r Idealize.ShloMosaic.frame (wpE (defs₀ (F := F)) Variants.none (c : Thread nD τ) none) E)
    isplitl [H1 H11 H9 H10]
    · iapply ((trip1 (F := F) c i arg1 harg1 arg2 harg2 arg3 harg3 arg4 harg4 arg5 harg5 arg6 harg6 arg7 harg7 arg8 harg8 arg9 harg9 arg10 harg10 arg11 harg11 v28 X1 X11 k).2 E f9 f10)
      isplitl [H1]; · iexact H1
      isplitl [H11]; · iexact H11
      isplitl [H9]; · iexact H9
      iexact H10
    · iintro %_ ⟨H1, H11, H9, H10⟩
      isplitl [H1]; · iexact H1
      isplitl [H11]; · iexact H11
      rw [before_succ, before_succ]
      isplitl [H9]
      · iexists _; isplitl [H9]; · iexact H9
        ipureintro; rw [h9, ← View.writes_append]
      · iexists _; isplitl [H10]; · iexact H10
        ipureintro; rw [h10, ← View.writes_append]

/-- Before trip `k` of the second group's loop: what it reads, unchanged, and the two arrays with the earlier trips' pieces. -/
abbrev inv2 (c : Dev nD) (i : grid0.Coords) (arg1 : Memref sig .tc .vmem S1x2048x2304 .bf16) (harg1 : arg1.IsWhole) (arg2 : Memref sig .tc .vmem S4x256 .bf16) (harg2 : arg2.IsWhole) (arg3 : Memref sig .tc .vmem S256x256 .bf16) (harg3 : arg3.IsWhole) (arg4 : Memref sig .tc .vmem S256x256 .bf16) (harg4 : arg4.IsWhole) (arg5 : Memref sig .tc .vmem S1x2048x256 .bf16) (harg5 : arg5.IsWhole) (arg6 : Memref sig .tc .vmem S2048x256 .bf16) (harg6 : arg6.IsWhole) (arg7 : Memref sig .tc .vmem S2048x256 .bf16) (harg7 : arg7.IsWhole) (arg8 : Memref sig .tc .vmem S2048x256 .bf16) (harg8 : arg8.IsWhole) (arg9 : Memref sig .tc .vmem S3x2x2048x128 .f32) (harg9 : arg9.IsWhole) (arg10 : Memref sig .tc .vmem S3x2x2048x128 .f32) (harg10 : arg10.IsWhole) (arg11 : Memref sig .tc .vmem S2x128x256 .f32) (harg11 : arg11.IsWhole) (v2 : IVec S128x128 1) (v28 : Vec F S4x256 .bf16) (v31 : FVec F S256x256 .bf16) (v181 : FVec F S256x256 .f32) (X6 : BufTy.Contents (Elt F) arg6.view.ty) (X7 : BufTy.Contents (Elt F) arg7.view.ty) (X8 : BufTy.Contents (Elt F) arg8.view.ty) (X11 : BufTy.Contents (Elt F) arg11.view.ty) (G9 : BufTy.Contents (Elt F) arg9.view.ty) (G10 : BufTy.Contents (Elt F) arg10.view.ty) (k : ℕ) (_u : PUnit) : sProp 𝕄G :=
  iprop((arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} X8) ∗ (arg11.view.loc (c : Thread nD τ) ↦[arg11.view.set]{fullShare} X11) ∗ (∃ f, (arg9.view.loc (c : Thread nD τ) ↦[arg9.view.set]{fullShare} f) ∗ ⌜f = arg9.view.writes (Elt F) G9 (before (fun k => (trip2 (F := F) c i arg1 harg1 arg2 harg2 arg3 harg3 arg4 harg4 arg5 harg5 arg6 harg6 arg7 harg7 arg8 harg8 arg9 harg9 arg10 harg10 arg11 harg11 v2 v28 v31 v181 X6 X7 X8 X11 k).1.1) k)⌝) ∗ (∃ f, (arg10.view.loc (c : Thread nD τ) ↦[arg10.view.set]{fullShare} f) ∗ ⌜f = arg10.view.writes (Elt F) G10 (before (fun k => (trip2 (F := F) c i arg1 harg1 arg2 harg2 arg3 harg3 arg4 harg4 arg5 harg5 arg6 harg6 arg7 harg7 arg8 harg8 arg9 harg9 arg10 harg10 arg11 harg11 v2 v28 v31 v181 X6 X7 X8 X11 k).1.2) k)⌝))

set_option warn.classDefReducibility false in
/-- The second group's loop by its invariant. -/
@[sl_loop] def loop2 (c : Dev nD) (E : Set ℕ) (i : grid0.Coords) (arg1 : Memref sig .tc .vmem S1x2048x2304 .bf16) (harg1 : arg1.IsWhole) (arg2 : Memref sig .tc .vmem S4x256 .bf16) (harg2 : arg2.IsWhole) (arg3 : Memref sig .tc .vmem S256x256 .bf16) (harg3 : arg3.IsWhole) (arg4 : Memref sig .tc .vmem S256x256 .bf16) (harg4 : arg4.IsWhole) (arg5 : Memref sig .tc .vmem S1x2048x256 .bf16) (harg5 : arg5.IsWhole) (arg6 : Memref sig .tc .vmem S2048x256 .bf16) (harg6 : arg6.IsWhole) (arg7 : Memref sig .tc .vmem S2048x256 .bf16) (harg7 : arg7.IsWhole) (arg8 : Memref sig .tc .vmem S2048x256 .bf16) (harg8 : arg8.IsWhole) (arg9 : Memref sig .tc .vmem S3x2x2048x128 .f32) (harg9 : arg9.IsWhole) (arg10 : Memref sig .tc .vmem S3x2x2048x128 .f32) (harg10 : arg10.IsWhole) (arg11 : Memref sig .tc .vmem S2x128x256 .f32) (harg11 : arg11.IsWhole) (v2 : IVec S128x128 1) (v28 : Vec F S4x256 .bf16) (v31 : FVec F S256x256 .bf16) (v181 : FVec F S256x256 .f32) (X6 : BufTy.Contents (Elt F) arg6.view.ty) (X7 : BufTy.Contents (Elt F) arg7.view.ty) (X8 : BufTy.Contents (Elt F) arg8.view.ty) (X11 : BufTy.Contents (Elt F) arg11.view.ty) (G9 : BufTy.Contents (Elt F) arg9.view.ty) (G10 : BufTy.Contents (Elt F) arg10.view.ty) :
    LoopInvTy_k0_t2 (F := F) Unit ℕ (UR sig nD τ) ℕ Variants.none c none E i arg1 harg1 arg2 harg2 arg3 harg3 arg4 harg4 arg5 harg5 arg6 harg6 arg7 harg7 arg8 harg8 arg9 harg9 arg10 harg10 arg11 harg11 v2 v28 v31 v181 where
  inv := inv2 (F := F) c i arg1 harg1 arg2 harg2 arg3 harg3 arg4 harg4 arg5 harg5 arg6 harg6 arg7 harg7 arg8 harg8 arg9 harg9 arg10 harg10 arg11 harg11 v2 v28 v31 v181 X6 X7 X8 X11 G9 G10
  step k acc := by
    iintro ⟨H6, H7, H8, H11, ⟨%f9, H9, %h9⟩, ⟨%f10, H10, %h10⟩⟩
    iapply (wp_wand_r Idealize.ShloMosaic.frame (wpE (defs₀ (F := F)) Variants.none (c : Thread nD τ) none) E)
    isplitl [H6 H7 H8 H11 H9 H10]
    · iapply ((trip2 (F := F) c i arg1 harg1 arg2 harg2 arg3 harg3 arg4 harg4 arg5 harg5 arg6 harg6 arg7 harg7 arg8 harg8 arg9 harg9 arg10 harg10 arg11 harg11 v2 v28 v31 v181 X6 X7 X8 X11 k).2 E f9 f10)
      isplitl [H6]; · iexact H6
      isplitl [H7]; · iexact H7
      isplitl [H8]; · iexact H8
      isplitl [H11]; · iexact H11
      isplitl [H9]; · iexact H9
      iexact H10
    · iintro %_ ⟨H6, H7, H8, H11, H9, H10⟩
      isplitl [H6]; · iexact H6
      isplitl [H7]; · iexact H7
      isplitl [H8]; · iexact H8
      isplitl [H11]; · iexact H11
      rw [before_succ, before_succ]
      isplitl [H9]
      · iexists _; isplitl [H9]; · iexact H9
        ipureintro; rw [h9, ← View.writes_append]
      · iexists _; isplitl [H10]; · iexact H10
        ipureintro; rw [h10, ← View.writes_append]

/-- Before trip `k` of the third group's loop: what it reads, unchanged, and the two arrays with the earlier trips' pieces. -/
abbrev inv3 (c : Dev nD) (i : grid0.Coords) (arg1 : Memref sig .tc .vmem S1x2048x2304 .bf16) (harg1 : arg1.IsWhole) (arg2 : Memref sig .tc .vmem S4x256 .bf16) (harg2 : arg2.IsWhole) (arg3 : Memref sig .tc .vmem S256x256 .bf16) (harg3 : arg3.IsWhole) (arg4 : Memref sig .tc .vmem S256x256 .bf16) (harg4 : arg4.IsWhole) (arg5 : Memref sig .tc .vmem S1x2048x256 .bf16) (harg5 : arg5.IsWhole) (arg6 : Memref sig .tc .vmem S2048x256 .bf16) (harg6 : arg6.IsWhole) (arg7 : Memref sig .tc .vmem S2048x256 .bf16) (harg7 : arg7.IsWhole) (arg8 : Memref sig .tc .vmem S2048x256 .bf16) (harg8 : arg8.IsWhole) (arg9 : Memref sig .tc .vmem S3x2x2048x128 .f32) (harg9 : arg9.IsWhole) (arg10 : Memref sig .tc .vmem S3x2x2048x128 .f32) (harg10 : arg10.IsWhole) (arg11 : Memref sig .tc .vmem S2x128x256 .f32) (harg11 : arg11.IsWhole) (v2 : IVec S128x128 1) (v28 : Vec F S4x256 .bf16) (X6 : BufTy.Contents (Elt F) arg6.view.ty) (X7 : BufTy.Contents (Elt F) arg7.view.ty) (X8 : BufTy.Contents (Elt F) arg8.view.ty) (X11 : BufTy.Contents (Elt F) arg11.view.ty) (G9 : BufTy.Contents (Elt F) arg9.view.ty) (G10 : BufTy.Contents (Elt F) arg10.view.ty) (k : ℕ) (_u : PUnit) : sProp 𝕄G :=
  iprop((arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} X8) ∗ (arg11.view.loc (c : Thread nD τ) ↦[arg11.view.set]{fullShare} X11) ∗ (∃ f, (arg9.view.loc (c : Thread nD τ) ↦[arg9.view.set]{fullShare} f) ∗ ⌜f = arg9.view.writes (Elt F) G9 (before (fun k => (trip3 (F := F) c i arg1 harg1 arg2 harg2 arg3 harg3 arg4 harg4 arg5 harg5 arg6 harg6 arg7 harg7 arg8 harg8 arg9 harg9 arg10 harg10 arg11 harg11 v2 v28 X6 X7 X8 X11 k).1.1) k)⌝) ∗ (∃ f, (arg10.view.loc (c : Thread nD τ) ↦[arg10.view.set]{fullShare} f) ∗ ⌜f = arg10.view.writes (Elt F) G10 (before (fun k => (trip3 (F := F) c i arg1 harg1 arg2 harg2 arg3 harg3 arg4 harg4 arg5 harg5 arg6 harg6 arg7 harg7 arg8 harg8 arg9 harg9 arg10 harg10 arg11 harg11 v2 v28 X6 X7 X8 X11 k).1.2) k)⌝))

set_option warn.classDefReducibility false in
/-- The third group's loop by its invariant. -/
@[sl_loop] def loop3 (c : Dev nD) (E : Set ℕ) (i : grid0.Coords) (arg1 : Memref sig .tc .vmem S1x2048x2304 .bf16) (harg1 : arg1.IsWhole) (arg2 : Memref sig .tc .vmem S4x256 .bf16) (harg2 : arg2.IsWhole) (arg3 : Memref sig .tc .vmem S256x256 .bf16) (harg3 : arg3.IsWhole) (arg4 : Memref sig .tc .vmem S256x256 .bf16) (harg4 : arg4.IsWhole) (arg5 : Memref sig .tc .vmem S1x2048x256 .bf16) (harg5 : arg5.IsWhole) (arg6 : Memref sig .tc .vmem S2048x256 .bf16) (harg6 : arg6.IsWhole) (arg7 : Memref sig .tc .vmem S2048x256 .bf16) (harg7 : arg7.IsWhole) (arg8 : Memref sig .tc .vmem S2048x256 .bf16) (harg8 : arg8.IsWhole) (arg9 : Memref sig .tc .vmem S3x2x2048x128 .f32) (harg9 : arg9.IsWhole) (arg10 : Memref sig .tc .vmem S3x2x2048x128 .f32) (harg10 : arg10.IsWhole) (arg11 : Memref sig .tc .vmem S2x128x256 .f32) (harg11 : arg11.IsWhole) (v2 : IVec S128x128 1) (v28 : Vec F S4x256 .bf16) (X6 : BufTy.Contents (Elt F) arg6.view.ty) (X7 : BufTy.Contents (Elt F) arg7.view.ty) (X8 : BufTy.Contents (Elt F) arg8.view.ty) (X11 : BufTy.Contents (Elt F) arg11.view.ty) (G9 : BufTy.Contents (Elt F) arg9.view.ty) (G10 : BufTy.Contents (Elt F) arg10.view.ty) :
    LoopInvTy_k0_t3 (F := F) Unit ℕ (UR sig nD τ) ℕ Variants.none c none E i arg1 harg1 arg2 harg2 arg3 harg3 arg4 harg4 arg5 harg5 arg6 harg6 arg7 harg7 arg8 harg8 arg9 harg9 arg10 harg10 arg11 harg11 v2 v28 where
  inv := inv3 (F := F) c i arg1 harg1 arg2 harg2 arg3 harg3 arg4 harg4 arg5 harg5 arg6 harg6 arg7 harg7 arg8 harg8 arg9 harg9 arg10 harg10 arg11 harg11 v2 v28 X6 X7 X8 X11 G9 G10
  step k acc := by
    iintro ⟨H6, H7, H8, H11, ⟨%f9, H9, %h9⟩, ⟨%f10, H10, %h10⟩⟩
    iapply (wp_wand_r Idealize.ShloMosaic.frame (wpE (defs₀ (F := F)) Variants.none (c : Thread nD τ) none) E)
    isplitl [H6 H7 H8 H11 H9 H10]
    · iapply ((trip3 (F := F) c i arg1 harg1 arg2 harg2 arg3 harg3 arg4 harg4 arg5 harg5 arg6 harg6 arg7 harg7 arg8 harg8 arg9 harg9 arg10 harg10 arg11 harg11 v2 v28 X6 X7 X8 X11 k).2 E f9 f10)
      isplitl [H6]; · iexact H6
      isplitl [H7]; · iexact H7
      isplitl [H8]; · iexact H8
      isplitl [H11]; · iexact H11
      isplitl [H9]; · iexact H9
      iexact H10
    · iintro %_ ⟨H6, H7, H8, H11, H9, H10⟩
      isplitl [H6]; · iexact H6
      isplitl [H7]; · iexact H7
      isplitl [H8]; · iexact H8
      isplitl [H11]; · iexact H11
      rw [before_succ, before_succ]
      isplitl [H9]
      · iexists _; isplitl [H9]; · iexact H9
        ipureintro; rw [h9, ← View.writes_append]
      · iexists _; isplitl [H10]; · iexact H10
        ipureintro; rw [h10, ← View.writes_append]

end Cert.Kernel2Ideal.Attn

end
-- ==== Proof.AttnBody.lean ====
module

public import proofs.«01_k».proof.Proof.AttnLoops

@[expose] public section

set_option maxRecDepth 16384
set_option maxHeartbeats 4000000

noncomputable section

namespace Cert.Kernel2Ideal.Attn

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

/-- The resource algebra of the run. -/
local notation "𝕄G" => MT nD τ sig Unit (Elt F) ℕ (UR sig nD τ) ℕ

/-! What the scratch arrays hold, as functions of the call's blocks. -/

/-- The two additive masks: row 0 for a first block, row 1 for any other. -/
def masks : Vec F S2x128x256 .f32 :=
  View.canon (Val := Elt F)
    [⟨Rect.unit (s := S2x128x256) ![0, 0, 0] S1x128x256.size inb_S2x128x256_S1x128x256_0_0_0, k0_pay125 (F := F)⟩,
     ⟨Rect.unit (s := S2x128x256) ![1, 0, 0] S1x128x256.size inb_S2x128x256_S1x128x256_1_0_0, k0_pay124 (F := F)⟩]

/-- A permutation matrix times 256 rows of the block's columns. -/
def shuffle (p : FVec F S256x256 .bf16) (w : Vec F S1x256x256 .bf16) : FVec F S256x256 .bf16 :=
  shapeCast S256x256 (truncf .bf16 (matmul dot_S256x256_S256x256_S256x256_1_0_0_1_n_n none p (shapeCast S256x256 w shapeCasts_S1x256x256_S256x256 : FVec F S256x256 .bf16) (constant S256x256 .f32 0x00000000#32)) bitsLt_bf16_f32 : FVec F S256x256 .bf16) shapeCasts_S256x256_S256x256

/-- The box of the block's rows `256 b ..` and columns `n ..`. -/
abbrev box (x : Vec F S1x2048x2304 .bf16) (b n : ℕ) (h : ∀ a, (![0, 256 * b, n] : Fin 3 → ℕ) a + S1x256x256.size a ≤ S1x2048x2304.size a) : Vec F S1x256x256 .bf16 :=
  View.ld (Val := Elt F) x (Rect.unit (s := S1x2048x2304) ![0, 256 * b, n] S1x256x256.size h)

/-- The eight pieces of a gathered array: each 256 rows of the columns at `n`, permuted. -/
def gathers (p : FVec F S256x256 .bf16) (x : Vec F S1x2048x2304 .bf16) (n : ℕ)
    (h : ∀ b : Fin 8, ∀ a, (![0, 256 * b.val, n] : Fin 3 → ℕ) a + S1x256x256.size a ≤ S1x2048x2304.size a) : List (View.Piece (Elt F) S2048x256 .bf16) :=
  [⟨Rect.unit (s := S2048x256) ![1792, 0] S256x256.size inb_S2048x256_S256x256_1792_0, shuffle p (box x 7 n (h 7))⟩,
   ⟨Rect.unit (s := S2048x256) ![1536, 0] S256x256.size inb_S2048x256_S256x256_1536_0, shuffle p (box x 6 n (h 6))⟩,
   ⟨Rect.unit (s := S2048x256) ![1280, 0] S256x256.size inb_S2048x256_S256x256_1280_0, shuffle p (box x 5 n (h 5))⟩,
   ⟨Rect.unit (s := S2048x256) ![1024, 0] S256x256.size inb_S2048x256_S256x256_1024_0, shuffle p (box x 4 n (h 4))⟩,
   ⟨Rect.unit (s := S2048x256) ![768, 0] S256x256.size inb_S2048x256_S256x256_768_0, shuffle p (box x 3 n (h 3))⟩,
   ⟨Rect.unit (s := S2048x256) ![512, 0] S256x256.size inb_S2048x256_S256x256_512_0, shuffle p (box x 2 n (h 2))⟩,
   ⟨Rect.unit (s := S2048x256) ![256, 0] S256x256.size inb_S2048x256_S256x256_256_0, shuffle p (box x 1 n (h 1))⟩,
   ⟨Rect.unit (s := S2048x256) ![0, 0] S256x256.size inb_S2048x256_S256x256_0_0, shuffle p (box x 0 n (h 0))⟩]

theorem gathers_cover (p : FVec F S256x256 .bf16) (x : Vec F S1x2048x2304 .bf16) (n : ℕ) (h) (L : List (View.Piece (Elt F) S2048x256 .bf16)) (y : S2048x256.Idx) :
    ∃ pc ∈ gathers p x n h ++ L, y ∈ pc.1.set := by
  obtain ⟨pc, hp, hy⟩ := View.cover_of_tiled (gathers p x n h) S256x256.size (by rfl) y
  exact ⟨pc, List.mem_append_left _ hp, hy⟩

theorem inb256 : ∀ b : Fin 8, ∀ a, (![0, 256 * b.val, 256] : Fin 3 → ℕ) a + S1x256x256.size a ≤ S1x2048x2304.size a := by decide
theorem inb1024 : ∀ b : Fin 8, ∀ a, (![0, 256 * b.val, 1024] : Fin 3 → ℕ) a + S1x256x256.size a ≤ S1x2048x2304.size a := by decide
theorem inb1792 : ∀ b : Fin 8, ∀ a, (![0, 256 * b.val, 1792] : Fin 3 → ℕ) a + S1x256x256.size a ≤ S1x2048x2304.size a := by decide
theorem inb512 : ∀ b : Fin 8, ∀ a, (![0, 256 * b.val, 512] : Fin 3 → ℕ) a + S1x256x256.size a ≤ S1x2048x2304.size a := by decide
theorem inb1280 : ∀ b : Fin 8, ∀ a, (![0, 256 * b.val, 1280] : Fin 3 → ℕ) a + S1x256x256.size a ≤ S1x2048x2304.size a := by decide
theorem inb2048 : ∀ b : Fin 8, ∀ a, (![0, 256 * b.val, 2048] : Fin 3 → ℕ) a + S1x256x256.size a ≤ S1x2048x2304.size a := by decide

/-- The gathered queries, keys and values of the second group. -/
def got4 (p : FVec F S256x256 .bf16) (x : Vec F S1x2048x2304 .bf16) : Vec F S2048x256 .bf16 × Vec F S2048x256 .bf16 × Vec F S2048x256 .bf16 :=
  ⟨View.canon (Val := Elt F) (gathers p x 256 inb256 ++ []), View.canon (Val := Elt F) (gathers p x 1024 inb1024 ++ []), View.canon (Val := Elt F) (gathers p x 1792 inb1792 ++ [])⟩

/-- The gathered queries, keys and values of the third group, written over the second's. -/
def got16 (p p4 : FVec F S256x256 .bf16) (x : Vec F S1x2048x2304 .bf16) : Vec F S2048x256 .bf16 × Vec F S2048x256 .bf16 × Vec F S2048x256 .bf16 :=
  ⟨View.canon (Val := Elt F) (gathers p x 512 inb512 ++ (gathers p4 x 256 inb256 ++ [])), View.canon (Val := Elt F) (gathers p x 1280 inb1280 ++ (gathers p4 x 1024 inb1024 ++ [])),
   View.canon (Val := Elt F) (gathers p x 2048 inb2048 ++ (gathers p4 x 1792 inb1792 ++ []))⟩

/-- All pieces written by the three loops, the last first: outputs and log-normalisers. -/
def allO (hm : Vec F S4x256 .bf16) (p4 p16 : FVec F S256x256 .bf16) (x : Vec F S1x2048x2304 .bf16) : Pcs F :=
  before (fun k => (pcs3 hm (got16 p16 p4 x).1 (got16 p16 p4 x).2.1 (got16 p16 p4 x).2.2 masks k).1) k0_t3_loop.trips
    ++ (before (fun k => (pcs2 hm (got4 p4 x).1 (got4 p4 x).2.1 (got4 p4 x).2.2 masks k).1) k0_t2_loop.trips
      ++ before (fun k => (pcs1 hm x masks k).1) k0_t1_loop.trips)
def allL (hm : Vec F S4x256 .bf16) (p4 p16 : FVec F S256x256 .bf16) (x : Vec F S1x2048x2304 .bf16) : Pcs F :=
  before (fun k => (pcs3 hm (got16 p16 p4 x).1 (got16 p16 p4 x).2.1 (got16 p16 p4 x).2.2 masks k).2) k0_t3_loop.trips
    ++ (before (fun k => (pcs2 hm (got4 p4 x).1 (got4 p4 x).2.1 (got4 p4 x).2.2 masks k).2) k0_t2_loop.trips
      ++ before (fun k => (pcs1 hm x masks k).2) k0_t1_loop.trips)

/-- The boxes of the second group's pieces, the third's and the first's cover both arrays, whatever is written there. -/
theorem cover_boxes (P1 : Fin k0_t1_loop.trips → Pcs F) (P2 : Fin k0_t2_loop.trips → Pcs F) (P3 : Fin k0_t3_loop.trips → Pcs F)
    (h1 : ∀ k, ∃ u w, P1 k = [⟨Rect.unit (s := S3x2x2048x128) (k0_off8 k) S1x1x128x128.size (k0_off8_inb k), u⟩, ⟨Rect.unit (s := S3x2x2048x128) (k0_off7 k) S1x1x128x128.size (k0_off7_inb k), w⟩])
    (h2 : ∀ k, ∃ u w, P2 k = [⟨⟨(⟨k0_off13 k, S1x1x128x128.size, ![1, 1, 4, 1], k0_off13_inb k⟩ : LoadRect S3x2x2048x128), spos_1_1_4_1⟩, u⟩, ⟨⟨(⟨k0_off12 k, S1x1x128x128.size, ![1, 1, 4, 1], k0_off12_inb k⟩ : LoadRect S3x2x2048x128), spos_1_1_4_1⟩, w⟩])
    (h3 : ∀ k, ∃ u w, P3 k = [⟨⟨(⟨k0_off16 k, S1x1x128x128.size, ![1, 1, 16, 1], k0_off16_inb k⟩ : LoadRect S3x2x2048x128), spos_1_1_16_1⟩, u⟩, ⟨⟨(⟨k0_off15 k, S1x1x128x128.size, ![1, 1, 16, 1], k0_off15_inb k⟩ : LoadRect S3x2x2048x128), spos_1_1_16_1⟩, w⟩])
    (y : S3x2x2048x128.Idx) :
    ∃ p ∈ before P3 k0_t3_loop.trips ++ (before P2 k0_t2_loop.trips ++ before P1 k0_t1_loop.trips), y ∈ p.1.set := by
  have n1 : k0_t1_loop.trips = 16 := by decide +kernel
  have n2 : k0_t2_loop.trips = 16 := by decide +kernel
  have n3 : k0_t3_loop.trips = 16 := by decide +kernel
  have y0 : (y 0).val < 3 := (y 0).isLt
  have y1 : (y 1).val < 2 := (y 1).isLt
  have y2 : (y 2).val < 2048 := (y 2).isLt
  have y3 : (y 3).val < 128 := (y 3).isLt
  have e1 : (((y 2).val % 4) * 4 + (y 2).val / 512) % 4 = (y 2).val / 512 := by omega
  have e2 : (((y 2).val % 4) * 4 + (y 2).val / 512) / 4 = (y 2).val % 4 := by omega
  simp only [List.mem_append, mem_before]
  have hg : (y 0).val = 0 ∨ (y 0).val = 1 ∨ (y 0).val = 2 := by omega
  have hh : (y 1).val = 0 ∨ (y 1).val = 1 := by omega
  rcases hg with hg | hg | hg
  · let k : Fin k0_t1_loop.trips := ⟨(y 2).val / 128, by rw [n1]; omega⟩
    obtain ⟨u, w, hP⟩ := h1 k
    rcases hh with hh | hh
    · refine ⟨⟨Rect.unit (s := S3x2x2048x128) (k0_off7 k) S1x1x128x128.size (k0_off7_inb k), w⟩, Or.inr (Or.inr ⟨k, k.isLt, by rw [hP]; simp only [List.mem_cons, _root_.true_or, _root_.or_true]⟩), (LoadRect.mem_set _).mpr fun a => ?_⟩
      have o0 : k0_off7 k 0 = _ := congrFun (off7_eq k) 0
      have o1 : k0_off7 k 1 = _ := congrFun (off7_eq k) 1
      have o2 : k0_off7 k 2 = 128 * ((y 2).val / 128) := congrFun (off7_eq k) 2
      have o3 : k0_off7 k 3 = 0 := congrFun (off7_eq k) 3
      match a with
      | ⟨0, _⟩ => exact ⟨0, Nat.zero_lt_one, by show (y 0).val = k0_off7 k 0 + 1 * 0; rw [o0, hg]; rfl⟩
      | ⟨1, _⟩ => exact ⟨0, Nat.zero_lt_one, by show (y 1).val = k0_off7 k 1 + 1 * 0; rw [o1, hh]; rfl⟩
      | ⟨2, _⟩ => exact ⟨(y 2).val % 128, by show (y 2).val % 128 < 128; omega, by show (y 2).val = k0_off7 k 2 + 1 * ((y 2).val % 128); rw [o2]; omega⟩
      | ⟨3, _⟩ => exact ⟨(y 3).val, y3, by show (y 3).val = k0_off7 k 3 + 1 * (y 3).val; rw [o3]; omega⟩
    · refine ⟨⟨Rect.unit (s := S3x2x2048x128) (k0_off8 k) S1x1x128x128.size (k0_off8_inb k), u⟩, Or.inr (Or.inr ⟨k, k.isLt, by rw [hP]; simp only [List.mem_cons, _root_.true_or, _root_.or_true]⟩), (LoadRect.mem_set _).mpr fun a => ?_⟩
      have o0 : k0_off8 k 0 = _ := congrFun (off8_eq k) 0
      have o1 : k0_off8 k 1 = _ := congrFun (off8_eq k) 1
      have o2 : k0_off8 k 2 = 128 * ((y 2).val / 128) := congrFun (off8_eq k) 2
      have o3 : k0_off8 k 3 = 0 := congrFun (off8_eq k) 3
      match a with
      | ⟨0, _⟩ => exact ⟨0, Nat.zero_lt_one, by show (y 0).val = k0_off8 k 0 + 1 * 0; rw [o0, hg]; rfl⟩
      | ⟨1, _⟩ => exact ⟨0, Nat.zero_lt_one, by show (y 1).val = k0_off8 k 1 + 1 * 0; rw [o1, hh]; rfl⟩
      | ⟨2, _⟩ => exact ⟨(y 2).val % 128, by show (y 2).val % 128 < 128; omega, by show (y 2).val = k0_off8 k 2 + 1 * ((y 2).val % 128); rw [o2]; omega⟩
      | ⟨3, _⟩ => exact ⟨(y 3).val, y3, by show (y 3).val = k0_off8 k 3 + 1 * (y 3).val; rw [o3]; omega⟩
  · let k : Fin k0_t2_loop.trips := ⟨((y 2).val % 4) * 4 + (y 2).val / 512, by rw [n2]; omega⟩
    obtain ⟨u, w, hP⟩ := h2 k
    rcases hh with hh | hh
    · refine ⟨⟨⟨(⟨k0_off12 k, S1x1x128x128.size, ![1, 1, 4, 1], k0_off12_inb k⟩ : LoadRect S3x2x2048x128), spos_1_1_4_1⟩, w⟩, Or.inr (Or.inl ⟨k, k.isLt, by rw [hP]; simp only [List.mem_cons, _root_.true_or, _root_.or_true]⟩), (LoadRect.mem_set _).mpr fun a => ?_⟩
      have o0 : k0_off12 k 0 = _ := congrFun (off12_eq k) 0
      have o1 : k0_off12 k 1 = _ := congrFun (off12_eq k) 1
      have o2 : k0_off12 k 2 = (512 * ((((y 2).val % 4) * 4 + (y 2).val / 512) % 4) + (((y 2).val % 4) * 4 + (y 2).val / 512) / 4) := congrFun (off12_eq k) 2
      have o3 : k0_off12 k 3 = 0 := congrFun (off12_eq k) 3
      match a with
      | ⟨0, _⟩ => exact ⟨0, Nat.zero_lt_one, by show (y 0).val = k0_off12 k 0 + 1 * 0; rw [o0, hg]; rfl⟩
      | ⟨1, _⟩ => exact ⟨0, Nat.zero_lt_one, by show (y 1).val = k0_off12 k 1 + 1 * 0; rw [o1, hh]; rfl⟩
      | ⟨2, _⟩ => exact ⟨((y 2).val % 512) / 4, by show ((y 2).val % 512) / 4 < 128; omega, by show (y 2).val = k0_off12 k 2 + 4 * (((y 2).val % 512) / 4); rw [o2]; rw [e1, e2]; omega⟩
      | ⟨3, _⟩ => exact ⟨(y 3).val, y3, by show (y 3).val = k0_off12 k 3 + 1 * (y 3).val; rw [o3]; omega⟩
    · refine ⟨⟨⟨(⟨k0_off13 k, S1x1x128x128.size, ![1, 1, 4, 1], k0_off13_inb k⟩ : LoadRect S3x2x2048x128), spos_1_1_4_1⟩, u⟩, Or.inr (Or.inl ⟨k, k.isLt, by rw [hP]; simp only [List.mem_cons, _root_.true_or, _root_.or_true]⟩), (LoadRect.mem_set _).mpr fun a => ?_⟩
      have o0 : k0_off13 k 0 = _ := congrFun (off13_eq k) 0
      have o1 : k0_off13 k 1 = _ := congrFun (off13_eq k) 1
      have o2 : k0_off13 k 2 = (512 * ((((y 2).val % 4) * 4 + (y 2).val / 512) % 4) + (((y 2).val % 4) * 4 + (y 2).val / 512) / 4) := congrFun (off13_eq k) 2
      have o3 : k0_off13 k 3 = 0 := congrFun (off13_eq k) 3
      match a with
      | ⟨0, _⟩ => exact ⟨0, Nat.zero_lt_one, by show (y 0).val = k0_off13 k 0 + 1 * 0; rw [o0, hg]; rfl⟩
      | ⟨1, _⟩ => exact ⟨0, Nat.zero_lt_one, by show (y 1).val = k0_off13 k 1 + 1 * 0; rw [o1, hh]; rfl⟩
      | ⟨2, _⟩ => exact ⟨((y 2).val % 512) / 4, by show ((y 2).val % 512) / 4 < 128; omega, by show (y 2).val = k0_off13 k 2 + 4 * (((y 2).val % 512) / 4); rw [o2]; rw [e1, e2]; omega⟩
      | ⟨3, _⟩ => exact ⟨(y 3).val, y3, by show (y 3).val = k0_off13 k 3 + 1 * (y 3).val; rw [o3]; omega⟩
  · let k : Fin k0_t3_loop.trips := ⟨(y 2).val % 16, by rw [n3]; omega⟩
    obtain ⟨u, w, hP⟩ := h3 k
    rcases hh with hh | hh
    · refine ⟨⟨⟨(⟨k0_off15 k, S1x1x128x128.size, ![1, 1, 16, 1], k0_off15_inb k⟩ : LoadRect S3x2x2048x128), spos_1_1_16_1⟩, w⟩, Or.inl ⟨k, k.isLt, by rw [hP]; simp only [List.mem_cons, _root_.true_or, _root_.or_true]⟩, (LoadRect.mem_set _).mpr fun a => ?_⟩
      have o0 : k0_off15 k 0 = _ := congrFun (off15_eq k) 0
      have o1 : k0_off15 k 1 = _ := congrFun (off15_eq k) 1
      have o2 : k0_off15 k 2 = ((y 2).val % 16) := congrFun (off15_eq k) 2
      have o3 : k0_off15 k 3 = 0 := congrFun (off15_eq k) 3
      match a with
      | ⟨0, _⟩ => exact ⟨0, Nat.zero_lt_one, by show (y 0).val = k0_off15 k 0 + 1 * 0; rw [o0, hg]; rfl⟩
      | ⟨1, _⟩ => exact ⟨0, Nat.zero_lt_one, by show (y 1).val = k0_off15 k 1 + 1 * 0; rw [o1, hh]; rfl⟩
      | ⟨2, _⟩ => exact ⟨(y 2).val / 16, by show (y 2).val / 16 < 128; omega, by show (y 2).val = k0_off15 k 2 + 16 * ((y 2).val / 16); rw [o2]; omega⟩
      | ⟨3, _⟩ => exact ⟨(y 3).val, y3, by show (y 3).val = k0_off15 k 3 + 1 * (y 3).val; rw [o3]; omega⟩
    · refine ⟨⟨⟨(⟨k0_off16 k, S1x1x128x128.size, ![1, 1, 16, 1], k0_off16_inb k⟩ : LoadRect S3x2x2048x128), spos_1_1_16_1⟩, u⟩, Or.inl ⟨k, k.isLt, by rw [hP]; simp only [List.mem_cons, _root_.true_or, _root_.or_true]⟩, (LoadRect.mem_set _).mpr fun a => ?_⟩
      have o0 : k0_off16 k 0 = _ := congrFun (off16_eq k) 0
      have o1 : k0_off16 k 1 = _ := congrFun (off16_eq k) 1
      have o2 : k0_off16 k 2 = ((y 2).val % 16) := congrFun (off16_eq k) 2
      have o3 : k0_off16 k 3 = 0 := congrFun (off16_eq k) 3
      match a with
      | ⟨0, _⟩ => exact ⟨0, Nat.zero_lt_one, by show (y 0).val = k0_off16 k 0 + 1 * 0; rw [o0, hg]; rfl⟩
      | ⟨1, _⟩ => exact ⟨0, Nat.zero_lt_one, by show (y 1).val = k0_off16 k 1 + 1 * 0; rw [o1, hh]; rfl⟩
      | ⟨2, _⟩ => exact ⟨(y 2).val / 16, by show (y 2).val / 16 < 128; omega, by show (y 2).val = k0_off16 k 2 + 16 * ((y 2).val / 16); rw [o2]; omega⟩
      | ⟨3, _⟩ => exact ⟨(y 3).val, y3, by show (y 3).val = k0_off16 k 3 + 1 * (y 3).val; rw [o3]; omega⟩

theorem coverO (hm : Vec F S4x256 .bf16) (p4 p16 : FVec F S256x256 .bf16) (x : Vec F S1x2048x2304 .bf16) (y : S3x2x2048x128.Idx) :
    ∃ p ∈ allO hm p4 p16 x, y ∈ p.1.set :=
  cover_boxes _ _ _ (fun _ => ⟨_, _, rfl⟩) (fun _ => ⟨_, _, rfl⟩) (fun _ => ⟨_, _, rfl⟩) y
theorem coverL (hm : Vec F S4x256 .bf16) (p4 p16 : FVec F S256x256 .bf16) (x : Vec F S1x2048x2304 .bf16) (y : S3x2x2048x128.Idx) :
    ∃ p ∈ allL hm p4 p16 x, y ∈ p.1.set :=
  cover_boxes _ _ _ (fun _ => ⟨_, _, rfl⟩) (fun _ => ⟨_, _, rfl⟩) (fun _ => ⟨_, _, rfl⟩) y

/-- The three groups' outputs and log-normalisers over all positions. -/
def groupsO (hm : Vec F S4x256 .bf16) (p4 p16 : FVec F S256x256 .bf16) (x : Vec F S1x2048x2304 .bf16) : Vec F S3x2x2048x128 .f32 := View.canon (Val := Elt F) (allO hm p4 p16 x)
def groupsL (hm : Vec F S4x256 .bf16) (p4 p16 : FVec F S256x256 .bf16) (x : Vec F S1x2048x2304 .bf16) : Vec F S3x2x2048x128 .f32 := View.canon (Val := Elt F) (allL hm p4 p16 x)

/-- Three groups' outputs weighted by their normalisers. -/
def blend (a1 a2 a3 o1 o2 o3 : Vec F S1x1x256x128 .f32) : FVec F S1x256x128 .bf16 :=
  let l1 : FVec F S256x128 .f32 := shapeCast S256x128 a1 shapeCasts_S1x1x256x128_S256x128
  let l2 : FVec F S256x128 .f32 := shapeCast S256x128 a2 shapeCasts_S1x1x256x128_S256x128
  let l3 : FVec F S256x128 .f32 := shapeCast S256x128 a3 shapeCasts_S1x1x256x128_S256x128
  let mx := maximumf (maximumf l1 l2) l3
  let r := divf (broadcast S256x128 (Scalar.ofBits .f32 0x3F800000#32 : F .f32)) (addf (addf (exp (subf l1 mx)) (exp (subf l2 mx))) (exp (subf l3 mx)))
  shapeCast S1x256x128 (truncf .bf16 (addf (addf
      (mulf (mulf (exp (subf l1 mx)) r) (shapeCast S256x128 o1 shapeCasts_S1x1x256x128_S256x128 : FVec F S256x128 .f32))
      (mulf (mulf (exp (subf l2 mx)) r) (shapeCast S256x128 o2 shapeCasts_S1x1x256x128_S256x128 : FVec F S256x128 .f32)))
      (mulf (mulf (exp (subf l3 mx)) r) (shapeCast S256x128 o3 shapeCasts_S1x1x256x128_S256x128 : FVec F S256x128 .f32))) bitsLt_bf16_f32 : FVec F S256x128 .bf16) shapeCasts_S256x128_S1x256x128

/-- What the last loop's trip `k` writes into the result's block. -/
def pcs4 (xo xl : Vec F S3x2x2048x128 .f32) (k : Fin k0_t4_loop.trips) : List (View.Piece (Elt F) S1x2048x256 .bf16) :=
  [⟨Rect.unit (s := S1x2048x256) (k0_off24 k) S1x256x128.size (k0_off24_inb k), blend
      (View.ld (Val := Elt F) xl (Rect.unit (s := S3x2x2048x128) (k0_off21 k) S1x1x256x128.size (k0_off21_inb k)))
      (View.ld (Val := Elt F) xl (Rect.unit (s := S3x2x2048x128) (k0_off22 k) S1x1x256x128.size (k0_off22_inb k)))
      (View.ld (Val := Elt F) xl (Rect.unit (s := S3x2x2048x128) (k0_off23 k) S1x1x256x128.size (k0_off23_inb k)))
      (View.ld (Val := Elt F) xo (Rect.unit (s := S3x2x2048x128) (k0_off21 k) S1x1x256x128.size (k0_off21_inb k)))
      (View.ld (Val := Elt F) xo (Rect.unit (s := S3x2x2048x128) (k0_off22 k) S1x1x256x128.size (k0_off22_inb k)))
      (View.ld (Val := Elt F) xo (Rect.unit (s := S3x2x2048x128) (k0_off23 k) S1x1x256x128.size (k0_off23_inb k)))⟩,
   ⟨Rect.unit (s := S1x2048x256) (k0_off20 k) S1x256x128.size (k0_off20_inb k), blend
      (View.ld (Val := Elt F) xl (Rect.unit (s := S3x2x2048x128) (k0_off17 k) S1x1x256x128.size (k0_off17_inb k)))
      (View.ld (Val := Elt F) xl (Rect.unit (s := S3x2x2048x128) (k0_off18 k) S1x1x256x128.size (k0_off18_inb k)))
      (View.ld (Val := Elt F) xl (Rect.unit (s := S3x2x2048x128) (k0_off19 k) S1x1x256x128.size (k0_off19_inb k)))
      (View.ld (Val := Elt F) xo (Rect.unit (s := S3x2x2048x128) (k0_off17 k) S1x1x256x128.size (k0_off17_inb k)))
      (View.ld (Val := Elt F) xo (Rect.unit (s := S3x2x2048x128) (k0_off18 k) S1x1x256x128.size (k0_off18_inb k)))
      (View.ld (Val := Elt F) xo (Rect.unit (s := S3x2x2048x128) (k0_off19 k) S1x1x256x128.size (k0_off19_inb k)))⟩]

/-- The pieces of the last loop's trips before `k`. -/
def before4 (P : Fin k0_t4_loop.trips → List (View.Piece (Elt F) S1x2048x256 .bf16)) : ℕ → List (View.Piece (Elt F) S1x2048x256 .bf16)
  | 0 => []
  | k + 1 => if h : k < k0_t4_loop.trips then P ⟨k, h⟩ ++ before4 P k else before4 P k

theorem mem_before4 (P : Fin k0_t4_loop.trips → List (View.Piece (Elt F) S1x2048x256 .bf16)) (p : View.Piece (Elt F) S1x2048x256 .bf16) (k : Fin k0_t4_loop.trips) (hp : p ∈ P k) :
    ∀ m : ℕ, k.val < m → p ∈ before4 P m
  | 0, h => absurd h (Nat.not_lt_zero _)
  | m + 1, h => by
    unfold before4
    rcases Nat.lt_succ_iff_lt_or_eq.mp h with hlt | heq
    · split
      · exact List.mem_append_right _ (mem_before4 P p k hp m hlt)
      · exact mem_before4 P p k hp m hlt
    · have hm : m < k0_t4_loop.trips := heq ▸ k.isLt
      rw [dif_pos hm]
      refine List.mem_append_left _ ?_
      have : k = ⟨m, hm⟩ := Fin.ext heq
      rw [← this]; exact hp

/-- And nothing else is among them. -/
theorem of_mem_before4 (P : Fin k0_t4_loop.trips → List (View.Piece (Elt F) S1x2048x256 .bf16)) (p : View.Piece (Elt F) S1x2048x256 .bf16) :
    ∀ m : ℕ, p ∈ before4 P m → ∃ k, p ∈ P k
  | 0, h => by simp [before4] at h
  | m + 1, h => by
    unfold before4 at h
    split at h
    · rcases List.mem_append.mp h with h | h
      · exact ⟨_, h⟩
      · exact of_mem_before4 P p m h
    · exact of_mem_before4 P p m h

theorem cover4 (xo xl : Vec F S3x2x2048x128 .f32) (y : S1x2048x256.Idx) :
    ∃ p ∈ before4 (pcs4 xo xl) k0_t4_loop.trips, y ∈ p.1.set := by
  have n4 : k0_t4_loop.trips = 8 := by decide +kernel
  have y0 : (y 0).val < 1 := (y 0).isLt
  have y1 : (y 1).val < 2048 := (y 1).isLt
  have y2 : (y 2).val < 256 := (y 2).isLt
  let k : Fin k0_t4_loop.trips := ⟨(y 1).val / 256, by rw [n4]; omega⟩
  by_cases hc : (y 2).val < 128
  · refine ⟨_, mem_before4 _ _ k (List.mem_cons_of_mem _ List.mem_cons_self) _ k.isLt, (LoadRect.mem_set _).mpr fun a => ?_⟩
    have o0 : k0_off20 k 0 = 0 := congrFun (k0_off20_eq k) 0
    have o1 : k0_off20 k 1 = 256 * ((y 1).val / 256) := congrFun (k0_off20_eq k) 1
    have o2 : k0_off20 k 2 = 0 := congrFun (k0_off20_eq k) 2
    match a with
    | ⟨0, _⟩ => exact ⟨0, Nat.zero_lt_one, by show (y 0).val = k0_off20 k 0 + 1 * 0; rw [o0]; omega⟩
    | ⟨1, _⟩ => exact ⟨(y 1).val % 256, by show (y 1).val % 256 < 256; omega, by show (y 1).val = k0_off20 k 1 + 1 * ((y 1).val % 256); rw [o1]; omega⟩
    | ⟨2, _⟩ => exact ⟨(y 2).val, by show (y 2).val < 128; omega, by show (y 2).val = k0_off20 k 2 + 1 * ((y 2).val); rw [o2]; omega⟩
  · refine ⟨_, mem_before4 _ _ k List.mem_cons_self _ k.isLt, (LoadRect.mem_set _).mpr fun a => ?_⟩
    have o0 : k0_off24 k 0 = 0 := congrFun (k0_off24_eq k) 0
    have o1 : k0_off24 k 1 = 256 * ((y 1).val / 256) := congrFun (k0_off24_eq k) 1
    have o2 : k0_off24 k 2 = 128 := congrFun (k0_off24_eq k) 2
    match a with
    | ⟨0, _⟩ => exact ⟨0, Nat.zero_lt_one, by show (y 0).val = k0_off24 k 0 + 1 * 0; rw [o0]; omega⟩
    | ⟨1, _⟩ => exact ⟨(y 1).val % 256, by show (y 1).val % 256 < 256; omega, by show (y 1).val = k0_off24 k 1 + 1 * ((y 1).val % 256); rw [o1]; omega⟩
    | ⟨2, _⟩ => exact ⟨(y 2).val - 128, by show (y 2).val - 128 < 128; omega, by show (y 2).val = k0_off24 k 2 + 1 * ((y 2).val - 128); rw [o2]; omega⟩

/-- The block of the result, from the four input blocks. -/
def result (x0 : Vec F S1x2048x2304 .bf16) (x1 : Vec F S4x256 .bf16) (x2 x3 : Vec F S256x256 .bf16) : Vec F S1x2048x256 .bf16 :=
  View.canon (Val := Elt F) (before4 (pcs4
      (groupsO (View.ld (Val := Elt F) x1 (Rect.unit (s := S4x256) ![0, 0] S4x256.size inb_S4x256_S4x256_0_0)) (k0_pay126 (View.ld (Val := Elt F) x2 (Rect.unit (s := S256x256) ![0, 0] S256x256.size inb_S256x256_S256x256_0_0))) (k0_pay158 (View.ld (Val := Elt F) x3 (Rect.unit (s := S256x256) ![0, 0] S256x256.size inb_S256x256_S256x256_0_0))) x0)
      (groupsL (View.ld (Val := Elt F) x1 (Rect.unit (s := S4x256) ![0, 0] S4x256.size inb_S4x256_S4x256_0_0)) (k0_pay126 (View.ld (Val := Elt F) x2 (Rect.unit (s := S256x256) ![0, 0] S256x256.size inb_S256x256_S256x256_0_0))) (k0_pay158 (View.ld (Val := Elt F) x3 (Rect.unit (s := S256x256) ![0, 0] S256x256.size inb_S256x256_S256x256_0_0))) x0)) k0_t4_loop.trips)

section Memrefs

variable (c : Dev nD) (i : grid0.Coords) (arg1 : Memref sig .tc .vmem S1x2048x2304 .bf16) (harg1 : arg1.IsWhole) (arg2 : Memref sig .tc .vmem S4x256 .bf16) (harg2 : arg2.IsWhole) (arg3 : Memref sig .tc .vmem S256x256 .bf16) (harg3 : arg3.IsWhole) (arg4 : Memref sig .tc .vmem S256x256 .bf16) (harg4 : arg4.IsWhole) (arg5 : Memref sig .tc .vmem S1x2048x256 .bf16) (harg5 : arg5.IsWhole) (arg6 : Memref sig .tc .vmem S2048x256 .bf16) (harg6 : arg6.IsWhole) (arg7 : Memref sig .tc .vmem S2048x256 .bf16) (harg7 : arg7.IsWhole) (arg8 : Memref sig .tc .vmem S2048x256 .bf16) (harg8 : arg8.IsWhole) (arg9 : Memref sig .tc .vmem S3x2x2048x128 .f32) (harg9 : arg9.IsWhole) (arg10 : Memref sig .tc .vmem S3x2x2048x128 .f32) (harg10 : arg10.IsWhole) (arg11 : Memref sig .tc .vmem S2x128x256 .f32) (harg11 : arg11.IsWhole)

theorem trip4_eq (X9 : BufTy.Contents (Elt F) arg9.view.ty) (X10 : BufTy.Contents (Elt F) arg10.view.ty) (k : Fin k0_t4_loop.trips) :
    (trip_k0_t4 (F := F) Variants.none c none i arg1 harg1 arg2 harg2 arg3 harg3 arg4 harg4 arg5 harg5 arg6 harg6 arg7 harg7 arg8 harg8 arg9 harg9 arg10 harg10 arg11 harg11 X9 X10 k).1 = pcs4 (arg9.view.read (Elt F) X9) (arg10.view.read (Elt F) X10) k := by
  unfold trip_k0_t4; rfl

theorem pb4_eq (X9 : BufTy.Contents (Elt F) arg9.view.ty) (X10 : BufTy.Contents (Elt F) arg10.view.ty) :
    ∀ n : ℕ, pb_k0_t4 (F := F) Variants.none c none i arg1 harg1 arg2 harg2 arg3 harg3 arg4 harg4 arg5 harg5 arg6 harg6 arg7 harg7 arg8 harg8 arg9 harg9 arg10 harg10 arg11 harg11 X9 X10 n = before4 (pcs4 (arg9.view.read (Elt F) X9) (arg10.view.read (Elt F) X10)) n
  | 0 => by rw [pb_k0_t4.eq_1]; rfl
  | n + 1 => by
    rw [pb_k0_t4.eq_2]
    unfold pb_k0_t4Step
    rw [pb4_eq X9 X10 n]
    by_cases h : n < k0_t4_loop.trips
    · simp only [before4, dif_pos h]
      exact congrArg (· ++ _) (trip4_eq c i arg1 harg1 arg2 harg2 arg3 harg3 arg4 harg4 arg5 harg5 arg6 harg6 arg7 harg7 arg8 harg8 arg9 harg9 arg10 harg10 arg11 harg11 X9 X10 ⟨n, h⟩)
    · simp only [before4, dif_neg h]

variable (v31 : FVec F S256x256 .bf16) (v181 : FVec F S256x256 .f32) (hm : Vec F S4x256 .bf16) (p4 p16 : FVec F S256x256 .bf16) (x : Vec F S1x2048x2304 .bf16)
  (X1 : BufTy.Contents (Elt F) arg1.view.ty) (X11 : BufTy.Contents (Elt F) arg11.view.ty)
  (Y6 Z6 : BufTy.Contents (Elt F) arg6.view.ty) (Y7 Z7 : BufTy.Contents (Elt F) arg7.view.ty) (Y8 Z8 : BufTy.Contents (Elt F) arg8.view.ty)
  (hx : arg1.view.read (Elt F) X1 = x) (hb : arg11.view.read (Elt F) X11 = masks)
  (hq : arg6.view.read (Elt F) Y6 = (got4 p4 x).1) (hk : arg7.view.read (Elt F) Y7 = (got4 p4 x).2.1) (hv : arg8.view.read (Elt F) Y8 = (got4 p4 x).2.2)
  (hq' : arg6.view.read (Elt F) Z6 = (got16 p16 p4 x).1) (hk' : arg7.view.read (Elt F) Z7 = (got16 p16 p4 x).2.1) (hv' : arg8.view.read (Elt F) Z8 = (got16 p16 p4 x).2.2)
include hx hb hq hk hv hq' hk' hv'

/-- The array holding the three loops' pieces reads the groups' outputs. -/
theorem readO (f : BufTy.Contents (Elt F) arg9.view.ty) :
    arg9.view.read (Elt F) (arg9.view.writes (Elt F) f
      (before (fun k => (trip3 (F := F) c i arg1 harg1 arg2 harg2 arg3 harg3 arg4 harg4 arg5 harg5 arg6 harg6 arg7 harg7 arg8 harg8 arg9 harg9 arg10 harg10 arg11 harg11 k0_pay122 hm Z6 Z7 Z8 X11 k).1.1) k0_t3_loop.trips
        ++ (before (fun k => (trip2 (F := F) c i arg1 harg1 arg2 harg2 arg3 harg3 arg4 harg4 arg5 harg5 arg6 harg6 arg7 harg7 arg8 harg8 arg9 harg9 arg10 harg10 arg11 harg11 k0_pay122 hm v31 v181 Y6 Y7 Y8 X11 k).1.1) k0_t2_loop.trips
          ++ before (fun k => (trip1 (F := F) c i arg1 harg1 arg2 harg2 arg3 harg3 arg4 harg4 arg5 harg5 arg6 harg6 arg7 harg7 arg8 harg8 arg9 harg9 arg10 harg10 arg11 harg11 hm X1 X11 k).1.1) k0_t1_loop.trips)))
      = groupsO hm p4 p16 x := by
  simp only [trip1_eq, trip2_eq, trip3_eq, hx, hb, hq, hk, hv, hq', hk', hv']
  exact View.read_writes_eq_canon _ _ _ (coverO hm p4 p16 x)

/-- The array holding the three loops' pieces reads the groups' log-normalisers. -/
theorem readL (f : BufTy.Contents (Elt F) arg10.view.ty) :
    arg10.view.read (Elt F) (arg10.view.writes (Elt F) f
      (before (fun k => (trip3 (F := F) c i arg1 harg1 arg2 harg2 arg3 harg3 arg4 harg4 arg5 harg5 arg6 harg6 arg7 harg7 arg8 harg8 arg9 harg9 arg10 harg10 arg11 harg11 k0_pay122 hm Z6 Z7 Z8 X11 k).1.2) k0_t3_loop.trips
        ++ (before (fun k => (trip2 (F := F) c i arg1 harg1 arg2 harg2 arg3 harg3 arg4 harg4 arg5 harg5 arg6 harg6 arg7 harg7 arg8 harg8 arg9 harg9 arg10 harg10 arg11 harg11 k0_pay122 hm v31 v181 Y6 Y7 Y8 X11 k).1.2) k0_t2_loop.trips
          ++ before (fun k => (trip1 (F := F) c i arg1 harg1 arg2 harg2 arg3 harg3 arg4 harg4 arg5 harg5 arg6 harg6 arg7 harg7 arg8 harg8 arg9 harg9 arg10 harg10 arg11 harg11 hm X1 X11 k).1.2) k0_t1_loop.trips)))
      = groupsL hm p4 p16 x := by
  simp only [trip1_eq, trip2_eq, trip3_eq, hx, hb, hq, hk, hv, hq', hk', hv']
  exact View.read_writes_eq_canon _ _ _ (coverL hm p4 p16 x)

end Memrefs

theorem read_masks (arg11 : Memref sig .tc .vmem S2x128x256 .f32) (f : BufTy.Contents (Elt F) arg11.view.ty) :
    arg11.view.read (Elt F) (arg11.view.writes (Elt F) f
      [⟨Rect.unit (s := S2x128x256) ![0, 0, 0] S1x128x256.size inb_S2x128x256_S1x128x256_0_0_0, k0_pay125 (F := F)⟩,
       ⟨Rect.unit (s := S2x128x256) ![1, 0, 0] S1x128x256.size inb_S2x128x256_S1x128x256_1_0_0, k0_pay124 (F := F)⟩]) = masks :=
  View.read_writes_eq_canon _ _ _ (View.cover_of_tiled _ S1x128x256.size (by rfl))

theorem read_gathers (a : Memref sig .tc .vmem S2048x256 .bf16) (f : BufTy.Contents (Elt F) a.view.ty) (p : FVec F S256x256 .bf16) (x : Vec F S1x2048x2304 .bf16) (n : ℕ) (h) (L : List (View.Piece (Elt F) S2048x256 .bf16)) :
    a.view.read (Elt F) (a.view.writes (Elt F) f (gathers p x n h ++ L)) = View.canon (Val := Elt F) (gathers p x n h ++ L) :=
  View.read_writes_eq_canon _ _ _ (gathers_cover p x n h L)

/-- The kernel's body on its memrefs: from the four input blocks, with the result's and the scratch buffers at anything, it ends with the
    inputs as they were and the result's block at `result` of them. -/
theorem body (c : Dev nD) (E : Set ℕ) (i : grid0.Coords) (arg1 : Memref sig .tc .vmem S1x2048x2304 .bf16) (harg1 : arg1.IsWhole) (arg2 : Memref sig .tc .vmem S4x256 .bf16) (harg2 : arg2.IsWhole) (arg3 : Memref sig .tc .vmem S256x256 .bf16) (harg3 : arg3.IsWhole) (arg4 : Memref sig .tc .vmem S256x256 .bf16) (harg4 : arg4.IsWhole) (arg5 : Memref sig .tc .vmem S1x2048x256 .bf16) (harg5 : arg5.IsWhole) (arg6 : Memref sig .tc .vmem S2048x256 .bf16) (harg6 : arg6.IsWhole) (arg7 : Memref sig .tc .vmem S2048x256 .bf16) (harg7 : arg7.IsWhole) (arg8 : Memref sig .tc .vmem S2048x256 .bf16) (harg8 : arg8.IsWhole) (arg9 : Memref sig .tc .vmem S3x2x2048x128 .f32) (harg9 : arg9.IsWhole) (arg10 : Memref sig .tc .vmem S3x2x2048x128 .f32) (harg10 : arg10.IsWhole) (arg11 : Memref sig .tc .vmem S2x128x256 .f32) (harg11 : arg11.IsWhole)
    (x0 : Vec F S1x2048x2304 .bf16) (x1 : Vec F S4x256 .bf16) (x2 x3 : Vec F S256x256 .bf16) (K : PUnit → sProp 𝕄G) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d)
        ∗ (∃ f, (arg6.view.loc (c : Thread nD τ) ↦[arg6.view.set]{fullShare} f)) ∗ (∃ f, (arg7.view.loc (c : Thread nD τ) ↦[arg7.view.set]{fullShare} f)) ∗ (∃ f, (arg8.view.loc (c : Thread nD τ) ↦[arg8.view.set]{fullShare} f)) ∗ (∃ f, (arg9.view.loc (c : Thread nD τ) ↦[arg9.view.set]{fullShare} f)) ∗ (∃ f, (arg10.view.loc (c : Thread nD τ) ↦[arg10.view.set]{fullShare} f)) ∗ (∃ f, (arg11.view.loc (c : Thread nD τ) ↦[arg11.view.set]{fullShare} f))
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (result x0 x1 x2 x3)
        ∗ (∃ f, (arg6.view.loc (c : Thread nD τ) ↦[arg6.view.set]{fullShare} f)) ∗ (∃ f, (arg7.view.loc (c : Thread nD τ) ↦[arg7.view.set]{fullShare} f)) ∗ (∃ f, (arg8.view.loc (c : Thread nD τ) ↦[arg8.view.set]{fullShare} f)) ∗ (∃ f, (arg9.view.loc (c : Thread nD τ) ↦[arg9.view.set]{fullShare} f)) ∗ (∃ f, (arg10.view.loc (c : Thread nD τ) ↦[arg10.view.set]{fullShare} f)) ∗ (∃ f, (arg11.view.loc (c : Thread nD τ) ↦[arg11.view.set]{fullShare} f))) -∗ K ⟨⟩))
      ⊢ wp frame (wpE (defs₀ (F := F)) Variants.none c none) E (cc0_attn i arg1 harg1 arg2 harg2 arg3 harg3 arg4 harg4 arg5 harg5 arg6 harg6 arg7 harg7 arg8 harg8 arg9 harg9 arg10 harg10 arg11 harg11) K := by
  simp only [cc0_attn_eq_skeleton]; unfold cc0_attn_skel
  simp only [k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton]
  unfold owns
  iintro ⟨⟨%f1, %hf1, H1⟩, ⟨%f2, %hf2, H2⟩, ⟨%f3, %hf3, H3⟩, ⟨%f4, %hf4, H4⟩, ⟨%d5, %f5, -, H5⟩, ⟨%f6, H6⟩, ⟨%f7, H7⟩, ⟨%f8, H8⟩, ⟨%f9, H9⟩, ⟨%f10, H10⟩, ⟨%f11, H11⟩, Hk⟩
  subst hf1 hf2 hf3 hf4
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    rw [pb4_eq]
    refine (View.read_writes_eq_canon _ _ _ (cover4 _ _)).trans ?_
    refine congrArg₂ (fun a b => View.canon (Val := Elt F) (before4 (pcs4 a b) k0_t4_loop.trips)) ?_ ?_
    · exact readO c i arg1 harg1 arg2 harg2 arg3 harg3 arg4 harg4 arg5 harg5 arg6 harg6 arg7 harg7 arg8 harg8 arg9 harg9 arg10 harg10 arg11 harg11 _ _ _ _ _ _ _ _ _ _ _ _ _ _ rfl (read_masks arg11 _)
        (read_gathers arg6 _ _ _ 256 inb256 []) (read_gathers arg7 _ _ _ 1024 inb1024 []) (read_gathers arg8 _ _ _ 1792 inb1792 [])
        (read_gathers arg6 _ _ _ 512 inb512 _) (read_gathers arg7 _ _ _ 1280 inb1280 _) (read_gathers arg8 _ _ _ 2048 inb2048 _) _
    · exact readL c i arg1 harg1 arg2 harg2 arg3 harg3 arg4 harg4 arg5 harg5 arg6 harg6 arg7 harg7 arg8 harg8 arg9 harg9 arg10 harg10 arg11 harg11 _ _ _ _ _ _ _ _ _ _ _ _ _ _ rfl (read_masks arg11 _)
        (read_gathers arg6 _ _ _ 256 inb256 []) (read_gathers arg7 _ _ _ 1024 inb1024 []) (read_gathers arg8 _ _ _ 1792 inb1792 [])
        (read_gathers arg6 _ _ _ 512 inb512 _) (read_gathers arg7 _ _ _ 1280 inb1280 _) (read_gathers arg8 _ _ _ 2048 inb2048 _) _
  isplitl [H6]; · iexists _; iexact H6
  isplitl [H7]; · iexists _; iexact H7
  isplitl [H8]; · iexists _; iexact H8
  isplitl [H9]; · iexists _; iexact H9
  isplitl [H10]; · iexists _; iexact H10
  iexists _; iexact H11

end Cert.Kernel2Ideal.Attn

end
-- ==== Proof.AttnMath.lean ====
/- Attention over the extended reals, one query at a time: a row of scores, its greatest, its weights, their sum, and the weighted
   average of the values; and that leaving out keys whose score is minus infinity changes none of them. -/
module

public import Mathlib.Data.EReal.Operations
public import Mathlib.Data.EReal.Inv
public import Mathlib.Algebra.BigOperators.Fin
public import Idealize.ShloMosaic.PureOps.Ideal
public import Idealize.ShloMosaic.PureOps.Ideal.Laws

@[expose] public section

noncomputable section

namespace Cert.Attn

open Idealize.ShloMosaic

variable {n N : ℕ}

/-- The greatest score. -/
def top (s : Fin n → EReal) : EReal := Finset.univ.sup s
/-- A key's unnormalised weight. -/
def wt (s : Fin n → EReal) (j : Fin n) : EReal := Ideal.exp (s j - top s)
/-- The weights' sum. -/
def mass (s : Fin n → EReal) : EReal := ∑ j, wt s j
/-- The weighted average of values. -/
def avg (s v : Fin n → EReal) : EReal := (∑ j, wt s j * v j) * (mass s)⁻¹
/-- The logarithm of the normaliser. -/
def lse (s : Fin n → EReal) : EReal := top s + Ideal.log (mass s)

/-- A masked key has weight zero, whatever the greatest score. -/
theorem exp_bot_sub (m : EReal) : Ideal.exp (⊥ - m) = 0 := by
  rw [sub_eq_add_neg, EReal.bot_add]; rfl

section Gather
variable (P : Fin n → Prop) [DecidablePred P] (σ : Fin n → Fin N) (s : Fin N → EReal)

/-- A row of scores read at the keys `σ j` of those `j` that count. -/
def pick (j : Fin n) : EReal := if P j then s (σ j) else ⊥

variable (hinj : ∀ i j, P i → P j → σ i = σ j → i = j) (hmiss : ∀ k, (∀ j, P j → σ j ≠ k) → s k = ⊥)
include hmiss

theorem top_pick : top (pick P σ s) = top s := by
  unfold top
  apply le_antisymm
  · refine Finset.sup_le fun j _ => ?_
    unfold pick; split
    · exact Finset.le_sup (f := s) (Finset.mem_univ _)
    · exact bot_le
  · refine Finset.sup_le fun k _ => ?_
    by_cases h : ∃ j, P j ∧ σ j = k
    · obtain ⟨j, hj, rfl⟩ := h
      refine le_trans (le_of_eq ?_) (Finset.le_sup (f := pick P σ s) (Finset.mem_univ j))
      unfold pick; rw [if_pos hj]
    · rw [hmiss k fun j hj e => h ⟨j, hj, e⟩]; exact bot_le

include hinj
/-- A weighted sum over the counted keys is the one over all. -/
theorem sum_pick (w : Fin n → EReal) (v : Fin N → EReal) (hw : ∀ j, P j → w j = v (σ j)) :
    ∑ j, wt (pick P σ s) j * w j = ∑ k, wt s k * v k := by
  have ht := top_pick P σ s hmiss
  have h0 : ∑ j, wt (pick P σ s) j * w j = ∑ j ∈ Finset.univ.filter P, wt (pick P σ s) j * w j := by
    refine (Finset.sum_subset (Finset.subset_univ _) fun j _ hj => ?_).symm
    have : ¬ P j := fun h => hj (Finset.mem_filter.mpr ⟨Finset.mem_univ _, h⟩)
    unfold wt
    rw [show pick P σ s j = ⊥ from if_neg this, exp_bot_sub, zero_mul]
  rw [h0]
  refine Finset.sum_of_injOn σ ?_ ?_ ?_ ?_
  · intro i hi j hj e
    exact hinj i j (Finset.mem_filter.mp hi).2 (Finset.mem_filter.mp hj).2 e
  · intro i _; exact Finset.mem_univ _
  · intro k _ hk
    have : s k = ⊥ := hmiss k fun j hj e => hk ⟨j, Finset.mem_coe.mpr (Finset.mem_filter.mpr ⟨Finset.mem_univ _, hj⟩), e⟩
    unfold wt; rw [this, exp_bot_sub, zero_mul]
  · intro j hj
    have hj := (Finset.mem_filter.mp hj).2
    unfold wt; rw [ht, hw j hj, show pick P σ s j = s (σ j) from if_pos hj]

theorem mass_pick : mass (pick P σ s) = mass s := by
  have h := sum_pick P σ s hinj hmiss (fun _ => 1) (fun _ => 1) fun _ _ => rfl
  simp only [mul_one] at h
  exact h

theorem lse_pick : lse (pick P σ s) = lse s := by
  unfold lse; rw [top_pick P σ s hmiss, mass_pick P σ s hinj hmiss]

theorem avg_pick (w : Fin n → EReal) (v : Fin N → EReal) (hw : ∀ j, P j → w j = v (σ j)) : avg (pick P σ s) w = avg s v := by
  unfold avg; rw [sum_pick P σ s hinj hmiss w v hw, mass_pick P σ s hinj hmiss]
end Gather

/-! Scores that are real or minus infinity, one of them real. -/

/-- No score is plus infinity and some score is not minus infinity. -/
def Tame (s : Fin n → EReal) : Prop := (∀ j, s j ≠ ⊤) ∧ ∃ j, s j ≠ ⊥

variable {s : Fin n → EReal}

theorem top_mem (h : Tame s) : ∃ j, s j = top s := by
  obtain ⟨j, _⟩ := h.2
  obtain ⟨k, _, hk⟩ := Finset.exists_mem_eq_sup Finset.univ ⟨j, Finset.mem_univ _⟩ s
  exact ⟨k, hk.symm⟩

theorem top_ne (h : Tame s) : top s ≠ ⊤ ∧ top s ≠ ⊥ := by
  obtain ⟨k, hk⟩ := top_mem h
  refine ⟨hk ▸ h.1 k, fun hb => ?_⟩
  obtain ⟨j, hj⟩ := h.2
  have : s j ≤ top s := Finset.le_sup (f := s) (Finset.mem_univ j)
  rw [hb] at this
  exact hj (le_bot_iff.mp this)

theorem exp_nonneg (x : EReal) : 0 ≤ Ideal.exp x := by
  induction x with
  | bot => exact le_rfl
  | top => exact le_top
  | coe r => exact EReal.coe_nonneg.mpr (Real.exp_pos r).le

theorem exp_ne_top {x : EReal} (h : x ≠ ⊤) : Ideal.exp x ≠ ⊤ := by
  induction x with
  | bot => exact EReal.zero_ne_top
  | top => exact absurd rfl h
  | coe r => exact EReal.coe_ne_top _

theorem sub_ne_top {x m : EReal} (hx : x ≠ ⊤) (hm : m ≠ ⊥) : x - m ≠ ⊤ := by
  rw [sub_eq_add_neg]
  refine EReal.add_ne_top hx fun h => hm ?_
  rwa [EReal.neg_eq_top_iff] at h

theorem sub_self_real {m : EReal} (h : m ≠ ⊤ ∧ m ≠ ⊥) : m - m = 0 := EReal.sub_self h.1 h.2

theorem exp_zero : Ideal.exp 0 = 1 := by
  show Ideal.exp ((0 : ℝ) : EReal) = 1
  rw [Ideal.exp_coe, Real.exp_zero]; rfl

theorem sum_ne_top {f : Fin n → EReal} (h : ∀ j, f j ≠ ⊤) (S : Finset (Fin n)) : ∑ j ∈ S, f j ≠ ⊤ := by
  classical
  induction S using Finset.induction_on with
  | empty => rw [Finset.sum_empty]; exact EReal.zero_ne_top
  | insert a S ha ih => rw [Finset.sum_insert ha]; exact EReal.add_ne_top (h a) ih

theorem mass_pos (h : Tame s) : 1 ≤ mass s := by
  obtain ⟨k, hk⟩ := top_mem h
  have h1 : wt s k = 1 := by unfold wt; rw [hk, sub_self_real (top_ne h), exp_zero]
  rw [← h1]
  exact Finset.single_le_sum (f := wt s) (fun j _ => exp_nonneg _) (Finset.mem_univ k)

theorem mass_ne_zero (h : Tame s) : mass s ≠ 0 := fun e => by
  have := mass_pos h; rw [e] at this; exact absurd this (by norm_num)

theorem mass_ne_top (h : Tame s) : mass s ≠ ⊤ :=
  sum_ne_top (fun j => exp_ne_top (sub_ne_top (h.1 j) (top_ne h).2)) _

/-- The log-normaliser is a real number. -/
theorem lse_real (h : Tame s) : lse s ≠ ⊤ ∧ lse s ≠ ⊥ := by
  have h1 := mass_pos h
  have h2 := mass_ne_top h
  unfold lse
  generalize hm : mass s = l at h1 h2
  induction l with
  | bot => exact absurd (le_bot_iff.mp h1) (EReal.coe_ne_bot 1)
  | top => exact absurd rfl h2
  | coe r =>
    have hr : (1 : ℝ) ≤ r := by exact_mod_cast h1
    rw [Ideal.log_coe, if_neg (by linarith)]
    exact ⟨EReal.add_ne_top (top_ne h).1 (EReal.coe_ne_top _), by
      rw [Ne, EReal.add_eq_bot_iff]; push Not; exact ⟨(top_ne h).2, EReal.coe_ne_bot _⟩⟩

theorem div_eq {x y : EReal} (h : y ≠ 0) : Ideal.div x y = x * y⁻¹ := if_neg h

/-- Three groups' averages weighted by the softmax of their log-normalisers. -/
def mix (l o : Fin 3 → EReal) : EReal := ∑ g, wt l g * (mass l)⁻¹ * o g

/-- Scaling by a nonnegative real comes out of a sum. -/
theorem sum_scale {m : ℕ} (f : Fin m → EReal) (a : ℝ) (ha : 0 ≤ a) : ∑ j, f j * (a : EReal) = (∑ j, f j) * (a : EReal) := by
  classical
  have : ∀ S : Finset (Fin m), ∑ j ∈ S, f j * (a : EReal) = (∑ j ∈ S, f j) * (a : EReal) := fun S => by
    induction S using Finset.induction_on with
    | empty => simp
    | insert b S hb ih =>
      rw [Finset.sum_insert hb, Finset.sum_insert hb, ih]
      exact (EReal.right_distrib_of_nonneg_of_ne_top (EReal.coe_nonneg.mpr ha) (EReal.coe_ne_top _) _ _).symm
  exact this _

/-- Of 256 columns, only a head's 64 count when the others are multiplied by zero. -/
theorem sum_head (q k w : Fin 256 → EReal) (h : Fin 4) (a : ℝ) (ha : 0 ≤ a)
    (hw : ∀ c, w c = if c.val / 64 = h.val then (a : EReal) else 0) :
    ∑ c, q c * w c * k c = (∑ e : Fin 64, q ⟨64 * h.val + e.val, by omega⟩ * k ⟨64 * h.val + e.val, by omega⟩) * (a : EReal) := by
  rw [← sum_scale _ a ha]
  symm
  refine Finset.sum_of_injOn (fun e : Fin 64 => (⟨64 * h.val + e.val, by omega⟩ : Fin 256)) ?_ ?_ ?_ ?_
  · intro i _ j _ e
    have := Fin.mk.inj_iff.mp e
    exact Fin.ext (by omega)
  · intro i _; exact Finset.mem_coe.mpr (Finset.mem_univ _)
  · intro c _ hc
    rw [hw c, if_neg, mul_zero, zero_mul]
    intro hd
    refine hc ⟨⟨c.val % 64, Nat.mod_lt _ (by decide)⟩, Finset.mem_coe.mpr (Finset.mem_univ _), Fin.ext ?_⟩
    show 64 * h.val + c.val % 64 = c.val
    omega
  · intro e _
    rw [hw, if_pos (by show (64 * h.val + e.val) / 64 = h.val; omega)]
    exact mul_right_comm _ _ _

/-- A one-hot row picks one entry. -/
theorem sum_pickone (w x : Fin n → EReal) (k : Fin n) (hw : ∀ j, w j = if j = k then 1 else 0) : ∑ j, w j * x j = x k := by
  rw [Finset.sum_eq_single k]
  · rw [hw, if_pos rfl, one_mul]
  · intro j _ hj; rw [hw, if_neg hj, zero_mul]
  · intro h; exact absurd (Finset.mem_univ _) h

/-! The problem's scores. -/

/-- Key `j` is seen from query `t` at dilation `d`. -/
def near (d t j : ℕ) : Prop := (j ≤ t ∧ t ≤ j + 128 * d) ∧ t % d = j % d
instance (d t j : ℕ) : Decidable (near d t j) := by unfold near; infer_instance

/-- The scores of query `t` of the head whose columns begin at `o`, at dilation `d`; `X` is the batch's row, by position and column. -/
def sc (X : ℕ → ℕ → EReal) (d o t : ℕ) (j : Fin 2048) : EReal :=
  if near d t j.val then (∑ e : Fin 64, X t (o + e.val) * X j.val (768 + (o + e.val))) * ((1 / 8 : ℝ) : EReal) else ⊥

/-- The head's output at its column `e`. -/
def headOut (X : ℕ → ℕ → EReal) (d o t e : ℕ) : EReal := avg (sc X d o t) fun j => X j.val (1536 + (o + e))

/-- The head's log-normaliser. -/
def headLse (X : ℕ → ℕ → EReal) (d o t : ℕ) : EReal := lse (sc X d o t)

/-- The layer's output at position `t` and column `c`: the three groups of the column's head, mixed. -/
def out (X : ℕ → ℕ → EReal) (t c : ℕ) : EReal :=
  mix (fun g => headLse X (4 ^ g.val) (256 * g.val + 64 * (c / 64)) t) fun g => headOut X (4 ^ g.val) (256 * g.val + 64 * (c / 64)) t (c % 64)

/-- An array of one batch, read at natural positions and columns. -/
def rowOf (f : Fin 2048 → Fin 2304 → EReal) (t c : ℕ) : EReal := f ⟨t % 2048, Nat.mod_lt _ (by decide)⟩ ⟨c % 2304, Nat.mod_lt _ (by decide)⟩

theorem rowOf_eq (f : Fin 2048 → Fin 2304 → EReal) (t c t' c' : ℕ) (ht : t < 2048) (hc : c < 2304) (et : t = t') (ec : c = c') :
    f ⟨t, ht⟩ ⟨c, hc⟩ = rowOf f t' c' := by
  subst et ec
  exact congrArg₂ f (Fin.ext (Nat.mod_eq_of_lt ht).symm) (Fin.ext (Nat.mod_eq_of_lt hc).symm)

/-- Finite entries make tame scores: every query sees itself. -/
theorem sc_tame (Y : ℕ → ℕ → ℝ) (d o t : ℕ) (ht : t < 2048) : Tame (sc (fun a b => (Y a b : EReal)) d o t) := by
  have hr : ∀ j : Fin 2048, ∃ r : ℝ, (∑ e : Fin 64, ((Y t (o + e.val) : ℝ) : EReal) * ((Y j.val (768 + (o + e.val)) : ℝ) : EReal)) * ((1 / 8 : ℝ) : EReal) = (r : EReal) := fun j =>
    ⟨(∑ e : Fin 64, Y t (o + e.val) * Y j.val (768 + (o + e.val))) * (1 / 8), by
      rw [EReal.coe_mul]; congr 1⟩
  constructor
  · intro j
    unfold sc; split
    · obtain ⟨r, h⟩ := hr j; rw [h]; exact EReal.coe_ne_top _
    · exact bot_ne_top
  · refine ⟨⟨t, ht⟩, ?_⟩
    unfold sc; rw [if_pos ⟨⟨le_rfl, Nat.le_add_right _ _⟩, rfl⟩]
    obtain ⟨r, h⟩ := hr ⟨t, ht⟩
    rw [h]; exact EReal.coe_ne_bot _

/-- Three real log-normalisers are tame. -/
theorem lse3_tame (Y : ℕ → ℕ → ℝ) (d o : Fin 3 → ℕ) (t : ℕ) (ht : t < 2048) : Tame fun g => headLse (fun a b => (Y a b : EReal)) (d g) (o g) t :=
  ⟨fun g => (lse_real (sc_tame Y (d g) (o g) t ht)).1, 0, (lse_real (sc_tame Y (d 0) (o 0) t ht)).2⟩

end Cert.Attn

end
-- ==== Proof.AttnWords.lean ====
/- Comparisons of small naturals written as 32-bit words, and the reference's mask. -/
module

public import proofs.«01_k».proof.Proof.AttnMath
public import Idealize.ShloMosaic.PureOps.Float

@[expose] public section

noncomputable section

namespace Cert.Attn

open Idealize.ShloMosaic

/-- A truth value as a one-bit word. -/
def bit (p : Prop) [Decidable p] : BitVec 1 := if p then 1#1 else 0#1

theorem bit_congr {p q : Prop} [Decidable p] [Decidable q] (h : p ↔ q) : bit p = bit q := by
  unfold bit; by_cases hp : p
  · rw [if_pos hp, if_pos (h.mp hp)]
  · rw [if_neg hp, if_neg fun hq => hp (h.mpr hq)]

theorem toInt_nat {a : ℕ} (h : a < 2 ^ 31) : (BitVec.ofNat 32 a).toInt = a := by
  rw [BitVec.toInt_eq_toNat_cond, BitVec.toNat_ofNat, Nat.mod_eq_of_lt (by omega : a < 2 ^ 32), if_pos (by omega)]

theorem ofBool_bit (p : Prop) [Decidable p] : BitVec.ofBool (decide p) = bit p := by
  unfold bit; by_cases hp : p
  · rw [decide_eq_true hp, if_pos hp]; rfl
  · rw [decide_eq_false hp, if_neg hp]; rfl

theorem sle_nat {a b : ℕ} (ha : a < 2 ^ 31) (hb : b < 2 ^ 31) : IntOp.cmpi .sle (BitVec.ofNat 32 a) (BitVec.ofNat 32 b) = bit (a ≤ b) := by
  rw [← ofBool_bit]
  refine congrArg BitVec.ofBool ?_
  show decide _ = decide _
  rw [toInt_nat ha, toInt_nat hb]
  exact decide_eq_decide.mpr Int.ofNat_le

theorem sge_nat {a b : ℕ} (ha : a < 2 ^ 31) (hb : b < 2 ^ 31) : IntOp.cmpi .sge (BitVec.ofNat 32 a) (BitVec.ofNat 32 b) = bit (b ≤ a) :=
  sle_nat hb ha

theorem slt_nat {a b : ℕ} (ha : a < 2 ^ 31) (hb : b < 2 ^ 31) : IntOp.cmpi .slt (BitVec.ofNat 32 a) (BitVec.ofNat 32 b) = bit (a < b) := by
  rw [← ofBool_bit]
  refine congrArg BitVec.ofBool ?_
  show decide _ = decide _
  rw [toInt_nat ha, toInt_nat hb]
  exact decide_eq_decide.mpr Int.ofNat_lt

theorem eq_nat {a b : ℕ} (ha : a < 2 ^ 32) (hb : b < 2 ^ 32) : IntOp.cmpi .eq (BitVec.ofNat 32 a) (BitVec.ofNat 32 b) = bit (a = b) := by
  rw [← ofBool_bit]
  refine congrArg BitVec.ofBool ?_
  rw [beq_eq_decide]
  refine decide_eq_decide.mpr ⟨fun h => ?_, fun h => h ▸ rfl⟩
  have := congrArg BitVec.toNat h
  rwa [BitVec.toNat_ofNat, BitVec.toNat_ofNat, Nat.mod_eq_of_lt ha, Nat.mod_eq_of_lt hb] at this

theorem and_bit (p q : Prop) [Decidable p] [Decidable q] : IntOp.andi (bit p) (bit q) = bit (p ∧ q) := by
  unfold bit IntOp.andi
  by_cases hp : p <;> by_cases hq : q <;> simp [hp, hq]

theorem select_bit {α : Type} (p : Prop) [Decidable p] (a b : α) : Scalar.select (bit p) a b = if p then a else b := by
  unfold bit
  by_cases hp : p
  · rw [if_pos hp, if_pos hp]; rfl
  · rw [if_neg hp, if_neg hp]; rfl

theorem add_nat (a b : ℕ) : IntOp.addi (BitVec.ofNat 32 a) (BitVec.ofNat 32 b) = BitVec.ofNat 32 (a + b) := (BitVec.ofNat_add a b).symm
theorem mul_nat (a b : ℕ) : IntOp.muli (BitVec.ofNat 32 a) (BitVec.ofNat 32 b) = BitVec.ofNat 32 (a * b) := (BitVec.ofNat_mul a b).symm

theorem sub_nat {a b : ℕ} (h : b ≤ a) : IntOp.subi (BitVec.ofNat 32 a) (BitVec.ofNat 32 b) = BitVec.ofNat 32 (a - b) := by
  show BitVec.ofNat 32 a - BitVec.ofNat 32 b = _
  conv_lhs => rw [show a = (a - b) + b by omega, BitVec.ofNat_add]
  exact BitVec.add_sub_cancel _ _

theorem toInt_diff {a b : ℕ} (ha : a < 2 ^ 30) (hb : b < 2 ^ 30) : (IntOp.subi (BitVec.ofNat 32 a) (BitVec.ofNat 32 b)).toInt = (a : ℤ) - b := by
  show (BitVec.ofNat 32 a - BitVec.ofNat 32 b).toInt = _
  rw [BitVec.toInt_sub, toInt_nat (by omega), toInt_nat (by omega)]
  exact Int.bmod_eq_of_le (by omega) (by omega)

theorem diff_ge {a b : ℕ} (ha : a < 2 ^ 30) (hb : b < 2 ^ 30) : IntOp.cmpi .sge (IntOp.subi (BitVec.ofNat 32 a) (BitVec.ofNat 32 b)) 0#32 = bit (b ≤ a) := by
  rw [← ofBool_bit]
  refine congrArg BitVec.ofBool ?_
  show decide _ = decide _
  rw [toInt_diff ha hb]
  refine decide_eq_decide.mpr ?_
  show (0 : ℤ) ≤ _ ↔ _
  omega

theorem diff_le {a b c : ℕ} (ha : a < 2 ^ 30) (hb : b < 2 ^ 30) (hc : c < 2 ^ 30) :
    IntOp.cmpi .sle (IntOp.subi (BitVec.ofNat 32 a) (BitVec.ofNat 32 b)) (BitVec.ofNat 32 c) = bit (a ≤ b + c) := by
  rw [← ofBool_bit]
  refine congrArg BitVec.ofBool ?_
  show decide _ = decide _
  rw [toInt_diff ha hb, toInt_nat (by omega)]
  refine decide_eq_decide.mpr ?_
  omega

/-- A group's dilation as the reference computes it. -/
theorem dil (g : Fin 3) : IntOp.shli .host 1#32 (IntOp.muli 2#32 (BitVec.ofNat 32 g.val)) = BitVec.ofNat 32 (4 ^ g.val) := by
  revert g; decide

theorem msb_nat {a : ℕ} (h : a < 2 ^ 31) : (BitVec.ofNat 32 a).msb = false := by
  rw [BitVec.msb_eq_false_iff_two_mul_lt, BitVec.toNat_ofNat]; omega

theorem rem_nat {u : ArithUnit} {a b : ℕ} (ha : a < 2 ^ 31) (hb : 0 < b) (hb' : b < 2 ^ 31) :
    IntOp.remsi u (BitVec.ofNat 32 a) (BitVec.ofNat 32 b) = BitVec.ofNat 32 (a % b) := by
  have hc : ¬ IntOp.SDivCorner (BitVec.ofNat 32 a) (BitVec.ofNat 32 b) := by
    rintro (h | ⟨h, _⟩)
    · have := congrArg BitVec.toNat h
      rw [BitVec.toNat_ofNat] at this
      have e : (0 : BitVec 32).toNat = 0 := rfl
      omega
    · have := congrArg BitVec.msb h
      rw [msb_nat ha] at this
      exact absurd this (by decide)
  unfold IntOp.remsi
  rw [if_neg hc, BitVec.srem_eq, msb_nat ha, msb_nat hb']
  apply BitVec.eq_of_toNat_eq
  have hm : a % b < b := Nat.mod_lt _ hb
  show (BitVec.ofNat 32 a % BitVec.ofNat 32 b).toNat = _
  rw [BitVec.toNat_umod, BitVec.toNat_ofNat, BitVec.toNat_ofNat, BitVec.toNat_ofNat, Nat.mod_eq_of_lt (by omega : a < 2 ^ 32),
    Nat.mod_eq_of_lt (by omega : b < 2 ^ 32), Nat.mod_eq_of_lt (by omega : a % b < 2 ^ 32)]

end Cert.Attn

end
-- ==== Proof.AttnHeads.lean ====
/- One block of attention, read at an index over the extended reals. -/
module

public import proofs.«01_k».proof.Proof.AttnBlock
public import proofs.«01_k».proof.Proof.AttnWords
public import Idealize.ShloMosaic.Lib.ValueIdx
public import Idealize.ShloMosaic.Lib.Pointwise
public import Idealize.ShloMosaic.PureOps.Ideal.Laws

@[expose] public section

set_option synthInstance.maxSize 4096
set_option maxRecDepth 8192

noncomputable section

namespace Cert.Kernel2Ideal.Attn

open Cert.Kernel2Ideal Cert.Kernel2Ideal.Gen Cert.Attn
open Idealize.ShloMosaic Idealize.SL.Sem

theorem fold_top {n : ℕ} (s : Fin n → EReal) : Finset.fold max (Ideal.ofBits FTy.f32 4286578688#32) s Finset.univ = top s := by
  rw [show Ideal.ofBits FTy.f32 4286578688#32 = ⊥ by simp [Ideal.ofBits, Ideal.ieee]]
  rfl

/-- A row of a matrix. -/
abbrev rowF {m n : ℕ} {φ : FTy} (s : FVec Ideal (⟨2, ![m, n]⟩ : Shape) φ) (r : Fin m) : Fin n → EReal := fun j => s (ix2 r j)

section Wide
variable (s : FVec Ideal S128x256 .f32) (r : Fin 128)

theorem rowMax_at (z : Fin 1) : rowMax s (ix2 r z) = top (rowF s r) := by
  unfold rowMax; pointwise; exact fold_top _

theorem weights_at (j : Fin 256) : weights s (ix2 r j) = wt (rowF s r) j := by
  unfold weights; pointwise [rowMax_at]; rfl

theorem rowSum_at (z : Fin 1) : rowSum s (ix2 r z) = mass (rowF s r) := by
  unfold rowSum; pointwise [weights_at]; rfl

theorem mixed_at (vv : FVec Ideal S256x256 .bf16) (c : Fin 256) : mixed s vv (ix2 r c) = ∑ j, wt (rowF s r) j * vv (ix2 j c) := by
  unfold mixed; pointwise [dot_S128x256_S256x256_S128x256_1_0_0_1_n_n, weights_at]
end Wide

section Narrow
variable (s : FVec Ideal S128x128 .f32) (r : Fin 128)

theorem rowMaxN_at (z : Fin 1) : rowMaxN s (ix2 r z) = top (rowF s r) := by
  unfold rowMaxN; pointwise; exact fold_top _

theorem weightsN_at (j : Fin 128) : weightsN s (ix2 r j) = wt (rowF s r) j := by
  unfold weightsN; pointwise [rowMaxN_at]; rfl

theorem rowSumN_at (z : Fin 1) : rowSumN s (ix2 r z) = mass (rowF s r) := by
  unfold rowSumN; pointwise [weightsN_at]; rfl

theorem mixedN_at (vv : FVec Ideal S128x256 .bf16) (c : Fin 256) : mixedN s vv (ix2 r c) = ∑ j, wt (rowF s r) j * vv (ix2 j c) := by
  unfold mixedN; pointwise [dot_S128x128_S128x256_S128x256_1_0_0_1_n_n, weightsN_at]
end Narrow

/-- A value per head, at a column's head. -/
def perHead (a b c d : EReal) (j : Fin 256) : EReal := if j.val < 64 then a else if j.val < 128 then b else if j.val < 192 then c else d

theorem byHead_at (a b c d : FVec Ideal S128x128 .f32) (A B C D : EReal) (r : Fin 128) (j : Fin 256)
    (ha : ∀ i : Fin 128, i.val = j.val → a (ix2 r i) = A) (hb : ∀ i : Fin 128, i.val = j.val → b (ix2 r i) = B)
    (hc : ∀ i : Fin 128, i.val + 128 = j.val → c (ix2 r i) = C) (hd : ∀ i : Fin 128, i.val + 128 = j.val → d (ix2 r i) = D) :
    byHead a b c d (ix2 r j) = perHead A B C D j := by
  unfold byHead k0_pay122 perHead; pointwise
  by_cases h : j.val < 128
  · rw [dif_pos h, slt_nat (by omega) (by omega), select_bit, ha ⟨j.val, h⟩ rfl, hb ⟨j.val, h⟩ rfl, if_pos h]
  · have e : j.val - 128 + 128 = j.val := by omega
    rw [dif_neg h, slt_nat (by omega) (by omega), select_bit, hc ⟨j.val - 128, by omega⟩ e, hd ⟨j.val - 128, by omega⟩ e, if_neg h,
      if_neg (by omega : ¬ j.val < 64)]
    by_cases h' : j.val < 192
    · rw [if_pos h', if_pos (by omega)]
    · rw [if_neg h', if_neg (by omega)]

theorem wide_at (x : FVec Ideal S128x1 .f32) (r i : Fin 128) : wide x (ix2 r i) = x (ix2 r 0) := by
  unfold wide; pointwise

theorem left_at (x : FVec Ideal S128x256 .f32) (r i : Fin 128) (j : Fin 256) (h : i.val = j.val) : left x (ix2 r i) = x (ix2 r j) := by
  unfold left; pointwise
  exact congrArg (fun k => x (ix2 r k)) (Fin.ext h)

theorem right_at (x : FVec Ideal S128x256 .f32) (r i : Fin 128) (j : Fin 256) (h : i.val + 128 = j.val) : right x (ix2 r i) = x (ix2 r j) := by
  unfold right; pointwise
  exact congrArg (fun k => x (ix2 r k)) (Fin.ext (by show 128 + i.val = j.val; omega))

/-- The block's outputs at an index. -/
theorem outOf_at (p0 p1 p2 p3 : FVec Ideal S128x256 .f32) (l0 l1 l2 l3 : FVec Ideal S128x1 .f32) (r : Fin 128) (j : Fin 256) :
    outOf p0 p1 p2 p3 l0 l1 l2 l3 (ix2 r j) = perHead (p0 (ix2 r j)) (p1 (ix2 r j)) (p2 (ix2 r j)) (p3 (ix2 r j)) j
      * Ideal.div 1 (perHead (l0 (ix2 r 0)) (l1 (ix2 r 0)) (l2 (ix2 r 0)) (l3 (ix2 r 0)) j) := by
  have h1 := byHead_at (left p0) (left p1) (right p2) (right p3) _ _ _ _ r j (fun i h => left_at p0 r i j h) (fun i h => left_at p1 r i j h)
    (fun i h => right_at p2 r i j h) (fun i h => right_at p3 r i j h)
  have h2 := byHead_at (wide l0) (wide l1) (wide l2) (wide l3) _ _ _ _ r j (fun i _ => wide_at l0 r i) (fun i _ => wide_at l1 r i)
    (fun i _ => wide_at l2 r i) (fun i _ => wide_at l3 r i)
  unfold outOf; pointwise [h1, h2]

/-- The block's log-normalisers at an index. -/
theorem lseOf_at (m0 m1 m2 m3 l0 l1 l2 l3 : FVec Ideal S128x1 .f32) (r : Fin 128) (j : Fin 256) :
    lseOf m0 m1 m2 m3 l0 l1 l2 l3 (ix2 r j) = perHead (m0 (ix2 r 0)) (m1 (ix2 r 0)) (m2 (ix2 r 0)) (m3 (ix2 r 0)) j
      + Ideal.log (perHead (l0 (ix2 r 0)) (l1 (ix2 r 0)) (l2 (ix2 r 0)) (l3 (ix2 r 0)) j) := by
  have h1 := byHead_at (wide m0) (wide m1) (wide m2) (wide m3) _ _ _ _ r j (fun i _ => wide_at m0 r i) (fun i _ => wide_at m1 r i)
    (fun i _ => wide_at m2 r i) (fun i _ => wide_at m3 r i)
  have h2 := byHead_at (wide l0) (wide l1) (wide l2) (wide l3) _ _ _ _ r j (fun i _ => wide_at l0 r i) (fun i _ => wide_at l1 r i)
    (fun i _ => wide_at l2 r i) (fun i _ => wide_at l3 r i)
  unfold lseOf; pointwise [h1, h2]

/-- A value chosen by a column's head. -/
theorem perHead_eq (f : Fin 4 → EReal) (j : Fin 256) : perHead (f 0) (f 1) (f 2) (f 3) j = f ⟨j.val / 64, by omega⟩ := by
  unfold perHead
  split_ifs with h0 h1 h2
  · exact congrArg f (Fin.ext (by show 0 = j.val / 64; omega))
  · exact congrArg f (Fin.ext (by show 1 = j.val / 64; omega))
  · exact congrArg f (Fin.ext (by show 2 = j.val / 64; omega))
  · exact congrArg f (Fin.ext (by show 3 = j.val / 64; omega))

/-- The scores of a head against `n` keys: the products over all columns, masked to the head's, and the additive mask. -/
def hs {n : ℕ} (hm : Vec Ideal S4x256 .bf16) (q : FVec Ideal S128x256 .bf16) (kk : Fin n → Fin 256 → EReal) (B : Fin 128 → Fin n → EReal) (h : Fin 4) (r : Fin 128) :
    Fin n → EReal := fun j => (∑ c : Fin 256, q (ix2 r c) * hm (ix2 h c) * kk j c) + B r j

section Scores
variable (hm : Vec Ideal S4x256 .bf16) (q : FVec Ideal S128x256 .bf16) (kk : FVec Ideal S256x256 .bf16) (B : FVec Ideal S128x256 .f32) (kn : FVec Ideal S128x256 .bf16) (Bn : FVec Ideal S128x128 .f32)
  (r : Fin 128)

theorem sc0_at : rowF (sc0 (dots hm q kk) B) r = hs hm q (fun j c => kk (ix2 j c)) (fun r j => B (ix2 r j)) 0 r := by
  funext j; unfold sc0 dots heads hs; pointwise [dot_S512x256_S256x256_S512x256_1_1_0_0_n_n]
theorem sc1_at : rowF (sc1 (dots hm q kk) B) r = hs hm q (fun j c => kk (ix2 j c)) (fun r j => B (ix2 r j)) 1 r := by
  funext j; unfold sc1 dots heads hs; pointwise [dot_S512x256_S256x256_S512x256_1_1_0_0_n_n]
theorem sc2_at : rowF (sc2 (dots hm q kk) B) r = hs hm q (fun j c => kk (ix2 j c)) (fun r j => B (ix2 r j)) 2 r := by
  funext j; unfold sc2 dots heads hs; pointwise [dot_S512x256_S256x256_S512x256_1_1_0_0_n_n]
  have e : (⟨256 + r.val - 128 - 128, by omega⟩ : Fin 128) = r := Fin.ext (by show 256 + r.val - 128 - 128 = r.val; omega)
  refine congrArg (· + _) (Finset.sum_congr rfl fun x _ => ?_)
  rw [dif_neg (by omega), dif_neg (by omega), dif_pos (by omega), e]
theorem sc3_at : rowF (sc3 (dots hm q kk) B) r = hs hm q (fun j c => kk (ix2 j c)) (fun r j => B (ix2 r j)) 3 r := by
  funext j; unfold sc3 dots heads hs; pointwise [dot_S512x256_S256x256_S512x256_1_1_0_0_n_n]
  have e : (⟨384 + r.val - 128 - 128 - 128, by omega⟩ : Fin 128) = r := Fin.ext (by show 384 + r.val - 128 - 128 - 128 = r.val; omega)
  refine congrArg (· + _) (Finset.sum_congr rfl fun x _ => ?_)
  rw [dif_neg (by omega), dif_neg (by omega), dif_neg (by omega), e]
theorem sn0_at : rowF (sn0 (dotsN hm q kn) Bn) r = hs hm q (fun j c => kn (ix2 j c)) (fun r j => Bn (ix2 r j)) 0 r := by
  funext j; unfold sn0 dotsN heads hs; pointwise [dot_S512x256_S128x256_S512x128_1_1_0_0_n_n]
theorem sn1_at : rowF (sn1 (dotsN hm q kn) Bn) r = hs hm q (fun j c => kn (ix2 j c)) (fun r j => Bn (ix2 r j)) 1 r := by
  funext j; unfold sn1 dotsN heads hs; pointwise [dot_S512x256_S128x256_S512x128_1_1_0_0_n_n]
theorem sn2_at : rowF (sn2 (dotsN hm q kn) Bn) r = hs hm q (fun j c => kn (ix2 j c)) (fun r j => Bn (ix2 r j)) 2 r := by
  funext j; unfold sn2 dotsN heads hs; pointwise [dot_S512x256_S128x256_S512x128_1_1_0_0_n_n]
  have e : (⟨256 + r.val - 128 - 128, by omega⟩ : Fin 128) = r := Fin.ext (by show 256 + r.val - 128 - 128 = r.val; omega)
  refine congrArg (· + _) (Finset.sum_congr rfl fun x _ => ?_)
  rw [dif_neg (by omega), dif_neg (by omega), dif_pos (by omega), e]
theorem sn3_at : rowF (sn3 (dotsN hm q kn) Bn) r = hs hm q (fun j c => kn (ix2 j c)) (fun r j => Bn (ix2 r j)) 3 r := by
  funext j; unfold sn3 dotsN heads hs; pointwise [dot_S512x256_S128x256_S512x128_1_1_0_0_n_n]
  have e : (⟨384 + r.val - 128 - 128 - 128, by omega⟩ : Fin 128) = r := Fin.ext (by show 384 + r.val - 128 - 128 - 128 = r.val; omega)
  refine congrArg (· + _) (Finset.sum_congr rfl fun x _ => ?_)
  rw [dif_neg (by omega), dif_neg (by omega), dif_neg (by omega), e]

variable (vv : FVec Ideal S256x256 .bf16) (vn : FVec Ideal S128x256 .bf16) (j : Fin 256)

/-- The outputs of a block against 256 keys. -/
theorem outW_at : outW hm q kk vv B (ix2 r j) =
    (∑ k, wt (hs hm q (fun j c => kk (ix2 j c)) (fun r j => B (ix2 r j)) ⟨j.val / 64, by omega⟩ r) k * vv (ix2 k j))
      * Ideal.div 1 (mass (hs hm q (fun j c => kk (ix2 j c)) (fun r j => B (ix2 r j)) ⟨j.val / 64, by omega⟩ r)) := by
  unfold outW
  rw [outOf_at]
  simp only [mixed_at, rowSum_at, sc0_at, sc1_at, sc2_at, sc3_at]
  rw [perHead_eq (fun h => ∑ k, wt (hs hm q (fun j c => kk (ix2 j c)) (fun r j => B (ix2 r j)) h r) k * vv (ix2 k j)),
    perHead_eq fun h => mass (hs hm q (fun j c => kk (ix2 j c)) (fun r j => B (ix2 r j)) h r)]

/-- The log-normalisers of a block against 256 keys. -/
theorem lseW_at : lseW hm q kk B (ix2 r j) = lse (hs hm q (fun j c => kk (ix2 j c)) (fun r j => B (ix2 r j)) ⟨j.val / 64, by omega⟩ r) := by
  unfold lseW
  rw [lseOf_at]
  simp only [rowMax_at, rowSum_at, sc0_at, sc1_at, sc2_at, sc3_at]
  rw [perHead_eq (fun h => top (hs hm q (fun j c => kk (ix2 j c)) (fun r j => B (ix2 r j)) h r)),
    perHead_eq fun h => mass (hs hm q (fun j c => kk (ix2 j c)) (fun r j => B (ix2 r j)) h r)]
  rfl

/-- The outputs of a block against 128 keys. -/
theorem outN_at : outN hm q kn vn Bn (ix2 r j) =
    (∑ k, wt (hs hm q (fun j c => kn (ix2 j c)) (fun r j => Bn (ix2 r j)) ⟨j.val / 64, by omega⟩ r) k * vn (ix2 k j))
      * Ideal.div 1 (mass (hs hm q (fun j c => kn (ix2 j c)) (fun r j => Bn (ix2 r j)) ⟨j.val / 64, by omega⟩ r)) := by
  unfold outN
  rw [outOf_at]
  simp only [mixedN_at, rowSumN_at, sn0_at, sn1_at, sn2_at, sn3_at]
  rw [perHead_eq (fun h => ∑ k, wt (hs hm q (fun j c => kn (ix2 j c)) (fun r j => Bn (ix2 r j)) h r) k * vn (ix2 k j)),
    perHead_eq fun h => mass (hs hm q (fun j c => kn (ix2 j c)) (fun r j => Bn (ix2 r j)) h r)]

/-- The log-normalisers of a block against 128 keys. -/
theorem lseN_at : lseN hm q kn Bn (ix2 r j) = lse (hs hm q (fun j c => kn (ix2 j c)) (fun r j => Bn (ix2 r j)) ⟨j.val / 64, by omega⟩ r) := by
  unfold lseN
  rw [lseOf_at]
  simp only [rowMaxN_at, rowSumN_at, sn0_at, sn1_at, sn2_at, sn3_at]
  rw [perHead_eq (fun h => top (hs hm q (fun j c => kn (ix2 j c)) (fun r j => Bn (ix2 r j)) h r)),
    perHead_eq fun h => mass (hs hm q (fun j c => kn (ix2 j c)) (fun r j => Bn (ix2 r j)) h r)]
  rfl
end Scores

end Cert.Kernel2Ideal.Attn

end
-- ==== Proof.AttnGather.lean ====
/- The additive masks and the gathered arrays, read at an index over the extended reals. -/
module

public import proofs.«01_k».proof.Proof.AttnBody
public import proofs.«01_k».proof.Proof.AttnHeads

@[expose] public section

set_option synthInstance.maxSize 4096
set_option maxRecDepth 8192

noncomputable section

namespace Cert.Kernel2Ideal.Attn

open Cert.Kernel2Ideal Cert.Kernel2Ideal.Gen Cert.Attn
open Idealize.ShloMosaic Idealize.SL.Sem

theorem mask_bot : (Named.named κ "mask" 4048155338#32 : Ideal .f32) = ⊥ := by
  show (κ "mask").getD _ = ⊥
  simp [κ]

/-- The mask of a block that has a block before it. -/
theorem later_at (r : Fin 128) (j : Fin 256) :
    k0_pay124 (F := Ideal) (ix3 0 r j) = if r.val ≤ j.val ∧ j.val ≤ r.val + 128 then 0 else ⊥ := by
  unfold k0_pay124 k0_pay123; pointwise
  rw [add_nat, diff_ge (by omega) (by omega), diff_le (by omega) (by omega) (by omega), and_bit, select_bit, mask_bot]
  refine if_congr ⟨fun h => ⟨?_, ?_⟩, fun h => ⟨?_, ?_⟩⟩ ?_ rfl <;> first | omega | rfl

/-- The mask of a first block. -/
theorem first_at (r : Fin 128) (j : Fin 256) :
    k0_pay125 (F := Ideal) (ix3 0 r j) = if (r.val ≤ j.val ∧ j.val ≤ r.val + 128) ∧ 128 ≤ j.val then 0 else ⊥ := by
  unfold k0_pay125 k0_pay123; pointwise
  rw [add_nat, diff_ge (by omega) (by omega), diff_le (by omega) (by omega) (by omega), sge_nat (by omega) (by omega), and_bit, and_bit, select_bit, mask_bot]
  refine if_congr ⟨fun h => ⟨⟨?_, ?_⟩, ?_⟩, fun h => ⟨⟨?_, ?_⟩, ?_⟩⟩ ?_ rfl <;> first | omega | rfl

/-- A permuted block's row is the row the matrix names. -/
theorem shuffle_at (p : FVec Ideal S256x256 .bf16) (w : Vec Ideal S1x256x256 .bf16) (i s c : Fin 256)
    (hp : ∀ j : Fin 256, p (ix2 i j) = if j = s then 1 else 0) : shuffle p w (ix2 i c) = w (ix3 0 s c) := by
  unfold shuffle; pointwise [dot_S256x256_S256x256_S256x256_1_0_0_1_n_n]
  exact sum_pickone (fun j => p (ix2 i j)) (fun j => w (ix3 0 j c)) s hp

/-- The rows of the eight blocks, each permuted by `π`, of the columns from `n`. -/
def gathered (x : Vec Ideal S1x2048x2304 .bf16) (π : Fin 256 → Fin 256) (n : ℕ) (y : S2048x256.Idx) : EReal :=
  rowOf (fun t c => x (ix3 0 t c)) (256 * ((y 0).val / 256) + (π ⟨(y 0).val % 256, Nat.mod_lt _ (by decide)⟩).val) (n + (y 1).val)

theorem piece_at (p : FVec Ideal S256x256 .bf16) (x : Vec Ideal S1x2048x2304 .bf16) (π : Fin 256 → Fin 256) (hp : ∀ i j : Fin 256, p (ix2 i j) = if j = π i then 1 else 0)
    (n : ℕ) (hn : n + 256 ≤ 2304) (b : Fin 8) (h : ∀ a, (![0, 256 * b.val, n] : Fin 3 → ℕ) a + S1x256x256.size a ≤ S1x2048x2304.size a) (i c : Fin 256) :
    shuffle p (box x b.val n h) (ix2 i c) = rowOf (fun t c => x (ix3 0 t c)) (256 * b.val + (π i).val) (n + c.val) := by
  rw [shuffle_at p _ i (π i) c (hp i)]
  unfold box
  pointwise
  exact rowOf_eq (fun t c => x (ix3 0 t c)) _ _ _ _ _ _ rfl rfl

theorem gathered_at (p : FVec Ideal S256x256 .bf16) (x : Vec Ideal S1x2048x2304 .bf16) (π : Fin 256 → Fin 256) (hp : ∀ i j : Fin 256, p (ix2 i j) = if j = π i then 1 else 0)
    (n : ℕ) (hn : n + 256 ≤ 2304) (h : ∀ b : Fin 8, ∀ a, (![0, 256 * b.val, n] : Fin 3 → ℕ) a + S1x256x256.size a ≤ S1x2048x2304.size a)
    (L : List (View.Piece (Elt Ideal) S2048x256 .bf16)) (y : S2048x256.Idx) :
    View.canon (Val := Elt Ideal) (gathers p x n h ++ L) y = gathered x π n y := by
  refine View.canon_append_of_pieces (gathered x π n) L (gathers p x n h) ?_ y ?_
  · have key : ∀ (b : Fin 8) (z : S256x256.Idx) (w : S2048x256.Idx), (w 0).val = 256 * b.val + (z 0).val → (w 1).val = (z 1).val →
        shuffle p (box x b.val n (h b)) z = gathered x π n w := by
      intro b z w h0 h1
      have hz : (z 0).val < 256 := (z 0).isLt
      rw [eq_ix2 z]
      refine (piece_at p x π hp n hn b (h b) (z 0) (z 1)).trans ?_
      unfold gathered
      have e1 : (w 0).val / 256 = b.val := by omega
      have e2 : (⟨(w 0).val % 256, Nat.mod_lt _ (by decide)⟩ : Fin 256) = z 0 := Fin.ext (by show (w 0).val % 256 = (z 0).val; omega)
      rw [e1, e2, h1]
    intro q hq z
    unfold gathers at hq
    simp only [List.mem_cons, List.not_mem_nil, or_false] at hq
    rcases hq with rfl | rfl | rfl | rfl | rfl | rfl | rfl | rfl
    · exact key 7 z _ (by show 1792 + 1 * (z 0).val = _; norm_num) (by show 0 + 1 * (z 1).val = _; omega)
    · exact key 6 z _ (by show 1536 + 1 * (z 0).val = _; norm_num) (by show 0 + 1 * (z 1).val = _; omega)
    · exact key 5 z _ (by show 1280 + 1 * (z 0).val = _; norm_num) (by show 0 + 1 * (z 1).val = _; omega)
    · exact key 4 z _ (by show 1024 + 1 * (z 0).val = _; norm_num) (by show 0 + 1 * (z 1).val = _; omega)
    · exact key 3 z _ (by show 768 + 1 * (z 0).val = _; norm_num) (by show 0 + 1 * (z 1).val = _; omega)
    · exact key 2 z _ (by show 512 + 1 * (z 0).val = _; norm_num) (by show 0 + 1 * (z 1).val = _; omega)
    · exact key 1 z _ (by show 256 + 1 * (z 0).val = _; norm_num) (by show 0 + 1 * (z 1).val = _; omega)
    · exact key 0 z _ (by show 0 + 1 * (z 0).val = _; norm_num) (by show 0 + 1 * (z 1).val = _; omega)
  · exact View.cover_of_tiled (gathers p x n h) S256x256.size (by rfl) y

/-- Both masks. -/
theorem masks_at (a : Fin 2) (r : Fin 128) (j : Fin 256) :
    masks (F := Ideal) (ix3 a r j) = if (r.val ≤ j.val ∧ j.val ≤ r.val + 128) ∧ (128 ≤ j.val ∨ a.val = 1) then 0 else ⊥ := by
  let G : S2x128x256.Idx → EReal := fun y =>
    if ((y 1).val ≤ (y 2).val ∧ (y 2).val ≤ (y 1).val + 128) ∧ (128 ≤ (y 2).val ∨ (y 0).val = 1) then 0 else ⊥
  have hz : ∀ z : S1x128x256.Idx, z = ix3 0 (z 1) (z 2) := by
    intro z
    conv_lhs => rw [eq_ix3 z]
    exact congrArg (fun u => ix3 u (z 1) (z 2)) (Fin.ext (by have : (z 0).val < 1 := (z 0).isLt; show (z 0).val = 0; omega))
  unfold masks
  refine (View.canon_apply_of_pieces G _ ?_ (ix3 a r j) ?_).trans rfl
  · intro q hq z
    simp only [List.mem_cons, List.not_mem_nil, or_false] at hq
    have hG : ∀ (z : S1x128x256.Idx) (w : S2x128x256.Idx) (a : ℕ), (w 0).val = a → (w 1).val = (z 1).val → (w 2).val = (z 2).val →
        G w = if ((z 1).val ≤ (z 2).val ∧ (z 2).val ≤ (z 1).val + 128) ∧ (128 ≤ (z 2).val ∨ a = 1) then 0 else ⊥ := by
      intro z w a h0 h1 h2
      show (if ((w 1).val ≤ (w 2).val ∧ (w 2).val ≤ (w 1).val + 128) ∧ (128 ≤ (w 2).val ∨ (w 0).val = 1) then (0 : EReal) else ⊥) = _
      rw [h0, h1, h2]
    rcases hq with rfl | rfl
    · rw [hG z _ 0 (by show 0 + 1 * (z 0).val = 0; have : (z 0).val < 1 := (z 0).isLt; omega) (by show 0 + 1 * (z 1).val = _; omega) (by show 0 + 1 * (z 2).val = _; omega)]
      refine (congrArg (k0_pay125 (F := Ideal)) (hz z)).trans ((first_at (z 1) (z 2)).trans (if_congr ?_ rfl rfl))
      exact ⟨fun h => ⟨h.1, Or.inl h.2⟩, fun h => ⟨h.1, h.2.resolve_right (by decide)⟩⟩
    · rw [hG z _ 1 (by show 1 + 1 * (z 0).val = 1; have : (z 0).val < 1 := (z 0).isLt; omega) (by show 0 + 1 * (z 1).val = _; omega) (by show 0 + 1 * (z 2).val = _; omega)]
      refine (congrArg (k0_pay124 (F := Ideal)) (hz z)).trans ((later_at (z 1) (z 2)).trans (if_congr ?_ rfl rfl))
      exact ⟨fun h => ⟨h, Or.inr rfl⟩, fun h => h.1⟩
  · exact View.cover_of_tiled (Val := Elt Ideal)
      ([⟨Rect.unit (s := S2x128x256) ![0, 0, 0] S1x128x256.size inb_S2x128x256_S1x128x256_0_0_0, k0_pay125 (F := Ideal)⟩,
       ⟨Rect.unit (s := S2x128x256) ![1, 0, 0] S1x128x256.size inb_S2x128x256_S1x128x256_1_0_0, k0_pay124 (F := Ideal)⟩] : List (View.Piece (Elt Ideal) S2x128x256 .f32)) S1x128x256.size (by rfl) (ix3 a r j)

end Cert.Kernel2Ideal.Attn

end
-- ==== Proof.AttnGroups.lean ====
/- A trip of each of the three loops computes one block of its group's attention. -/
module

public import proofs.«01_k».proof.Proof.AttnGather

@[expose] public section

set_option synthInstance.maxSize 4096
set_option maxRecDepth 8192

noncomputable section

namespace Cert.Kernel2Ideal.Attn

open Cert.Kernel2Ideal Cert.Kernel2Ideal.Gen Cert.Attn
open Idealize.ShloMosaic Idealize.SL.Sem

/-- Each head's row of the head masks: an eighth in its own 64 columns. -/
def IsHeads (hm : Vec Ideal S4x256 .bf16) : Prop := ∀ (h : Fin 4) (c : Fin 256), hm (ix2 h c) = if c.val / 64 = h.val then ((1 / 8 : ℝ) : EReal) else 0

section Pick
variable {n : ℕ} (hm : Vec Ideal S4x256 .bf16) (hhm : IsHeads hm) (q : FVec Ideal S128x256 .bf16) (kk : Fin n → Fin 256 → EReal) (B : Fin 128 → Fin n → EReal) (r : Fin 128)
  (X : ℕ → ℕ → EReal) (d g t : ℕ) (P : Fin n → Prop) [DecidablePred P] (σ : Fin n → Fin 2048)
  (hq : ∀ c : Fin 256, q (ix2 r c) = X t (256 * g + c.val)) (hk : ∀ j, P j → ∀ c : Fin 256, kk j c = X (σ j).val (768 + (256 * g + c.val)))
  (hB : ∀ j, B r j = if P j then 0 else ⊥) (hn : ∀ j, P j → near d t (σ j).val)
  (hinj : ∀ i j, P i → P j → σ i = σ j → i = j) (hcov : ∀ k : Fin 2048, near d t k.val → ∃ j, P j ∧ σ j = k)

include hhm hq hk hB hn in
/-- A head's scores in a block are the layer's at the keys that count. -/
theorem hs_pick (h : Fin 4) : hs hm q kk B h r = pick P σ (sc X d (256 * g + 64 * h.val) t) := by
  funext j
  unfold hs pick
  rw [hB]
  by_cases hp : P j
  · rw [if_pos hp, if_pos hp, add_zero, sum_head (fun c => q (ix2 r c)) (kk j) (fun c => hm (ix2 h c)) h (1 / 8) (by norm_num) (hhm h)]
    unfold sc
    rw [if_pos (hn j hp)]
    refine congrArg (· * _) (Finset.sum_congr rfl fun e _ => ?_)
    show q (ix2 r _) * kk j _ = _
    rw [hq, hk j hp]
    show X t (256 * g + (64 * h.val + e.val)) * X (σ j).val (768 + (256 * g + (64 * h.val + e.val))) = _
    rw [← add_assoc (256 * g)]
  · rw [if_neg hp, if_neg hp, EReal.add_bot]

include hcov in
theorem missed (o : ℕ) (k : Fin 2048) (hk : ∀ j, P j → σ j ≠ k) : sc X d o t k = ⊥ := by
  unfold sc
  exact if_neg fun hnear => by
    obtain ⟨j, hj, e⟩ := hcov k hnear
    exact hk j hj e

include hhm hq hk hB hn hinj hcov in
theorem lse_block (h : Fin 4) : lse (hs hm q kk B h r) = headLse X d (256 * g + 64 * h.val) t := by
  rw [hs_pick hm hhm q kk B r X d g t P σ hq hk hB hn h]
  exact lse_pick P σ _ hinj (missed X d t P σ hcov _)

include hhm hq hk hB hn hinj hcov in
theorem out_block (h : Fin 4) (e : ℕ) (v : Fin n → EReal) (hv : ∀ j, P j → v j = X (σ j).val (1536 + (256 * g + 64 * h.val + e)))
    (hmass : mass (sc X d (256 * g + 64 * h.val) t) ≠ 0) :
    (∑ k, wt (hs hm q kk B h r) k * v k) * Ideal.div 1 (mass (hs hm q kk B h r)) = headOut X d (256 * g + 64 * h.val) t e := by
  rw [hs_pick hm hhm q kk B r X d g t P σ hq hk hB hn h, mass_pick P σ _ hinj (missed X d t P σ hcov _), div_eq hmass, one_mul,
    sum_pick P σ _ hinj (missed X d t P σ hcov _) v (fun j => X j.val (1536 + (256 * g + 64 * h.val + e))) hv]
  rfl
end Pick

/-- No query's weights sum to zero. -/
def Sound (X : ℕ → ℕ → EReal) : Prop := ∀ (d o t : ℕ), t < 2048 → mass (sc X d o t) ≠ 0

variable (x : Vec Ideal S1x2048x2304 .bf16)

/-- The block's entries by position and column. -/
abbrev XK : ℕ → ℕ → EReal := rowOf fun t c => x (ix3 0 t c)

/-- Dropping a leading unit dimension. -/
theorem flat_at {φ : FTy} (w : FVec Ideal S1x128x256 φ) (r : Fin 128) (c : Fin 256) :
    (shapeCast S128x256 w shapeCasts_S1x128x256_S128x256 : FVec Ideal S128x256 φ) (ix2 r c) = w (ix3 0 r c) := by
  pointwise

/-- A box of 128 rows and 256 columns of the block. -/
theorem rows_at (off : Fin 3 → ℕ) (h : ∀ a, off a + S1x128x256.size a ≤ S1x2048x2304.size a) (r : Fin 128) (c : Fin 256) (t n : ℕ) (h1 : off 1 + r.val = t) (h2 : off 2 + c.val = n) :
    (shapeCast S128x256 (View.ld (Val := Elt Ideal) x (Rect.unit (s := S1x2048x2304) off S1x128x256.size h)) shapeCasts_S1x128x256_S128x256 : FVec Ideal S128x256 .bf16) (ix2 r c)
      = XK x t n := by
  have b0 : off 0 + 1 ≤ 1 := h 0
  have b1 : off 1 + 128 ≤ 2048 := h 1
  have b2 : off 2 + 256 ≤ 2304 := h 2
  refine (flat_at _ r c).trans ?_
  refine Eq.trans (congrArg x (funext fun a => Fin.ext ?_)) (rowOf_eq (fun t c => x (ix3 0 t c)) (off 1 + r.val) (off 2 + c.val) t n (by omega) (by omega) h1 h2)
  match a with
  | ⟨0, _⟩ => show off 0 + 1 * 0 = 0; omega
  | ⟨1, _⟩ => show off 1 + 1 * r.val = off 1 + r.val; omega
  | ⟨2, _⟩ => show off 2 + 1 * c.val = off 2 + c.val; omega

/-- A box of one mask. -/
theorem maskbox_at (m : Vec Ideal S2x128x256 .f32) (off : Fin 3 → ℕ) (h : ∀ a, off a + S1x128x256.size a ≤ S2x128x256.size a) (r : Fin 128) (j : Fin 256) (a : Fin 2)
    (h0 : off 0 = a.val) (h1 : off 1 = 0) (h2 : off 2 = 0) :
    (shapeCast S128x256 (View.ld (Val := Elt Ideal) m (Rect.unit (s := S2x128x256) off S1x128x256.size h)) shapeCasts_S1x128x256_S128x256 : FVec Ideal S128x256 .f32) (ix2 r j)
      = m (ix3 a r j) := by
  refine (flat_at _ r j).trans ?_
  refine congrArg m (funext fun b => Fin.ext ?_)
  match b with
  | ⟨0, _⟩ => show off 0 + 1 * 0 = a.val; omega
  | ⟨1, _⟩ => show off 1 + 1 * r.val = r.val; omega
  | ⟨2, _⟩ => show off 2 + 1 * j.val = j.val; omega

theorem pair_at (a b : FVec Ideal S128x256 .bf16) (j c : Fin 256) :
    pair a b (ix2 j c) = if h : j.val < 128 then a (ix2 ⟨j.val, h⟩ c) else b (ix2 ⟨j.val - 128, by omega⟩ c) := by
  unfold pair; pointwise

/-! The first group: consecutive keys. -/
section One
variable (k : Fin k0_t1_loop.trips) (r : Fin 128)

theorem trips1 : k0_t1_loop.trips = 16 := by decide +kernel

theorem q1_at (c : Fin 256) : q1 x k (ix2 r c) = XK x (128 * k.val + r.val) (256 * 0 + c.val) := by
  have h1 : k0_off1 k 1 = 128 * k.val := congrFun (off1_eq k) 1
  have h2 : k0_off1 k 2 = 0 := congrFun (off1_eq k) 2
  exact rows_at x _ _ r c _ _ (by rw [h1]) (by rw [h2, Nat.mul_zero])

theorem k1_at (j c : Fin 256) (h : 0 < k.val ∨ 128 ≤ j.val) : k1 x k (ix2 j c) = XK x (128 * k.val + j.val - 128) (768 + (256 * 0 + c.val)) := by
  have h1 : k0_off2 k 1 = 128 * k.val := congrFun (off2_eq k) 1
  have h2 : k0_off2 k 2 = 768 := congrFun (off2_eq k) 2
  have h3 : k0_off4 k 1 = 128 * (k.val - 1) := congrFun (off4_eq k) 1
  have h4 : k0_off4 k 2 = 768 := congrFun (off4_eq k) 2
  unfold k1
  rw [pair_at]
  split
  · exact rows_at x _ _ _ c _ _ (by rw [h3]; show 128 * (k.val - 1) + j.val = _; omega) (by rw [h4]; omega)
  · exact rows_at x _ _ _ c _ _ (by rw [h1]; show 128 * k.val + (j.val - 128) = _; omega) (by rw [h2]; omega)

theorem v1_at (j c : Fin 256) (h : 0 < k.val ∨ 128 ≤ j.val) : v1 x k (ix2 j c) = XK x (128 * k.val + j.val - 128) (1536 + (256 * 0 + c.val)) := by
  have h1 : k0_off3 k 1 = 128 * k.val := congrFun (off3_eq k) 1
  have h2 : k0_off3 k 2 = 1536 := congrFun (off3_eq k) 2
  have h3 : k0_off5 k 1 = 128 * (k.val - 1) := congrFun (off5_eq k) 1
  have h4 : k0_off5 k 2 = 1536 := congrFun (off5_eq k) 2
  unfold v1
  rw [pair_at]
  split
  · exact rows_at x _ _ _ c _ _ (by rw [h3]; show 128 * (k.val - 1) + j.val = _; omega) (by rw [h4]; omega)
  · exact rows_at x _ _ _ c _ _ (by rw [h1]; show 128 * k.val + (j.val - 128) = _; omega) (by rw [h2]; omega)

/-- The keys of a block of the first group that count. -/
def P1 (k : ℕ) (r : ℕ) (j : Fin 256) : Prop := (r ≤ j.val ∧ j.val ≤ r + 128) ∧ (128 ≤ j.val ∨ 0 < k)
instance (k r : ℕ) : DecidablePred (P1 k r) := fun j => by unfold P1; infer_instance

theorem b1_at (j : Fin 256) : b1 (F := Ideal) masks k (ix2 r j) = if P1 k.val r.val j then (0 : EReal) else ⊥ := by
  have h0 : k0_off6 k 0 = min k.val 1 := congrFun (off6_eq k) 0
  unfold b1
  rw [maskbox_at masks _ _ r j ⟨min k.val 1, by omega⟩ h0 (congrFun (off6_eq k) 1) (congrFun (off6_eq k) 2), masks_at]
  refine if_congr ?_ rfl rfl
  unfold P1
  show _ ∧ (_ ∨ min k.val 1 = 1) ↔ _
  omega

/-- A key's position. -/
def σ1 (k : ℕ) (j : Fin 256) : Fin 2048 := ⟨(128 * k + j.val - 128) % 2048, Nat.mod_lt _ (by decide)⟩

section
variable (hm : Vec Ideal S4x256 .bf16) (hhm : IsHeads hm)
include hhm

theorem group1 (c : Fin 256) :
    lseW hm (q1 x k) (k1 x k) (b1 masks k) (ix2 r c) = headLse (XK x) 1 (256 * 0 + 64 * (c.val / 64)) (128 * k.val + r.val)
    ∧ (Sound (XK x) → outW hm (q1 x k) (k1 x k) (v1 x k) (b1 masks k) (ix2 r c) = headOut (XK x) 1 (256 * 0 + 64 * (c.val / 64)) (128 * k.val + r.val) (c.val % 64)) := by
  have hk : k.val < 16 := lt_of_lt_of_eq k.isLt trips1
  have hσ : ∀ j, P1 k.val r.val j → (σ1 k.val j).val = 128 * k.val + j.val - 128 := fun j hj => Nat.mod_eq_of_lt (by omega)
  have a1 : ∀ c : Fin 256, q1 x k (ix2 r c) = XK x (128 * k.val + r.val) (256 * 0 + c.val) := q1_at x k r
  have a2 : ∀ j, P1 k.val r.val j → ∀ c : Fin 256, k1 x k (ix2 j c) = XK x (σ1 k.val j).val (768 + (256 * 0 + c.val)) := fun j hj c => by
    rw [hσ j hj]; exact k1_at x k j c hj.2.symm
  have a4 : ∀ j, P1 k.val r.val j → near 1 (128 * k.val + r.val) (σ1 k.val j).val := fun j hj => by
    rw [hσ j hj]; obtain ⟨⟨h1, h2⟩, h3⟩ := hj; unfold near; omega
  have a5 : ∀ i j, P1 k.val r.val i → P1 k.val r.val j → σ1 k.val i = σ1 k.val j → i = j := fun i j hi hj e => by
    have e := congrArg Fin.val e
    rw [hσ i hi, hσ j hj] at e
    obtain ⟨⟨h1, h2⟩, h3⟩ := hi; obtain ⟨⟨h4, h5⟩, h6⟩ := hj
    exact Fin.ext (by omega)
  have a6 : ∀ s : Fin 2048, near 1 (128 * k.val + r.val) s.val → ∃ j, P1 k.val r.val j ∧ σ1 k.val j = s := fun s hs => by
    obtain ⟨⟨h1, h2⟩, _⟩ := hs
    refine ⟨⟨s.val + 128 - 128 * k.val, by omega⟩, ⟨⟨?_, ?_⟩, ?_⟩, Fin.ext ?_⟩
    · show r.val ≤ s.val + 128 - 128 * k.val; omega
    · show s.val + 128 - 128 * k.val ≤ r.val + 128; omega
    · show 128 ≤ s.val + 128 - 128 * k.val ∨ 0 < k.val; omega
    · show (128 * k.val + (s.val + 128 - 128 * k.val) - 128) % 2048 = s.val; omega
  constructor
  · rw [lseW_at]
    exact lse_block hm hhm (q1 x k) (fun j c => k1 x k (ix2 j c)) (fun r j => b1 (F := Ideal) masks k (ix2 r j)) r (XK x) 1 0 _ (P1 k.val r.val) (σ1 k.val) a1 a2 (b1_at k r) a4 a5 a6 _
  · intro hs
    rw [outW_at]
    refine out_block hm hhm (q1 x k) (fun j c => k1 x k (ix2 j c)) (fun r j => b1 (F := Ideal) masks k (ix2 r j)) r (XK x) 1 0 _ (P1 k.val r.val) (σ1 k.val) a1 a2 (b1_at k r) a4 a5 a6 _
      (c.val % 64) _ (fun j hj => ?_) (hs _ _ _ (by omega))
    rw [hσ j hj, v1_at x k j c hj.2.symm]
    exact congrArg (XK x _) (by show 1536 + (256 * 0 + c.val) = 1536 + (256 * 0 + 64 * (c.val / 64) + c.val % 64); omega)
end
end One

end Cert.Kernel2Ideal.Attn

end
-- ==== Proof.AttnGroups2.lean ====
/- A trip of the second and of the third loop computes one block of its group's attention. -/
module

public import proofs.«01_k».proof.Proof.AttnGroups

@[expose] public section

set_option synthInstance.maxSize 4096
set_option maxRecDepth 8192

noncomputable section

namespace Cert.Kernel2Ideal.Attn

open Cert.Kernel2Ideal Cert.Kernel2Ideal.Gen Cert.Attn
open Idealize.ShloMosaic Idealize.SL.Sem

/-- Within 256 positions, those of one remainder by 4 gathered together. -/
def π4 (i : Fin 256) : Fin 256 := ⟨i.val % 64 * 4 + i.val / 64, by omega⟩
/-- Within 256 positions, those of one remainder by 16 gathered together. -/
def π16 (i : Fin 256) : Fin 256 := ⟨i.val % 16 * 16 + i.val / 16, by omega⟩

/-- A permutation matrix. -/
def IsPerm (p : FVec Ideal S256x256 .bf16) (π : Fin 256 → Fin 256) : Prop := ∀ i j : Fin 256, p (ix2 i j) = if j = π i then 1 else 0

variable (x : Vec Ideal S1x2048x2304 .bf16)

/-- Two blocks of 64 rows. -/
theorem cat2_at (a b : FVec Ideal S64x256 .bf16) (i : Fin 128) (c : Fin 256) :
    (concatenate S128x256 0 [⟨S64x256, a⟩, ⟨S64x256, b⟩] concatenates_S64x256_S64x256_S128x256_d0 : FVec Ideal S128x256 .bf16) (ix2 i c)
      = if h : i.val < 64 then a (ix2 ⟨i.val, h⟩ c) else b (ix2 ⟨i.val - 64, by omega⟩ c) := by
  pointwise

/-- Eight blocks of 16 rows. -/
theorem cat8_at (a0 a1 a2 a3 a4 a5 a6 a7 : FVec Ideal S16x256 .bf16) (i : Fin 128) (c : Fin 256) (z : EReal)
    (h0 : ∀ l : Fin 16, i.val = l.val → a0 (ix2 l c) = z) (h1 : ∀ l : Fin 16, i.val = 16 + l.val → a1 (ix2 l c) = z)
    (h2 : ∀ l : Fin 16, i.val = 32 + l.val → a2 (ix2 l c) = z) (h3 : ∀ l : Fin 16, i.val = 48 + l.val → a3 (ix2 l c) = z)
    (h4 : ∀ l : Fin 16, i.val = 64 + l.val → a4 (ix2 l c) = z) (h5 : ∀ l : Fin 16, i.val = 80 + l.val → a5 (ix2 l c) = z)
    (h6 : ∀ l : Fin 16, i.val = 96 + l.val → a6 (ix2 l c) = z) (h7 : ∀ l : Fin 16, i.val = 112 + l.val → a7 (ix2 l c) = z) :
    (concatenate S128x256 0 [⟨S16x256, a0⟩, ⟨S16x256, a1⟩, ⟨S16x256, a2⟩, ⟨S16x256, a3⟩, ⟨S16x256, a4⟩, ⟨S16x256, a5⟩, ⟨S16x256, a6⟩, ⟨S16x256, a7⟩]
      concatenates_S16x256_S16x256_S16x256_S16x256_S16x256_S16x256_S16x256_S16x256_S128x256_d0 : FVec Ideal S128x256 .bf16) (ix2 i c) = z := by
  pointwise
  split
  · exact h0 _ rfl
  split
  · exact h1 _ (by show i.val = 16 + (i.val - 16); omega)
  split
  · exact h2 _ (by show i.val = 32 + (i.val - 16 - 16); omega)
  split
  · exact h3 _ (by show i.val = 48 + (i.val - 16 - 16 - 16); omega)
  split
  · exact h4 _ (by show i.val = 64 + (i.val - 16 - 16 - 16 - 16); omega)
  split
  · exact h5 _ (by show i.val = 80 + (i.val - 16 - 16 - 16 - 16 - 16); omega)
  split
  · exact h6 _ (by show i.val = 96 + (i.val - 16 - 16 - 16 - 16 - 16 - 16); omega)
  · exact h7 _ (by show i.val = 112 + (i.val - 16 - 16 - 16 - 16 - 16 - 16 - 16); omega)

section Gathered
variable (V : Vec Ideal S2048x256 .bf16) (π : Fin 256 → Fin 256) (n : ℕ) (hV : ∀ y, V y = gathered x π n y)
include hV

theorem gathered_row (i : Fin 2048) (c : Fin 256) (b l : ℕ) (hl : l < 256) (hi : i.val = 256 * b + l) (t : ℕ) (ht : 256 * b + (π ⟨l, hl⟩).val = t) :
    V (ix2 i c) = XK x t (n + c.val) := by
  rw [hV]
  unfold gathered
  show rowOf _ (256 * (i.val / 256) + (π ⟨i.val % 256, _⟩).val) (n + c.val) = _
  have e1 : i.val / 256 = b := by omega
  have e2 : (⟨i.val % 256, Nat.mod_lt _ (by decide)⟩ : Fin 256) = ⟨l, hl⟩ := Fin.ext (by show i.val % 256 = l; omega)
  rw [e1, e2, ht]

theorem box64_at (off : Fin 2 → ℕ) (h : ∀ a, off a + S64x256.size a ≤ S2048x256.size a) (i : Fin 64) (c : Fin 256) (b l t : ℕ) (hl : l < 256)
    (h0 : off 0 + i.val = 256 * b + l) (h1 : off 1 = 0) (ht : 256 * b + (π ⟨l, hl⟩).val = t) :
    View.ld (Val := Elt Ideal) V (Rect.unit (s := S2048x256) off S64x256.size h) (ix2 i c) = XK x t (n + c.val) := by
  have b0 : off 0 + 64 ≤ 2048 := h 0
  refine Eq.trans (congrArg V (funext fun a => Fin.ext ?_)) (gathered_row x V π n hV ⟨off 0 + i.val, by omega⟩ c b l hl h0 t ht)
  match a with
  | ⟨0, _⟩ => show off 0 + 1 * i.val = off 0 + i.val; omega
  | ⟨1, _⟩ => show off 1 + 1 * c.val = c.val; omega

theorem box16_at (off : Fin 2 → ℕ) (h : ∀ a, off a + S16x256.size a ≤ S2048x256.size a) (i : Fin 16) (c : Fin 256) (b l t : ℕ) (hl : l < 256)
    (h0 : off 0 + i.val = 256 * b + l) (h1 : off 1 = 0) (ht : 256 * b + (π ⟨l, hl⟩).val = t) :
    View.ld (Val := Elt Ideal) V (Rect.unit (s := S2048x256) off S16x256.size h) (ix2 i c) = XK x t (n + c.val) := by
  have b0 : off 0 + 16 ≤ 2048 := h 0
  refine Eq.trans (congrArg V (funext fun a => Fin.ext ?_)) (gathered_row x V π n hV ⟨off 0 + i.val, by omega⟩ c b l hl h0 t ht)
  match a with
  | ⟨0, _⟩ => show off 0 + 1 * i.val = off 0 + i.val; omega
  | ⟨1, _⟩ => show off 1 + 1 * c.val = c.val; omega
end Gathered

/-! The second group: every fourth key. -/
section Two
variable (k : Fin k0_t2_loop.trips)

theorem trips2 : k0_t2_loop.trips = 16 := by decide +kernel

theorem rows2_at (V : Vec Ideal S2048x256 .bf16) (n : ℕ) (hV : ∀ y, V y = gathered x π4 n y) (i : Fin 128) (c : Fin 256) :
    rows2 k V (ix2 i c) = XK x (512 * (k.val % 4) + 4 * i.val + k.val / 4) (n + c.val) := by
  have hk : k.val < 16 := lt_of_lt_of_eq k.isLt trips2
  have a0 : k0_off9 k 0#32 0 = 512 * (k.val % 4) + 64 * (k.val / 4) := congrFun (off9_0_eq k) 0
  have a1 : k0_off9 k 1#32 0 = 512 * (k.val % 4) + 256 + 64 * (k.val / 4) := congrFun (off9_1_eq k) 0
  unfold rows2
  rw [cat2_at]
  split
  · refine box64_at x V π4 n hV _ _ _ c (2 * (k.val % 4)) (64 * (k.val / 4) + i.val) _ (by omega) ?_ (congrFun (off9_0_eq k) 1) ?_
    · rw [a0]; show _ + i.val = _; omega
    · show 256 * (2 * (k.val % 4)) + ((64 * (k.val / 4) + i.val) % 64 * 4 + (64 * (k.val / 4) + i.val) / 64) = _; omega
  · refine box64_at x V π4 n hV _ _ _ c (2 * (k.val % 4) + 1) (64 * (k.val / 4) + (i.val - 64)) _ (by omega) ?_ (congrFun (off9_1_eq k) 1) ?_
    · rw [a1]; show _ + (i.val - 64) = _; omega
    · show 256 * (2 * (k.val % 4) + 1) + ((64 * (k.val / 4) + (i.val - 64)) % 64 * 4 + (64 * (k.val / 4) + (i.val - 64)) / 64) = _; omega

theorem prev2_at (V : Vec Ideal S2048x256 .bf16) (n : ℕ) (hV : ∀ y, V y = gathered x π4 n y) (i : Fin 128) (c : Fin 256) :
    prev2 k V (ix2 i c) = XK x (512 * (k.val % 4 - 1) + 4 * i.val + k.val / 4) (n + c.val) := by
  have hk : k.val < 16 := lt_of_lt_of_eq k.isLt trips2
  have a0 : k0_off10 k 0#32 0 = 512 * (k.val % 4 - 1) + 64 * (k.val / 4) := congrFun (off10_0_eq k) 0
  have a1 : k0_off10 k 1#32 0 = 512 * (k.val % 4 - 1) + 256 + 64 * (k.val / 4) := congrFun (off10_1_eq k) 0
  unfold prev2
  rw [cat2_at]
  split
  · refine box64_at x V π4 n hV _ _ _ c (2 * (k.val % 4 - 1)) (64 * (k.val / 4) + i.val) _ (by omega) ?_ (congrFun (off10_0_eq k) 1) ?_
    · rw [a0]; show _ + i.val = _; omega
    · show 256 * (2 * (k.val % 4 - 1)) + ((64 * (k.val / 4) + i.val) % 64 * 4 + (64 * (k.val / 4) + i.val) / 64) = _; omega
  · refine box64_at x V π4 n hV _ _ _ c (2 * (k.val % 4 - 1) + 1) (64 * (k.val / 4) + (i.val - 64)) _ (by omega) ?_ (congrFun (off10_1_eq k) 1) ?_
    · rw [a1]; show _ + (i.val - 64) = _; omega
    · show 256 * (2 * (k.val % 4 - 1) + 1) + ((64 * (k.val / 4) + (i.val - 64)) % 64 * 4 + (64 * (k.val / 4) + (i.val - 64)) / 64) = _; omega

/-- The block's 256 keys or values. -/
theorem pair2_at (V : Vec Ideal S2048x256 .bf16) (n : ℕ) (hV : ∀ y, V y = gathered x π4 n y) (j c : Fin 256) (h : 128 ≤ j.val ∨ 0 < k.val % 4) :
    pair (prev2 k V) (rows2 k V) (ix2 j c) = XK x (4 * (128 * (k.val % 4) + j.val - 128) + k.val / 4) (n + c.val) := by
  rw [pair_at]
  split
  · rw [prev2_at x k V n hV]
    exact congrArg (fun t => XK x t _) (by show 512 * (k.val % 4 - 1) + 4 * j.val + k.val / 4 = _; omega)
  · rw [rows2_at x k V n hV]
    exact congrArg (fun t => XK x t _) (by show 512 * (k.val % 4) + 4 * (j.val - 128) + k.val / 4 = _; omega)

theorem b2_at (r : Fin 128) (j : Fin 256) : b2 (F := Ideal) masks k (ix2 r j) = if P1 (k.val % 4) r.val j then (0 : EReal) else ⊥ := by
  have h0 : k0_off11 k 0 = min (k.val % 4) 1 := congrFun (off11_eq k) 0
  unfold b2
  rw [maskbox_at masks _ _ r j ⟨min (k.val % 4) 1, by omega⟩ h0 (congrFun (off11_eq k) 1) (congrFun (off11_eq k) 2), masks_at]
  refine if_congr ?_ rfl rfl
  unfold P1
  show _ ∧ (_ ∨ min (k.val % 4) 1 = 1) ↔ _
  omega

/-- A key's position. -/
def σ2 (k : ℕ) (j : Fin 256) : Fin 2048 := ⟨(4 * (128 * (k % 4) + j.val - 128) + k / 4) % 2048, Nat.mod_lt _ (by decide)⟩

variable (r : Fin 128) (hm : Vec Ideal S4x256 .bf16) (hhm : IsHeads hm) (Q K V : Vec Ideal S2048x256 .bf16)
  (hQ : ∀ y, Q y = gathered x π4 256 y) (hK : ∀ y, K y = gathered x π4 1024 y) (hV : ∀ y, V y = gathered x π4 1792 y)
include hhm hQ hK hV

theorem group2 (c : Fin 256) :
    lseW hm (rows2 k Q) (pair (prev2 k K) (rows2 k K)) (b2 masks k) (ix2 r c)
      = headLse (XK x) 4 (256 * 1 + 64 * (c.val / 64)) (512 * (k.val % 4) + 4 * r.val + k.val / 4)
    ∧ (Sound (XK x) → outW hm (rows2 k Q) (pair (prev2 k K) (rows2 k K)) (pair (prev2 k V) (rows2 k V)) (b2 masks k) (ix2 r c)
      = headOut (XK x) 4 (256 * 1 + 64 * (c.val / 64)) (512 * (k.val % 4) + 4 * r.val + k.val / 4) (c.val % 64)) := by
  have hk : k.val < 16 := lt_of_lt_of_eq k.isLt trips2
  have hσ : ∀ j, P1 (k.val % 4) r.val j → (σ2 k.val j).val = 4 * (128 * (k.val % 4) + j.val - 128) + k.val / 4 := fun j hj => Nat.mod_eq_of_lt (by omega)
  have a1 : ∀ c : Fin 256, rows2 k Q (ix2 r c) = XK x (512 * (k.val % 4) + 4 * r.val + k.val / 4) (256 * 1 + c.val) := rows2_at x k Q 256 hQ r
  have a2 : ∀ j, P1 (k.val % 4) r.val j → ∀ c : Fin 256, pair (prev2 k K) (rows2 k K) (ix2 j c) = XK x (σ2 k.val j).val (768 + (256 * 1 + c.val)) := fun j hj c => by
    rw [hσ j hj, pair2_at x k K 1024 hK j c hj.2]
    exact congrArg (XK x _) (by omega)
  have a4 : ∀ j, P1 (k.val % 4) r.val j → near 4 (512 * (k.val % 4) + 4 * r.val + k.val / 4) (σ2 k.val j).val := fun j hj => by
    rw [hσ j hj]; obtain ⟨⟨h1, h2⟩, h3⟩ := hj; unfold near
    refine ⟨⟨?_, ?_⟩, ?_⟩ <;> omega
  have a5 : ∀ i j, P1 (k.val % 4) r.val i → P1 (k.val % 4) r.val j → σ2 k.val i = σ2 k.val j → i = j := fun i j hi hj e => by
    have e := congrArg Fin.val e
    rw [hσ i hi, hσ j hj] at e
    obtain ⟨⟨h1, h2⟩, h3⟩ := hi; obtain ⟨⟨h4, h5⟩, h6⟩ := hj
    exact Fin.ext (by omega)
  have a6 : ∀ s : Fin 2048, near 4 (512 * (k.val % 4) + 4 * r.val + k.val / 4) s.val → ∃ j, P1 (k.val % 4) r.val j ∧ σ2 k.val j = s := fun s hs => by
    obtain ⟨⟨h1, h2⟩, h3⟩ := hs
    have hs4 : s.val % 4 = k.val / 4 := by omega
    have hn : 128 * (k.val % 4) ≤ s.val / 4 + 128 := by omega
    refine ⟨⟨s.val / 4 + 128 - 128 * (k.val % 4), by omega⟩, ⟨⟨?_, ?_⟩, ?_⟩, Fin.ext ?_⟩
    · show r.val ≤ s.val / 4 + 128 - 128 * (k.val % 4); omega
    · show s.val / 4 + 128 - 128 * (k.val % 4) ≤ r.val + 128; omega
    · show 128 ≤ s.val / 4 + 128 - 128 * (k.val % 4) ∨ 0 < k.val % 4; omega
    · show (4 * (128 * (k.val % 4) + (s.val / 4 + 128 - 128 * (k.val % 4)) - 128) + k.val / 4) % 2048 = s.val
      rw [Nat.add_sub_cancel' hn, Nat.add_sub_cancel]; omega
  constructor
  · rw [lseW_at]
    exact lse_block hm hhm (rows2 k Q) (fun j c => pair (prev2 k K) (rows2 k K) (ix2 j c)) (fun r j => b2 (F := Ideal) masks k (ix2 r j)) r (XK x) 4 1 _ (P1 (k.val % 4) r.val) (σ2 k.val)
      a1 a2 (b2_at k r) a4 a5 a6 _
  · intro hs
    rw [outW_at]
    refine out_block hm hhm (rows2 k Q) (fun j c => pair (prev2 k K) (rows2 k K) (ix2 j c)) (fun r j => b2 (F := Ideal) masks k (ix2 r j)) r (XK x) 4 1 _ (P1 (k.val % 4) r.val) (σ2 k.val)
      a1 a2 (b2_at k r) a4 a5 a6 _ (c.val % 64) _ (fun j hj => ?_) (hs _ _ _ (by omega))
    rw [hσ j hj, pair2_at x k V 1792 hV j c hj.2]
    exact congrArg (XK x _) (by show 1792 + c.val = 1536 + (256 * 1 + 64 * (c.val / 64) + c.val % 64); omega)
end Two

/-! The third group: every sixteenth key. -/
section Three
variable (k : Fin k0_t3_loop.trips)

theorem trips3 : k0_t3_loop.trips = 16 := by decide +kernel

theorem row3_at (V : Vec Ideal S2048x256 .bf16) (n : ℕ) (hV : ∀ y, V y = gathered x π16 n y) (j : Fin 8) (i : Fin 128) (l : Fin 16) (hi : i.val = 16 * j.val + l.val) (c : Fin 256) :
    row3 k V j (ix2 l c) = XK x (16 * i.val + k.val) (n + c.val) := by
  have hk : k.val < 16 := lt_of_lt_of_eq k.isLt trips3
  have a0 : k0_off14 k (BitVec.ofNat 32 j.val) 0 = 256 * j.val + 16 * k.val := congrFun (off14_eq k j) 0
  unfold row3
  refine box16_at x V π16 n hV _ _ _ c j.val (16 * k.val + l.val) _ (by omega) ?_ (congrFun (off14_eq k j) 1) ?_
  · rw [a0]; omega
  · show 256 * j.val + ((16 * k.val + l.val) % 16 * 16 + (16 * k.val + l.val) / 16) = _; omega

theorem rows3_at (V : Vec Ideal S2048x256 .bf16) (n : ℕ) (hV : ∀ y, V y = gathered x π16 n y) (i : Fin 128) (c : Fin 256) :
    rows3 k V (ix2 i c) = XK x (16 * i.val + k.val) (n + c.val) := by
  unfold rows3
  exact cat8_at _ _ _ _ _ _ _ _ i c _ (fun l h => row3_at x k V n hV 0 i l (by rw [h]; show l.val = 16 * 0 + l.val; omega) c) (fun l h => row3_at x k V n hV 1 i l h c)
    (fun l h => row3_at x k V n hV 2 i l h c) (fun l h => row3_at x k V n hV 3 i l h c) (fun l h => row3_at x k V n hV 4 i l h c)
    (fun l h => row3_at x k V n hV 5 i l h c) (fun l h => row3_at x k V n hV 6 i l h c) (fun l h => row3_at x k V n hV 7 i l h c)

/-- The keys of a block of the third group that count. -/
def P3 (r : ℕ) (j : Fin 128) : Prop := j.val ≤ r
instance (r : ℕ) : DecidablePred (P3 r) := fun j => by unfold P3; infer_instance

theorem flatN_at (w : FVec Ideal S1x128x128 .f32) (r j : Fin 128) :
    (shapeCast S128x128 w shapeCasts_S1x128x128_S128x128 : FVec Ideal S128x128 .f32) (ix2 r j) = w (ix3 0 r j) := by
  pointwise

theorem b3_at (r j : Fin 128) : b3 (F := Ideal) masks (ix2 r j) = if P3 r.val j then (0 : EReal) else ⊥ := by
  unfold b3
  refine (flatN_at _ r j).trans ?_
  refine Eq.trans (b := masks (F := Ideal) (ix3 1 r (⟨128 + j.val, by omega⟩ : Fin 256))) (congrArg (masks (F := Ideal)) (funext fun b => Fin.ext ?_)) ?_
  · match b with
    | ⟨0, _⟩ => rfl
    | ⟨1, _⟩ => show 0 + 1 * r.val = r.val; omega
    | ⟨2, _⟩ => show 128 + 1 * j.val = 128 + j.val; omega
  · rw [masks_at]
    refine if_congr ?_ rfl rfl
    unfold P3
    show (r.val ≤ 128 + j.val ∧ 128 + j.val ≤ r.val + 128) ∧ (128 ≤ 128 + j.val ∨ _) ↔ _
    omega

/-- A key's position. -/
def σ3 (k : ℕ) (j : Fin 128) : Fin 2048 := ⟨(16 * j.val + k) % 2048, Nat.mod_lt _ (by decide)⟩

variable (r : Fin 128) (hm : Vec Ideal S4x256 .bf16) (hhm : IsHeads hm) (Q K V : Vec Ideal S2048x256 .bf16)
  (hQ : ∀ y, Q y = gathered x π16 512 y) (hK : ∀ y, K y = gathered x π16 1280 y) (hV : ∀ y, V y = gathered x π16 2048 y)
include hhm hQ hK hV

theorem group3 (c : Fin 256) :
    lseN hm (rows3 k Q) (rows3 k K) (b3 masks) (ix2 r c) = headLse (XK x) 16 (256 * 2 + 64 * (c.val / 64)) (16 * r.val + k.val)
    ∧ (Sound (XK x) → outN hm (rows3 k Q) (rows3 k K) (rows3 k V) (b3 masks) (ix2 r c)
      = headOut (XK x) 16 (256 * 2 + 64 * (c.val / 64)) (16 * r.val + k.val) (c.val % 64)) := by
  have hk : k.val < 16 := lt_of_lt_of_eq k.isLt trips3
  have hσ : ∀ j, (σ3 k.val j).val = 16 * j.val + k.val := fun j => Nat.mod_eq_of_lt (by omega)
  have a1 : ∀ c : Fin 256, rows3 k Q (ix2 r c) = XK x (16 * r.val + k.val) (256 * 2 + c.val) := rows3_at x k Q 512 hQ r
  have a2 : ∀ j, P3 r.val j → ∀ c : Fin 256, rows3 k K (ix2 j c) = XK x (σ3 k.val j).val (768 + (256 * 2 + c.val)) := fun j _ c => by
    rw [hσ j, rows3_at x k K 1280 hK j c]
    exact congrArg (XK x _) (by omega)
  have a4 : ∀ j, P3 r.val j → near 16 (16 * r.val + k.val) (σ3 k.val j).val := fun j hj => by
    rw [hσ j]; unfold P3 at hj; unfold near; omega
  have a5 : ∀ i j, P3 r.val i → P3 r.val j → σ3 k.val i = σ3 k.val j → i = j := fun i j _ _ e => by
    have e := congrArg Fin.val e
    rw [hσ i, hσ j] at e
    exact Fin.ext (by omega)
  have a6 : ∀ s : Fin 2048, near 16 (16 * r.val + k.val) s.val → ∃ j, P3 r.val j ∧ σ3 k.val j = s := fun s hs => by
    obtain ⟨⟨h1, h2⟩, h3⟩ := hs
    refine ⟨⟨s.val / 16, by omega⟩, ?_, Fin.ext ?_⟩
    · show s.val / 16 ≤ r.val; omega
    · rw [hσ]; show 16 * (s.val / 16) + k.val = s.val; omega
  constructor
  · rw [lseN_at]
    exact lse_block hm hhm (rows3 k Q) (fun j c => rows3 k K (ix2 j c)) (fun r j => b3 (F := Ideal) masks (ix2 r j)) r (XK x) 16 2 _ (P3 r.val) (σ3 k.val)
      a1 a2 (b3_at r) a4 a5 a6 _
  · intro hs
    rw [outN_at]
    refine out_block hm hhm (rows3 k Q) (fun j c => rows3 k K (ix2 j c)) (fun r j => b3 (F := Ideal) masks (ix2 r j)) r (XK x) 16 2 _ (P3 r.val) (σ3 k.val)
      a1 a2 (b3_at r) a4 a5 a6 _ (c.val % 64) _ (fun j _ => ?_) (hs _ _ _ (by omega))
    rw [hσ j, rows3_at x k V 2048 hV j c]
    exact congrArg (XK x _) (by show 2048 + c.val = 1536 + (256 * 2 + 64 * (c.val / 64) + c.val % 64); omega)
end Three

end Cert.Kernel2Ideal.Attn

end
-- ==== Proof.AttnVal.lean ====
/- The three groups' arrays, and the block of the result they are blended into. -/
module

public import proofs.«01_k».proof.Proof.AttnGroups2

@[expose] public section

set_option synthInstance.maxSize 4096
set_option maxRecDepth 8192
set_option maxHeartbeats 1000000

noncomputable section

namespace Cert.Kernel2Ideal.Attn

open Cert.Kernel2Ideal Cert.Kernel2Ideal.Gen Cert.Attn
open Idealize.ShloMosaic Idealize.SL.Sem

/-- A group's log-normaliser of column `c` at position `t`, and its output there. -/
def fL (X : ℕ → ℕ → EReal) (g c t : ℕ) : EReal := headLse X (4 ^ g) (256 * g + 64 * (c / 64)) t
def fO (X : ℕ → ℕ → EReal) (g c t : ℕ) : EReal := headOut X (4 ^ g) (256 * g + 64 * (c / 64)) t (c % 64)

/-- A function of group, column and position, laid out by group, half of the columns, position and column within the half. -/
def laid (f : ℕ → ℕ → ℕ → EReal) (y : S3x2x2048x128.Idx) : EReal := f (y 0).val (128 * (y 1).val + (y 3).val) (y 2).val

theorem boxL_at (B : FVec Ideal S128x256 .f32) (r l : Fin 128) : boxL B (ix4 0 0 r l) = B (ix2 r ⟨l.val, by omega⟩) := by
  unfold boxL left; pointwise

theorem boxR_at (B : FVec Ideal S128x256 .f32) (r l : Fin 128) : boxR B (ix4 0 0 r l) = B (ix2 r ⟨128 + l.val, by omega⟩) := by
  unfold boxR right; pointwise

section Pieces
variable (f : ℕ → ℕ → ℕ → EReal) (B : FVec Ideal S128x256 .f32) (g : ℕ) (t : ℕ → ℕ) (hB : ∀ (r : Fin 128) (c : Fin 256), B (ix2 r c) = f g c.val (t r.val))
include hB

theorem boxL_laid (z : S1x1x128x128.Idx) (w : S3x2x2048x128.Idx) (h0 : (w 0).val = g) (h1 : (w 1).val = 0) (h2 : (w 2).val = t (z 2).val) (h3 : (w 3).val = (z 3).val) :
    boxL B z = laid f w := by
  have ez : z = ix4 0 0 (z 2) (z 3) := by
    funext a
    match a with
    | ⟨0, _⟩ => exact Subsingleton.elim (α := Fin 1) _ _
    | ⟨1, _⟩ => exact Subsingleton.elim (α := Fin 1) _ _
    | ⟨2, _⟩ => rfl
    | ⟨3, _⟩ => rfl
  rw [ez]
  refine (boxL_at B (z 2) (z 3)).trans ((hB _ _).trans ?_)
  unfold laid
  rw [h0, h1, h2, h3, Nat.mul_zero, Nat.zero_add]

theorem boxR_laid (z : S1x1x128x128.Idx) (w : S3x2x2048x128.Idx) (h0 : (w 0).val = g) (h1 : (w 1).val = 1) (h2 : (w 2).val = t (z 2).val) (h3 : (w 3).val = (z 3).val) :
    boxR B z = laid f w := by
  have ez : z = ix4 0 0 (z 2) (z 3) := by
    funext a
    match a with
    | ⟨0, _⟩ => exact Subsingleton.elim (α := Fin 1) _ _
    | ⟨1, _⟩ => exact Subsingleton.elim (α := Fin 1) _ _
    | ⟨2, _⟩ => rfl
    | ⟨3, _⟩ => rfl
  rw [ez]
  refine (boxR_at B (z 2) (z 3)).trans ((hB _ _).trans ?_)
  unfold laid
  rw [h0, h1, h2, h3, Nat.mul_one]
end Pieces

section Stores
variable (f : ℕ → ℕ → ℕ → EReal) (B : FVec Ideal S128x256 .f32)

theorem stores1 (k : Fin k0_t1_loop.trips) (hB : ∀ (r : Fin 128) (c : Fin 256), B (ix2 r c) = f 0 c.val (128 * k.val + r.val)) :
    ∀ p ∈ ([⟨Rect.unit (s := S3x2x2048x128) (k0_off8 k) S1x1x128x128.size (k0_off8_inb k), boxR B⟩,
      ⟨Rect.unit (s := S3x2x2048x128) (k0_off7 k) S1x1x128x128.size (k0_off7_inb k), boxL B⟩] : Pcs Ideal), ∀ z, p.2 z = laid f (p.1.emb z) := by
  intro p hp
  simp only [List.mem_cons, List.not_mem_nil, or_false] at hp
  rcases hp with rfl | rfl <;> intro (z : S1x1x128x128.Idx)
  · refine boxR_laid f B 0 (fun r => 128 * k.val + r) hB z _ ?_ ?_ ?_ ?_
    · have o : k0_off8 k 0 = 0 := congrFun (off8_eq k) 0
      have z0 : (z 0).val < 1 := (z 0).isLt
      show k0_off8 k 0 + 1 * (z 0).val = 0; rw [o]; omega
    · have o : k0_off8 k 1 = 1 := congrFun (off8_eq k) 1
      have z1 : (z 1).val < 1 := (z 1).isLt
      show k0_off8 k 1 + 1 * (z 1).val = 1; rw [o]; omega
    · have o : k0_off8 k 2 = 128 * k.val := congrFun (off8_eq k) 2
      show k0_off8 k 2 + 1 * (z 2).val = 128 * k.val + (z 2).val; rw [o]; omega
    · have o : k0_off8 k 3 = 0 := congrFun (off8_eq k) 3
      show k0_off8 k 3 + 1 * (z 3).val = (z 3).val; rw [o]; omega
  · refine boxL_laid f B 0 (fun r => 128 * k.val + r) hB z _ ?_ ?_ ?_ ?_
    · have o : k0_off7 k 0 = 0 := congrFun (off7_eq k) 0
      have z0 : (z 0).val < 1 := (z 0).isLt
      show k0_off7 k 0 + 1 * (z 0).val = 0; rw [o]; omega
    · have o : k0_off7 k 1 = 0 := congrFun (off7_eq k) 1
      have z1 : (z 1).val < 1 := (z 1).isLt
      show k0_off7 k 1 + 1 * (z 1).val = 0; rw [o]; omega
    · have o : k0_off7 k 2 = 128 * k.val := congrFun (off7_eq k) 2
      show k0_off7 k 2 + 1 * (z 2).val = 128 * k.val + (z 2).val; rw [o]; omega
    · have o : k0_off7 k 3 = 0 := congrFun (off7_eq k) 3
      show k0_off7 k 3 + 1 * (z 3).val = (z 3).val; rw [o]; omega

theorem stores2 (k : Fin k0_t2_loop.trips) (hB : ∀ (r : Fin 128) (c : Fin 256), B (ix2 r c) = f 1 c.val (512 * (k.val % 4) + 4 * r.val + k.val / 4)) :
    ∀ p ∈ ([⟨⟨(⟨k0_off13 k, S1x1x128x128.size, ![1, 1, 4, 1], k0_off13_inb k⟩ : LoadRect S3x2x2048x128), spos_1_1_4_1⟩, boxR B⟩,
      ⟨⟨(⟨k0_off12 k, S1x1x128x128.size, ![1, 1, 4, 1], k0_off12_inb k⟩ : LoadRect S3x2x2048x128), spos_1_1_4_1⟩, boxL B⟩] : Pcs Ideal), ∀ z, p.2 z = laid f (p.1.emb z) := by
  intro p hp
  simp only [List.mem_cons, List.not_mem_nil, or_false] at hp
  rcases hp with rfl | rfl <;> intro (z : S1x1x128x128.Idx)
  · refine boxR_laid f B 1 (fun r => 512 * (k.val % 4) + 4 * r + k.val / 4) hB z _ ?_ ?_ ?_ ?_
    · have o : k0_off13 k 0 = 1 := congrFun (off13_eq k) 0
      have z0 : (z 0).val < 1 := (z 0).isLt
      show k0_off13 k 0 + 1 * (z 0).val = 1; rw [o]; omega
    · have o : k0_off13 k 1 = 1 := congrFun (off13_eq k) 1
      have z1 : (z 1).val < 1 := (z 1).isLt
      show k0_off13 k 1 + 1 * (z 1).val = 1; rw [o]; omega
    · have o : k0_off13 k 2 = 512 * (k.val % 4) + k.val / 4 := congrFun (off13_eq k) 2
      show k0_off13 k 2 + 4 * (z 2).val = 512 * (k.val % 4) + 4 * (z 2).val + k.val / 4; rw [o]; omega
    · have o : k0_off13 k 3 = 0 := congrFun (off13_eq k) 3
      show k0_off13 k 3 + 1 * (z 3).val = (z 3).val; rw [o]; omega
  · refine boxL_laid f B 1 (fun r => 512 * (k.val % 4) + 4 * r + k.val / 4) hB z _ ?_ ?_ ?_ ?_
    · have o : k0_off12 k 0 = 1 := congrFun (off12_eq k) 0
      have z0 : (z 0).val < 1 := (z 0).isLt
      show k0_off12 k 0 + 1 * (z 0).val = 1; rw [o]; omega
    · have o : k0_off12 k 1 = 0 := congrFun (off12_eq k) 1
      have z1 : (z 1).val < 1 := (z 1).isLt
      show k0_off12 k 1 + 1 * (z 1).val = 0; rw [o]; omega
    · have o : k0_off12 k 2 = 512 * (k.val % 4) + k.val / 4 := congrFun (off12_eq k) 2
      show k0_off12 k 2 + 4 * (z 2).val = 512 * (k.val % 4) + 4 * (z 2).val + k.val / 4; rw [o]; omega
    · have o : k0_off12 k 3 = 0 := congrFun (off12_eq k) 3
      show k0_off12 k 3 + 1 * (z 3).val = (z 3).val; rw [o]; omega

theorem stores3 (k : Fin k0_t3_loop.trips) (hB : ∀ (r : Fin 128) (c : Fin 256), B (ix2 r c) = f 2 c.val (16 * r.val + k.val)) :
    ∀ p ∈ ([⟨⟨(⟨k0_off16 k, S1x1x128x128.size, ![1, 1, 16, 1], k0_off16_inb k⟩ : LoadRect S3x2x2048x128), spos_1_1_16_1⟩, boxR B⟩,
      ⟨⟨(⟨k0_off15 k, S1x1x128x128.size, ![1, 1, 16, 1], k0_off15_inb k⟩ : LoadRect S3x2x2048x128), spos_1_1_16_1⟩, boxL B⟩] : Pcs Ideal), ∀ z, p.2 z = laid f (p.1.emb z) := by
  intro p hp
  simp only [List.mem_cons, List.not_mem_nil, or_false] at hp
  rcases hp with rfl | rfl <;> intro (z : S1x1x128x128.Idx)
  · refine boxR_laid f B 2 (fun r => 16 * r + k.val) hB z _ ?_ ?_ ?_ ?_
    · have o : k0_off16 k 0 = 2 := congrFun (off16_eq k) 0
      have z0 : (z 0).val < 1 := (z 0).isLt
      show k0_off16 k 0 + 1 * (z 0).val = 2; rw [o]; omega
    · have o : k0_off16 k 1 = 1 := congrFun (off16_eq k) 1
      have z1 : (z 1).val < 1 := (z 1).isLt
      show k0_off16 k 1 + 1 * (z 1).val = 1; rw [o]; omega
    · have o : k0_off16 k 2 = k.val := congrFun (off16_eq k) 2
      show k0_off16 k 2 + 16 * (z 2).val = 16 * (z 2).val + k.val; rw [o]; omega
    · have o : k0_off16 k 3 = 0 := congrFun (off16_eq k) 3
      show k0_off16 k 3 + 1 * (z 3).val = (z 3).val; rw [o]; omega
  · refine boxL_laid f B 2 (fun r => 16 * r + k.val) hB z _ ?_ ?_ ?_ ?_
    · have o : k0_off15 k 0 = 2 := congrFun (off15_eq k) 0
      have z0 : (z 0).val < 1 := (z 0).isLt
      show k0_off15 k 0 + 1 * (z 0).val = 2; rw [o]; omega
    · have o : k0_off15 k 1 = 0 := congrFun (off15_eq k) 1
      have z1 : (z 1).val < 1 := (z 1).isLt
      show k0_off15 k 1 + 1 * (z 1).val = 0; rw [o]; omega
    · have o : k0_off15 k 2 = k.val := congrFun (off15_eq k) 2
      show k0_off15 k 2 + 16 * (z 2).val = 16 * (z 2).val + k.val; rw [o]; omega
    · have o : k0_off15 k 3 = 0 := congrFun (off15_eq k) 3
      show k0_off15 k 3 + 1 * (z 3).val = (z 3).val; rw [o]; omega
end Stores

section Arrays
variable (x : Vec Ideal S1x2048x2304 .bf16) (hm : Vec Ideal S4x256 .bf16) (hhm : IsHeads hm) (p4 p16 : FVec Ideal S256x256 .bf16) (h4 : IsPerm p4 π4) (h16 : IsPerm p16 π16)
include hhm h4 h16

omit hhm h4 in
theorem got16_at : (∀ y, (got16 p16 p4 x).1 y = gathered x π16 512 y) ∧ (∀ y, (got16 p16 p4 x).2.1 y = gathered x π16 1280 y) ∧ (∀ y, (got16 p16 p4 x).2.2 y = gathered x π16 2048 y) :=
  ⟨fun y => gathered_at p16 x π16 h16 512 (by decide) inb512 _ y, fun y => gathered_at p16 x π16 h16 1280 (by decide) inb1280 _ y, fun y => gathered_at p16 x π16 h16 2048 (by decide) inb2048 _ y⟩

omit hhm h16 in
theorem got4_at : (∀ y, (got4 p4 x).1 y = gathered x π4 256 y) ∧ (∀ y, (got4 p4 x).2.1 y = gathered x π4 1024 y) ∧ (∀ y, (got4 p4 x).2.2 y = gathered x π4 1792 y) :=
  ⟨fun y => gathered_at p4 x π4 h4 256 (by decide) inb256 _ y, fun y => gathered_at p4 x π4 h4 1024 (by decide) inb1024 _ y, fun y => gathered_at p4 x π4 h4 1792 (by decide) inb1792 _ y⟩

/-- The three groups' log-normalisers. -/
theorem groupsL_at (y : S3x2x2048x128.Idx) : groupsL hm p4 p16 x y = laid (fL (XK x)) y := by
  refine View.canon_apply_of_pieces (laid (fL (XK x))) (allL hm p4 p16 x) ?_ y (coverL hm p4 p16 x y)
  obtain ⟨a1, a2, a3⟩ := got16_at x p4 p16 h16
  obtain ⟨b1', b2', b3'⟩ := got4_at x p4 h4
  intro p hp
  unfold allL at hp
  generalize got16 p16 p4 x = G16 at hp a1 a2 a3
  generalize got4 p4 x = G4 at hp b1' b2' b3'
  rcases List.mem_append.mp hp with hp | hp
  · obtain ⟨k, -, hp⟩ := (mem_before _ _ _).mp hp
    exact stores3 (fL (XK x)) (lseN hm (rows3 k G16.1) (rows3 k G16.2.1) (b3 masks)) k (fun r c => (group3 x k r hm hhm G16.1 G16.2.1 G16.2.2 a1 a2 a3 c).1) p hp
  rcases List.mem_append.mp hp with hp | hp
  · obtain ⟨k, -, hp⟩ := (mem_before _ _ _).mp hp
    exact stores2 (fL (XK x)) (lseW hm (rows2 k G4.1) (pair (prev2 k G4.2.1) (rows2 k G4.2.1)) (b2 masks k)) k
      (fun r c => (group2 x k r hm hhm G4.1 G4.2.1 G4.2.2 b1' b2' b3' c).1) p hp
  · obtain ⟨k, -, hp⟩ := (mem_before _ _ _).mp hp
    exact stores1 (fL (XK x)) (lseW hm (q1 x k) (k1 x k) (b1 masks k)) k (fun r c => (group1 x k r hm hhm c).1) p hp

/-- The three groups' outputs. -/
theorem groupsO_at (hX : Sound (XK x)) (y : S3x2x2048x128.Idx) : groupsO hm p4 p16 x y = laid (fO (XK x)) y := by
  refine View.canon_apply_of_pieces (laid (fO (XK x))) (allO hm p4 p16 x) ?_ y (coverO hm p4 p16 x y)
  obtain ⟨a1, a2, a3⟩ := got16_at x p4 p16 h16
  obtain ⟨b1', b2', b3'⟩ := got4_at x p4 h4
  intro p hp
  unfold allO at hp
  generalize got16 p16 p4 x = G16 at hp a1 a2 a3
  generalize got4 p4 x = G4 at hp b1' b2' b3'
  rcases List.mem_append.mp hp with hp | hp
  · obtain ⟨k, -, hp⟩ := (mem_before _ _ _).mp hp
    exact stores3 (fO (XK x)) (outN hm (rows3 k G16.1) (rows3 k G16.2.1) (rows3 k G16.2.2) (b3 masks)) k
      (fun r c => (group3 x k r hm hhm G16.1 G16.2.1 G16.2.2 a1 a2 a3 c).2 hX) p hp
  rcases List.mem_append.mp hp with hp | hp
  · obtain ⟨k, -, hp⟩ := (mem_before _ _ _).mp hp
    exact stores2 (fO (XK x)) (outW hm (rows2 k G4.1) (pair (prev2 k G4.2.1) (rows2 k G4.2.1)) (pair (prev2 k G4.2.2) (rows2 k G4.2.2)) (b2 masks k)) k
      (fun r c => (group2 x k r hm hhm G4.1 G4.2.1 G4.2.2 b1' b2' b3' c).2 hX) p hp
  · obtain ⟨k, -, hp⟩ := (mem_before _ _ _).mp hp
    exact stores1 (fO (XK x)) (outW hm (q1 x k) (k1 x k) (v1 x k) (b1 masks k)) k (fun r c => (group1 x k r hm hhm c).2 hX) p hp
end Arrays

/-! ## The blend of the three groups -/

/-- The blend of three boxes, at an index. -/
theorem blend_at (a1 a2 a3 o1 o2 o3 : Vec Ideal S1x1x256x128 .f32) (i : Fin 256) (c : Fin 128) (l o : Fin 3 → EReal)
    (h1 : a1 (ix4 0 0 i c) = l 0) (h2 : a2 (ix4 0 0 i c) = l 1) (h3 : a3 (ix4 0 0 i c) = l 2)
    (k1 : o1 (ix4 0 0 i c) = o 0) (k2 : o2 (ix4 0 0 i c) = o 1) (k3 : o3 (ix4 0 0 i c) = o 2) (hl : mass l ≠ 0) :
    blend a1 a2 a3 o1 o2 o3 (ix3 0 i c) = mix l o := by
  have ht : top l = max (max (l 0) (l 1)) (l 2) := by
    unfold top
    simp [Fin.univ_succ, max_assoc]
  have hM : mass l = Ideal.exp (l 0 - max (max (l 0) (l 1)) (l 2)) + Ideal.exp (l 1 - max (max (l 0) (l 1)) (l 2)) + Ideal.exp (l 2 - max (max (l 0) (l 1)) (l 2)) := by
    unfold mass wt
    rw [Fin.sum_univ_three, ht]
  unfold blend
  pointwise [h1, h2, h3, k1, k2, k3]
  rw [← hM, div_eq hl, one_mul, ← ht]
  unfold mix wt
  rw [Fin.sum_univ_three]

/-- A box of an array laid out by group and half. -/
theorem ld_laid (X : Vec Ideal S3x2x2048x128 .f32) (f : ℕ → ℕ → ℕ → EReal) (hX : ∀ y, X y = laid f y) (off : Fin 4 → ℕ)
    (h : ∀ a, off a + S1x1x256x128.size a ≤ S3x2x2048x128.size a) (i : Fin 256) (c : Fin 128) (g b T : ℕ) (ho : off = ![g, b, T, 0]) :
    View.ld (Val := Elt Ideal) X (Rect.unit (s := S3x2x2048x128) off S1x1x256x128.size h) (ix4 0 0 i c) = f g (128 * b + c.val) (T + i.val) := by
  subst ho
  refine (hX _).trans ?_
  show f (g + 1 * 0) (128 * (b + 1 * 0) + (0 + 1 * c.val)) (T + 1 * i.val) = _
  simp only [Nat.mul_zero, Nat.add_zero, Nat.one_mul, Nat.zero_add]

theorem out_eq (X : ℕ → ℕ → EReal) (t c : ℕ) : mix (fun g : Fin 3 => fL X g.val c t) (fun g : Fin 3 => fO X g.val c t) = out X t c := rfl

/-- The last loop's pieces, from the laid-out arrays. -/
theorem stores4 (xo xl : Vec Ideal S3x2x2048x128 .f32) (X : ℕ → ℕ → EReal) (hO : ∀ y, xo y = laid (fO X) y) (hL : ∀ y, xl y = laid (fL X) y)
    (hM : ∀ t c : ℕ, t < 2048 → mass (fun g : Fin 3 => fL X g.val c t) ≠ 0) (k : Fin k0_t4_loop.trips) :
    ∀ p ∈ pcs4 xo xl k, ∀ z, p.2 z = out X (p.1.emb z 1).val (p.1.emb z 2).val := by
  have hk : k.val < 8 := lt_of_lt_of_eq k.isLt (by decide +kernel)
  intro p hp
  unfold pcs4 at hp
  simp only [List.mem_cons, List.not_mem_nil, or_false] at hp
  rcases hp with rfl | rfl
  · intro (z : S1x256x128.Idx)
    have z1 : (z 1).val < 256 := (z 1).isLt
    have ez : z = ix3 0 (z 1) (z 2) := by
      funext a
      match a with
      | ⟨0, _⟩ => exact Subsingleton.elim (α := Fin 1) _ _
      | ⟨1, _⟩ => rfl
      | ⟨2, _⟩ => rfl
    have e1 : ((Rect.unit (s := S1x2048x256) (k0_off24 k) S1x256x128.size (k0_off24_inb k)).emb z 1).val = 256 * k.val + (z 1).val := by
      have o : k0_off24 k 1 = 256 * k.val := congrFun (k0_off24_eq k) 1
      show k0_off24 k 1 + 1 * (z 1).val = _; rw [o, Nat.one_mul]
    have e2 : ((Rect.unit (s := S1x2048x256) (k0_off24 k) S1x256x128.size (k0_off24_inb k)).emb z 2).val = 128 * 1 + (z 2).val := by
      have o : k0_off24 k 2 = 128 := congrFun (k0_off24_eq k) 2
      show k0_off24 k 2 + 1 * (z 2).val = _; rw [o, Nat.one_mul]
    show blend _ _ _ _ _ _ z = _
    rw [e1, e2, ez, ← out_eq]
    exact blend_at _ _ _ _ _ _ (z 1) (z 2) _ _
      (ld_laid xl _ hL _ _ _ _ 0 1 _ (k0_off21_eq k)) (ld_laid xl _ hL _ _ _ _ 1 1 _ (k0_off22_eq k)) (ld_laid xl _ hL _ _ _ _ 2 1 _ (k0_off23_eq k))
      (ld_laid xo _ hO _ _ _ _ 0 1 _ (k0_off21_eq k)) (ld_laid xo _ hO _ _ _ _ 1 1 _ (k0_off22_eq k)) (ld_laid xo _ hO _ _ _ _ 2 1 _ (k0_off23_eq k)) (hM _ _ (show 256 * k.val + (z 1).val < 2048 by omega))
  · intro (z : S1x256x128.Idx)
    have z1 : (z 1).val < 256 := (z 1).isLt
    have ez : z = ix3 0 (z 1) (z 2) := by
      funext a
      match a with
      | ⟨0, _⟩ => exact Subsingleton.elim (α := Fin 1) _ _
      | ⟨1, _⟩ => rfl
      | ⟨2, _⟩ => rfl
    have e1 : ((Rect.unit (s := S1x2048x256) (k0_off20 k) S1x256x128.size (k0_off20_inb k)).emb z 1).val = 256 * k.val + (z 1).val := by
      have o : k0_off20 k 1 = 256 * k.val := congrFun (k0_off20_eq k) 1
      show k0_off20 k 1 + 1 * (z 1).val = _; rw [o, Nat.one_mul]
    have e2 : ((Rect.unit (s := S1x2048x256) (k0_off20 k) S1x256x128.size (k0_off20_inb k)).emb z 2).val = 128 * 0 + (z 2).val := by
      have o : k0_off20 k 2 = 0 := congrFun (k0_off20_eq k) 2
      show k0_off20 k 2 + 1 * (z 2).val = _; rw [o, Nat.one_mul]
    show blend _ _ _ _ _ _ z = _
    rw [e1, e2, ez, ← out_eq]
    exact blend_at _ _ _ _ _ _ (z 1) (z 2) _ _
      (ld_laid xl _ hL _ _ _ _ 0 0 _ (k0_off17_eq k)) (ld_laid xl _ hL _ _ _ _ 1 0 _ (k0_off18_eq k)) (ld_laid xl _ hL _ _ _ _ 2 0 _ (k0_off19_eq k))
      (ld_laid xo _ hO _ _ _ _ 0 0 _ (k0_off17_eq k)) (ld_laid xo _ hO _ _ _ _ 1 0 _ (k0_off18_eq k)) (ld_laid xo _ hO _ _ _ _ 2 0 _ (k0_off19_eq k)) (hM _ _ (show 256 * k.val + (z 1).val < 2048 by omega))

/-- The block of the result: the three groups' attentions of the block's queries, keys and values, mixed. -/
theorem result_at (x0 : Vec Ideal S1x2048x2304 .bf16) (x1 : Vec Ideal S4x256 .bf16) (x2 x3 : Vec Ideal S256x256 .bf16)
    (hhm : IsHeads x1) (h4 : IsPerm x2 π4) (h16 : IsPerm x3 π16) (hX : Sound (XK x0))
    (hM : ∀ t c : ℕ, t < 2048 → mass (fun g : Fin 3 => fL (XK x0) g.val c t) ≠ 0) (y : S1x2048x256.Idx) :
    result x0 x1 x2 x3 y = out (XK x0) (y 1).val (y 2).val := by
  have e1 : View.ld (Val := Elt Ideal) x1 (Rect.unit (s := S4x256) ![0, 0] S4x256.size inb_S4x256_S4x256_0_0) = x1 := by
    funext z
    refine congrArg x1 (funext fun a => Fin.ext ?_)
    match a with
    | ⟨0, _⟩ => show 0 + 1 * (z 0).val = (z 0).val; omega
    | ⟨1, _⟩ => show 0 + 1 * (z 1).val = (z 1).val; omega
  have e2 : ∀ w : Vec Ideal S256x256 .bf16, View.ld (Val := Elt Ideal) w (Rect.unit (s := S256x256) ![0, 0] S256x256.size inb_S256x256_S256x256_0_0) = w := by
    intro w
    funext z
    refine congrArg w (funext fun a => Fin.ext ?_)
    match a with
    | ⟨0, _⟩ => show 0 + 1 * (z 0).val = (z 0).val; omega
    | ⟨1, _⟩ => show 0 + 1 * (z 1).val = (z 1).val; omega
  have e4 : k0_pay126 (F := Ideal) x2 = x2 := by
    funext z; rw [eq_ix2 z]; unfold k0_pay126; pointwise
  have e16 : k0_pay158 (F := Ideal) x3 = x3 := by
    funext z; rw [eq_ix2 z]; unfold k0_pay158; pointwise
  unfold result
  rw [e1, e2, e2, e4, e16]
  refine View.canon_apply_of_pieces (Val := Elt Ideal) (fun y => out (XK x0) (y 1).val (y 2).val) _ ?_ y (cover4 _ _ y)
  intro p hp z
  obtain ⟨k, hp⟩ := of_mem_before4 _ p _ hp
  exact stores4 _ _ (XK x0) (groupsO_at x0 x1 hhm x2 x3 h4 h16 hX) (groupsL_at x0 x1 hhm x2 x3 h4 h16) hM k p hp z

end Cert.Kernel2Ideal.Attn

end
-- ==== Proof.AttnHost.lean ====
/- What the attention call is handed: the scaled head masks and the two permutation matrices. -/
module

public import proofs.«01_k».proof.Proof.AttnGroups2
public import proofs.«01_k».proof.Proof.Gen.Kernel2Ideal.Frame
public import Idealize.ShloMosaic.Lib.Claim

@[expose] public section

set_option synthInstance.maxSize 4096
set_option maxRecDepth 8192
set_option maxHeartbeats 1000000

noncomputable section

namespace Cert.Kernel2Ideal.Attn

open Cert.Kernel2Ideal Cert.Kernel2Ideal.Gen Cert.Attn
open Idealize.ShloMosaic Idealize.ShloMosaic.TcCoe Idealize.SL.Sem

variable (m : (ℓ : Loc nD τ sig) → Buf (Elt Ideal) ℓ)

/-- The matrix whose entry (i, j) is one where j is a given 256-word of i. -/
def permOf (w : IVec S256 32) : FVec Ideal S256x256 .bf16 :=
  truncf .bf16 (uitofp .f32 (cmpi .eq (broadcastInDim S256x256 ![0, 1] bcast_S256x1_S256x256_0_1 (broadcastInDim S256x1 ![0] bcast_S256_S256x1_0 w))
    (broadcastInDim S256x256 ![0, 1] bcast_S1x256_S256x256_0_1 (broadcastInDim S1x256 ![1] bcast_S256_S1x256_1 (iotaInDim S256 32 0)))) : FVec Ideal S256x256 .f32) bitsLt_bf16_f32

/-- Positions within 256 by remainder, with q the number of positions of one remainder and d the number of remainders. -/
def word (q d : BitVec 32) : IVec S256 32 :=
  addi (muli (Host.remsi (iotaInDim S256 32 0) (broadcastInDim S256 ![] bcast_S_S256 (constantI S_ 32 q))) (broadcastInDim S256 ![] bcast_S_S256 (constantI S_ 32 d)))
    (Host.divsi (iotaInDim S256 32 0) (broadcastInDim S256 ![] bcast_S_S256 (constantI S_ 32 q)))

theorem bit_val (p : Prop) [Decidable p] : (FloatOps.uitofp .f32 (bit p) : Ideal .f32) = if p then 1 else 0 := by
  unfold bit
  by_cases h : p
  · rw [if_pos h, if_pos h]; show (((1#1).toNat : ℝ) : EReal) = 1; norm_num
  · rw [if_neg h, if_neg h]; show (((0#1).toNat : ℝ) : EReal) = 0; norm_num

theorem permOf_at (w : IVec S256 32) (π : Fin 256 → Fin 256) (hw : ∀ i : Fin 256, w (ix1 i) = BitVec.ofNat 32 (π i).val) : IsPerm (permOf w) π := by
  intro i j
  unfold permOf
  pointwise [hw]
  rw [eq_nat (by omega) (by omega), bit_val]
  exact if_congr ⟨fun h => Fin.ext h.symm, fun h => (congrArg Fin.val h).symm⟩ rfl rfl

theorem word4_at : ∀ i : Fin 256, word 64#32 4#32 (ix1 i) = BitVec.ofNat 32 (π4 i).val := by decide +kernel

theorem word16_at : ∀ i : Fin 256, word 16#32 16#32 (ix1 i) = BitVec.ofNat 32 (π16 i).val := by decide +kernel

theorem V_x (c : Dev nD) : V m c main_v0 = (truncf .bf16 (m ((c : Thread nD τ).loc main_arg0) : FVec Ideal S16x2048x2304 .f32) bitsLt_bf16_f32 : FVec Ideal S16x2048x2304 .bf16) := by
  unfold_abbrev_sides
  simp only [hostOps0, List.flatten_cons, List.flatten_nil, List.append_nil, List.cons_append, List.nil_append]
  after_results

theorem V_p4 (c : Dev nD) : V m c main_v16 = permOf (word 64#32 4#32) := by
  unfold_abbrev_sides
  simp only [hostOps0, List.flatten_cons, List.flatten_nil, List.append_nil, List.cons_append, List.nil_append]
  after_results
  rfl

theorem V_p16 (c : Dev nD) : V m c main_v32 = permOf (word 16#32 16#32) := by
  unfold_abbrev_sides
  simp only [hostOps0, List.flatten_cons, List.flatten_nil, List.append_nil, List.cons_append, List.nil_append]
  after_results
  rfl

theorem lit_at : ∀ i : Fin 1024, lit0 i = if i.val % 256 / 64 = i.val / 256 then 0x3E00#16 else 0x0000#16 := by decide +kernel

theorem half_lit : Ideal.ofBits FTy.bf16 0x3E00#16 = ((1 / 8 : ℝ) : EReal) := by
  simp [Ideal.ofBits, Ideal.ieee, -EReal.coe_mul]; norm_num

theorem zero_lit : Ideal.ofBits FTy.bf16 0x0000#16 = 0 := by
  simp [Ideal.ofBits, Ideal.ieee, -EReal.coe_mul]

theorem V_hm (c : Dev nD) : IsHeads (V m c main_cst) := by
  have e : V m c main_cst = (fun i => FloatOps.ofBits .bf16 (lit0 (S4x256.rowMajor i)) : FVec Ideal S4x256 .bf16) := by
    unfold_abbrev_sides
    simp only [hostOps0, List.flatten_cons, List.flatten_nil, List.append_nil, List.cons_append, List.nil_append]
    after_results
    rfl
  rw [e]
  intro h c
  have er : (S4x256.rowMajor (ix2 h c)).val = 256 * h.val + c.val := by
    rw [Shape.rowMajor_val_two]; show h.val * 256 + c.val = _; omega
  have el := lit_at ⟨256 * h.val + c.val, by omega⟩
  have ei : (S4x256.rowMajor (ix2 h c) : Fin 1024) = ⟨256 * h.val + c.val, by omega⟩ := Fin.ext er
  have e1 : (256 * h.val + c.val) % 256 = c.val := by omega
  have e2 : (256 * h.val + c.val) / 256 = h.val := by omega
  refine (congrArg (fun w : Fin 1024 => Ideal.ofBits FTy.bf16 (lit0 w)) ei).trans ?_
  refine (congrArg (Ideal.ofBits FTy.bf16) el).trans ?_
  dsimp only
  rw [e1, e2]
  split
  · exact half_lit
  · exact zero_lit

end Cert.Kernel2Ideal.Attn

end
-- ==== Proof.AttnFrame.lean ====
module

public import proofs.«01_k».proof.Proof.AttnBody
public import proofs.«01_k».proof.Proof.Gen.Kernel2Ideal.Frame

@[expose] public section

set_option maxRecDepth 16384
set_option maxHeartbeats 4000000

noncomputable section

namespace Cert.Kernel2Ideal.Attn

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

/-- The resource algebra of the run. -/
local notation "𝕄G" => MT nD τ sig Unit (Elt F) ℕ (UR sig nD τ) ℕ

open Idealize.ShloMosaic.Pipeline (Dat Cfg Window BodyObligation cellOf)

variable (m : (ℓ : Loc nD τ sig) → Buf (Elt F) ℓ) (ρ : Dev nD → PrngReg)

/-- The pipeline's proof data: arrays as the region finds them, every input's buffer at its block, the result's at `result` of the blocks. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => result (iblk m c 0 t) (iblk m c 1 t) (iblk m c 2 t) (iblk m c 3 t)
  Φ _ := Pipeline.ΦA spec0 c
  q _ := fullShare
  owed _ := 0

theorem A_eq (c : Dev nD) (w : Fin cfg0.W) : (dats m 0 c).A w = V m c (Pipeline.arrRef spec0 w) := by dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = result (iblk m c 0 t) (iblk m c 1 t) (iblk m c 2 t) (iblk m c 3 t) := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d

/-- What the body is called with at a point, and what it returns. -/
def pre (c : Dev nD) (t : Fin cfg0.N) : sProp 𝕄G :=
  iprop((dats m 0 c).Φ t.castSucc ∗ (dats m 0 c).owesAt () t.castSucc
    ∗ (∃ d, owns (c : Thread nD τ) (st0_0 t) fullShare ((dats m 0 c).before 0 t d)) ∗ (∃ d, owns (c : Thread nD τ) (st0_1 t) fullShare ((dats m 0 c).before 1 t d)) ∗ (∃ d, owns (c : Thread nD τ) (st0_2 t) fullShare ((dats m 0 c).before 2 t d)) ∗ (∃ d, owns (c : Thread nD τ) (st0_3 t) fullShare ((dats m 0 c).before 3 t d)) ∗ (∃ d, owns (c : Thread nD τ) (st0_4 t) fullShare ((dats m 0 c).before 4 t d)))
def post (c : Dev nD) (t : Fin cfg0.N) : sProp 𝕄G :=
  iprop((dats m 0 c).Φ t.succ ∗ (dats m 0 c).owesAt () t.succ
    ∗ owns (c : Thread nD τ) (st0_0 t) fullShare ((dats m 0 c).after 0 t) ∗ owns (c : Thread nD τ) (st0_1 t) fullShare ((dats m 0 c).after 1 t) ∗ owns (c : Thread nD τ) (st0_2 t) fullShare ((dats m 0 c).after 2 t) ∗ owns (c : Thread nD τ) (st0_3 t) fullShare ((dats m 0 c).after 3 t) ∗ owns (c : Thread nD τ) (st0_4 t) fullShare ((dats m 0 c).after 4 t))

/-- A scratch buffer held whole, as the body holds it. -/
theorem scratch (c : Dev nD) (b : Ref sig .tc) :
    (iprop(∃ f : Buf (Elt F) ((c : Thread nD τ).loc b), ((c : Thread nD τ).loc b) ↦{fullShare} f) : sProp 𝕄G)
      = iprop(∃ f, ((View.whole b).loc (c : Thread nD τ) ↦[(View.whole b).set]{fullShare} f)) := by
  rw [View.set_whole]

theorem body_at (c : Dev nD) (t : Fin cfg0.N) :
    pre m c t ⊢ wp frame (wpE (defs₀ (F := F)) Variants.none c none) Set.univ (bodyAt0 t) (fun _ => post m c t) := by
  unfold pre post bodyAt0
  simp only [before_0, before_1, before_2, before_3]
  rw [show (dats m 0 c).Φ t.succ = Pipeline.ΦA spec0 c from rfl, show (dats m 0 c).Φ t.castSucc = Pipeline.ΦA spec0 c from rfl,
    show (dats m 0 c).owesAt () t.succ = (dats m 0 c).owesAt () t.castSucc from rfl,
    after_0, after_1, after_2, after_3, after_4]
  unfold Pipeline.ΦA
  rw [scopedRest0_eq, scratch, scratch, scratch, scratch, scratch, scratch]
  iintro ⟨⟨⟨S0, S1, S2, S3, S4, S5⟩, HP⟩, Ho, ⟨%d0, H0⟩, ⟨%d1, H1⟩, ⟨%d2, H2⟩, ⟨%d3, H3⟩, ⟨%d4, H4⟩⟩
  iapply (body c Set.univ (grid0.coords t) _ _ _ _ _ _ _ _ _ _ _ _ _ _ _ _ _ _ _ _ _ _ (iblk m c 0 t) (iblk m c 1 t) (iblk m c 2 t) (iblk m c 3 t) _)
  isplitl [H0]; · iexact H0
  isplitl [H1]; · iexact H1
  isplitl [H2]; · iexact H2
  isplitl [H3]; · iexact H3
  isplitl [H4]; · iexists _; iexact H4
  isplitl [S0]; · iexact S0
  isplitl [S1]; · iexact S1
  isplitl [S2]; · iexact S2
  isplitl [S3]; · iexact S3
  isplitl [S4]; · iexact S4
  isplitl [S5]; · iexact S5
  iintro ⟨H0, H1, H2, H3, H4, S0, S1, S2, S3, S4, S5⟩
  isplitl [S0 S1 S2 S3 S4 S5 HP]
  · isplitl [S0 S1 S2 S3 S4 S5]
    · isplitl [S0]; · iexact S0
      isplitl [S1]; · iexact S1
      isplitl [S2]; · iexact S2
      isplitl [S3]; · iexact S3
      isplitl [S4]; · iexact S4
      iexact S5
    iexact HP
  isplitl [Ho]; · iexact Ho
  isplitl [H0]; · iexact H0
  isplitl [H1]; · iexact H1
  isplitl [H2]; · iexact H2
  isplitl [H3]; · iexact H3
  iexact H4

theorem row (t : Fin cfg0.N) : defs₀ (F := F) .tc cfg0.body (cfg0.bodyArgs t (cfg0.slots t)) = bodyAt0 t := by
  unfold defs₀; rw [Defs.onTc_tc]

theorem obligation (c : Dev nD) : BodyObligation (dats (F := F) m 0 c) (defs₀ (F := F)) Variants.none () Set.univ := fun t => by
  rw [bigSep_W0, bigSep_W0, row]
  exact triple_restated (body_at m c t) rfl .rfl fun _ => .rfl

set_option backward.isDefEq.respectTransparency.types false in
set_option maxHeartbeats 1600000 in
/-- Every run ends with the pipeline's arrays at what the proof data computes, the lines after the region carried out, and every counter at zero. -/
theorem run_quiescent : θ_run defs (onTc (τ := τ) (main (F := F))) (s₀ m ρ)
    (fun r => (Pipeline.FramePost cfgs (dats m) 0 (Pipeline.afterTail₀ cfgs (dats m) 0 (V0 m) [hostOps1])) r ∧ r.2.sem = fun _ => 0) :=
  Pipeline.θ_run_frame_around (Q' := _) cfgs (dats m) (0 : Fin 1) launch0 defs₀ Variants.none m ρ main
    (hbody := fun c => (obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

theorem run : θ_run defs (onTc (τ := τ) (main (F := F))) (s₀ m ρ) (Pipeline.FramePost cfgs (dats m) 0 (Pipeline.afterTail₀ cfgs (dats m) 0 (V0 m) [hostOps1])) :=
  (θ_run defs _ _).mono (fun _ h => h.1) (run_quiescent m ρ)

/-- Every run ends, with the argument unchanged and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)) ∧ r.2.sem = fun _ => 0) :=
  (θ_run defs _ _).mono (fun _ h => ⟨fun c => ((h.1 c).2 main_arg0 (Pipeline.mem_restRefs_of main_arg0 (by decide) (by decide))).trans (W_main_arg0 m (dats m) c), h.2⟩)
    (run_quiescent m ρ)

end Cert.Kernel2Ideal.Attn

end
-- ==== Proof.AttnArray.lean ====
/- The attention call, its result array: what the blocks written back make of the whole array, as a function of the argument
   over the extended reals. -/
module

public import proofs.«01_k».proof.Proof.AttnVal
public import proofs.«01_k».proof.Proof.AttnHost
public import proofs.«01_k».proof.Proof.AttnFrame

@[expose] public section

set_option synthInstance.maxSize 4096
set_option maxRecDepth 8192
set_option maxHeartbeats 1000000

noncomputable section

namespace Cert.Kernel2Ideal.Attn

open Cert.Kernel2Ideal Cert.Kernel2Ideal.Gen Cert.Attn
open Idealize.ShloMosaic Idealize.ShloMosaic.TcCoe Idealize.SL.Sem

/-- A batch's rows of queries, keys and values. -/
abbrev rowsOf (x : Vec Ideal S16x2048x2304 .f32) (b : Fin 16) : ℕ → ℕ → EReal := rowOf fun t c => x (ix3 b t c)

/-- The result array as one function of the argument: each batch's attention. -/
def G (x : Vec Ideal S16x2048x2304 .f32) : Vec Ideal S16x2048x256 .f32 := fun i => out (rowsOf x (i 0)) (i 1).val (i 2).val

/-- No sum divided by is zero. -/
def Good (x : Vec Ideal S16x2048x2304 .f32) : Prop :=
  ∀ b : Fin 16, Sound (rowsOf x b) ∧ ∀ t c : ℕ, t < 2048 → mass (fun g : Fin 3 => fL (rowsOf x b) g.val c t) ≠ 0

variable (m : (ℓ : Loc nD τ sig) → Buf (Elt Ideal) ℓ) (ρ : Dev nD → PrngReg)

theorem idx_same : ∀ t : Fin cfg0.N, win0_0.index t = win0_4.index t ∧ win0_4.index t (1 : Fin 3) = 0 ∧ win0_4.index t (2 : Fin 3) = 0 :=
  (by decide +kernel : ∀ t : Fin grid0.N, _)

/-- The whole-array windows are at block zero. -/
theorem idx_zero : ∀ t : Fin cfg0.N, win0_1.index t = ![0, 0] ∧ win0_2.index t = ![0, 0] ∧ win0_3.index t = ![0, 0] :=
  (by decide +kernel : ∀ t : Fin grid0.N, _)

theorem iblk1_eq (c : Dev nD) (t : Fin cfg0.N) : iblk m c 1 t = V m c main_cst := by
  obtain ⟨e, -⟩ := idx_zero t
  funext j; show V m c main_cst (((cfg0.win 1).blk t).view.emb j) = V m c main_cst j
  refine congrArg _ (funext fun a => Fin.ext ?_)
  match a with
  | ⟨0, _⟩ => show win0_1.index t (0 : Fin 2) * 4 + 1 * (j 0).val = (j 0).val; rw [e]; simp
  | ⟨1, _⟩ => show win0_1.index t (1 : Fin 2) * 256 + 1 * (j 1).val = (j 1).val; rw [e]; simp

theorem iblk2_eq (c : Dev nD) (t : Fin cfg0.N) : iblk m c 2 t = V m c main_v16 := by
  obtain ⟨-, e, -⟩ := idx_zero t
  funext j; show V m c main_v16 (((cfg0.win 2).blk t).view.emb j) = V m c main_v16 j
  refine congrArg _ (funext fun a => Fin.ext ?_)
  match a with
  | ⟨0, _⟩ => show win0_2.index t (0 : Fin 2) * 256 + 1 * (j 0).val = (j 0).val; rw [e]; simp
  | ⟨1, _⟩ => show win0_2.index t (1 : Fin 2) * 256 + 1 * (j 1).val = (j 1).val; rw [e]; simp

theorem iblk3_eq (c : Dev nD) (t : Fin cfg0.N) : iblk m c 3 t = V m c main_v32 := by
  obtain ⟨-, -, e⟩ := idx_zero t
  funext j; show V m c main_v32 (((cfg0.win 3).blk t).view.emb j) = V m c main_v32 j
  refine congrArg _ (funext fun a => Fin.ext ?_)
  match a with
  | ⟨0, _⟩ => show win0_3.index t (0 : Fin 2) * 256 + 1 * (j 0).val = (j 0).val; rw [e]; simp
  | ⟨1, _⟩ => show win0_3.index t (1 : Fin 2) * 256 + 1 * (j 1).val = (j 1).val; rw [e]; simp

/-- The argument as this run finds it. -/
abbrev arg (c : Dev nD) : Vec Ideal S16x2048x2304 .f32 := m ((c : Thread nD τ).loc main_arg0)

/-- The first coordinate of an index of a block is zero. -/
theorem first_zero (y : S1x2048x256.Idx) : (y 0).val = 0 := by
  have := (y 0).isLt; change (y 0).val < 1 at this; omega

/-- The block of queries, keys and values at a point is a batch's. -/
theorem block_rows (c : Dev nD) (t : Fin cfg0.N) (y : S1x2048x256.Idx) : XK (iblk m c 0 t) = rowsOf (arg m c) (((cfg0.win 4).blk t).view.emb y 0) := by
  obtain ⟨e, -, -⟩ := idx_same t
  have h : ∀ (p : Fin 2048) (q : Fin 2304), iblk m c 0 t (ix3 0 p q) = arg m c (ix3 (((cfg0.win 4).blk t).view.emb y 0) p q) := by
    intro p q
    have e0 : iblk m c 0 t (ix3 0 p q) = V m c main_v0 (ix3 (((cfg0.win 4).blk t).view.emb y 0) p q) := by
      show V m c main_v0 (((cfg0.win 0).blk t).view.emb (ix3 0 p q)) = _
      refine congrArg _ (funext fun a => Fin.ext ?_)
      match a with
      | ⟨0, _⟩ => show win0_0.index t (0 : Fin 3) * 1 + 1 * 0 = win0_4.index t (0 : Fin 3) * 1 + 1 * (y 0).val; rw [e, first_zero y]
      | ⟨1, _⟩ => show win0_0.index t (1 : Fin 3) * 2048 + 1 * p.val = p.val; rw [e, (idx_same t).2.1]; omega
      | ⟨2, _⟩ => show win0_0.index t (2 : Fin 3) * 2304 + 1 * q.val = q.val; rw [e, (idx_same t).2.2]; omega
    rw [e0, V_x]
    rfl
  unfold XK rowsOf
  exact congrArg rowOf (funext fun p => funext fun q => h p q)

/-- What a point writes back is its block of `G` of the argument. -/
theorem flushed_eq (hg : ∀ c, Good (arg m c)) (c : Dev nD) (t : Fin cfg0.N) :
    (dats m 0 c).flushed 4 t = ((cfg0.win 4).blk t).view.read (Elt Ideal) (G (arg m c)) := by
  show (cfg0.win 4).cut (grid0.coords t) ((dats m 0 c).after 4 t) = _
  rw [after_4, iblk1_eq, iblk2_eq, iblk3_eq, V_p4, V_p16]
  funext y
  show result (F := Ideal) (iblk m c 0 t) (V m c main_cst) (permOf (word 64#32 4#32)) (permOf (word 16#32 16#32)) y = G (arg m c) (((cfg0.win 4).blk t).view.emb y)
  have hr := block_rows m c t y
  have hgb := hg c (((cfg0.win 4).blk t).view.emb y 0)
  rw [result_at _ _ _ _ (V_hm m c) (permOf_at _ _ word4_at) (permOf_at _ _ word16_at) (by rw [hr]; exact hgb.1) (by rw [hr]; exact hgb.2), hr]
  have h1 : (((cfg0.win 4).blk t).view.emb y 1).val = (y 1).val := by
    show win0_4.index t (1 : Fin 3) * 2048 + 1 * (y 1).val = (y 1).val; rw [(idx_same t).2.1]; omega
  have h2 : (((cfg0.win 4).blk t).view.emb y 2).val = (y 2).val := by
    show win0_4.index t (2 : Fin 3) * 256 + 1 * (y 2).val = (y 2).val; rw [(idx_same t).2.2]; omega
  unfold G
  rw [h1, h2]

/-- Every block of the result array is some point's. -/
theorem idx_onto : ∀ p : Fin 16, ∃ t : Fin cfg0.N, win0_4.index t (0 : Fin 3) = p.val :=
  (by decide +kernel : ∀ p : Fin 16, ∃ t : Fin grid0.N, win0_4.index t (0 : Fin 3) = p.val)

/-- Every index is in some point's block. -/
theorem covered (i : S16x2048x256.Idx) : ∃ t : Fin cfg0.N, (cfg0.win 4).flush t = true ∧ i ∈ ((cfg0.win 4).blk t).view.set := by
  obtain ⟨t, e0⟩ := idx_onto (i 0)
  obtain ⟨-, h1, h2⟩ := idx_same t
  have hi : ((cfg0.win 4).blk t).view.emb (ix3 (0 : Fin 1) (i 1 : Fin 2048) (i 2 : Fin 256) : S1x2048x256.Idx) = i := by
    refine funext fun a => Fin.ext ?_
    match a with
    | ⟨0, _⟩ => show win0_4.index t (0 : Fin 3) * 1 + 1 * 0 = (i 0).val; rw [e0]; omega
    | ⟨1, _⟩ => show win0_4.index t (1 : Fin 3) * 2048 + 1 * (i 1).val = (i 1).val; rw [h1]; omega
    | ⟨2, _⟩ => show win0_4.index t (2 : Fin 3) * 256 + 1 * (i 2).val = (i 2).val; rw [h2]; omega
  refine ⟨t, flush0_4 t, ?_⟩
  have h := ((cfg0.win 4).blk t).view.emb_mem_set (ix3 (0 : Fin 1) (i 1 : Fin 2048) (i 2 : Fin 256) : S1x2048x256.Idx)
  rwa [hi] at h

/-- The call's array after the run. -/
theorem final (hg : ∀ c, Good (arg m c)) (c : Dev nD) : (dats m 0 c).arrAt 4 cfg0.N = G (arg m c) :=
  (dats m 0 c).arrAt_eq_of_cover 4 (G (arg m c)) (fun t _ => flushed_eq m hg c t) covered

/-- The result: the call's array widened. -/
theorem tail_eq (hg : ∀ c, Good (arg m c)) (c : Dev nD) :
    Pipeline.afterTail₀ cfgs (dats m) 0 (V0 m) [hostOps1] c main_v34 = G (arg m c) := by
  unfold Pipeline.afterTail₀
  simp only [hostOps1, List.flatten_cons, List.flatten_nil, List.append_nil]
  after_results
  have e := (Pipeline.withArrays_arr spec0 launch0.win.arr_inj c (V0 m c) (fun w => (dats m 0 c).arrAt w cfg0.N) 4).trans (final m hg c)
  exact (congrArg (fun z : FVec Ideal S16x2048x256 .bf16 => (extf .f32 z bitsLt_bf16_f32 : FVec Ideal S16x2048x256 .f32)) e).trans rfl

/-- Every run ends with the result at `G` of the argument, the argument unchanged. -/
theorem run_result (hg : ∀ c, Good (arg m c)) : θ_run defs (onTc (τ := τ) (main (F := Ideal))) ⟨m, fun _ => 0, ρ⟩ (fun r => ∀ c : Dev nD,
      r.2.mem ((c : Thread nD τ).loc main_v34) = G (arg m c) ∧ r.2.mem ((c : Thread nD τ).loc main_arg0) = m ((c : Thread nD τ).loc main_arg0)) :=
  (θ_run defs _ _).mono (fun _ h c => ⟨((h c).2 main_v34 (Pipeline.mem_restRefs_of main_v34 (by decide) (by decide))).trans (tail_eq m hg c),
    ((h c).2 main_arg0 (Pipeline.mem_restRefs_of main_arg0 (by decide) (by decide))).trans (W_main_arg0 m (dats m) c)⟩) (run m ρ)

end Cert.Kernel2Ideal.Attn

end
-- ==== Proof.AttnRef.lean ====
/- The reference's attention, read at an index over the extended reals. -/
module

public import proofs.«01_k».proof.Proof.AttnWords
public import proofs.«01_k».proof.Proof.Gen.Reference2Ideal.Read
public import Idealize.ShloMosaic.Lib.Pointwise

@[expose] public section

noncomputable section

namespace Cert.Attn.Ref

open Cert.Reference2Ideal Cert.Reference2Ideal.Gen Cert.Reference2Ideal.Read Idealize.ShloMosaic Idealize.ShloMosaic.TcCoe Idealize.SL.Sem Idealize.ShloMosaic.StableHlo

variable (x : Vec Ideal S16x2048x2304 .f32) (b : Fin 16) (g : Fin 3) (h : Fin 4) (t j : Fin 2048)

/-- A group's dilation. -/
theorem dilation_at : val_main_v11 (F := Ideal) (ix1 g) = BitVec.ofNat 32 (4 ^ g.val) := by
  unfold val_main_v11 val_main_v10 val_main_v9 val_main_v8 val_main_v7 val_main_c val_main_c_0
  pointwise; exact dil g

/-- The mask. -/
theorem mask_at : val_main_v39 (F := Ideal) (ix3 g t j) = bit (near (4 ^ g.val) t.val j.val) := by
  unfold val_main_v39 val_main_v38 val_main_v37 val_main_v36 val_main_v35 val_main_v34 val_main_v33 val_main_v32 val_main_v31 val_main_v30 val_main_v29 val_main_v28 val_main_v27 val_main_v26 val_main_v25 val_main_v24 val_main_v23 val_main_v22 val_main_v21 val_main_v20 val_main_v19 val_main_v18 val_main_v17 val_main_v16 val_main_v15 val_main_v14 val_main_v13 val_main_v12 val_main_c_1
  pointwise [dilation_at]
  have hp : 0 < 4 ^ g.val := Nat.pow_pos (by decide)
  have hq : 4 ^ g.val ≤ 16 := by revert g; decide
  have hr : t.val % 4 ^ g.val < 4 ^ g.val := Nat.mod_lt _ hp
  have hs : j.val % 4 ^ g.val < 4 ^ g.val := Nat.mod_lt _ hp
  rw [mul_nat, add_nat, rem_nat (by omega) hp (by omega), rem_nat (by omega) hp (by omega), sle_nat (by omega) (by omega), sle_nat (by omega) (by omega),
    eq_nat (by omega) (by omega), and_bit, and_bit]
  rfl

/-- The batch's row by position and column. -/
abbrev X : ℕ → ℕ → EReal := rowOf fun t c => x (ix3 b t c)

/-- A query's entry. -/
theorem q_at (e : Fin 64) : val_main_v2 (F := Ideal) x (ix5 b t g h e) = X x b t.val (256 * g.val + 64 * h.val + e.val) := by
  unfold val_main_v2 val_main_v1 val_main_v0
  pointwise
  exact rowOf_eq (fun t c => x (ix3 b t c)) _ _ _ _ _ _ rfl (by omega)

/-- A key's entry. -/
theorem k_at (e : Fin 64) : val_main_v4 (F := Ideal) x (ix5 b t g h e) = X x b t.val (768 + (256 * g.val + 64 * h.val + e.val)) := by
  unfold val_main_v4 val_main_v3 val_main_v0
  pointwise
  exact rowOf_eq (fun t c => x (ix3 b t c)) _ _ _ _ _ _ rfl (by omega)

/-- A value's entry. -/
theorem v_at (e : Fin 64) : val_main_v6 (F := Ideal) x (ix5 b t g h e) = X x b t.val (1536 + (256 * g.val + 64 * h.val + e.val)) := by
  unfold val_main_v6 val_main_v5 val_main_v0
  pointwise
  exact rowOf_eq (fun t c => x (ix3 b t c)) _ _ _ _ _ _ rfl (by omega)

theorem eighth : Ideal.ofBits FTy.f32 0x3E000000#32 = ((1 / 8 : ℝ) : EReal) := by
  simp [Ideal.ofBits, Ideal.ieee, -EReal.coe_mul]; norm_num

theorem bottom : Ideal.ofBits FTy.f32 4286578688#32 = ⊥ := by simp [Ideal.ofBits, Ideal.ieee]

/-- The masked scores. -/
theorem sc_at : val_main_v44 (F := Ideal) x (ix5 b g h t j) = sc (X x b) (4 ^ g.val) (256 * g.val + 64 * h.val) t.val j := by
  unfold val_main_v44 val_main_call0_v2 val_main_call0_v1 val_main_call0_v0 val_main_v43 val_main_v42 val_main_v41 val_main_v40 val_main_cst val_main_cst_2
  pointwise [dot_S16x2048x3x4x64_S16x2048x3x4x64_S16x3x4x2048x2048_4_4_1_1_023_023, q_at, k_at, mask_at]
  rw [select_bit]
  unfold sc
  refine if_congr Iff.rfl (congrArg (_ * ·) eighth) bottom

/-- The greatest of finitely many values, as a fold. -/
theorem fold_bot {n : ℕ} (s : Fin n → EReal) : Finset.fold max ⊥ s Finset.univ = top s := rfl

/-- The greatest score. -/
theorem top_at : val_main_v45 (F := Ideal) x (ix4 b g h t) = top (sc (X x b) (4 ^ g.val) (256 * g.val + 64 * h.val) t.val) := by
  unfold val_main_v45 val_main_cst_3
  pointwise [sc_at]
  rw [bottom]
  exact fold_bot _

/-- A weight. -/
theorem wt_at : val_main_v49 (F := Ideal) x (ix5 b g h t j) = wt (sc (X x b) (4 ^ g.val) (256 * g.val + 64 * h.val) t.val) j := by
  unfold val_main_v49 val_main_v48 val_main_v47 val_main_v46
  pointwise [sc_at, top_at]
  unfold wt
  with_reducible rfl

/-- The weights' sum. -/
theorem mass_at (z : Fin 1) : val_main_v51 (F := Ideal) x (ix5 b g h t z) = mass (sc (X x b) (4 ^ g.val) (256 * g.val + 64 * h.val) t.val) := by
  unfold val_main_v51 val_main_v50 val_main_cst_4
  pointwise [wt_at]
  unfold mass
  with_reducible rfl

end Cert.Attn.Ref

end
-- ==== Proof.AttnRef2.lean ====
/- The reference's mix of the three groups, read at an index over the extended reals. -/
module

public import proofs.«01_k».proof.Proof.AttnRef

@[expose] public section

noncomputable section

namespace Cert.Attn.Ref

open Cert.Reference2Ideal Cert.Reference2Ideal.Gen Cert.Reference2Ideal.Read Idealize.ShloMosaic Idealize.ShloMosaic.TcCoe Idealize.SL.Sem Idealize.ShloMosaic.StableHlo

/-- The weights of the groups, unnormalised: exponentials of the normalisers less their greatest. -/
def expR (L : FVec Ideal S16x3x4x2048x1 .f32) : FVec Ideal S16x3x4x2048x1 .f32 :=
  Host.exp (subf L (broadcastInDim S16x3x4x2048x1 ![0, 1, 2, 3, 4] bcast_S16x1x4x2048x1_S16x3x4x2048x1_0_1_2_3_4
    (broadcastInDim S16x1x4x2048x1 ![0, 2, 3, 4] bcast_S16x4x2048x1_S16x1x4x2048x1_0_2_3_4
      (maximumf (val_main_v58 (F := Ideal)) (Host.reduce FloatOps.maximumf L (val_main_cst_5 (F := Ideal)) reducesTo_S16x3x4x2048x1_S16x4x2048x1_d1 h_S_)))))

/-- The groups' outputs mixed by their normalisers. -/
def mixR (L : FVec Ideal S16x3x4x2048x1 .f32) (O : FVec Ideal S16x3x4x2048x64 .f32) : FVec Ideal S16x4x2048x64 .f32 :=
  Host.reduceAdd (mulf (broadcastInDim S16x3x4x2048x64 ![0, 1, 2, 3, 4] bcast_S16x3x4x2048x1_S16x3x4x2048x64_0_1_2_3_4
    (Host.divf (expR L) (broadcastInDim S16x3x4x2048x1 ![0, 1, 2, 3, 4] bcast_S16x1x4x2048x1_S16x3x4x2048x1_0_1_2_3_4
      (broadcastInDim S16x1x4x2048x1 ![0, 2, 3, 4] bcast_S16x4x2048x1_S16x1x4x2048x1_0_2_3_4
        (Host.reduceAdd (expR L) (val_main_cst_7 (F := Ideal)) reducesTo_S16x3x4x2048x1_S16x4x2048x1_d1 h_S_))))) O) (val_main_cst_8 (F := Ideal))
    reducesTo_S16x3x4x2048x64_S16x4x2048x64_d1 h_S_

theorem v72_eq (x : Vec Ideal S16x2048x2304 .f32) :
    val_main_v72 (F := Ideal) x = shapeCast _ (transpose S16x2048x4x64 [0, 2, 1, 3] (mixR (val_main_v56 (F := Ideal) x) (val_main_v54 (F := Ideal) x)) transposes_S16x4x2048x64_S16x2048x4x64_0_2_1_3) shapeCasts_S16x2048x4x64_S16x2048x256 := by
  unfold val_main_v72 val_main_v71 val_main_v70 val_main_v69 val_main_v68 val_main_v67 val_main_v66 val_main_v65 val_main_v64 val_main_v63 val_main_v62 val_main_v61 val_main_v60 val_main_v59 val_main_v57 mixR expR
  with_reducible rfl

section Mix
variable (L : FVec Ideal S16x3x4x2048x1 .f32) (O : FVec Ideal S16x3x4x2048x64 .f32) (b : Fin 16) (g : Fin 3) (h : Fin 4) (t : Fin 2048)

theorem expR_at (z : Fin 1) : expR L (ix5 b g h t z) = wt (fun g => L (ix5 b g h t z)) g := by
  obtain rfl : z = 0 := Subsingleton.elim _ _
  unfold expR val_main_v58 val_main_cst_5 val_main_cst_6
  pointwise
  rw [bottom, max_eq_right bot_le]
  unfold wt
  refine congrArg (fun y => Ideal.exp (_ - y)) ?_
  exact fold_bot _

theorem mixR_at (e : Fin 64) (hl : mass (fun g : Fin 3 => L (ix5 b g h t 0)) ≠ 0) :
    mixR L O (ix4 b h t e) = mix (fun g => L (ix5 b g h t 0)) fun g => O (ix5 b g h t e) := by
  unfold mixR val_main_cst_7 val_main_cst_8
  pointwise [expR_at]
  unfold mix
  refine Finset.sum_congr rfl fun g _ => ?_
  refine congrArg (· * _) ?_
  exact div_eq hl
end Mix

theorem transposed_at (y : FVec Ideal S16x4x2048x64 .f32) (b : Fin 16) (t : Fin 2048) (c : Fin 256) :
    (shapeCast _ (transpose S16x2048x4x64 [0, 2, 1, 3] y transposes_S16x4x2048x64_S16x2048x4x64_0_2_1_3) shapeCasts_S16x2048x4x64_S16x2048x256 : FVec Ideal S16x2048x256 .f32) (ix3 b t c)
      = y (ix4 b ⟨c.val / 64, by omega⟩ t ⟨c.val % 64, by omega⟩) := by
  pointwise

variable (x : Vec Ideal S16x2048x2304 .f32) (b : Fin 16) (g : Fin 3) (h : Fin 4) (t : Fin 2048)

/-- A sum with a logarithm, at an index. -/
theorem addlog_at (A B : FVec Ideal S16x3x4x2048x1 .f32) (i : S16x3x4x2048x1.Idx) (a b : EReal) (ha : A i = a) (hb : B i = b) :
    (addf A (Host.log B) : FVec Ideal S16x3x4x2048x1 .f32) i = a + Ideal.log b := by
  subst ha hb; rfl

theorem v46_at (z : Fin 1) : val_main_v46 (F := Ideal) x (ix5 b g h t z) = top (sc (X x b) (4 ^ g.val) (256 * g.val + 64 * h.val) t.val) := by
  unfold val_main_v46
  pointwise [top_at]

/-- The log-normaliser. -/
theorem lse_at (z : Fin 1) : val_main_v56 (F := Ideal) x (ix5 b g h t z) = headLse (X x b) (4 ^ g.val) (256 * g.val + 64 * h.val) t.val := by
  unfold val_main_v56 val_main_v55 headLse lse
  exact addlog_at _ _ _ _ _ (v46_at x b g h t z) (mass_at x b g h t z)

/-- A head's weighted sum of values divided by the weights' sum. -/
theorem o_at (e : Fin 64) (hm : mass (sc (X x b) (4 ^ g.val) (256 * g.val + 64 * h.val) t.val) ≠ 0) :
    val_main_v54 (F := Ideal) x (ix5 b g h t e) = headOut (X x b) (4 ^ g.val) (256 * g.val + 64 * h.val) t.val e.val := by
  unfold val_main_v54 val_main_v53 val_main_v52
  pointwise [dot_S16x3x4x2048x2048_S16x2048x3x4x64_S16x3x4x2048x64_4_1_3_4_012_023, wt_at, v_at, mass_at]
  rw [div_eq hm]
  unfold headOut avg
  refine congrArg (· * _) (Finset.sum_congr rfl fun j _ => ?_)
  with_reducible rfl

/-- The layer's output, where the sums divided by are not zero. -/
theorem out_at (c : Fin 256) (hm : ∀ (g : Fin 3) (h : Fin 4), mass (sc (X x b) (4 ^ g.val) (256 * g.val + 64 * h.val) t.val) ≠ 0)
    (hl : ∀ h : Fin 4, mass (fun g : Fin 3 => headLse (X x b) (4 ^ g.val) (256 * g.val + 64 * h.val) t.val) ≠ 0) :
    val_main_v72 (F := Ideal) x (ix3 b t c) = out (X x b) t.val c.val := by
  rw [v72_eq, transposed_at]
  have eL : (fun g : Fin 3 => val_main_v56 (F := Ideal) x (ix5 b g ⟨c.val / 64, by omega⟩ t 0)) = fun g : Fin 3 => headLse (X x b) (4 ^ g.val) (256 * g.val + 64 * (c.val / 64)) t.val :=
    funext fun g => lse_at x b g ⟨c.val / 64, by omega⟩ t 0
  have eO : (fun g : Fin 3 => val_main_v54 (F := Ideal) x (ix5 b g ⟨c.val / 64, by omega⟩ t ⟨c.val % 64, by omega⟩)) = fun g : Fin 3 => headOut (X x b) (4 ^ g.val) (256 * g.val + 64 * (c.val / 64)) t.val (c.val % 64) :=
    funext fun g => o_at x b g ⟨c.val / 64, by omega⟩ t ⟨c.val % 64, by omega⟩ (hm g ⟨c.val / 64, by omega⟩)
  refine (mixR_at _ _ b ⟨c.val / 64, by omega⟩ t ⟨c.val % 64, by omega⟩ (by rw [eL]; exact hl ⟨c.val / 64, by omega⟩)).trans ?_
  rw [eL, eO]
  unfold out
  with_reducible rfl

end Cert.Attn.Ref

end
-- ==== Proof.AttnClaim.lean ====
/- The attention call's value claim: kernel and reference end with equal results over the extended reals, where every entry of
   the argument is finite. -/
module

public import proofs.«01_k».proof.Defs
public import proofs.«01_k».proof.Proof.AttnArray
public import proofs.«01_k».proof.Proof.AttnRef2
public import proofs.«01_k».proof.Proof.Gen.Reference2Ideal.Run

@[expose] public section

set_option synthInstance.maxSize 4096

noncomputable section

namespace Cert.Attn

open Idealize.ShloMosaic Idealize.ShloMosaic.TcCoe Idealize.SL.Sem
open Cert.Kernel2Ideal.Attn (G Good rowsOf Sound fL)

/-- The relation the precondition's text takes. -/
theorem pre_facts : Cert.Pre_finite.Facts := ⟨by decide⟩

theorem top_lit : Ideal.ofBits FTy.f32 0x7F800000#32 = ⊤ := by
  simp [Ideal.ofBits, Ideal.ieee]

/-- An extended real whose absolute value is below `⊤` is a real number. -/
theorem real_of_lt (x : EReal) (h : max x (-x) < ⊤) : ∃ r : ℝ, x = r := by
  induction x with
  | bot => simp at h
  | top => simp at h
  | coe r => exact ⟨r, rfl⟩

/-- The precondition makes every entry a real number. -/
theorem real_of_pre [Cert.Pre_finite.Facts] (x : Vec Ideal Cert.Kernel2Ideal.S16x2048x2304 .f32)
    (h : Cert.Pre_finite.fn (F := Ideal) x = fun _ => 1#1) (i : Cert.Kernel2Ideal.S16x2048x2304.Idx) : ∃ r : ℝ, (x i : EReal) = r := by
  have hi : Ideal.cmp .olt (max (x i : EReal) (-(x i : EReal))) (Ideal.ofBits FTy.f32 0x7F800000#32) = 1#1 := congrFun h i
  rw [top_lit] at hi
  refine real_of_lt _ ?_
  by_contra hc
  unfold Ideal.cmp at hi
  simp only [decide_eq_false hc] at hi
  exact absurd hi (by decide)

/-- With finite entries no sum divided by is zero. -/
theorem good_of_real (x : Vec Ideal Cert.Kernel2Ideal.S16x2048x2304 .f32) (h : ∀ i, ∃ r : ℝ, (x i : EReal) = r) : Good x := by
  intro b
  choose f hf using h
  let Y : ℕ → ℕ → ℝ := fun t c => f (ix3 b ⟨t % 2048, Nat.mod_lt _ (by norm_num)⟩ ⟨c % 2304, Nat.mod_lt _ (by norm_num)⟩)
  have e : rowsOf x b = fun t c => ((Y t c : ℝ) : EReal) := funext fun t => funext fun c => hf _
  rw [e]
  exact ⟨fun d o t ht => mass_ne_zero (sc_tame Y d o t ht),
    fun t c ht => mass_ne_zero (lse3_tame Y (fun g => 4 ^ g.val) (fun g => 256 * g.val + 64 * (c / 64)) t ht)⟩

/-- The reference's result as one function of its argument is the kernel's. -/
theorem ref_eq (x : Vec Ideal Cert.Kernel2Ideal.S16x2048x2304 .f32) (hg : Good x) : Cert.Reference2Ideal.Read.val_main_v72 (F := Ideal) x = G x := by
  funext i
  rw [eq_ix3 i]
  refine Ref.out_at x (i 0) (i 1) (i 2) (fun g h => (hg (i 0)).1 _ _ _ (i 1).isLt) fun h => ?_
  have := (hg (i 0)).2 (i 1).val (64 * h.val) (i 1).isLt
  unfold fL at this
  rwa [Nat.mul_div_cancel_left _ (by norm_num : 0 < 64)] at this

/-- The kernel and the reference compute the same array. -/
theorem algebraic [Cert.Pre_finite.Facts] : Cert.algebraic_Kernel2Ideal_Reference2Ideal_pre_finite := by
  intro m ρ m' ρ' hpre hagree
  have hg : ∀ c, Good (Cert.Kernel2Ideal.Attn.arg m c) := fun c => good_of_real _ (real_of_pre _ (hpre c))
  refine ⟨fun c => G (Cert.Kernel2Ideal.Attn.arg m c), ?_, ?_⟩
  · exact Cert.Kernel2Ideal.Attn.run_result m ρ hg
  · refine (θ_run Cert.Reference2Ideal.defs _ _).mono (fun r h c => ⟨(h c).1.trans ?_, (h c).2⟩) (Cert.Reference2Ideal.Value.run m' ρ')
    rw [Cert.Reference2Ideal.Read.val_main_v72_eq, hagree c]
    exact ref_eq _ (hg c)

end Cert.Attn

end
-- ==== Proof.MixSlab.lean ====
/- The mixing call, one slab of 256 rows: the computation the kernel repeats for each of the eight slabs of a block, written
   once over whole vectors, and what it is worth at an index over the extended reals. -/
module

public import proofs.«01_k».proof.Proof.Gen.Kernel3Ideal.Frame
public import proofs.«01_k».proof.Proof.RowMath
public import Idealize.ShloMosaic.Lib.Pipeline.Value
public import Idealize.ShloMosaic.Lib.ValueIdx
public import Idealize.ShloMosaic.Lib.Pointwise
public import Idealize.ShloMosaic.PureOps.Ideal.Laws

@[expose] public section

set_option synthInstance.maxSize 4096

noncomputable section

namespace Cert.Mix

open Cert.Kernel3Ideal Cert.Kernel3Ideal.Gen Idealize.ShloMosaic Idealize.SL.Sem

section Terms

variable {F : FTy → Type} [FloatOps F]

/-- Root-mean-square normalisation of 256 rows, scaled by a gain row. -/
def normVec (x : FVec F S256x1024 .f32) (g : FVec F S1x1024 .f32) : FVec F S256x1024 .f32 :=
  mulf (mulf x (broadcastTo S256x1024 (rsqrt (addf (divf (shapeCast S256x1
    (multiReduction .add [1] S256 (mulf x x) 0x00000000#32 reduces_S256x1024_S256 (.inl rfl) rfl) shapeCasts_S256_S256x1)
    (broadcast S256x1 (Scalar.ofBits .f32 0x44800000#32))) (broadcast S256x1 (Scalar.ofBits .f32 0x358637BD#32))))
    broadcasts_S256x1_S256x1024)) (broadcastTo S256x1024 g broadcasts_S1x1024_S256x1024)

/-- The gates of 256 normalised rows. -/
def gateVec (h : FVec F S256x1024 .f32) (wg : FVec F S1024x2048 .bf16) : FVec F S256x2048 .f32 :=
  logistic (matmul dot_S256x1024_S1024x2048_S256x2048_1_0_0_1_n_n none (truncf .bf16 h bitsLt_bf16_f32) wg (constant S256x2048 .f32 0x00000000#32))

/-- The attention's rows projected to the model's width. -/
def attnVec (a : FVec F S256x256 .bf16) (wa : FVec F S256x1024 .bf16) : FVec F S256x1024 .f32 :=
  matmul dot_S256x256_S256x1024_S256x1024_1_0_0_1_n_n none a wa (constant S256x1024 .f32 0x00000000#32)

/-- The state-space rows times the gated linear unit's matrix. -/
def gluVec (y : FVec F S256x512 .bf16) (wglu : FVec F S512x2048 .bf16) : FVec F S256x2048 .f32 :=
  matmul dot_S256x512_S512x2048_S256x2048_1_0_0_1_n_n none y wglu (constant S256x2048 .f32 0x00000000#32)

/-- The first half of the columns. -/
def lowHalf (v : FVec F S256x2048 .f32) : FVec F S256x1024 .f32 :=
  extractStridedSlice S256x1024 ![0, 0] v slices_S256x2048_o0_0_S256x1024

/-- The second half of the columns. -/
def highHalf (v : FVec F S256x2048 .f32) : FVec F S256x1024 .f32 :=
  extractStridedSlice S256x1024 ![0, 1024] v slices_S256x2048_o0_1024_S256x1024

/-- The merged branches, from the gates, the attention's projection and the gated linear unit's products. -/
def mergeVec (gate : FVec F S256x2048 .f32) (at' : FVec F S256x1024 .f32) (z : FVec F S256x2048 .f32) : FVec F S256x1024 .f32 :=
  addf (mulf (lowHalf gate) at') (mulf (highHalf gate) (mulf (lowHalf z) (logistic (highHalf z))))

/-- The whole slab, from the blocks as they are loaded. -/
def slab (x : Vec F S1x256x1024 .f32) (g : Vec F S1x1024 .f32) (wg : Vec F S1024x2048 .bf16) (a : Vec F S1x256x256 .bf16)
    (wa : Vec F S256x1024 .bf16) (y : Vec F S1x256x512 .bf16) (wglu : Vec F S512x2048 .bf16) (wo : Vec F S1024x1024 .bf16) :
    FVec F S1x256x1024 .f32 :=
  shapeCast S1x256x1024 (addf (shapeCast S256x1024 x shapeCasts_S1x256x1024_S256x1024)
    (matmul dot_S256x1024_S1024x1024_S256x1024_1_0_0_1_n_n none (truncf .bf16
      (mergeVec (gateVec (normVec (shapeCast S256x1024 x shapeCasts_S1x256x1024_S256x1024) (shapeCast S1x1024 g shapeCasts_S1x1024_S1x1024))
          (shapeCast S1024x2048 wg shapeCasts_S1024x2048_S1024x2048))
        (attnVec (shapeCast S256x256 a shapeCasts_S1x256x256_S256x256) (shapeCast S256x1024 wa shapeCasts_S256x1024_S256x1024))
        (gluVec (shapeCast S256x512 y shapeCasts_S1x256x512_S256x512) (shapeCast S512x2048 wglu shapeCasts_S512x2048_S512x2048)))
      bitsLt_bf16_f32) (shapeCast S1024x1024 wo shapeCasts_S1024x1024_S1024x1024) (constant S256x1024 .f32 0x00000000#32)))
    shapeCasts_S256x1024_S1x256x1024

variable (x : Vec F S1x256x1024 .f32) (g : Vec F S1x1024 .f32) (wg : Vec F S1024x2048 .bf16) (a : Vec F S1x256x256 .bf16)
    (wa : Vec F S256x1024 .bf16) (y : Vec F S1x256x512 .bf16) (wglu : Vec F S512x2048 .bf16) (wo : Vec F S1024x1024 .bf16)

/-- What the kernel stores in the first slab. -/
theorem slab_1 : k0_pay6 (k0_pay2 x) (k0_pay3 x g wg) (k0_pay4 a wa) (k0_pay5 y wglu) wo = slab x g wg a wa y wglu wo := rfl

/-- What the kernel stores in the second slab. -/
theorem slab_2 : k0_pay10 (k0_pay7 x) (k0_pay8 x g wg) (k0_pay9 a) wa y wglu wo = slab x g wg a wa y wglu wo := rfl

/-- What the kernel stores in the third slab. -/
theorem slab_3 : k0_pay14 (k0_pay11 x) (k0_pay12 g) (k0_pay13 x) wg a wa y wglu wo = slab x g wg a wa y wglu wo := rfl

/-- What the kernel stores in the fourth slab. -/
theorem slab_4 : k0_pay17 (k0_pay15 x) (k0_pay16 x g wg a wa y wglu) wo = slab x g wg a wa y wglu wo := rfl

/-- What the kernel stores in the fifth slab. -/
theorem slab_5 : k0_pay21 (k0_pay18 x) (k0_pay19 x g wg) (k0_pay20 a wa) y wglu wo = slab x g wg a wa y wglu wo := rfl

/-- What the kernel stores in the sixth slab. -/
theorem slab_6 : k0_pay24 (k0_pay22 x) (k0_pay23 x g) wg a wa y wglu wo = slab x g wg a wa y wglu wo := rfl

/-- What the kernel stores in the seventh slab. -/
theorem slab_7 : k0_pay29 (k0_pay25 x) (k0_pay28 (k0_pay25 x) (k0_pay26 g) (k0_pay27 x) wg a wa y wglu wo) = slab x g wg a wa y wglu wo := rfl

/-- What the kernel stores in the eighth slab. -/
theorem slab_8 : k0_pay1 (k0_pay30 x) (k0_pay31 x g wg) (k0_pay32 a wa) (k0_pay33 y) (k0_pay34 wglu) wo = slab x g wg a wa y wglu wo := rfl

end Terms

/-- The normalised rows at an index. -/
theorem normVec_at (x : Vec Ideal S256x1024 .f32) (g : Vec Ideal S1x1024 .f32) (r : Fin 256) (j : Fin 1024) :
    normVec (F := Ideal) x g (ix2 r j) = Rows.rms (fun k => x (ix2 r k)) (fun k => g (ix2 0 k)) j := by
  unfold normVec; pointwise; rfl

/-- The gates at an index. -/
theorem gateVec_at (h : Vec Ideal S256x1024 .f32) (wg : Vec Ideal S1024x2048 .bf16) (r : Fin 256) (j : Fin 2048) :
    gateVec (F := Ideal) h wg (ix2 r j) = Ideal.logistic (Rows.lin (fun k => h (ix2 r k)) (fun k l => wg (ix2 k l)) j) := by
  unfold gateVec; pointwise [dot_S256x1024_S1024x2048_S256x2048_1_0_0_1_n_n]; rfl

/-- The attention's projection at an index. -/
theorem attnVec_at (a : Vec Ideal S256x256 .bf16) (wa : Vec Ideal S256x1024 .bf16) (r : Fin 256) (j : Fin 1024) :
    attnVec (F := Ideal) a wa (ix2 r j) = Rows.lin (fun k => a (ix2 r k)) (fun k l => wa (ix2 k l)) j := by
  unfold attnVec; pointwise [dot_S256x256_S256x1024_S256x1024_1_0_0_1_n_n]; rfl

/-- The gated linear unit's products at an index. -/
theorem gluVec_at (y : Vec Ideal S256x512 .bf16) (wglu : Vec Ideal S512x2048 .bf16) (r : Fin 256) (j : Fin 2048) :
    gluVec (F := Ideal) y wglu (ix2 r j) = Rows.lin (fun k => y (ix2 r k)) (fun k l => wglu (ix2 k l)) j := by
  unfold gluVec; pointwise [dot_S256x512_S512x2048_S256x2048_1_0_0_1_n_n]; rfl

/-- The first half of the columns at an index. -/
theorem lowHalf_at (v : Vec Ideal S256x2048 .f32) (r : Fin 256) (j : Fin 1024) :
    lowHalf (F := Ideal) v (ix2 r j) = v (ix2 r ⟨j.val, by omega⟩) := by
  unfold lowHalf extractStridedSlice
  refine congrArg v (funext fun a => Fin.ext ?_)
  match a with
  | ⟨0, _⟩ => show 0 + r.val = r.val; omega
  | ⟨1, _⟩ => show 0 + j.val = j.val; omega

/-- The second half of the columns at an index. -/
theorem highHalf_at (v : Vec Ideal S256x2048 .f32) (r : Fin 256) (j : Fin 1024) :
    highHalf (F := Ideal) v (ix2 r j) = v (ix2 r ⟨1024 + j.val, by omega⟩) := by
  unfold highHalf extractStridedSlice
  refine congrArg v (funext fun a => Fin.ext ?_)
  match a with
  | ⟨0, _⟩ => show 0 + r.val = r.val; omega
  | ⟨1, _⟩ => rfl

/-- The merged branches at an index. -/
theorem mergeVec_at (gate : Vec Ideal S256x2048 .f32) (at' : Vec Ideal S256x1024 .f32) (z : Vec Ideal S256x2048 .f32) (r : Fin 256) (j : Fin 1024) :
    mergeVec (F := Ideal) gate at' z (ix2 r j) = gate (ix2 r ⟨j.val, by omega⟩) * at' (ix2 r j)
      + gate (ix2 r ⟨1024 + j.val, by omega⟩) * (z (ix2 r ⟨j.val, by omega⟩) * Ideal.logistic (z (ix2 r ⟨1024 + j.val, by omega⟩))) := by
  unfold mergeVec; pointwise [lowHalf_at, highHalf_at]

/-- The slab at an index: row `r` of it is the mixing call of row `r` of what was loaded. -/
theorem slab_at (x : Vec Ideal S1x256x1024 .f32) (g : Vec Ideal S1x1024 .f32) (wg : Vec Ideal S1024x2048 .bf16) (a : Vec Ideal S1x256x256 .bf16)
    (wa : Vec Ideal S256x1024 .bf16) (y : Vec Ideal S1x256x512 .bf16) (wglu : Vec Ideal S512x2048 .bf16) (wo : Vec Ideal S1024x1024 .bf16)
    (u : Fin 1) (r : Fin 256) (j : Fin 1024) :
    slab (F := Ideal) x g wg a wa y wglu wo (ix3 u r j) = Rows.mixRow (fun k => x (ix3 0 r k)) (fun k => g (ix2 0 k)) (fun k l => wg (ix2 k l))
      (fun k => a (ix3 0 r k)) (fun k l => wa (ix2 k l)) (fun k => y (ix3 0 r k)) (fun k l => wglu (ix2 k l)) (fun k l => wo (ix2 k l)) j := by
  unfold slab
  pointwise [dot_S256x1024_S1024x1024_S256x1024_1_0_0_1_n_n, mergeVec_at, gateVec_at, attnVec_at, gluVec_at, normVec_at, shapeCast_self]
  rfl

/-- The rectangle at zero offsets. -/
theorem zeros_two : (![0, 0] : Fin 2 → Nat) = fun _ => 0 := by decide

/-- The gates' columns of the input projection, at an index. -/
theorem gate_ld (x4 : Vec Ideal S1024x4864 .bf16) (k : Fin 1024) (l : Fin 2048) :
    View.ld (Val := Elt Ideal) x4 r0_2 (ix2 k l) = x4 (ix2 k ⟨2816 + l.val, by omega⟩) := by
  refine congrArg x4 (funext fun a => Fin.ext ?_)
  match a with
  | ⟨0, _⟩ => show 0 + 1 * k.val = k.val; omega
  | ⟨1, _⟩ => show 2816 + 1 * l.val = 2816 + l.val; omega

/-- What a whole output block should hold: every row is the mixing call of that row of the input blocks. -/
def rowsOf (x0 : Vec Ideal S1x2048x1024 .f32) (x1 : Vec Ideal S1x2048x256 .bf16) (x2 : Vec Ideal S1x2048x512 .bf16) (x3 : Vec Ideal S1x1024 .f32)
    (x4 : Vec Ideal S1024x4864 .bf16) (x5 : Vec Ideal S256x1024 .bf16) (x6 : Vec Ideal S512x2048 .bf16) (x7 : Vec Ideal S1024x1024 .bf16) :
    Vec Ideal S1x2048x1024 .f32 := fun z =>
  Rows.mixRow (fun k => x0 (ix3 0 (z 1) k)) (fun k => x3 (ix2 0 k)) (fun k (l : Fin 2048) => x4 (ix2 k (⟨2816 + l.val, by omega⟩ : Fin 4864)))
    (fun k => x1 (ix3 0 (z 1) k)) (fun k l => x5 (ix2 k l)) (fun k => x2 (ix3 0 (z 1) k)) (fun k l => x6 (ix2 k l)) (fun k l => x7 (ix2 k l)) (z 2)

/-- The slab of the blocks' rows from row `o` on is those rows of `rowsOf`. -/
theorem slab_ld (o : Nat) (h : ∀ a, (![0, o, 0] : Fin 3 → Nat) a + S1x256x1024.size a ≤ S1x2048x1024.size a)
    (h1 : ∀ a, (![0, o, 0] : Fin 3 → Nat) a + S1x256x256.size a ≤ S1x2048x256.size a)
    (h2 : ∀ a, (![0, o, 0] : Fin 3 → Nat) a + S1x256x512.size a ≤ S1x2048x512.size a)
    (x0 : Vec Ideal S1x2048x1024 .f32) (x1 : Vec Ideal S1x2048x256 .bf16) (x2 : Vec Ideal S1x2048x512 .bf16) (x3 : Vec Ideal S1x1024 .f32)
    (x4 : Vec Ideal S1024x4864 .bf16) (x5 : Vec Ideal S256x1024 .bf16) (x6 : Vec Ideal S512x2048 .bf16) (x7 : Vec Ideal S1024x1024 .bf16)
    (y : S1x256x1024.Idx) :
    slab (F := Ideal) (View.ld x0 (Rect.unit (s := S1x2048x1024) ![0, o, 0] S1x256x1024.size h)) (View.ld x3 r0_1) (View.ld x4 r0_2)
      (View.ld x1 (Rect.unit (s := S1x2048x256) ![0, o, 0] S1x256x256.size h1)) (View.ld x5 r0_4)
      (View.ld x2 (Rect.unit (s := S1x2048x512) ![0, o, 0] S1x256x512.size h2)) (View.ld x6 r0_6) (View.ld x7 r0_7) y =
    rowsOf x0 x1 x2 x3 x4 x5 x6 x7 ((Rect.unit (s := S1x2048x1024) ![0, o, 0] S1x256x1024.size h).emb y) := by
  rw [eq_ix3 y]
  rw [View.ld_unit_zero zeros_two (X := x3), View.ld_unit_zero zeros_two (X := x5), View.ld_unit_zero zeros_two (X := x6), View.ld_unit_zero zeros_two (X := x7)]
  refine (slab_at _ _ _ _ _ _ _ _ _ _ _).trans ?_
  unfold rowsOf
  congr 1
  · funext k
    refine congrArg x0 (funext fun a => Fin.ext ?_)
    match a with
    | ⟨0, _⟩ => rfl
    | ⟨1, _⟩ => rfl
    | ⟨2, _⟩ => show 0 + 1 * k.val = k.val; omega
  · funext k l; exact gate_ld x4 k l
  · funext k
    refine congrArg x1 (funext fun a => Fin.ext ?_)
    match a with
    | ⟨0, _⟩ => rfl
    | ⟨1, _⟩ => rfl
    | ⟨2, _⟩ => show 0 + 1 * k.val = k.val; omega
  · funext k
    refine congrArg x2 (funext fun a => Fin.ext ?_)
    match a with
    | ⟨0, _⟩ => rfl
    | ⟨1, _⟩ => rfl
    | ⟨2, _⟩ => show 0 + 1 * k.val = k.val; omega
  · refine Fin.ext ?_
    show _ = 0 + 1 * (y 2).val
    rw [Nat.one_mul, Nat.zero_add]

/-- What the body leaves in the output block. -/
theorem out_at (x0 : Vec Ideal S1x2048x1024 .f32) (x1 : Vec Ideal S1x2048x256 .bf16) (x2 : Vec Ideal S1x2048x512 .bf16) (x3 : Vec Ideal S1x1024 .f32)
    (x4 : Vec Ideal S1024x4864 .bf16) (x5 : Vec Ideal S256x1024 .bf16) (x6 : Vec Ideal S512x2048 .bf16) (x7 : Vec Ideal S1024x1024 .bf16)
    (y : S1x2048x1024.Idx) :
    out0_8 (F := Ideal) x0 x1 x2 x3 x4 x5 x6 x7 y = rowsOf x0 x1 x2 x3 x4 x5 x6 x7 y := by
  unfold out0_8 k0_pay35
  rw [slab_1, slab_2, slab_3, slab_4, slab_5, slab_6, slab_7, slab_8]
  refine View.canon_apply_of_pieces (rowsOf x0 x1 x2 x3 x4 x5 x6 x7) _ ?_ y (cover0_8 _ _ _ _ _ _ _ _ y)
  simp only [List.forall_mem_cons, List.not_mem_nil, false_imp_iff, implies_true, and_true]
  exact ⟨slab_ld 1792 _ _ _ x0 x1 x2 x3 x4 x5 x6 x7, slab_ld 1536 _ _ _ x0 x1 x2 x3 x4 x5 x6 x7, slab_ld 1280 _ _ _ x0 x1 x2 x3 x4 x5 x6 x7,
    slab_ld 1024 _ _ _ x0 x1 x2 x3 x4 x5 x6 x7, slab_ld 768 _ _ _ x0 x1 x2 x3 x4 x5 x6 x7, slab_ld 512 _ _ _ x0 x1 x2 x3 x4 x5 x6 x7,
    slab_ld 256 _ _ _ x0 x1 x2 x3 x4 x5 x6 x7, slab_ld 0 _ _ _ x0 x1 x2 x3 x4 x5 x6 x7⟩

end Cert.Mix

end
-- ==== Proof.MixArray.lean ====
/- The mixing call, its result array: what the blocks written back make of the whole array, as a function of the arguments
   over the extended reals. -/
module

public import proofs.«01_k».proof.Proof.MixSlab
public import proofs.«01_k».proof.Proof.Gen.Kernel3Ideal.Value

@[expose] public section

set_option synthInstance.maxSize 4096

noncomputable section

namespace Cert.Mix

open Cert.Kernel3Ideal Cert.Kernel3Ideal.Gen Cert.Kernel3Ideal.Value Idealize.ShloMosaic Idealize.ShloMosaic.TcCoe Idealize.SL.Sem

/-- The result array as one function of the arguments: each token's row through the mixing call. -/
def G (x : Vec Ideal S16x2048x1024 .f32) (a : Vec Ideal S16x2048x256 .f32) (y : Vec Ideal S16x2048x512 .f32) (g : Vec Ideal S1x1024 .f32)
    (win : Vec Ideal S1x1024x4864 .f32) (wa : Vec Ideal S1x256x1024 .f32) (wglu : Vec Ideal S1x512x2048 .f32) (wo : Vec Ideal S1x1024x1024 .f32) :
    Vec Ideal S16x2048x1024 .f32 := fun i =>
  Rows.mixRow (fun k => x (ix3 (i 0) (i 1) k)) (fun k => g (ix2 0 k)) (fun k (l : Fin 2048) => win (ix3 0 k (⟨2816 + l.val, by omega⟩ : Fin 4864)))
    (fun k => a (ix3 (i 0) (i 1) k)) (fun k l => wa (ix3 0 k l)) (fun k => y (ix3 (i 0) (i 1) k)) (fun k l => wglu (ix3 0 k l))
    (fun k l => wo (ix3 0 k l)) (i 2)

variable (m : (ℓ : Loc nD τ sig) → Buf (Elt Ideal) ℓ)

/-- The gain row the call is handed. -/
theorem V_g (c : Dev nD) : V m c main_v1 = shapeCast S1x1024 (shapeCast S1024 (m ((c : Thread nD τ).loc main_arg3)) shapeCasts_S1x1024_S1024) shapeCasts_S1024_S1x1024 := by
  unfold_abbrev_sides
  after_results
  rfl

/-- The attention's rows the call is handed. -/
theorem V_a (c : Dev nD) : V m c main_v4 = (truncf .bf16 (m ((c : Thread nD τ).loc main_arg1) : FVec Ideal S16x2048x256 .f32) bitsLt_bf16_f32 : FVec Ideal S16x2048x256 .bf16) := by
  unfold_abbrev_sides
  after_results

/-- The state-space branch's rows the call is handed. -/
theorem V_y (c : Dev nD) : V m c main_v5 = (truncf .bf16 (m ((c : Thread nD τ).loc main_arg2) : FVec Ideal S16x2048x512 .f32) bitsLt_bf16_f32 : FVec Ideal S16x2048x512 .bf16) := by
  unfold_abbrev_sides
  after_results

/-- The input projection the call is handed. -/
theorem V_win (c : Dev nD) : V m c main_v3 = truncf .bf16 (shapeCast S1024x4864 (m ((c : Thread nD τ).loc main_arg4)) shapeCasts_S1x1024x4864_S1024x4864 : FVec Ideal S1024x4864 .f32) bitsLt_bf16_f32 := by
  unfold_abbrev_sides
  after_results
  rfl

/-- The input projection as the call is handed it, at an index. -/
theorem win_cast (w : Vec Ideal S1x1024x4864 .f32) (k : Fin 1024) (l : Fin 4864) :
    truncf (F := Ideal) .bf16 (shapeCast S1024x4864 w shapeCasts_S1x1024x4864_S1024x4864 : FVec Ideal S1024x4864 .f32) bitsLt_bf16_f32 (ix2 k l) = w (ix3 0 k l) := by
  pointwise

/-- The attention's output projection the call is handed. -/
theorem V_wa (c : Dev nD) : V m c main_v7 = truncf .bf16 (shapeCast S256x1024 (m ((c : Thread nD τ).loc main_arg5)) shapeCasts_S1x256x1024_S256x1024 : FVec Ideal S256x1024 .f32) bitsLt_bf16_f32 := by
  unfold_abbrev_sides
  after_results
  rfl

/-- The attention's output projection as the call is handed it, at an index. -/
theorem wa_cast (w : Vec Ideal S1x256x1024 .f32) (k : Fin 256) (l : Fin 1024) :
    truncf (F := Ideal) .bf16 (shapeCast S256x1024 w shapeCasts_S1x256x1024_S256x1024 : FVec Ideal S256x1024 .f32) bitsLt_bf16_f32 (ix2 k l) = w (ix3 0 k l) := by
  pointwise

/-- The gated linear unit's matrix the call is handed. -/
theorem V_wglu (c : Dev nD) : V m c main_v9 = truncf .bf16 (shapeCast S512x2048 (m ((c : Thread nD τ).loc main_arg6)) shapeCasts_S1x512x2048_S512x2048 : FVec Ideal S512x2048 .f32) bitsLt_bf16_f32 := by
  unfold_abbrev_sides
  after_results
  rfl

/-- The gated linear unit's matrix as the call is handed it, at an index. -/
theorem wglu_cast (w : Vec Ideal S1x512x2048 .f32) (k : Fin 512) (l : Fin 2048) :
    truncf (F := Ideal) .bf16 (shapeCast S512x2048 w shapeCasts_S1x512x2048_S512x2048 : FVec Ideal S512x2048 .f32) bitsLt_bf16_f32 (ix2 k l) = w (ix3 0 k l) := by
  pointwise

/-- The output projection the call is handed. -/
theorem V_wo (c : Dev nD) : V m c main_v11 = truncf .bf16 (shapeCast S1024x1024 (m ((c : Thread nD τ).loc main_arg7)) shapeCasts_S1x1024x1024_S1024x1024 : FVec Ideal S1024x1024 .f32) bitsLt_bf16_f32 := by
  unfold_abbrev_sides
  after_results
  rfl

/-- The output projection as the call is handed it, at an index. -/
theorem wo_cast (w : Vec Ideal S1x1024x1024 .f32) (k : Fin 1024) (l : Fin 1024) :
    truncf (F := Ideal) .bf16 (shapeCast S1024x1024 w shapeCasts_S1x1024x1024_S1024x1024 : FVec Ideal S1024x1024 .f32) bitsLt_bf16_f32 (ix2 k l) = w (ix3 0 k l) := by
  pointwise

/-- The input blocks and the output's block at a point are at the same place. -/
theorem idx_same : ∀ t : Fin cfg0.N, win0_0.index t = win0_8.index t ∧ win0_1.index t = win0_8.index t ∧ win0_2.index t = win0_8.index t ∧
    win0_8.index t (1 : Fin 3) = 0 ∧ win0_8.index t (2 : Fin 3) = 0 :=
  (by decide +kernel : ∀ t : Fin grid0.N, _)

/-- The whole-array windows are at block zero. -/
theorem idx_zero : ∀ t : Fin cfg0.N, win0_3.index t = ![0, 0] ∧ win0_4.index t = ![0, 0] ∧ win0_5.index t = ![0, 0] ∧ win0_6.index t = ![0, 0] ∧ win0_7.index t = ![0, 0] :=
  (by decide +kernel : ∀ t : Fin grid0.N, _)

theorem iblk3_eq (c : Dev nD) (t : Fin cfg0.N) : iblk m c 3 t = V m c main_v1 := by
  obtain ⟨e, -⟩ := idx_zero t
  funext j; show V m c main_v1 (((cfg0.win 3).blk t).view.emb j) = V m c main_v1 j
  refine congrArg _ (funext fun a => Fin.ext ?_)
  match a with
  | ⟨0, _⟩ => show win0_3.index t (0 : Fin 2) * 1 + 1 * (j 0).val = (j 0).val; rw [e]; simp
  | ⟨1, _⟩ => show win0_3.index t (1 : Fin 2) * 1024 + 1 * (j 1).val = (j 1).val; rw [e]; simp

theorem iblk4_eq (c : Dev nD) (t : Fin cfg0.N) : iblk m c 4 t = V m c main_v3 := by
  obtain ⟨-, e, -⟩ := idx_zero t
  funext j; show V m c main_v3 (((cfg0.win 4).blk t).view.emb j) = V m c main_v3 j
  refine congrArg _ (funext fun a => Fin.ext ?_)
  match a with
  | ⟨0, _⟩ => show win0_4.index t (0 : Fin 2) * 1024 + 1 * (j 0).val = (j 0).val; rw [e]; simp
  | ⟨1, _⟩ => show win0_4.index t (1 : Fin 2) * 4864 + 1 * (j 1).val = (j 1).val; rw [e]; simp

theorem iblk5_eq (c : Dev nD) (t : Fin cfg0.N) : iblk m c 5 t = V m c main_v7 := by
  obtain ⟨-, -, e, -⟩ := idx_zero t
  funext j; show V m c main_v7 (((cfg0.win 5).blk t).view.emb j) = V m c main_v7 j
  refine congrArg _ (funext fun a => Fin.ext ?_)
  match a with
  | ⟨0, _⟩ => show win0_5.index t (0 : Fin 2) * 256 + 1 * (j 0).val = (j 0).val; rw [e]; simp
  | ⟨1, _⟩ => show win0_5.index t (1 : Fin 2) * 1024 + 1 * (j 1).val = (j 1).val; rw [e]; simp

theorem iblk6_eq (c : Dev nD) (t : Fin cfg0.N) : iblk m c 6 t = V m c main_v9 := by
  obtain ⟨-, -, -, e, -⟩ := idx_zero t
  funext j; show V m c main_v9 (((cfg0.win 6).blk t).view.emb j) = V m c main_v9 j
  refine congrArg _ (funext fun a => Fin.ext ?_)
  match a with
  | ⟨0, _⟩ => show win0_6.index t (0 : Fin 2) * 512 + 1 * (j 0).val = (j 0).val; rw [e]; simp
  | ⟨1, _⟩ => show win0_6.index t (1 : Fin 2) * 2048 + 1 * (j 1).val = (j 1).val; rw [e]; simp

theorem iblk7_eq (c : Dev nD) (t : Fin cfg0.N) : iblk m c 7 t = V m c main_v11 := by
  obtain ⟨-, -, -, -, e⟩ := idx_zero t
  funext j; show V m c main_v11 (((cfg0.win 7).blk t).view.emb j) = V m c main_v11 j
  refine congrArg _ (funext fun a => Fin.ext ?_)
  match a with
  | ⟨0, _⟩ => show win0_7.index t (0 : Fin 2) * 1024 + 1 * (j 0).val = (j 0).val; rw [e]; simp
  | ⟨1, _⟩ => show win0_7.index t (1 : Fin 2) * 1024 + 1 * (j 1).val = (j 1).val; rw [e]; simp

/-- The function the array ends at, with the arguments as this run finds them. -/
abbrev Gm (c : Dev nD) : Vec Ideal S16x2048x1024 .f32 :=
  G (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7))

/-- The first coordinate of an index of a block is zero. -/
theorem first_zero (y : S1x2048x1024.Idx) : (y 0).val = 0 := by
  have := (y 0).isLt; change (y 0).val < 1 at this; omega

/-- The block the tokens' window holds, at an index: the array at the place of the output block's index. -/
theorem iblk0_at (c : Dev nD) (t : Fin cfg0.N) (y : S1x2048x1024.Idx) (k : Fin 1024) :
    iblk m c 0 t (ix3 0 (y 1) k) =
      V m c main_arg0 (ix3 (((cfg0.win 8).blk t).view.emb y 0) (((cfg0.win 8).blk t).view.emb y 1) k) := by
  obtain ⟨e, -, -, -, h2⟩ := idx_same t
  show V m c main_arg0 (((cfg0.win 0).blk t).view.emb (ix3 0 (y 1) k)) = _
  refine congrArg _ (funext fun a => Fin.ext ?_)
  match a with
  | ⟨0, _⟩ => show win0_0.index t (0 : Fin 3) * 1 + 1 * 0 = win0_8.index t (0 : Fin 3) * 1 + 1 * (y 0).val; rw [e, first_zero y]
  | ⟨1, _⟩ => show win0_0.index t (1 : Fin 3) * 2048 + 1 * (y 1).val = win0_8.index t (1 : Fin 3) * 2048 + 1 * (y 1).val; rw [e]
  | ⟨2, _⟩ => show win0_0.index t (2 : Fin 3) * 1024 + 1 * k.val = k.val; rw [e, h2]; omega

/-- The block the attention's rows' window holds, at an index: the array at the place of the output block's index. -/
theorem iblk1_at (c : Dev nD) (t : Fin cfg0.N) (y : S1x2048x1024.Idx) (k : Fin 256) :
    iblk m c 1 t (ix3 0 (y 1) k) =
      V m c main_v4 (ix3 (((cfg0.win 8).blk t).view.emb y 0) (((cfg0.win 8).blk t).view.emb y 1) k) := by
  obtain ⟨-, e, -, -, h2⟩ := idx_same t
  show V m c main_v4 (((cfg0.win 1).blk t).view.emb (ix3 0 (y 1) k)) = _
  refine congrArg _ (funext fun a => Fin.ext ?_)
  match a with
  | ⟨0, _⟩ => show win0_1.index t (0 : Fin 3) * 1 + 1 * 0 = win0_8.index t (0 : Fin 3) * 1 + 1 * (y 0).val; rw [e, first_zero y]
  | ⟨1, _⟩ => show win0_1.index t (1 : Fin 3) * 2048 + 1 * (y 1).val = win0_8.index t (1 : Fin 3) * 2048 + 1 * (y 1).val; rw [e]
  | ⟨2, _⟩ => show win0_1.index t (2 : Fin 3) * 256 + 1 * k.val = k.val; rw [e, h2]; omega

/-- The block the state-space branch's rows' window holds, at an index: the array at the place of the output block's index. -/
theorem iblk2_at (c : Dev nD) (t : Fin cfg0.N) (y : S1x2048x1024.Idx) (k : Fin 512) :
    iblk m c 2 t (ix3 0 (y 1) k) =
      V m c main_v5 (ix3 (((cfg0.win 8).blk t).view.emb y 0) (((cfg0.win 8).blk t).view.emb y 1) k) := by
  obtain ⟨-, -, e, -, h2⟩ := idx_same t
  show V m c main_v5 (((cfg0.win 2).blk t).view.emb (ix3 0 (y 1) k)) = _
  refine congrArg _ (funext fun a => Fin.ext ?_)
  match a with
  | ⟨0, _⟩ => show win0_2.index t (0 : Fin 3) * 1 + 1 * 0 = win0_8.index t (0 : Fin 3) * 1 + 1 * (y 0).val; rw [e, first_zero y]
  | ⟨1, _⟩ => show win0_2.index t (1 : Fin 3) * 2048 + 1 * (y 1).val = win0_8.index t (1 : Fin 3) * 2048 + 1 * (y 1).val; rw [e]
  | ⟨2, _⟩ => show win0_2.index t (2 : Fin 3) * 512 + 1 * k.val = k.val; rw [e, h2]; omega

/-- What a point writes back is its block of `G` of the arguments. -/
theorem flushed_eq (c : Dev nD) (t : Fin cfg0.N) :
    (dats m 0 c).flushed 8 t = ((cfg0.win 8).blk t).view.read (Elt Ideal) (Gm m c) := by
  rw [flushed8, iblk3_eq, iblk4_eq, iblk5_eq, iblk6_eq, iblk7_eq]
  funext y
  show out0_8 (F := Ideal) (iblk m c 0 t) (iblk m c 1 t) (iblk m c 2 t) (V m c main_v1) (V m c main_v3) (V m c main_v7) (V m c main_v9) (V m c main_v11) y = Gm m c (((cfg0.win 8).blk t).view.emb y)
  rw [out_at]
  unfold rowsOf Gm G
  have h2 : (((cfg0.win 8).blk t).view.emb y 2) = y 2 := Fin.ext (by
    show win0_8.index t (2 : Fin 3) * 1024 + 1 * (y 2).val = (y 2).val; rw [(idx_same t).2.2.2.2]; omega)
  rw [h2]
  congr 1
  · funext k; rw [iblk0_at, V_main_arg0]
  · funext k; rw [V_g]; pointwise
  · funext k l; rw [V_win]; exact win_cast _ k _
  · funext k; rw [iblk1_at, V_a]; rfl
  · funext k l; rw [V_wa]; exact wa_cast _ k l
  · funext k; rw [iblk2_at, V_y]; rfl
  · funext k l; rw [V_wglu]; exact wglu_cast _ k l
  · funext k l; rw [V_wo]; exact wo_cast _ k l

/-- Every block of the result array is some point's. -/
theorem idx_onto : ∀ p : Fin 16, ∃ t : Fin cfg0.N, win0_8.index t (0 : Fin 3) = p.val :=
  (by decide +kernel : ∀ p : Fin 16, ∃ t : Fin grid0.N, win0_8.index t (0 : Fin 3) = p.val)

/-- Every index is in some point's block. -/
theorem covered (i : S16x2048x1024.Idx) :
    ∃ t : Fin cfg0.N, (cfg0.win 8).flush t = true ∧ i ∈ ((cfg0.win 8).blk t).view.set := by
  obtain ⟨t, e0⟩ := idx_onto (i 0)
  obtain ⟨-, -, -, h1, h2⟩ := idx_same t
  have hi : ((cfg0.win 8).blk t).view.emb (ix3 (0 : Fin 1) (i 1 : Fin 2048) (i 2 : Fin 1024) : S1x2048x1024.Idx) = i := by
    refine funext fun a => Fin.ext ?_
    match a with
    | ⟨0, _⟩ => show win0_8.index t (0 : Fin 3) * 1 + 1 * 0 = (i 0).val; rw [e0]; omega
    | ⟨1, _⟩ => show win0_8.index t (1 : Fin 3) * 2048 + 1 * (i 1).val = (i 1).val; rw [h1]; omega
    | ⟨2, _⟩ => show win0_8.index t (2 : Fin 3) * 1024 + 1 * (i 2).val = (i 2).val; rw [h2]; omega
  refine ⟨t, flush0_8 t, ?_⟩
  have h := ((cfg0.win 8).blk t).view.emb_mem_set (ix3 (0 : Fin 1) (i 1 : Fin 2048) (i 2 : Fin 1024) : S1x2048x1024.Idx)
  rwa [hi] at h

/-- The result array after the run. -/
theorem final (c : Dev nD) : (dats m 0 c).arrAt 8 cfg0.N = Gm m c :=
  (dats m 0 c).arrAt_eq_of_cover 8 (Gm m c) (fun t _ => flushed_eq m c t) covered

end Cert.Mix

end
-- ==== Proof.MixRef.lean ====
/- The mixing part of the reference, read at an index over the extended reals. -/
module

public import proofs.«01_k».proof.Proof.RowMath
public import proofs.«01_k».proof.Proof.Gen.Reference3Ideal.Read
public import Idealize.ShloMosaic.Lib.Pointwise

@[expose] public section

noncomputable section

namespace Cert.Mix.Ref

open Cert.Reference3Ideal Cert.Reference3Ideal.Gen Cert.Reference3Ideal.Read Idealize.ShloMosaic Idealize.ShloMosaic.TcCoe Idealize.SL.Sem Idealize.ShloMosaic.StableHlo

variable (x0 : Vec Ideal S16x2048x1024 .f32) (x1 : Vec Ideal S16x2048x256 .f32) (x2 : Vec Ideal S16x2048x512 .f32) (x3 : Vec Ideal S1x1024 .f32)
  (x4 : Vec Ideal S1x1024x4864 .f32) (x5 : Vec Ideal S1x256x1024 .f32) (x6 : Vec Ideal S1x512x2048 .f32) (x7 : Vec Ideal S1x1024x1024 .f32)
  (b : Fin 16) (r : Fin 2048)

/-- The normalised tokens. -/
theorem h_at (j : Fin 1024) :
    val_main_v13 (F := Ideal) x0 x3 (ix3 b r j) = Rows.rms (fun k => x0 (ix3 b r k)) (fun k => x3 (ix2 0 k)) j := by
  unfold val_main_v13 val_main_v12 val_main_v11 val_main_v10 val_main_v9 val_main_v8 val_main_v7 val_main_v6 val_main_v5 val_main_v4 val_main_v3 val_main_v2 val_main_v1 val_main_v0 val_main_cst val_main_cst_0 val_main_cst_1
  pointwise; rfl

/-- The input projection. -/
theorem proj_at (j : Fin 4864) :
    val_main_v15 (F := Ideal) x0 x3 x4 (ix3 b r j) = Rows.lin (Rows.rms (fun k => x0 (ix3 b r k)) (fun k => x3 (ix2 0 k))) (fun k l => x4 (ix3 0 k l)) j := by
  unfold val_main_v15 val_main_v14
  pointwise [dot_S16x2048x1024_S1024x4864_S16x2048x4864_2_0_01_1_n_n, h_at]; rfl

/-- The gates' columns of the projection. -/
theorem cols_at (j : Fin 2048) :
    val_main_v16 (F := Ideal) x0 x3 x4 (ix3 b r j) = Rows.lin (Rows.rms (fun k => x0 (ix3 b r k)) (fun k => x3 (ix2 0 k)))
      (fun k (l : Fin 2048) => x4 (ix3 0 k (⟨2816 + l.val, by omega⟩ : Fin 4864))) j := by
  unfold val_main_v16
  refine Eq.trans (b := val_main_v15 (F := Ideal) x0 x3 x4 (ix3 b r (⟨2816 + j.val, by omega⟩ : Fin 4864))) ?_ ?_
  · unfold extractStridedSlice
    refine congrArg (val_main_v15 (F := Ideal) x0 x3 x4) (funext fun a => Fin.ext ?_)
    match a with
    | ⟨0, _⟩ => show 0 + b.val = b.val; omega
    | ⟨1, _⟩ => show 0 + r.val = r.val; omega
    | ⟨2, _⟩ => rfl
  · rw [proj_at]; rfl

/-- The gates. -/
theorem gates_at (j : Fin 2048) :
    val_main_v22 (F := Ideal) x0 x3 x4 (ix3 b r j) = Rows.gateRow (fun k => x0 (ix3 b r k)) (fun k => x3 (ix2 0 k))
      (fun k (l : Fin 2048) => x4 (ix3 0 k (⟨2816 + l.val, by omega⟩ : Fin 4864))) j := by
  unfold val_main_v22 val_main_v21 val_main_v20 val_main_v19 val_main_v18 val_main_v17 val_main_cst_2 val_main_cst_3
  pointwise [cols_at]; rfl

/-- The attention's gate. -/
theorem gate0_at (j : Fin 1024) :
    val_main_v38 (F := Ideal) x0 x3 x4 (ix3 b r j) = Rows.gateRow (fun k => x0 (ix3 b r k)) (fun k => x3 (ix2 0 k))
      (fun k (l : Fin 2048) => x4 (ix3 0 k (⟨2816 + l.val, by omega⟩ : Fin 4864))) ⟨j.val, by omega⟩ := by
  unfold val_main_v38 val_main_v37 val_main_v23
  pointwise [gates_at]

/-- The state-space branch's gate. -/
theorem gate1_at (j : Fin 1024) :
    val_main_v41 (F := Ideal) x0 x3 x4 (ix3 b r j) = Rows.gateRow (fun k => x0 (ix3 b r k)) (fun k => x3 (ix2 0 k))
      (fun k (l : Fin 2048) => x4 (ix3 0 k (⟨2816 + l.val, by omega⟩ : Fin 4864))) ⟨1024 + j.val, by omega⟩ := by
  unfold val_main_v41 val_main_v40 val_main_v23
  pointwise [gates_at]

/-- The attention's projection. -/
theorem attn_at (j : Fin 1024) :
    val_main_v25 (F := Ideal) x1 x5 (ix3 b r j) = Rows.lin (fun k => x1 (ix3 b r k)) (fun k l => x5 (ix3 0 k l)) j := by
  unfold val_main_v25 val_main_v24
  pointwise [dot_S16x2048x256_S256x1024_S16x2048x1024_2_0_01_1_n_n]; rfl

/-- The gated linear unit's products. -/
theorem z_at (j : Fin 2048) :
    val_main_v27 (F := Ideal) x2 x6 (ix3 b r j) = Rows.lin (fun k => x2 (ix3 b r k)) (fun k l => x6 (ix3 0 k l)) j := by
  unfold val_main_v27 val_main_v26
  pointwise [dot_S16x2048x512_S512x2048_S16x2048x2048_2_0_01_1_n_n]; rfl

/-- The first half of those products. -/
theorem za_at (j : Fin 1024) :
    val_main_v28 (F := Ideal) x2 x6 (ix3 b r j) = Rows.lin (fun k => x2 (ix3 b r k)) (fun k l => x6 (ix3 0 k l)) ⟨j.val, by omega⟩ := by
  unfold val_main_v28 extractStridedSlice
  refine Eq.trans (congrArg (val_main_v27 (F := Ideal) x2 x6) (funext fun a => Fin.ext ?_)) (z_at x2 x6 b r ⟨j.val, by omega⟩)
  match a with
  | ⟨0, _⟩ => show 0 + b.val = b.val; omega
  | ⟨1, _⟩ => show 0 + r.val = r.val; omega
  | ⟨2, _⟩ => show 0 + j.val = j.val; omega

/-- The second half of those products. -/
theorem zb_at (j : Fin 1024) :
    val_main_v29 (F := Ideal) x2 x6 (ix3 b r j) = Rows.lin (fun k => x2 (ix3 b r k)) (fun k l => x6 (ix3 0 k l)) ⟨1024 + j.val, by omega⟩ := by
  unfold val_main_v29 extractStridedSlice
  refine Eq.trans (congrArg (val_main_v27 (F := Ideal) x2 x6) (funext fun a => Fin.ext ?_)) (z_at x2 x6 b r ⟨1024 + j.val, by omega⟩)
  match a with
  | ⟨0, _⟩ => show 0 + b.val = b.val; omega
  | ⟨1, _⟩ => show 0 + r.val = r.val; omega
  | ⟨2, _⟩ => rfl

/-- The state-space branch's output. -/
theorem ssm_at (j : Fin 1024) :
    val_main_v36 (F := Ideal) x2 x6 (ix3 b r j) = Rows.ssmRow (fun k => x2 (ix3 b r k)) (fun k l => x6 (ix3 0 k l)) j := by
  unfold val_main_v36 val_main_v35 val_main_v34 val_main_v33 val_main_v32 val_main_v31 val_main_v30 val_main_cst_4 val_main_cst_5
  pointwise [za_at, zb_at]; rfl

/-- The merged branches. -/
theorem merged_at (j : Fin 1024) :
    val_main_v43 (F := Ideal) x0 x1 x2 x3 x4 x5 x6 (ix3 b r j) = Rows.mergedRow (fun k => x0 (ix3 b r k)) (fun k => x3 (ix2 0 k))
      (fun k (l : Fin 2048) => x4 (ix3 0 k (⟨2816 + l.val, by omega⟩ : Fin 4864))) (fun k => x1 (ix3 b r k)) (fun k l => x5 (ix3 0 k l))
      (fun k => x2 (ix3 b r k)) (fun k l => x6 (ix3 0 k l)) j := by
  unfold val_main_v43 val_main_v42 val_main_v39
  pointwise [gate0_at, gate1_at, attn_at, ssm_at]; rfl

/-- The result. -/
theorem out_at (j : Fin 1024) :
    val_main_v46 (F := Ideal) x0 x1 x2 x3 x4 x5 x6 x7 (ix3 b r j) = Rows.mixRow (fun k => x0 (ix3 b r k)) (fun k => x3 (ix2 0 k))
      (fun k (l : Fin 2048) => x4 (ix3 0 k (⟨2816 + l.val, by omega⟩ : Fin 4864))) (fun k => x1 (ix3 b r k)) (fun k l => x5 (ix3 0 k l))
      (fun k => x2 (ix3 b r k)) (fun k l => x6 (ix3 0 k l)) (fun k l => x7 (ix3 0 k l)) j := by
  unfold val_main_v46 val_main_v45 val_main_v44
  pointwise [dot_S16x2048x1024_S1024x1024_S16x2048x1024_2_0_01_1_n_n, merged_at]; rfl

end Cert.Mix.Ref

end
-- ==== Proof.MixClaim.lean ====
/- The mixing call's value claim: kernel and reference end with equal results over the extended reals. -/
module

public import proofs.«01_k».proof.Defs
public import proofs.«01_k».proof.Proof.MixArray
public import proofs.«01_k».proof.Proof.MixRef

@[expose] public section

noncomputable section

namespace Cert.Mix

open Idealize.ShloMosaic Idealize.ShloMosaic.TcCoe Idealize.SL.Sem

/-- The reference's result as one function of its arguments is the kernel's. -/
theorem ref_eq (x : Vec Ideal Cert.Kernel3Ideal.S16x2048x1024 .f32) (a : Vec Ideal Cert.Kernel3Ideal.S16x2048x256 .f32) (y : Vec Ideal Cert.Kernel3Ideal.S16x2048x512 .f32)
    (g : Vec Ideal Cert.Kernel3Ideal.S1x1024 .f32) (win : Vec Ideal Cert.Kernel3Ideal.S1x1024x4864 .f32) (wa : Vec Ideal Cert.Kernel3Ideal.S1x256x1024 .f32)
    (wglu : Vec Ideal Cert.Kernel3Ideal.S1x512x2048 .f32) (wo : Vec Ideal Cert.Kernel3Ideal.S1x1024x1024 .f32) :
    Cert.Reference3Ideal.Read.val_main_v46 (F := Ideal) x a y g win wa wglu wo = G x a y g win wa wglu wo := by
  funext i
  rw [eq_ix3 i]
  exact Ref.out_at x a y g win wa wglu wo (i 0) (i 1) (i 2)

/-- The kernel and the reference compute the same array. -/
theorem algebraic : Cert.algebraic_Kernel3Ideal_Reference3Ideal := by
  intro m ρ m' ρ' _ hagree
  refine ⟨fun c => Gm m c, ?_, ?_⟩
  · exact (θ_run Cert.Kernel3Ideal.defs _ _).mono (fun r h c => ⟨(h c).1.trans (final m c), (h c).2⟩)
      (Cert.Kernel3Ideal.Value.run_blocks m ρ)
  · refine (θ_run Cert.Reference3Ideal.defs _ _).mono (fun r h c => ⟨(h c).1.trans ?_, (h c).2⟩)
      (Cert.Reference3Ideal.Value.run m' ρ')
    obtain ⟨h0, h1, h2, h3, h4, h5, h6, h7⟩ := hagree c
    rw [Cert.Reference3Ideal.Read.val_main_v46_eq]
    rw [h0, h1, h2, h3, h4, h5, h6, h7]
    exact ref_eq _ _ _ _ _ _ _ _

end Cert.Mix

end
-- ==== Proof.InRope.lean ====
/- The rotation of one token's row, over the extended reals: the three-table form and the two-halves form agree. -/
module

public import proofs.«01_k».proof.Proof.RowMath

@[expose] public section

noncomputable section

namespace Cert.In

/-- A column of a row, 128 at a time: the column times a first table, plus the columns 8 to its right and 8 to its left, cyclically
    among the 128, times a second and a third. -/
def turn (p : ℕ → EReal) (rc ra rb : Fin 128 → EReal) (q : ℕ) : EReal :=
  p q * rc ⟨q % 128, Nat.mod_lt _ (by decide)⟩ + p (q - q % 128 + (q % 128 + 8) % 128) * ra ⟨q % 128, Nat.mod_lt _ (by decide)⟩
    + p (q - q % 128 + (q % 128 + 120) % 128) * rb ⟨q % 128, Nat.mod_lt _ (by decide)⟩

/-- The cosines' table at a lane: heads of 64, the first sixteen lanes of each turned. -/
def tabC (C : ℕ → EReal) (l : ℕ) : EReal := if l % 64 < 8 then C (l % 64) else if l % 64 < 16 then C (l % 64 - 8) else 1

/-- The table of the lane to the right. -/
def tabA (S : ℕ → EReal) (l : ℕ) : EReal := if l % 64 < 8 then -S (l % 64) else 0

/-- The table of the lane to the left. -/
def tabB (S : ℕ → EReal) (l : ℕ) : EReal := if l % 64 < 8 then 0 else if l % 64 < 16 then S (l % 64 - 8) else 0

/-- The rotation written by halves: in each head of 64 the first eight columns and the next eight turn into each other. -/
def halves (p : ℕ → EReal) (C S : ℕ → EReal) (q : ℕ) : EReal :=
  if q % 64 < 8 then p q * C (q % 64) - p (q + 8) * S (q % 64)
  else if q % 64 < 16 then p q * C (q % 64 - 8) + p (q - 8) * S (q % 64 - 8) else p q

/-- With the three tables, the first form is the second. -/
theorem turn_eq (p C S : ℕ → EReal) (q : ℕ) :
    turn p (fun l => tabC C l.val) (fun l => tabA S l.val) (fun l => tabB S l.val) q = halves p C S q := by
  have e : q % 128 % 64 = q % 64 := by omega
  unfold turn tabC tabA tabB halves
  simp only [e]
  by_cases h1 : q % 64 < 8
  · have e1 : q - q % 128 + (q % 128 + 8) % 128 = q + 8 := by omega
    simp only [if_pos h1, e1, mul_zero, add_zero, mul_neg, sub_eq_add_neg]
  · by_cases h2 : q % 64 < 16
    · have e2 : q - q % 128 + (q % 128 + 120) % 128 = q - 8 := by omega
      simp only [if_neg h1, if_pos h2, e2, mul_zero, add_zero]
    · simp only [if_neg h1, if_neg h2, mul_zero, add_zero, mul_one]

end Cert.In

end
-- ==== Proof.InSlab.lean ====
/- The input projection, one slab of 256 rows: the normalised rows times the matrix, and its columns 128 at a time with the
   rotation of each head, written once over whole vectors, and what they are worth at an index over the extended reals. -/
module

public import proofs.«01_k».proof.Proof.Gen.Kernel4Ideal.Skeleton
public import proofs.«01_k».proof.Proof.InRope
public import Idealize.ShloMosaic.Lib.Pipeline.Value
public import Idealize.ShloMosaic.Lib.KernelVsHost
public import Idealize.ShloMosaic.Lib.ValueIdx
public import Idealize.ShloMosaic.Lib.Pointwise
public import Idealize.ShloMosaic.PureOps.Ideal.Laws

@[expose] public section

set_option synthInstance.maxSize 4096

noncomputable section

namespace Cert.In

open Cert.Kernel4Ideal Cert.Kernel4Ideal.Gen Idealize.ShloMosaic Idealize.SL.Sem

section Terms

variable {F : FTy → Type} [FloatOps F]

/-- 256 rows, normalised and multiplied by the matrix. -/
def projVec (x : Vec F S1x256x1024 .f32) (g : Vec F S1x1024 .f32) (w : Vec F S1024x2816 .bf16) : FVec F S256x2816 .f32 :=
  matmul dot_S256x1024_S1024x2816_S256x2816_1_0_0_1_n_n none (truncf .bf16 (mulf (mulf (shapeCast S256x1024 x shapeCasts_S1x256x1024_S256x1024)
    (broadcastTo S256x1024 (rsqrt (addf (divf (shapeCast S256x1
      (multiReduction .add [1] S256 (mulf (shapeCast S256x1024 x shapeCasts_S1x256x1024_S256x1024) (shapeCast S256x1024 x shapeCasts_S1x256x1024_S256x1024))
        0x00000000#32 reduces_S256x1024_S256 (.inl rfl) rfl) shapeCasts_S256_S256x1)
      (broadcast S256x1 (Scalar.ofBits .f32 0x44800000#32))) (broadcast S256x1 (Scalar.ofBits .f32 0x358637BD#32))))
      broadcasts_S256x1_S256x1024)) (broadcastTo S256x1024 (shapeCast S1x1024 g shapeCasts_S1x1024_S1x1024) broadcasts_S1x1024_S256x1024)) bitsLt_bf16_f32)
    (shapeCast S1024x2816 w shapeCasts_S1024x2816_S1024x2816) (constant S256x2816 .f32 0x00000000#32)

/-- 128 columns with their rotation: each lane times a first table, plus the lane 8 to its right and the lane 8 to its left,
    cyclically, times a second and a third. -/
def turnVec (t rc ra rb : FVec F S256x128 .f32) : FVec F S256x128 .f32 :=
  addf (addf (mulf t rc) (mulf (dynamicRotate 1 120#32 none t rotates_S256x128_d1) ra)) (mulf (dynamicRotate 1 8#32 none t rotates_S256x128_d1) rb)

/-- The 128 columns from `c` on, as stored. -/
def chunkVec (c : Nat) (h : S256x2816.Slices ![0, c] S256x128) (p : FVec F S256x2816 .f32) (rc ra rb : Vec F S256x128 .f32) : FVec F S1x256x128 .bf16 :=
  shapeCast S1x256x128 (truncf .bf16 (turnVec (extractStridedSlice S256x128 ![0, c] p h) (shapeCast S256x128 rc shapeCasts_S256x128_S256x128)
    (shapeCast S256x128 ra shapeCasts_S256x128_S256x128) (shapeCast S256x128 rb shapeCasts_S256x128_S256x128)) bitsLt_bf16_f32) shapeCasts_S256x128_S1x256x128

/-- The values' columns, as stored. -/
def plainVec (p : FVec F S256x2816 .f32) : FVec F S1x256x768 .bf16 :=
  shapeCast S1x256x768 (truncf .bf16 (extractStridedSlice S256x768 ![0, 1536] p slices_S256x2816_o0_1536_S256x768) bitsLt_bf16_f32) shapeCasts_S256x768_S1x256x768

/-- The scan's input columns, as stored. -/
def scanVec (p : FVec F S256x2816 .f32) : FVec F S1x256x512 .f32 :=
  shapeCast S1x256x512 (extractStridedSlice S256x512 ![0, 2304] p slices_S256x2816_o0_2304_S256x512) shapeCasts_S256x512_S1x256x512

end Terms

/-- The projected row at a column. -/
abbrev pr (x g : Fin 1024 → EReal) (w : Fin 1024 → Fin 2816 → EReal) (n : ℕ) : EReal := Rows.lin (Rows.rms x g) w ⟨n % 2816, Nat.mod_lt _ (by decide)⟩

theorem projVec_at (x : Vec Ideal S1x256x1024 .f32) (g : Vec Ideal S1x1024 .f32) (w : Vec Ideal S1024x2816 .bf16) (r : Fin 256) (j : Fin 2816) :
    projVec (F := Ideal) x g w (ix2 r j) = Rows.lin (Rows.rms (fun k => x (ix3 0 r k)) (fun k => g (ix2 0 k))) (fun k l => w (ix2 k l)) j := by
  unfold projVec
  pointwise [dot_S256x1024_S1024x2816_S256x2816_1_0_0_1_n_n, shapeCast_self]
  rfl

/-- 128 columns from `c` on, at an index. -/
theorem slice_at (c : Nat) (h : S256x2816.Slices ![0, c] S256x128) (p : Vec Ideal S256x2816 .f32) (r : Fin 256) (l : Fin 128) (hc : c + l.val < 2816) :
    extractStridedSlice S256x128 ![0, c] p h (ix2 r l) = p (ix2 r ⟨c + l.val, hc⟩) := by
  unfold extractStridedSlice
  refine congrArg p (funext fun a => Fin.ext ?_)
  match a with
  | ⟨0, _⟩ => show 0 + r.val = r.val; omega
  | ⟨1, _⟩ => rfl

theorem turnVec_at (t rc ra rb : Vec Ideal S256x128 .f32) (r : Fin 256) (l : Fin 128) :
    turnVec (F := Ideal) t rc ra rb (ix2 r l) = t (ix2 r l) * rc (ix2 r l) + t (ix2 r ⟨(l.val + 8) % 128, Nat.mod_lt _ (by decide)⟩) * ra (ix2 r l)
      + t (ix2 r ⟨(l.val + 120) % 128, Nat.mod_lt _ (by decide)⟩) * rb (ix2 r l) := by
  unfold turnVec
  pointwise
  simp only [show l.val + 128 - 120 = l.val + 8 by omega, show l.val + 128 - 8 = l.val + 120 by omega]

theorem chunkVec_at (c : Nat) (h : S256x2816.Slices ![0, c] S256x128) (p : Vec Ideal S256x2816 .f32) (rc ra rb : Vec Ideal S256x128 .f32)
    (u : Fin 1) (r : Fin 256) (l : Fin 128) :
    chunkVec (F := Ideal) c h p rc ra rb (ix3 u r l) = turnVec (F := Ideal) (extractStridedSlice S256x128 ![0, c] p h) rc ra rb (ix2 r l) := by
  unfold chunkVec
  rw [shapeCast_self, shapeCast_self, shapeCast_self]
  generalize turnVec (F := Ideal) (extractStridedSlice S256x128 ![0, c] p h) rc ra rb = t
  pointwise

theorem plainVec_at (p : Vec Ideal S256x2816 .f32) (u : Fin 1) (r : Fin 256) (l : Fin 768) :
    plainVec (F := Ideal) p (ix3 u r l) = p (ix2 r ⟨1536 + l.val, by omega⟩) := by
  unfold plainVec
  pointwise

theorem scanVec_at (p : Vec Ideal S256x2816 .f32) (u : Fin 1) (r : Fin 256) (l : Fin 512) :
    scanVec (F := Ideal) p (ix3 u r l) = p (ix2 r ⟨2304 + l.val, by omega⟩) := by
  unfold scanVec
  pointwise

/-- What the queries', keys' and values' block should hold. -/
def rowsQ (x0 : Vec Ideal S1x2048x1024 .f32) (x1 : Vec Ideal S1x1024 .f32) (x2 : Vec Ideal S1024x2816 .bf16)
    (x3 x4 x5 : Vec Ideal S2048x128 .f32) : Vec Ideal S1x2048x2304 .bf16 := fun z =>
  if (z 2).val < 1536 then turn (pr (fun k => x0 (ix3 0 (z 1) k)) (fun k => x1 (ix2 0 k)) (fun k l => x2 (ix2 k l)))
      (fun l => x3 (ix2 (z 1) l)) (fun l => x4 (ix2 (z 1) l)) (fun l => x5 (ix2 (z 1) l)) (z 2).val
  else pr (fun k => x0 (ix3 0 (z 1) k)) (fun k => x1 (ix2 0 k)) (fun k l => x2 (ix2 k l)) (z 2).val

/-- What the scan's input block should hold. -/
def rowsU (x0 : Vec Ideal S1x2048x1024 .f32) (x1 : Vec Ideal S1x1024 .f32) (x2 : Vec Ideal S1024x2816 .bf16) : Vec Ideal S1x2048x512 .f32 := fun z =>
  pr (fun k => x0 (ix3 0 (z 1) k)) (fun k => x1 (ix2 0 k)) (fun k l => x2 (ix2 k l)) (2304 + (z 2).val)

/-- The rectangle at zero offsets. -/
theorem zeros_two : (![0, 0] : Fin 2 → Nat) = fun _ => 0 := by decide

section Pieces

variable (o : Nat) (h : ∀ a, (![0, o, 0] : Fin 3 → Nat) a + S1x256x1024.size a ≤ S1x2048x1024.size a)
  (h1 : ∀ a, (![0, 0] : Fin 2 → Nat) a + S1x1024.size a ≤ S1x1024.size a) (h2 : ∀ a, (![0, 0] : Fin 2 → Nat) a + S1024x2816.size a ≤ S1024x2816.size a)
  (ht : ∀ a, (![o, 0] : Fin 2 → Nat) a + S256x128.size a ≤ S2048x128.size a)
  (x0 : Vec Ideal S1x2048x1024 .f32) (x1 : Vec Ideal S1x1024 .f32) (x2 : Vec Ideal S1024x2816 .bf16) (x3 x4 x5 : Vec Ideal S2048x128 .f32)

/-- The slab's projection, from the blocks as loaded. -/
abbrev projLd : FVec Ideal S256x2816 .f32 :=
  projVec (View.ld x0 (Rect.unit (s := S1x2048x1024) ![0, o, 0] S1x256x1024.size h)) (View.ld x1 (Rect.unit (s := S1x1024) ![0, 0] S1x1024.size h1))
    (View.ld x2 (Rect.unit (s := S1024x2816) ![0, 0] S1024x2816.size h2))

/-- A slab's projection is its rows'. -/
theorem projLd_at (r : Fin 256) (n : Fin 2816) (R : Fin 2048) (hR : R.val = o + r.val) :
    projLd o h h1 h2 x0 x1 x2 (ix2 r n) = pr (fun k => x0 (ix3 0 R k)) (fun k => x1 (ix2 0 k)) (fun k l => x2 (ix2 k l)) n.val := by
  unfold projLd
  rw [View.ld_unit_zero zeros_two (X := x1), View.ld_unit_zero zeros_two (X := x2)]
  refine (projVec_at _ _ _ _ _).trans ?_
  unfold pr
  have en : (⟨n.val % 2816, Nat.mod_lt _ (by decide)⟩ : Fin 2816) = n := Fin.ext (Nat.mod_eq_of_lt n.isLt)
  rw [en]
  congr 2
  funext k
  refine congrArg x0 (funext fun a => Fin.ext ?_)
  match a with
  | ⟨0, _⟩ => rfl
  | ⟨1, _⟩ => show o + 1 * r.val = R.val; omega
  | ⟨2, _⟩ => show 0 + 1 * k.val = k.val; omega

/-- A table's rows, as loaded. -/
theorem tab_ld (x : Vec Ideal S2048x128 .f32) (r : Fin 256) (l : Fin 128) (R : Fin 2048) (hR : R.val = o + r.val) :
    View.ld (Val := Elt Ideal) x (Rect.unit (s := S2048x128) ![o, 0] S256x128.size ht) (ix2 r l) = x (ix2 R l) := by
  refine congrArg x (funext fun a => Fin.ext ?_)
  match a with
  | ⟨0, _⟩ => show o + 1 * r.val = R.val; omega
  | ⟨1, _⟩ => show 0 + 1 * l.val = l.val; omega

/-- The 128 columns from `c` on of a slab, among the queries and keys, are those of `rowsQ`. -/
theorem chunk_ld (c : Nat) (hs : S256x2816.Slices ![0, c] S256x128) (hc : c % 128 = 0 ∧ c < 1536)
    (hw : ∀ a, (![0, o, c] : Fin 3 → Nat) a + S1x256x128.size a ≤ S1x2048x2304.size a) (y : S1x256x128.Idx) :
    chunkVec (F := Ideal) c hs (projLd o h h1 h2 x0 x1 x2) (View.ld x3 (Rect.unit (s := S2048x128) ![o, 0] S256x128.size ht))
      (View.ld x4 (Rect.unit (s := S2048x128) ![o, 0] S256x128.size ht)) (View.ld x5 (Rect.unit (s := S2048x128) ![o, 0] S256x128.size ht)) y =
    rowsQ x0 x1 x2 x3 x4 x5 ((Rect.unit (s := S1x2048x2304) ![0, o, c] S1x256x128.size hw).emb y) := by
  obtain ⟨u, r, l, rfl⟩ : ∃ (u : Fin 1) (r : Fin 256) (l : Fin 128), y = ix3 u r l := ⟨y 0, y 1, y 2, eq_ix3 y⟩
  have ho : o + 256 ≤ 2048 := hw 1
  have hr := r.isLt
  have hl := l.isLt
  have eR : ((Rect.unit (s := S1x2048x2304) ![0, o, c] S1x256x128.size hw).emb (ix3 u r l) 1 : Fin 2048).val = o + r.val := by
    show o + 1 * r.val = _; omega
  have eC : ((Rect.unit (s := S1x2048x2304) ![0, o, c] S1x256x128.size hw).emb (ix3 u r l) 2 : Fin 2304).val = c + l.val := by
    show c + 1 * l.val = _; omega
  generalize ((Rect.unit (s := S1x2048x2304) ![0, o, c] S1x256x128.size hw).emb (ix3 u r l)) = z at eR eC ⊢
  rw [chunkVec_at, turnVec_at, slice_at c hs _ r l (by omega), slice_at c hs _ r ⟨(l.val + 8) % 128, _⟩ (by show c + (l.val + 8) % 128 < 2816; omega),
    slice_at c hs _ r ⟨(l.val + 120) % 128, _⟩ (by show c + (l.val + 120) % 128 < 2816; omega),
    tab_ld o ht x3 r l (z 1) eR, tab_ld o ht x4 r l (z 1) eR, tab_ld o ht x5 r l (z 1) eR,
    projLd_at o h h1 h2 x0 x1 x2 r _ (z 1) eR, projLd_at o h h1 h2 x0 x1 x2 r _ (z 1) eR, projLd_at o h h1 h2 x0 x1 x2 r _ (z 1) eR]
  unfold rowsQ
  rw [if_pos (by omega), eC]
  have e1 : (c + l.val) % 128 = l.val := by omega
  have e2 : c + l.val - (c + l.val) % 128 = c := by omega
  unfold turn
  simp only [e1, Nat.add_sub_cancel]

/-- The values' columns of a slab are those of `rowsQ`. -/
theorem plain_ld (hw : ∀ a, (![0, o, 1536] : Fin 3 → Nat) a + S1x256x768.size a ≤ S1x2048x2304.size a) (y : S1x256x768.Idx) :
    plainVec (F := Ideal) (projLd o h h1 h2 x0 x1 x2) y = rowsQ x0 x1 x2 x3 x4 x5 ((Rect.unit (s := S1x2048x2304) ![0, o, 1536] S1x256x768.size hw).emb y) := by
  obtain ⟨u, r, l, rfl⟩ : ∃ (u : Fin 1) (r : Fin 256) (l : Fin 768), y = ix3 u r l := ⟨y 0, y 1, y 2, eq_ix3 y⟩
  have ho : o + 256 ≤ 2048 := hw 1
  have hr := r.isLt
  have hl := l.isLt
  have eR : ((Rect.unit (s := S1x2048x2304) ![0, o, 1536] S1x256x768.size hw).emb (ix3 u r l) 1 : Fin 2048).val = o + r.val := by
    show o + 1 * r.val = _; omega
  have eC : ((Rect.unit (s := S1x2048x2304) ![0, o, 1536] S1x256x768.size hw).emb (ix3 u r l) 2 : Fin 2304).val = 1536 + l.val := by
    show 1536 + 1 * l.val = _; omega
  generalize ((Rect.unit (s := S1x2048x2304) ![0, o, 1536] S1x256x768.size hw).emb (ix3 u r l)) = z at eR eC ⊢
  rw [plainVec_at, projLd_at o h h1 h2 x0 x1 x2 r _ (z 1) eR]
  unfold rowsQ
  rw [if_neg (by omega), eC]

/-- The scan's input columns of a slab are those of `rowsU`. -/
theorem scan_ld (hw : ∀ a, (![0, o, 0] : Fin 3 → Nat) a + S1x256x512.size a ≤ S1x2048x512.size a) (y : S1x256x512.Idx) :
    scanVec (F := Ideal) (projLd o h h1 h2 x0 x1 x2) y = rowsU x0 x1 x2 ((Rect.unit (s := S1x2048x512) ![0, o, 0] S1x256x512.size hw).emb y) := by
  obtain ⟨u, r, l, rfl⟩ : ∃ (u : Fin 1) (r : Fin 256) (l : Fin 512), y = ix3 u r l := ⟨y 0, y 1, y 2, eq_ix3 y⟩
  have ho : o + 256 ≤ 2048 := hw 1
  have hr := r.isLt
  have hl := l.isLt
  have eR : ((Rect.unit (s := S1x2048x512) ![0, o, 0] S1x256x512.size hw).emb (ix3 u r l) 1 : Fin 2048).val = o + r.val := by
    show o + 1 * r.val = _; omega
  have eC : ((Rect.unit (s := S1x2048x512) ![0, o, 0] S1x256x512.size hw).emb (ix3 u r l) 2 : Fin 512).val = l.val := by
    show 0 + 1 * l.val = _; omega
  generalize ((Rect.unit (s := S1x2048x512) ![0, o, 0] S1x256x512.size hw).emb (ix3 u r l)) = z at eR eC ⊢
  rw [scanVec_at, projLd_at o h h1 h2 x0 x1 x2 r _ (z 1) eR]
  unfold rowsU
  rw [eC]

end Pieces

end Cert.In

end
-- ==== Proof.InOut.lean ====
/- The input projection, its two blocks: what the body stores, read as the rows they should hold. -/
module

public import proofs.«01_k».proof.Proof.InSlab
public import proofs.«01_k».proof.Proof.Gen.Kernel4Ideal.Frame

@[expose] public section

set_option synthInstance.maxSize 4096

noncomputable section

namespace Cert.In

open Cert.Kernel4Ideal Cert.Kernel4Ideal.Gen Idealize.ShloMosaic Idealize.ShloMosaic.TcCoe Idealize.SL.Sem

variable (m : (ℓ : Loc nD τ sig) → Buf (Elt Ideal) ℓ)

/-- The block of the scan's input a point leaves. -/
theorem out_u (c : Dev nD) (t : Fin cfg0.N) :
    (outsAt0 m c t).2 = rowsU (iblk m c 0 t) (iblk m c 1 t) (X0_2 m c t) := by
  unfold outsAt0
  dsimp only
  unfold out0_A_7
  rw [View.read_writes_eq_canon _ _ _ (cover0_A_7 c _ _ _ _ _ _ _ _ _ _ _ _ _ _ _ _ _ _ _ _ _ _ _)]
  funext y
  refine View.canon_apply_of_pieces (rowsU (iblk m c 0 t) (iblk m c 1 t) (X0_2 m c t)) _ ?_ y (cover0_A_7 c _ _ _ _ _ _ _ _ _ _ _ _ _ _ _ _ _ _ _ _ _ _ _ y)
  unfold kernelRun0_A
  dsimp only
  sl_unfold_words
  simp only [View.readAt_eq_ld, (hs0_0 t).read_unread, (hs0_1 t).read_unread, (hs0_2 t).read_unread]
  simp only [List.forall_mem_cons, List.not_mem_nil, false_imp_iff, implies_true, and_true]
  exact ⟨scan_ld 1792 _ _ _ _ _ _ _, scan_ld 1536 _ _ _ _ _ _ _, scan_ld 1280 _ _ _ _ _ _ _, scan_ld 1024 _ _ _ _ _ _ _, scan_ld 768 _ _ _ _ _ _ _,
    scan_ld 512 _ _ _ _ _ _ _, scan_ld 256 _ _ _ _ _ _ _, scan_ld 0 _ _ _ _ _ _ _⟩

/-- The block of queries, keys and values a point leaves. -/
theorem out_q (c : Dev nD) (t : Fin cfg0.N) :
    (outsAt0 m c t).1 = rowsQ (iblk m c 0 t) (iblk m c 1 t) (X0_2 m c t) (iblk m c 3 t) (iblk m c 4 t) (iblk m c 5 t) := by
  unfold outsAt0
  dsimp only
  unfold out0_A_6
  rw [View.read_writes_eq_canon _ _ _ (cover0_A_6 c _ _ _ _ _ _ _ _ _ _ _ _ _ _ _ _ _ _ _ _ _ _ _)]
  funext y
  refine View.canon_apply_of_pieces (rowsQ (iblk m c 0 t) (iblk m c 1 t) (X0_2 m c t) (iblk m c 3 t) (iblk m c 4 t) (iblk m c 5 t)) _ ?_ y
    (cover0_A_6 c _ _ _ _ _ _ _ _ _ _ _ _ _ _ _ _ _ _ _ _ _ _ _ y)
  unfold kernelRun0_A
  dsimp only
  sl_unfold_words
  simp only [View.readAt_eq_ld, (hs0_0 t).read_unread, (hs0_1 t).read_unread, (hs0_2 t).read_unread, (hs0_3 t).read_unread, (hs0_4 t).read_unread,
    (hs0_5 t).read_unread]
  simp only [List.forall_mem_cons, List.not_mem_nil, false_imp_iff, implies_true, and_true]
  repeat' apply And.intro
  all_goals first
    | exact plain_ld _ _ _ _ _ _ _ _ _ _ _
    | (refine fun x => Eq.trans ?_ (chunk_ld _ (by decide) inb_S1x1024_S1x1024_0_0 inb_S1024x2816_S1024x2816_0_0 (by decide) (iblk m c 0 t) (iblk m c 1 t)
        (X0_2 m c t) (iblk m c 3 t) (iblk m c 4 t) (iblk m c 5 t) _ (by decide) ⟨by decide, by decide⟩ (by decide) x)
       rfl)

end Cert.In

end
-- ==== Proof.InTab.lean ====
/- The three rotation tables the input projection is handed, as terms and at an index. -/
module

public import proofs.«01_k».proof.Proof.InRope
public import proofs.«01_k».proof.Proof.Gen.Kernel4Ideal.Frame
public import Idealize.ShloMosaic.Lib.Pointwise
public import Idealize.ShloMosaic.Lib.Claim

@[expose] public section

set_option synthInstance.maxSize 4096

noncomputable section

namespace Cert.In

open Cert.Kernel4Ideal Cert.Kernel4Ideal.Gen Idealize.ShloMosaic Idealize.ShloMosaic.TcCoe Idealize.SL.Sem

/-- The angle of each position at each of eight frequencies. -/
def angVec : FVec Ideal S2048x8 .f32 :=
  mulf (broadcastInDim S2048x8 ![0, 1] bcast_S2048x1_S2048x8_0_1 (broadcastInDim S2048x1 ![0] bcast_S2048_S2048x1_0 (sitofp (F := Ideal) .f32 (iotaInDim S2048 32 0))))
    (broadcastInDim S2048x8 ![0, 1] bcast_S1x8_S2048x8_0_1 (broadcastInDim S1x8 ![1] bcast_S8_S1x8_1
      (Host.powf (broadcastInDim S8 ![] bcast_S_S8 (constant (F := Ideal) S_ .f32 0x48F42400#32))
        (Host.divf (mulf (Host.negf (sitofp (F := Ideal) .f32 (iotaInDim S8 32 0))) (broadcastInDim S8 ![] bcast_S_S8 (constant (F := Ideal) S_ .f32 0x40000000#32)))
          (broadcastInDim S8 ![] bcast_S_S8 (constant (F := Ideal) S_ .f32 0x41800000#32))))))

/-- The cosines of the angles. -/
def cosVec : FVec Ideal S2048x8 .f32 := Host.cos angVec

/-- The sines of the angles. -/
def sinVec : FVec Ideal S2048x8 .f32 := Host.sin angVec

/-- A position's cosine at a frequency. -/
def cosAt (s : Fin 2048) (j : ℕ) : EReal := cosVec (ix2 s ⟨j % 8, Nat.mod_lt _ (by decide)⟩)

/-- A position's sine at a frequency. -/
def sinAt (s : Fin 2048) (j : ℕ) : EReal := sinVec (ix2 s ⟨j % 8, Nat.mod_lt _ (by decide)⟩)

/-- A head's table from its three column groups, written twice. -/
def twice (a b : Vec Ideal S2048x8 .f32) (d : Vec Ideal S2048x48 .f32) : Vec Ideal S2048x128 .f32 :=
  concatenate S2048x128 1 [⟨S2048x64, concatenate S2048x64 1 [⟨S2048x8, a⟩, ⟨S2048x8, b⟩, ⟨S2048x48, d⟩] concatenates_S2048x8_S2048x8_S2048x48_S2048x64_d1⟩,
    ⟨S2048x64, concatenate S2048x64 1 [⟨S2048x8, a⟩, ⟨S2048x8, b⟩, ⟨S2048x48, d⟩] concatenates_S2048x8_S2048x8_S2048x48_S2048x64_d1⟩]
    concatenates_S2048x64_S2048x64_S2048x128_d1

/-- A constant in the tables' narrow and wide groups. -/
def fill8 (w : BitVec 32) : Vec Ideal S2048x8 .f32 := broadcastInDim S2048x8 ![] bcast_S_S2048x8 (constant (F := Ideal) S_ .f32 w)
def fill48 (w : BitVec 32) : Vec Ideal S2048x48 .f32 := broadcastInDim S2048x48 ![] bcast_S_S2048x48 (constant (F := Ideal) S_ .f32 w)

theorem one_head (a b : Vec Ideal S2048x8 .f32) (d : Vec Ideal S2048x48 .f32) (s : Fin 2048) (e : Fin 64) :
    (concatenate S2048x64 1 [⟨S2048x8, a⟩, ⟨S2048x8, b⟩, ⟨S2048x48, d⟩] concatenates_S2048x8_S2048x8_S2048x48_S2048x64_d1 : Vec Ideal S2048x64 .f32) (ix2 s e) =
      if h : e.val < 8 then a (ix2 s ⟨e.val, h⟩) else if h2 : e.val - 8 < 8 then b (ix2 s ⟨e.val - 8, h2⟩) else d (ix2 s ⟨e.val - 8 - 8, by omega⟩) := by
  pointwise

theorem twice_at (a b : Vec Ideal S2048x8 .f32) (d : Vec Ideal S2048x48 .f32) (s : Fin 2048) (l : Fin 128) :
    twice a b d (ix2 s l) = (concatenate S2048x64 1 [⟨S2048x8, a⟩, ⟨S2048x8, b⟩, ⟨S2048x48, d⟩] concatenates_S2048x8_S2048x8_S2048x48_S2048x64_d1 : Vec Ideal S2048x64 .f32)
      (ix2 s ⟨l.val % 64, Nat.mod_lt _ (by decide)⟩) := by
  unfold twice
  generalize (concatenate S2048x64 1 [⟨S2048x8, a⟩, ⟨S2048x8, b⟩, ⟨S2048x48, d⟩] concatenates_S2048x8_S2048x8_S2048x48_S2048x64_d1 : Vec Ideal S2048x64 .f32) = y
  pointwise
  by_cases h : l.val < 64
  · rw [dif_pos h]
    exact congrArg (fun e => y (ix2 s e)) (Fin.ext (show l.val = l.val % 64 by omega))
  · rw [dif_neg h]
    exact congrArg (fun e => y (ix2 s e)) (Fin.ext (show l.val - 64 = l.val % 64 by omega))

theorem fill8_zero (s : Fin 2048) (e : Fin 8) : fill8 0x00000000#32 (ix2 s e) = (0 : EReal) := by
  unfold fill8
  pointwise

theorem fill48_zero (s : Fin 2048) (e : Fin 48) : fill48 0x00000000#32 (ix2 s e) = (0 : EReal) := by
  unfold fill48
  pointwise

theorem fill48_one (s : Fin 2048) (e : Fin 48) : fill48 0x3F800000#32 (ix2 s e) = (1 : EReal) := by
  unfold fill48
  pointwise

theorem neg_at (v : FVec Ideal S2048x8 .f32) (s : Fin 2048) (e : Fin 8) : Host.negf (F := Ideal) v (ix2 s e) = -(v (ix2 s e) : EReal) := by
  pointwise

/-- The cosines' table at a lane. -/
theorem c_at (s : Fin 2048) (l : Fin 128) : twice cosVec cosVec (fill48 0x3F800000#32) (ix2 s l) = tabC (cosAt s) l.val := by
  rw [twice_at, one_head]
  unfold tabC cosAt
  by_cases h1 : l.val % 64 < 8
  · rw [dif_pos h1, if_pos h1]
    exact congrArg (fun e => cosVec (ix2 s e)) (Fin.ext (Nat.mod_eq_of_lt h1).symm)
  · rw [dif_neg h1, if_neg h1]
    by_cases h2 : l.val % 64 - 8 < 8
    · rw [dif_pos h2, if_pos (by omega)]
      exact congrArg (fun e => cosVec (ix2 s e)) (Fin.ext (Nat.mod_eq_of_lt h2).symm)
    · rw [dif_neg h2, if_neg (by omega), fill48_one]

/-- The table of the lane to the right, at a lane. -/
theorem a_at (s : Fin 2048) (l : Fin 128) :
    twice (Host.negf sinVec) (fill8 0x00000000#32) (fill48 0x00000000#32) (ix2 s l) = tabA (sinAt s) l.val := by
  rw [twice_at, one_head]
  unfold tabA sinAt
  by_cases h1 : l.val % 64 < 8
  · rw [dif_pos h1, if_pos h1, neg_at]
    exact congrArg (fun e => -(sinVec (ix2 s e) : EReal)) (Fin.ext (Nat.mod_eq_of_lt h1).symm)
  · rw [dif_neg h1, if_neg h1]
    by_cases h2 : l.val % 64 - 8 < 8
    · rw [dif_pos h2, fill8_zero]
    · rw [dif_neg h2, fill48_zero]

/-- The table of the lane to the left, at a lane. -/
theorem b_at (s : Fin 2048) (l : Fin 128) :
    twice (fill8 0x00000000#32) sinVec (fill48 0x00000000#32) (ix2 s l) = tabB (sinAt s) l.val := by
  rw [twice_at, one_head]
  unfold tabB sinAt
  by_cases h1 : l.val % 64 < 8
  · rw [dif_pos h1, if_pos h1, fill8_zero]
  · rw [dif_neg h1, if_neg h1]
    by_cases h2 : l.val % 64 - 8 < 8
    · rw [dif_pos h2, if_pos (by omega)]
      exact congrArg (fun e => sinVec (ix2 s e)) (Fin.ext (Nat.mod_eq_of_lt h2).symm)
    · rw [dif_neg h2, if_neg (by omega), fill48_zero]

variable (m : (ℓ : Loc nD τ sig) → Buf (Elt Ideal) ℓ)

/-- The cosines' table the call is handed. -/
theorem V_c (c : Dev nD) : V m c main_v27 = twice cosVec cosVec (fill48 0x3F800000#32) := by
  unfold_abbrev_sides
  simp only [hostOps0, List.flatten_cons, List.flatten_nil, List.append_nil, List.cons_append, List.nil_append]
  after_results
  rfl

/-- The table of the lane to the right. -/
theorem V_a (c : Dev nD) : V m c main_v28 = twice (Host.negf sinVec) (fill8 0x00000000#32) (fill48 0x00000000#32) := by
  unfold_abbrev_sides
  simp only [hostOps0, List.flatten_cons, List.flatten_nil, List.append_nil, List.cons_append, List.nil_append]
  after_results
  rfl

/-- The table of the lane to the left. -/
theorem V_b (c : Dev nD) : V m c main_v29 = twice (fill8 0x00000000#32) sinVec (fill48 0x00000000#32) := by
  unfold_abbrev_sides
  simp only [hostOps0, List.flatten_cons, List.flatten_nil, List.append_nil, List.cons_append, List.nil_append]
  after_results
  rfl

end Cert.In

end
-- ==== Proof.InMath.lean ====
/- The input projection's two results as functions of the arguments, over the extended reals: what both the kernel's arrays and the
   reference's are read as. -/
module

public import proofs.«01_k».proof.Proof.InTab
public import proofs.«01_k».proof.Proof.InSlab

@[expose] public section

noncomputable section

namespace Cert.In

open Cert.Kernel4Ideal Idealize.ShloMosaic

/-- A token's projected row at a column, from the arguments. -/
def projOf (x : Vec Ideal S16x2048x1024 .f32) (g : Vec Ideal S1x1024 .f32) (w : Vec Ideal S1x1024x4864 .f32) (b : Fin 16) (s : Fin 2048) (n : ℕ) : EReal :=
  pr (fun k => x (ix3 b s k)) (fun k => g (ix2 0 k)) (fun k (l : Fin 2816) => w (ix3 0 k (⟨l.val, by omega⟩ : Fin 4864))) n

/-- A row of the queries, keys and values: its columns, the queries' and keys' rotated. -/
def rowOf (p : ℕ → EReal) (s : Fin 2048) (q : ℕ) : EReal := if q < 1536 then halves p (cosAt s) (sinAt s) q else p q

/-- The queries, keys and values as one function of the arguments: the projection's first columns, those of the queries and keys
    rotated by position. -/
def GQ (x : Vec Ideal S16x2048x1024 .f32) (g : Vec Ideal S1x1024 .f32) (w : Vec Ideal S1x1024x4864 .f32) : Vec Ideal S16x2048x2304 .bf16 := fun i =>
  rowOf (projOf x g w (i 0) (i 1)) (i 1) (i 2).val

/-- The scan's input as one function of the arguments: the projection's next columns. -/
def GU (x : Vec Ideal S16x2048x1024 .f32) (g : Vec Ideal S1x1024 .f32) (w : Vec Ideal S1x1024x4864 .f32) : Vec Ideal S16x2048x512 .f32 := fun i =>
  projOf x g w (i 0) (i 1) (2304 + (i 2).val)

theorem GQ_at (x : Vec Ideal S16x2048x1024 .f32) (g : Vec Ideal S1x1024 .f32) (w : Vec Ideal S1x1024x4864 .f32) (b : Fin 16) (s : Fin 2048) (q : Fin 2304) :
    GQ x g w (ix3 b s q) = rowOf (projOf x g w b s) s q.val := by
  unfold GQ
  rfl

theorem GU_at (x : Vec Ideal S16x2048x1024 .f32) (g : Vec Ideal S1x1024 .f32) (w : Vec Ideal S1x1024x4864 .f32) (b : Fin 16) (s : Fin 2048) (j : Fin 512) :
    GU x g w (ix3 b s j) = projOf x g w b s (2304 + j.val) := by
  unfold GU
  rfl

end Cert.In

end
-- ==== Proof.InArray.lean ====
/- The input projection, its two result arrays: what the blocks written back make of the whole arrays, as functions of the
   arguments over the extended reals. -/
module

public import proofs.«01_k».proof.Proof.InOut
public import proofs.«01_k».proof.Proof.InMath
public import proofs.«01_k».proof.Proof.Gen.Kernel4Ideal.Value

@[expose] public section

set_option synthInstance.maxSize 4096

noncomputable section

namespace Cert.In

open Cert.Kernel4Ideal Cert.Kernel4Ideal.Gen Cert.Kernel4Ideal.Value Idealize.ShloMosaic Idealize.ShloMosaic.TcCoe Idealize.SL.Sem

variable (m : (ℓ : Loc nD τ sig) → Buf (Elt Ideal) ℓ)

/-- The gain row the call is handed. -/
theorem V_g (c : Dev nD) : V m c main_v1 = shapeCast S1x1024 (shapeCast S1024 (m ((c : Thread nD τ).loc main_arg1)) shapeCasts_S1x1024_S1024) shapeCasts_S1024_S1x1024 := by
  unfold_abbrev_sides
  simp only [hostOps0, List.flatten_cons, List.flatten_nil, List.append_nil, List.cons_append, List.nil_append]
  after_results
  rfl

/-- The matrix the call is handed. -/
theorem V_w (c : Dev nD) : V m c main_v3 = truncf .bf16 (shapeCast S1024x4864 (m ((c : Thread nD τ).loc main_arg2)) shapeCasts_S1x1024x4864_S1024x4864 : FVec Ideal S1024x4864 .f32) bitsLt_bf16_f32 := by
  unfold_abbrev_sides
  simp only [hostOps0, List.flatten_cons, List.flatten_nil, List.append_nil, List.cons_append, List.nil_append]
  after_results
  rfl

/-- The matrix as the call is handed it, at an index. -/
theorem w_cast (w : Vec Ideal S1x1024x4864 .f32) (k : Fin 1024) (l : Fin 4864) :
    truncf (F := Ideal) .bf16 (shapeCast S1024x4864 w shapeCasts_S1x1024x4864_S1024x4864 : FVec Ideal S1024x4864 .f32) bitsLt_bf16_f32 (ix2 k l) = w (ix3 0 k l) := by
  pointwise

/-- The input block and the outputs' blocks at a point are at the same place. -/
theorem idx_same : ∀ t : Fin cfg0.N, win0_0.index t = win0_6.index t ∧ win0_7.index t = win0_6.index t ∧
    win0_6.index t (1 : Fin 3) = 0 ∧ win0_6.index t (2 : Fin 3) = 0 :=
  (by decide +kernel : ∀ t : Fin grid0.N, _)

/-- The other windows are at block zero. -/
theorem idx_zero : ∀ t : Fin cfg0.N, win0_1.index t = ![0, 0] ∧ win0_2.index t = ![0, 0] ∧ win0_3.index t = ![0, 0] ∧ win0_4.index t = ![0, 0] ∧ win0_5.index t = ![0, 0] :=
  (by decide +kernel : ∀ t : Fin grid0.N, _)

/-- The gain's window holds the gain row. -/
theorem iblk1_eq (c : Dev nD) (t : Fin cfg0.N) : iblk m c 1 t = V m c main_v1 := by
  obtain ⟨e, -⟩ := idx_zero t
  funext j; show V m c main_v1 (((cfg0.win 1).blk t).view.emb j) = V m c main_v1 j
  refine congrArg _ (funext fun a => Fin.ext ?_)
  match a with
  | ⟨0, _⟩ => show win0_1.index t (0 : Fin 2) * 1 + 1 * (j 0).val = (j 0).val; rw [e]; simp
  | ⟨1, _⟩ => show win0_1.index t (1 : Fin 2) * 1024 + 1 * (j 1).val = (j 1).val; rw [e]; simp

/-- The matrix's window holds the first 2816 columns. -/
theorem x2_at (c : Dev nD) (t : Fin cfg0.N) (k : Fin 1024) (l : Fin 2816) :
    X0_2 m c t (ix2 k l) = V m c main_v3 (ix2 k (⟨l.val, by omega⟩ : Fin 4864)) := by
  obtain ⟨-, e, -⟩ := idx_zero t
  unfold X0_2 Pipeline.Window.fill
  rw [dif_pos (moved0_2 t _)]
  refine congrArg (V m c main_v3) (funext fun a => Fin.ext ?_)
  match a with
  | ⟨0, _⟩ => show win0_2.index t (0 : Fin 2) * 1024 + 1 * k.val = k.val; rw [e]; simp
  | ⟨1, _⟩ => show win0_2.index t (1 : Fin 2) * 2816 + 1 * l.val = l.val; rw [e]; simp

/-- The tables' windows hold the tables. -/
theorem iblk3_eq (c : Dev nD) (t : Fin cfg0.N) : iblk m c 3 t = V m c main_v27 := by
  obtain ⟨-, -, e, -⟩ := idx_zero t
  funext j; show V m c main_v27 (((cfg0.win 3).blk t).view.emb j) = V m c main_v27 j
  refine congrArg _ (funext fun a => Fin.ext ?_)
  match a with
  | ⟨0, _⟩ => show win0_3.index t (0 : Fin 2) * 2048 + 1 * (j 0).val = (j 0).val; rw [e]; simp
  | ⟨1, _⟩ => show win0_3.index t (1 : Fin 2) * 128 + 1 * (j 1).val = (j 1).val; rw [e]; simp

theorem iblk4_eq (c : Dev nD) (t : Fin cfg0.N) : iblk m c 4 t = V m c main_v28 := by
  obtain ⟨-, -, -, e, -⟩ := idx_zero t
  funext j; show V m c main_v28 (((cfg0.win 4).blk t).view.emb j) = V m c main_v28 j
  refine congrArg _ (funext fun a => Fin.ext ?_)
  match a with
  | ⟨0, _⟩ => show win0_4.index t (0 : Fin 2) * 2048 + 1 * (j 0).val = (j 0).val; rw [e]; simp
  | ⟨1, _⟩ => show win0_4.index t (1 : Fin 2) * 128 + 1 * (j 1).val = (j 1).val; rw [e]; simp

theorem iblk5_eq (c : Dev nD) (t : Fin cfg0.N) : iblk m c 5 t = V m c main_v29 := by
  obtain ⟨-, -, -, -, e⟩ := idx_zero t
  funext j; show V m c main_v29 (((cfg0.win 5).blk t).view.emb j) = V m c main_v29 j
  refine congrArg _ (funext fun a => Fin.ext ?_)
  match a with
  | ⟨0, _⟩ => show win0_5.index t (0 : Fin 2) * 2048 + 1 * (j 0).val = (j 0).val; rw [e]; simp
  | ⟨1, _⟩ => show win0_5.index t (1 : Fin 2) * 128 + 1 * (j 1).val = (j 1).val; rw [e]; simp

/-- The block the tokens' window holds, at an index: the tokens of the block's batch entry. -/
theorem iblk0_at (c : Dev nD) (t : Fin cfg0.N) (b : Fin 16) (hb : b.val = win0_6.index t (0 : Fin 3)) (s : Fin 2048) (k : Fin 1024) :
    iblk m c 0 t (ix3 0 s k) = m ((c : Thread nD τ).loc main_arg0) (ix3 b s k) := by
  obtain ⟨e, -, h1, h2⟩ := idx_same t
  rw [← V_main_arg0 m c]
  show V m c main_arg0 (((cfg0.win 0).blk t).view.emb (ix3 0 s k)) = _
  refine congrArg _ (funext fun a => Fin.ext ?_)
  match a with
  | ⟨0, _⟩ => show win0_0.index t (0 : Fin 3) * 1 + 1 * 0 = b.val; rw [e, hb]; omega
  | ⟨1, _⟩ => show win0_0.index t (1 : Fin 3) * 2048 + 1 * s.val = s.val; rw [e, h1]; omega
  | ⟨2, _⟩ => show win0_0.index t (2 : Fin 3) * 1024 + 1 * k.val = k.val; rw [e, h2]; omega

/-- A point's projected rows are its batch entry's. -/
theorem pr_eq (c : Dev nD) (t : Fin cfg0.N) (b : Fin 16) (hb : b.val = win0_6.index t (0 : Fin 3)) (s : Fin 2048) :
    pr (fun k => iblk m c 0 t (ix3 0 s k)) (fun k => iblk m c 1 t (ix2 0 k)) (fun k l => X0_2 m c t (ix2 k l)) =
      projOf (m ((c : Thread nD τ).loc main_arg0)) (m ((c : Thread nD τ).loc main_arg1)) (m ((c : Thread nD τ).loc main_arg2)) b s := by
  funext n
  unfold projOf
  rw [iblk1_eq]
  congr 1
  · funext k; exact iblk0_at m c t b hb s k
  · funext k; rw [V_g]; pointwise
  · funext k l; rw [x2_at, V_w]; exact w_cast _ k _

/-- The functions the arrays end at, with the arguments as this run finds them. -/
abbrev GQm (c : Dev nD) : Vec Ideal S16x2048x2304 .bf16 :=
  GQ (m ((c : Thread nD τ).loc main_arg0)) (m ((c : Thread nD τ).loc main_arg1)) (m ((c : Thread nD τ).loc main_arg2))
abbrev GUm (c : Dev nD) : Vec Ideal S16x2048x512 .f32 :=
  GU (m ((c : Thread nD τ).loc main_arg0)) (m ((c : Thread nD τ).loc main_arg1)) (m ((c : Thread nD τ).loc main_arg2))

/-- What a point writes back of the queries, keys and values is its block of `GQ` of the arguments. -/
theorem flushed6_eq (c : Dev nD) (t : Fin cfg0.N) :
    (dats m 0 c).flushed 6 t = ((cfg0.win 6).blk t).view.read (Elt Ideal) (GQm m c) := by
  rw [flushed6, out_q]
  obtain ⟨-, -, h1, h2⟩ := idx_same t
  funext y
  obtain ⟨u, s, q, rfl⟩ : ∃ (u : Fin 1) (s : Fin 2048) (q : Fin 2304), y = ix3 u s q := ⟨y 0, y 1, y 2, eq_ix3 y⟩
  show rowsQ (iblk m c 0 t) (iblk m c 1 t) (X0_2 m c t) (iblk m c 3 t) (iblk m c 4 t) (iblk m c 5 t) (ix3 u s q) = GQm m c (((cfg0.win 6).blk t).view.emb (ix3 u s q))
  have hz0 : (((cfg0.win 6).blk t).view.emb (ix3 u s q) 0 : Fin 16).val = win0_6.index t (0 : Fin 3) := by
    show win0_6.index t (0 : Fin 3) * 1 + 1 * u.val = _; omega
  have hz1 : (((cfg0.win 6).blk t).view.emb (ix3 u s q) 1 : Fin 2048) = s := Fin.ext (by
    show win0_6.index t (1 : Fin 3) * 2048 + 1 * s.val = s.val; rw [h1]; omega)
  have hz2 : (((cfg0.win 6).blk t).view.emb (ix3 u s q) 2 : Fin 2304) = q := Fin.ext (by
    show win0_6.index t (2 : Fin 3) * 2304 + 1 * q.val = q.val; rw [h2]; omega)
  generalize (((cfg0.win 6).blk t).view.emb (ix3 u s q)) = z at hz0 hz1 hz2 ⊢
  unfold rowsQ GQm GQ rowOf
  rw [hz1, hz2, ← pr_eq m c t (z 0) hz0 s, ← turn_eq, iblk3_eq, iblk4_eq, iblk5_eq, V_c, V_a, V_b]
  simp only [← c_at, ← a_at, ← b_at]
  rfl

/-- What a point writes back of the scan's input is its block of `GU` of the arguments. -/
theorem flushed7_eq (c : Dev nD) (t : Fin cfg0.N) :
    (dats m 0 c).flushed 7 t = ((cfg0.win 7).blk t).view.read (Elt Ideal) (GUm m c) := by
  rw [flushed7, out_u]
  obtain ⟨-, e7, h1, h2⟩ := idx_same t
  funext y
  obtain ⟨u, s, q, rfl⟩ : ∃ (u : Fin 1) (s : Fin 2048) (q : Fin 512), y = ix3 u s q := ⟨y 0, y 1, y 2, eq_ix3 y⟩
  show rowsU (iblk m c 0 t) (iblk m c 1 t) (X0_2 m c t) (ix3 u s q) = GUm m c (((cfg0.win 7).blk t).view.emb (ix3 u s q))
  have hz0 : (((cfg0.win 7).blk t).view.emb (ix3 u s q) 0 : Fin 16).val = win0_6.index t (0 : Fin 3) := by
    show win0_7.index t (0 : Fin 3) * 1 + 1 * u.val = _; rw [e7]; omega
  have hz1 : (((cfg0.win 7).blk t).view.emb (ix3 u s q) 1 : Fin 2048) = s := Fin.ext (by
    show win0_7.index t (1 : Fin 3) * 2048 + 1 * s.val = s.val; rw [e7, h1]; omega)
  have hz2 : (((cfg0.win 7).blk t).view.emb (ix3 u s q) 2 : Fin 512) = q := Fin.ext (by
    show win0_7.index t (2 : Fin 3) * 512 + 1 * q.val = q.val; rw [e7, h2]; omega)
  generalize (((cfg0.win 7).blk t).view.emb (ix3 u s q)) = z at hz0 hz1 hz2 ⊢
  unfold rowsU GUm GU
  rw [hz1, hz2, ← pr_eq m c t (z 0) hz0 s]
  rfl

/-- Every block of the result arrays is some point's. -/
theorem idx_onto : ∀ p : Fin 16, ∃ t : Fin cfg0.N, win0_6.index t (0 : Fin 3) = p.val :=
  (by decide +kernel : ∀ p : Fin 16, ∃ t : Fin grid0.N, win0_6.index t (0 : Fin 3) = p.val)

/-- Every index of the queries, keys and values is in some point's block. -/
theorem covered6 (i : S16x2048x2304.Idx) :
    ∃ t : Fin cfg0.N, (cfg0.win 6).flush t = true ∧ i ∈ ((cfg0.win 6).blk t).view.set := by
  obtain ⟨t, e0⟩ := idx_onto (i 0)
  obtain ⟨-, -, h1, h2⟩ := idx_same t
  have hi : ((cfg0.win 6).blk t).view.emb (ix3 (0 : Fin 1) (i 1 : Fin 2048) (i 2 : Fin 2304) : S1x2048x2304.Idx) = i := by
    refine funext fun a => Fin.ext ?_
    match a with
    | ⟨0, _⟩ => show win0_6.index t (0 : Fin 3) * 1 + 1 * 0 = (i 0).val; rw [e0]; omega
    | ⟨1, _⟩ => show win0_6.index t (1 : Fin 3) * 2048 + 1 * (i 1).val = (i 1).val; rw [h1]; omega
    | ⟨2, _⟩ => show win0_6.index t (2 : Fin 3) * 2304 + 1 * (i 2).val = (i 2).val; rw [h2]; omega
  refine ⟨t, flush0_6 t, ?_⟩
  have h := ((cfg0.win 6).blk t).view.emb_mem_set (ix3 (0 : Fin 1) (i 1 : Fin 2048) (i 2 : Fin 2304) : S1x2048x2304.Idx)
  rwa [hi] at h

/-- Every index of the scan's input is in some point's block. -/
theorem covered7 (i : S16x2048x512.Idx) :
    ∃ t : Fin cfg0.N, (cfg0.win 7).flush t = true ∧ i ∈ ((cfg0.win 7).blk t).view.set := by
  obtain ⟨t, e0⟩ := idx_onto (i 0)
  obtain ⟨-, e7, h1, h2⟩ := idx_same t
  have hi : ((cfg0.win 7).blk t).view.emb (ix3 (0 : Fin 1) (i 1 : Fin 2048) (i 2 : Fin 512) : S1x2048x512.Idx) = i := by
    refine funext fun a => Fin.ext ?_
    match a with
    | ⟨0, _⟩ => show win0_7.index t (0 : Fin 3) * 1 + 1 * 0 = (i 0).val; rw [e7, e0]; omega
    | ⟨1, _⟩ => show win0_7.index t (1 : Fin 3) * 2048 + 1 * (i 1).val = (i 1).val; rw [e7, h1]; omega
    | ⟨2, _⟩ => show win0_7.index t (2 : Fin 3) * 512 + 1 * (i 2).val = (i 2).val; rw [e7, h2]; omega
  refine ⟨t, flush0_7 t, ?_⟩
  have h := ((cfg0.win 7).blk t).view.emb_mem_set (ix3 (0 : Fin 1) (i 1 : Fin 2048) (i 2 : Fin 512) : S1x2048x512.Idx)
  rwa [hi] at h

/-- The result arrays after the run. -/
theorem final6 (c : Dev nD) : (dats m 0 c).arrAt 6 cfg0.N = GQm m c :=
  (dats m 0 c).arrAt_eq_of_cover 6 (GQm m c) (fun t _ => flushed6_eq m c t) covered6

theorem final7 (c : Dev nD) : (dats m 0 c).arrAt 7 cfg0.N = GUm m c :=
  (dats m 0 c).arrAt_eq_of_cover 7 (GUm m c) (fun t _ => flushed7_eq m c t) covered7

end Cert.In

end
-- ==== Proof.InRef.lean ====
/- The input projection of the reference, read at an index over the extended reals. -/
module

public import proofs.«01_k».proof.Proof.InMath
public import proofs.«01_k».proof.Proof.Gen.Reference4Ideal.Read
public import Idealize.ShloMosaic.Lib.Pointwise

@[expose] public section

noncomputable section

namespace Cert.In.Ref

open Cert.Reference4Ideal Cert.Reference4Ideal.Gen Cert.Reference4Ideal.Read Idealize.ShloMosaic Idealize.ShloMosaic.TcCoe Idealize.SL.Sem Idealize.ShloMosaic.StableHlo

/-- One tensor of heads with each head's first sixteen columns rotated by position. -/
def rotVec (t : FVec Ideal S16x2048x12x64 .f32) (cs sn : FVec Ideal S2048x8 .f32) : FVec Ideal S16x2048x12x64 .f32 :=
  let wide : FVec Ideal S2048x8 .f32 → FVec Ideal S16x2048x12x8 .f32 := fun v =>
    broadcastInDim S16x2048x12x8 ![0, 1, 2, 3] bcast_S1x2048x1x8_S16x2048x12x8_0_1_2_3 (broadcastInDim S1x2048x1x8 ![1, 3] bcast_S2048x8_S1x2048x1x8_1_3 v)
  let h := extractStridedSlice S16x2048x12x16 ![0, 0, 0, 0] t slices_S16x2048x12x64_S16x2048x12x16_0_0_0_0
  let t1 := extractStridedSlice S16x2048x12x8 ![0, 0, 0, 0] h slices_S16x2048x12x16_S16x2048x12x8_0_0_0_0
  let t2 := extractStridedSlice S16x2048x12x8 ![0, 0, 0, 8] h slices_S16x2048x12x16_S16x2048x12x8_0_0_0_8
  concatenate S16x2048x12x64 3
    [⟨S16x2048x12x16, concatenate S16x2048x12x16 3 [⟨S16x2048x12x8, subf (mulf t1 (wide cs)) (mulf t2 (wide sn))⟩, ⟨S16x2048x12x8, addf (mulf t2 (wide cs)) (mulf t1 (wide sn))⟩]
        concatenates_S16x2048x12x8_S16x2048x12x8_S16x2048x12x16_d3⟩,
      ⟨S16x2048x12x48, extractStridedSlice S16x2048x12x48 ![0, 0, 0, 16] t slices_S16x2048x12x64_S16x2048x12x48_0_0_0_16⟩]
    concatenates_S16x2048x12x16_S16x2048x12x48_S16x2048x12x64_d3

theorem rotVec_at (t : FVec Ideal S16x2048x12x64 .f32) (cs sn : FVec Ideal S2048x8 .f32) (b : Fin 16) (s : Fin 2048) (h : Fin 12) (e : Fin 64) :
    rotVec t cs sn (ix4 b s h e) =
      if h1 : e.val < 16 then
        if h2 : e.val < 8 then t (ix4 b s h e) * cs (ix2 s ⟨e.val, h2⟩) - t (ix4 b s h ⟨8 + e.val, by omega⟩) * sn (ix2 s ⟨e.val, h2⟩)
        else t (ix4 b s h ⟨8 + (e.val - 8), by omega⟩) * cs (ix2 s ⟨e.val - 8, by omega⟩) + t (ix4 b s h ⟨e.val - 8, by omega⟩) * sn (ix2 s ⟨e.val - 8, by omega⟩)
      else t (ix4 b s h ⟨16 + (e.val - 16), by omega⟩) := by
  unfold rotVec
  pointwise

/-- A rotated head, where the head holds 64 consecutive columns of a row. -/
theorem rot_row (t : FVec Ideal S16x2048x12x64 .f32) (p : ℕ → EReal) (b : Fin 16) (s : Fin 2048) (h : Fin 12) (q : ℕ) (hq : q % 64 = 0)
    (ht : ∀ e : Fin 64, t (ix4 b s h e) = p (q + e.val)) (e : Fin 64) :
    rotVec t cosVec sinVec (ix4 b s h e) = halves p (cosAt s) (sinAt s) (q + e.val) := by
  have ee : (q + e.val) % 64 = e.val := by omega
  rw [rotVec_at]
  unfold halves cosAt sinAt
  simp only [ht, ee]
  by_cases h1 : e.val < 8
  · rw [dif_pos (by omega), dif_pos h1, if_pos h1]
    have e1 : e.val % 8 = e.val := Nat.mod_eq_of_lt h1
    simp only [e1, show q + (8 + e.val) = q + e.val + 8 by omega]
  · rw [if_neg h1]
    by_cases h2 : e.val < 16
    · have e1 : (e.val - 8) % 8 = e.val - 8 := Nat.mod_eq_of_lt (by omega)
      rw [dif_pos h2, dif_neg h1, if_pos h2]
      simp only [e1, show q + (8 + (e.val - 8)) = q + e.val by omega, show q + (e.val - 8) = q + e.val - 8 by omega]
    · rw [dif_neg h2, if_neg h2, show q + (16 + (e.val - 16)) = q + e.val by omega]

theorem cos_eq : val_main_v35 (F := Ideal) = cosVec := rfl
theorem sin_eq : val_main_v37 (F := Ideal) = sinVec := rfl

variable (x0 : Vec Ideal S16x2048x1024 .f32) (x1 : Vec Ideal S1x1024 .f32) (x2 : Vec Ideal S1x1024x4864 .f32)

/-- The rotated queries. -/
theorem q_eq : val_main_v54 (F := Ideal) x0 x1 x2 = rotVec (val_main_v21 (F := Ideal) x0 x1 x2) cosVec sinVec := by
  rw [← cos_eq, ← sin_eq]
  rfl

/-- The rotated keys. -/
theorem k_eq : val_main_v89 (F := Ideal) x0 x1 x2 = rotVec (val_main_v56 (F := Ideal) x0 x1 x2) cosVec sinVec := by
  rw [← cos_eq, ← sin_eq]
  rfl

variable (b : Fin 16) (s : Fin 2048)

/-- The normalised tokens. -/
theorem h_at (j : Fin 1024) :
    val_main_v14 (F := Ideal) x0 x1 (ix3 b s j) = Rows.rms (fun k => x0 (ix3 b s k)) (fun k => x1 (ix2 0 k)) j := by
  unfold val_main_v14 val_main_v13 val_main_v12 val_main_v11 val_main_v10 val_main_v9 val_main_v8 val_main_v7 val_main_v6 val_main_v5 val_main_v4 val_main_v3 val_main_v2 val_main_v1 val_main_cst val_main_cst_0 val_main_cst_1
  pointwise; rfl

/-- The input projection. -/
theorem proj_at (j : Fin 4864) :
    val_main_v16 (F := Ideal) x0 x1 x2 (ix3 b s j) = Rows.lin (Rows.rms (fun k => x0 (ix3 b s k)) (fun k => x1 (ix2 0 k))) (fun k l => x2 (ix3 0 k l)) j := by
  unfold val_main_v16 val_main_v15
  pointwise [dot_S16x2048x1024_S1024x4864_S16x2048x4864_2_0_01_1_n_n, h_at]; rfl

/-- The projection's first columns, by the kernel's arguments. -/
theorem cols_at (n : ℕ) (hn : n < 2816) : val_main_v16 (F := Ideal) x0 x1 x2 (ix3 b s (⟨n, by omega⟩ : Fin 4864)) = projOf x0 x1 x2 b s n := by
  rw [proj_at]
  unfold projOf pr Rows.lin
  have e : n % 2816 = n := Nat.mod_eq_of_lt hn
  simp only [e]

/-- Those of the heads: queries, keys, values. -/
theorem heads_at (p : Fin 3) (h : Fin 12) (e : Fin 64) :
    val_main_v18 (F := Ideal) x0 x1 x2 (ix5 b s p h e) = projOf x0 x1 x2 b s (768 * p.val + 64 * h.val + e.val) := by
  rw [val_main_v18_apply, val_main_v17_apply, ← cols_at x0 x1 x2 b s _ (by omega)]
  refine congrArg _ (funext fun a => Fin.ext ?_)
  have hb := b.isLt; have hs := s.isLt; have hp := p.isLt; have hh := h.isLt; have he := e.isLt
  match a with
  | ⟨0, _⟩ => show ((((b.val * 2048 + s.val) * 3 + p.val) * 12 + h.val) * 64 + e.val) / 4718592 = b.val; omega
  | ⟨1, _⟩ => show ((((b.val * 2048 + s.val) * 3 + p.val) * 12 + h.val) * 64 + e.val) / 2304 % 2048 = s.val; omega
  | ⟨2, _⟩ => show ((((b.val * 2048 + s.val) * 3 + p.val) * 12 + h.val) * 64 + e.val) % 2304 = 768 * p.val + 64 * h.val + e.val; omega

/-- The queries before their rotation. -/
theorem q_at (h : Fin 12) (e : Fin 64) : val_main_v21 (F := Ideal) x0 x1 x2 (ix4 b s h e) = projOf x0 x1 x2 b s (64 * h.val + e.val) := by
  unfold val_main_v21 val_main_v20
  refine (show _ = val_main_v18 (F := Ideal) x0 x1 x2 (ix5 b s 0 h e) by pointwise).trans ((heads_at x0 x1 x2 b s 0 h e).trans ?_)
  exact congrArg (projOf x0 x1 x2 b s) (show 768 * 0 + 64 * h.val + e.val = _ by omega)

/-- The keys before their rotation. -/
theorem k_at (h : Fin 12) (e : Fin 64) : val_main_v56 (F := Ideal) x0 x1 x2 (ix4 b s h e) = projOf x0 x1 x2 b s (768 + 64 * h.val + e.val) := by
  unfold val_main_v56 val_main_v55
  refine (show _ = val_main_v18 (F := Ideal) x0 x1 x2 (ix5 b s 1 h e) by pointwise).trans ((heads_at x0 x1 x2 b s 1 h e).trans ?_)
  exact congrArg (projOf x0 x1 x2 b s) (show 768 * 1 + 64 * h.val + e.val = _ by omega)

/-- The values. -/
theorem v_at (h : Fin 12) (e : Fin 64) : val_main_v91 (F := Ideal) x0 x1 x2 (ix4 b s h e) = projOf x0 x1 x2 b s (1536 + 64 * h.val + e.val) := by
  unfold val_main_v91 val_main_v90
  refine (show _ = val_main_v18 (F := Ideal) x0 x1 x2 (ix5 b s 2 h e) by pointwise).trans ((heads_at x0 x1 x2 b s 2 h e).trans ?_)
  exact congrArg (projOf x0 x1 x2 b s) (show 768 * 2 + 64 * h.val + e.val = _ by omega)

/-- The three stacked. -/
theorem stack_at (p : Fin 3) (h : Fin 12) (e : Fin 64) :
    val_main_v95 (F := Ideal) x0 x1 x2 (ix5 b s p h e) = if _ : p.val < 1 then val_main_v54 (F := Ideal) x0 x1 x2 (ix4 b s h e)
      else if _ : p.val - 1 < 1 then val_main_v89 (F := Ideal) x0 x1 x2 (ix4 b s h e) else val_main_v91 (F := Ideal) x0 x1 x2 (ix4 b s h e) := by
  unfold val_main_v95 val_main_v94 val_main_v93 val_main_v92
  generalize val_main_v54 (F := Ideal) x0 x1 x2 = y0
  generalize val_main_v89 (F := Ideal) x0 x1 x2 = y1
  generalize val_main_v91 (F := Ideal) x0 x1 x2 = y2
  pointwise

/-- The three stacked are the row's columns in order. -/
theorem stack_row (p : Fin 3) (h : Fin 12) (e : Fin 64) :
    val_main_v95 (F := Ideal) x0 x1 x2 (ix5 b s p h e) = rowOf (projOf x0 x1 x2 b s) s (768 * p.val + 64 * h.val + e.val) := by
  have hp := p.isLt; have hh := h.isLt; have he := e.isLt
  rw [stack_at, q_eq, k_eq, v_at, rot_row _ (projOf x0 x1 x2 b s) b s h (64 * h.val) (by omega) (q_at x0 x1 x2 b s h),
    rot_row _ (projOf x0 x1 x2 b s) b s h (768 + 64 * h.val) (by omega) (k_at x0 x1 x2 b s h)]
  generalize projOf x0 x1 x2 b s = f
  unfold rowOf
  by_cases h1 : p.val < 1
  · rw [dif_pos h1, if_pos (by omega), show 768 * p.val + 64 * h.val + e.val = 64 * h.val + e.val by omega]
  · rw [dif_neg h1]
    by_cases h2 : p.val - 1 < 1
    · rw [dif_pos h2, if_pos (by omega), show 768 * p.val + 64 * h.val + e.val = 768 + 64 * h.val + e.val by omega]
    · rw [dif_neg h2, if_neg (by omega), show 768 * p.val + 64 * h.val + e.val = 1536 + 64 * h.val + e.val by omega]

/-- The place of a column among queries, keys and values. -/
theorem place (q : Fin 2304) : idx_main_v96 (ix3 b s q) = ix5 b s (⟨q.val / 768, by omega⟩ : Fin 3) (⟨q.val / 64 % 12, by omega⟩ : Fin 12) (⟨q.val % 64, by omega⟩ : Fin 64) := by
  have hb := b.isLt; have hs := s.isLt; have hq := q.isLt
  refine funext fun a => Fin.ext ?_
  match a with
  | ⟨0, _⟩ => show ((b.val * 2048 + s.val) * 2304 + q.val) / 4718592 = b.val; omega
  | ⟨1, _⟩ => show ((b.val * 2048 + s.val) * 2304 + q.val) / 2304 % 2048 = s.val; omega
  | ⟨2, _⟩ => show ((b.val * 2048 + s.val) * 2304 + q.val) / 768 % 3 = q.val / 768; omega
  | ⟨3, _⟩ => show ((b.val * 2048 + s.val) * 2304 + q.val) / 64 % 12 = q.val / 64 % 12; omega
  | ⟨4, _⟩ => show ((b.val * 2048 + s.val) * 2304 + q.val) % 64 = q.val % 64; omega

end Cert.In.Ref

end
-- ==== Proof.InRefOut.lean ====
/- The reference's two results are the functions of the arguments the kernel's arrays are read as. -/
module

public import proofs.«01_k».proof.Proof.InRef

@[expose] public section

noncomputable section

namespace Cert.In.Ref

open Cert.Reference4Ideal Cert.Reference4Ideal.Gen Cert.Reference4Ideal.Read Idealize.ShloMosaic Idealize.ShloMosaic.TcCoe Idealize.SL.Sem Idealize.ShloMosaic.StableHlo

/-- A column's number from its place. -/
theorem place_val (q : ℕ) : 768 * (q / 768) + 64 * (q / 64 % 12) + q % 64 = q := by omega

/-- The rounding of the last step is the identity over the extended reals. -/
theorem cast_at (y : FVec Ideal S16x2048x2304 .f32) (i : S16x2048x2304.Idx) : truncf (F := Ideal) .bf16 y bitsLt_bf16_f32 i = y i := rfl

variable (x0 : Vec Ideal S16x2048x1024 .f32) (x1 : Vec Ideal S1x1024 .f32) (x2 : Vec Ideal S1x1024x4864 .f32) (b : Fin 16) (s : Fin 2048)

/-- The queries, keys and values as one function of the arguments. -/
theorem qkv_at (q : Fin 2304) : val_main_v97 (F := Ideal) x0 x1 x2 (ix3 b s q) = GQ x0 x1 x2 (ix3 b s q) := by
  unfold val_main_v97
  rw [cast_at, val_main_v96_apply, place, stack_row, GQ_at]
  exact congrArg (rowOf (projOf x0 x1 x2 b s) s) (place_val q.val)

/-- The scan's input as one function of the arguments. -/
theorem u_at (j : Fin 512) : val_main_v19 (F := Ideal) x0 x1 x2 (ix3 b s j) = GU x0 x1 x2 (ix3 b s j) := by
  rw [val_main_v19_apply, GU_at]
  refine Eq.trans ?_ (cols_at x0 x1 x2 b s (2304 + j.val) (by omega))
  refine congrArg _ (funext fun a => Fin.ext ?_)
  match a with
  | ⟨0, _⟩ => rfl
  | ⟨1, _⟩ => rfl
  | ⟨2, _⟩ => rfl

end Cert.In.Ref

end
-- ==== Proof.InClaim.lean ====
/- The input projection's value claim: kernel and reference end with equal results over the extended reals. -/
module

public import proofs.«01_k».proof.Defs
public import proofs.«01_k».proof.Proof.InArray
public import proofs.«01_k».proof.Proof.InRefOut

@[expose] public section

noncomputable section

namespace Cert.In

open Idealize.ShloMosaic Idealize.ShloMosaic.TcCoe Idealize.SL.Sem

variable (x0 : Vec Ideal Cert.Kernel4Ideal.S16x2048x1024 .f32) (x1 : Vec Ideal Cert.Kernel4Ideal.S1x1024 .f32)
  (x2 : Vec Ideal Cert.Kernel4Ideal.S1x1024x4864 .f32)

/-- The reference's queries, keys and values as one function of its arguments are the kernel's. -/
theorem ref_qkv_eq : Cert.Reference4Ideal.Read.val_main_v97 (F := Ideal) x0 x1 x2 = GQ x0 x1 x2 := by
  funext i
  rw [eq_ix3 i]
  exact Ref.qkv_at x0 x1 x2 (i 0) (i 1) (i 2)

/-- The reference's scan input as one function of its arguments is the kernel's. -/
theorem ref_u_eq : Cert.Reference4Ideal.Read.val_main_v19 (F := Ideal) x0 x1 x2 = GU x0 x1 x2 := by
  funext i
  rw [eq_ix3 i]
  exact Ref.u_at x0 x1 x2 (i 0) (i 1) (i 2)

/-- The kernel and the reference compute the same two arrays. -/
theorem algebraic : Cert.algebraic_Kernel4Ideal_Reference4Ideal := by
  intro m ρ m' ρ' _ hagree
  refine ⟨fun c => GQm m c, fun c => GUm m c, ?_, ?_⟩
  · exact (θ_run Cert.Kernel4Ideal.defs _ _).mono
      (fun r h c => ⟨(h c).1.trans (final6 m c), (h c).2.1.trans (final7 m c), (h c).2.2⟩)
      (Cert.Kernel4Ideal.Value.run_blocks m ρ)
  · refine (θ_run Cert.Reference4Ideal.defs _ _).mono
      (fun r h c => ⟨(h c).1.trans ?_, (h c).2.1.trans ?_, (h c).2.2⟩) (Cert.Reference4Ideal.Value.run m' ρ')
    · obtain ⟨h0, h1, h2⟩ := hagree c
      rw [Cert.Reference4Ideal.Read.val_main_v97_eq, h0, h1, h2]
      exact ref_qkv_eq _ _ _
    · obtain ⟨h0, h1, h2⟩ := hagree c
      refine (Cert.Reference4Ideal.Read.val_main_v19_eq _ _ _).trans ?_
      rw [h0, h1, h2]
      exact ref_u_eq _ _ _

end Cert.In

end
-- ==== Proof.lean ====
/- The claims' assembly: the attention's frames are proved by hand, the others are the generated ones, and the value claims are
   proved in the modules under proof/Proof/. -/
module

public import proofs.«01_k».proof.Defs
public import proofs.«01_k».proof.Proof.Gen.Kernel.Frame
public import proofs.«01_k».proof.Proof.FfnClaim
public import proofs.«01_k».proof.Proof.AttnClaim
public import proofs.«01_k».proof.Proof.AttnWordFrame
public import proofs.«01_k».proof.Proof.Gen.Kernel3.Frame
public import proofs.«01_k».proof.Proof.MixClaim
public import proofs.«01_k».proof.Proof.Gen.Kernel4.Frame
public import proofs.«01_k».proof.Proof.InClaim
public import Idealize.ShloMosaic.Adequacy
public import Idealize.ShloMosaic.Init
public import Idealize.ShloMosaic.Lib.Quiescent
public import Idealize.ShloMosaic.Lib.Claim

@[expose] public section

noncomputable section

namespace Cert.Proof

open Idealize.ShloMosaic Idealize.SL.Sem

/-- The feed-forward kernel at word values: the generated frame. -/
theorem frame_ffn : Cert.quiescent_Kernel := fun m ρ _ => Cert.Kernel.Gen.frame m ρ

/-- The feed-forward kernel over the extended reals: the generated frame. -/
theorem frame_ffn_ideal : Cert.quiescent_KernelIdeal := fun m ρ _ => Cert.KernelIdeal.Gen.frame m ρ

/-- The feed-forward reference: the generated run, read at the arguments; it has no semaphores. -/
theorem frame_ffn_ref : Cert.quiescent_ReferenceIdeal := fun m ρ _ =>
  (θ_run Cert.ReferenceIdeal.defs _ _).mono (fun r h => ⟨fun c => (h c).2, sem_eq_zero_of_no_sems rfl r.2⟩)
    (Cert.ReferenceIdeal.Value.run m ρ)

/-- The attention kernel at word values. -/
theorem frame_attn : Cert.quiescent_Kernel2 := fun m ρ _ => Cert.Kernel2.Attn.frame m ρ

/-- The attention kernel over the extended reals. -/
theorem frame_attn_ideal : Cert.quiescent_Kernel2Ideal := fun m ρ _ => Cert.Kernel2Ideal.Attn.frame m ρ

/-- The attention reference: the generated run, read at the argument; it has no semaphores. -/
theorem frame_attn_ref : Cert.quiescent_Reference2Ideal := fun m ρ _ =>
  (θ_run Cert.Reference2Ideal.defs _ _).mono (fun r h => ⟨fun c => (h c).2, sem_eq_zero_of_no_sems rfl r.2⟩)
    (Cert.Reference2Ideal.Value.run m ρ)

/-- The attention kernel's named mask constant denotes minus infinity over the extended reals. -/
theorem preserves_attn : Cert.preserves_Kernel2_Kernel2Ideal :=
  IdealRules.named_const.statement Cert.Kernel2Ideal.κ "mask" .f32 0xF149F2CA#32 ⊥ rfl

/-- The mixing kernel at word values: the generated frame. -/
theorem frame_mix : Cert.quiescent_Kernel3 := fun m ρ _ => Cert.Kernel3.Gen.frame m ρ

/-- The mixing kernel over the extended reals: the generated frame. -/
theorem frame_mix_ideal : Cert.quiescent_Kernel3Ideal := fun m ρ _ => Cert.Kernel3Ideal.Gen.frame m ρ

/-- The mixing reference: the generated run, read at the arguments; it has no semaphores. -/
theorem frame_mix_ref : Cert.quiescent_Reference3Ideal := fun m ρ _ =>
  (θ_run Cert.Reference3Ideal.defs _ _).mono (fun r h => ⟨fun c => (h c).2, sem_eq_zero_of_no_sems rfl r.2⟩)
    (Cert.Reference3Ideal.Value.run m ρ)

/-- The input projection at word values: the generated frame. -/
theorem frame_in : Cert.quiescent_Kernel4 := fun m ρ _ => Cert.Kernel4.Gen.frame m ρ

/-- The input projection over the extended reals: the generated frame. -/
theorem frame_in_ideal : Cert.quiescent_Kernel4Ideal := fun m ρ _ => Cert.Kernel4Ideal.Gen.frame m ρ

/-- The input projection's reference: the generated run, read at the arguments; it has no semaphores. -/
theorem frame_in_ref : Cert.quiescent_Reference4Ideal := fun m ρ _ =>
  (θ_run Cert.Reference4Ideal.defs _ _).mono (fun r h => ⟨fun c => (h c).2.2, sem_eq_zero_of_no_sems rfl r.2⟩)
    (Cert.Reference4Ideal.Value.run m ρ)

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts, Cert.Attn.pre_facts,
  frame_ffn, frame_ffn_ideal, frame_ffn_ref, frame_attn, frame_attn_ideal, fun m ρ _ => frame_attn_ideal m ρ trivial,
  frame_attn_ref, fun m ρ _ => frame_attn_ref m ρ trivial, frame_mix, frame_mix_ideal, frame_mix_ref,
  frame_in, frame_in_ideal, frame_in_ref,
  trivial, Cert.Ffn.algebraic, preserves_attn, have := Cert.Attn.pre_facts; Cert.Attn.algebraic, trivial, Cert.Mix.algebraic,
  trivial, Cert.In.algebraic⟩

end Cert.Proof

end
